-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_memory_keys [hPre_finite_memory_keys : Cert.Pre_finite_memory_keys.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_memory_keys.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_memory_keys [hPre_finite_memory_keys : Cert.Pre_finite_memory_keys.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_memory_keys.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Kernel3Ideal_pre_finite_memory_keys [hKernel3Ideal : Cert.Kernel3Ideal.Facts] [hPre_finite_memory_keys : Cert.Pre_finite_memory_keys.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_memory_keys m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Reference3Ideal_pre_finite_memory_keys [hReference3Ideal : Cert.Reference3Ideal.Facts] [hPre_finite_memory_keys : Cert.Pre_finite_memory_keys.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_memory_keys m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  True

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite_memory_keys [hKernel3Ideal : Cert.Kernel3Ideal.Facts] [hReference3Ideal : Cert.Reference3Ideal.Facts] [hPre_finite_memory_keys : Cert.Pre_finite_memory_keys.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_memory_keys m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v98) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_v34) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "inv96" .f32 0x3C2AAAAB#32 ((1 / 96 : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v44_0)) (v1 : (c : Dev Cert.Kernel5Ideal.nD) → Buf (Elt Ideal) ((c.tc : Thread Cert.Kernel5Ideal.nD Cert.Kernel5Ideal.τ).loc Cert.Kernel5Ideal.main_v44_1)) (v2 : (c : Dev Cert.Kernel5Ideal.nD) → Buf (Elt Ideal) ((c.tc : Thread Cert.Kernel5Ideal.nD Cert.Kernel5Ideal.τ).loc Cert.Kernel5Ideal.main_v44_2)) (v3 : (c : Dev Cert.Kernel5Ideal.nD) → Buf (Elt Ideal) ((c.tc : Thread Cert.Kernel5Ideal.nD Cert.Kernel5Ideal.τ).loc Cert.Kernel5Ideal.main_v44_3)) (v4 : (c : Dev Cert.Kernel5Ideal.nD) → Buf (Elt Ideal) ((c.tc : Thread Cert.Kernel5Ideal.nD Cert.Kernel5Ideal.τ).loc Cert.Kernel5Ideal.main_v44_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v44_0) = v0 c
          ∧ r.2.mem ((c.tc : Thread Cert.Kernel5Ideal.nD Cert.Kernel5Ideal.τ).loc Cert.Kernel5Ideal.main_v44_1) = v1 c
          ∧ r.2.mem ((c.tc : Thread Cert.Kernel5Ideal.nD Cert.Kernel5Ideal.τ).loc Cert.Kernel5Ideal.main_v44_2) = v2 c
          ∧ r.2.mem ((c.tc : Thread Cert.Kernel5Ideal.nD Cert.Kernel5Ideal.τ).loc Cert.Kernel5Ideal.main_v44_3) = v3 c
          ∧ r.2.mem ((c.tc : Thread Cert.Kernel5Ideal.nD Cert.Kernel5Ideal.τ).loc Cert.Kernel5Ideal.main_v44_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_v35) = v1 c
          ∧ r.2.mem ((c.tc : Thread Cert.Reference5Ideal.nD Cert.Reference5Ideal.τ).loc Cert.Reference5Ideal.main_v149) = v2 c
          ∧ r.2.mem ((c.tc : Thread Cert.Reference5Ideal.nD Cert.Reference5Ideal.τ).loc Cert.Reference5Ideal.main_v151) = v3 c
          ∧ r.2.mem ((c.tc : Thread Cert.Reference5Ideal.nD Cert.Reference5Ideal.τ).loc Cert.Reference5Ideal.main_v154) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_queries_keys : Cert.Pre_finite_queries_keys.Facts) (hPre_finite_memory_keys : Cert.Pre_finite_memory_keys.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_memory_keys (hKernel3Ideal := hKernel3Ideal) (hPre_finite_memory_keys := hPre_finite_memory_keys)
    ∧ quiescent_Reference3Ideal (hReference3Ideal := hReference3Ideal)
    ∧ quiescent_Reference3Ideal_pre_finite_memory_keys (hReference3Ideal := hReference3Ideal) (hPre_finite_memory_keys := hPre_finite_memory_keys)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_memory_keys (hKernel3Ideal := hKernel3Ideal) (hReference3Ideal := hReference3Ideal) (hPre_finite_memory_keys := hPre_finite_memory_keys)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_memory_keys.lean ====
abbrev S2x8192x1024 : Shape := ⟨3, ![2, 8192, 1024]⟩
abbrev S2x2x8192x512 : Shape := ⟨4, ![2, 2, 8192, 512]⟩
abbrev S2x8192x512 : Shape := ⟨3, ![2, 8192, 512]⟩
abbrev S2x8x16x64x512 : Shape := ⟨5, ![2, 8, 16, 64, 512]⟩
abbrev S512 : Shape := ⟨1, ![512]⟩
abbrev S1024x1024 : Shape := ⟨2, ![1024, 1024]⟩
abbrev S1024 : Shape := ⟨1, ![1024]⟩
abbrev S1024x512 : Shape := ⟨2, ![1024, 512]⟩
abbrev S128 : Shape := ⟨1, ![128]⟩
abbrev S2x4x256x128 : Shape := ⟨4, ![2, 4, 256, 128]⟩
abbrev S512x1024 : Shape := ⟨2, ![512, 1024]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S2x4x256x128 : S_.BroadcastsInDim S2x4x256x128 (![] : Fin 0 → Fin S2x4x256x128.rank)
  reducesTo_S2x4x256x128_S_d0_1_2_3 : S2x4x256x128.ReducesTo [0, 1, 2, 3] S_

variable [Facts]

def fn {F : FTy → Type} [FloatOps F] (main_arg0 : FVec F S2x8192x1024 .f32) (main_arg1 : FVec F S2x2x8192x512 .f32) (main_arg2 : FVec F S2x8192x512 .f32) (main_arg3 : FVec F S2x8x16x64x512 .f32) (main_arg4 : FVec F S512 .f32) (main_arg5 : FVec F S512 .f32) (main_arg6 : FVec F S1024x1024 .f32) (main_arg7 : FVec F S1024 .f32) (main_arg8 : FVec F S1024x512 .f32) (main_arg9 : FVec F S128 .f32) (main_arg10 : FVec F S2x4x256x128 .bf16) (main_arg11 : FVec F S2x4x256x128 .bf16) (main_arg12 : FVec F S512x1024 .f32) : IVec S_ 1 :=
  let main_v0 : FVec F S128 .f32 := Host.absf main_arg9
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S2x4x256x128 .bf16 := Host.absf main_arg10
  let main_cst_0 : FVec F S_ .bf16 := constant S_ .bf16 0x7F80#16
  let main_v5 : FVec F S2x4x256x128 .bf16 := broadcastInDim S2x4x256x128 ![] bcast_S_S2x4x256x128 main_cst_0
  let main_v6 : IVec S2x4x256x128 1 := cmpf .olt main_v4 main_v5
  let main_c_1 : IVec S_ 1 := constantI S_ 1 1#1
  let main_v7 : IVec S_ 1 := (fun x v => Host.reduce IntOp.andi x v reducesTo_S2x4x256x128_S_d0_1_2_3 h_S_) main_v6 main_c_1
  let main_v8 : IVec S_ 1 := andi main_v3 main_v7
  main_v8
-- ==== Pre_finite_queries_keys.lean ====
abbrev S1 : Shape := ⟨1, ![1]⟩
abbrev S2x8x16x128x512 : Shape := ⟨5, ![2, 8, 16, 128, 512]⟩
abbrev S2x8x8192x128 : Shape := ⟨4, ![2, 8, 8192, 128]⟩
abbrev S2x8x16x64x512 : Shape := ⟨5, ![2, 8, 16, 64, 512]⟩
abbrev S_ : Shape := ⟨0, ![]⟩

class Facts : Prop where
  bcast_S_S2x8x16x128x512 : S_.BroadcastsInDim S2x8x16x128x512 (![] : Fin 0 → Fin S2x8x16x128x512.rank)
  reducesTo_S2x8x16x128x512_S_d0_1_2_3_4 : S2x8x16x128x512.ReducesTo [0, 1, 2, 3, 4] S_
  h_S_ : 0 < S_.numel
  bcast_S_S2x8x8192x128 : S_.BroadcastsInDim S2x8x8192x128 (![] : Fin 0 → Fin S2x8x8192x128.rank)
  reducesTo_S2x8x8192x128_S_d0_1_2_3 : S2x8x8192x128.ReducesTo [0, 1, 2, 3] S_

variable [Facts]

def fn {F : FTy → Type} [FloatOps F] (main_arg0 : IVec S1 32) (main_arg1 : FVec F S2x8x16x128x512 .bf16) (main_arg2 : FVec F S2x8x8192x128 .bf16) (main_arg3 : FVec F S2x8x16x64x512 .bf16) : IVec S_ 1 :=
  let main_v0 : FVec F S2x8x16x128x512 .bf16 := Host.absf main_arg1
  let main_cst : FVec F S_ .bf16 := constant S_ .bf16 0x7F80#16
  let main_v1 : FVec F S2x8x16x128x512 .bf16 := broadcastInDim S2x8x16x128x512 ![] bcast_S_S2x8x16x128x512 main_cst
  let main_v2 : IVec S2x8x16x128x512 1 := cmpf .olt main_v0 main_v1
  let main_c : IVec S_ 1 := constantI S_ 1 1#1
  let main_v3 : IVec S_ 1 := (fun x v => Host.reduce IntOp.andi x v reducesTo_S2x8x16x128x512_S_d0_1_2_3_4 h_S_) main_v2 main_c
  let main_v4 : FVec F S2x8x8192x128 .bf16 := Host.absf main_arg2
  let main_cst_0 : FVec F S_ .bf16 := constant S_ .bf16 0x7F80#16
  let main_v5 : FVec F S2x8x8192x128 .bf16 := broadcastInDim S2x8x8192x128 ![] bcast_S_S2x8x8192x128 main_cst_0
  let main_v6 : IVec S2x8x8192x128 1 := cmpf .olt main_v4 main_v5
  let main_c_1 : IVec S_ 1 := constantI S_ 1 1#1
  let main_v7 : IVec S_ 1 := (fun x v => Host.reduce IntOp.andi x v reducesTo_S2x8x8192x128_S_d0_1_2_3 h_S_) main_v6 main_c_1
  let main_v8 : IVec S_ 1 := andi main_v3 main_v7
  main_v8
-- ==== Kernel.lean ====
abbrev S1 : Shape := ⟨1, ![1]⟩
abbrev S2x8x16x128x512 : Shape := ⟨5, ![2, 8, 16, 128, 512]⟩
abbrev S2x8x8192x128 : Shape := ⟨4, ![2, 8, 8192, 128]⟩
abbrev S2x8x16x64x512 : Shape := ⟨5, ![2, 8, 16, 64, 512]⟩
abbrev S1x1x4x128x512 : Shape := ⟨5, ![1, 1, 4, 128, 512]⟩
abbrev S1x1x8192x128 : Shape := ⟨4, ![1, 1, 8192, 128]⟩
abbrev S1x1x16x64x512 : Shape := ⟨5, ![1, 1, 16, 64, 512]⟩
abbrev S1x1x4x64x512 : Shape := ⟨5, ![1, 1, 4, 64, 512]⟩
abbrev S3x512x512 : Shape := ⟨3, ![3, 512, 512]⟩
abbrev S1x1x1x128x512 : Shape := ⟨5, ![1, 1, 1, 128, 512]⟩
abbrev S128x512 : Shape := ⟨2, ![128, 512]⟩
abbrev S1x1x256x128 : Shape := ⟨4, ![1, 1, 256, 128]⟩
abbrev S256x128 : Shape := ⟨2, ![256, 128]⟩
abbrev S256x512 : Shape := ⟨2, ![256, 512]⟩
abbrev S1x1x1x64x256 : Shape := ⟨5, ![1, 1, 1, 64, 256]⟩
abbrev S64x256 : Shape := ⟨2, ![64, 256]⟩
abbrev S64x512 : Shape := ⟨2, ![64, 512]⟩
abbrev S32x8x512 : Shape := ⟨3, ![32, 8, 512]⟩
abbrev S8x512 : Shape := ⟨2, ![8, 512]⟩
abbrev S512 : Shape := ⟨1, ![512]⟩
abbrev S1x512 : Shape := ⟨2, ![1, 512]⟩
abbrev S1x1x1x64x512 : Shape := ⟨5, ![1, 1, 1, 64, 512]⟩
abbrev S1x1x512x128 : Shape := ⟨4, ![1, 1, 512, 128]⟩
abbrev S512x128 : Shape := ⟨2, ![512, 128]⟩
abbrev S512x512 : Shape := ⟨2, ![512, 512]⟩
abbrev S1x512x512 : Shape := ⟨3, ![1, 512, 512]⟩
abbrev S64x8x512 : Shape := ⟨3, ![64, 8, 512]⟩

abbrev nBuf : Space → Nat
  | .hbm => 4
  | .vmem => 9
  | .smem => 1
  | _ => 0

abbrev bufTy : (tb : Table) → Fin (tcTables nBuf tb) → BufTy
  | .hbm, ⟨0, _⟩ => ⟨S2x8x16x128x512, .bf16⟩
  | .hbm, ⟨1, _⟩ => ⟨S2x8x8192x128, .bf16⟩
  | .hbm, ⟨2, _⟩ => ⟨S2x8x16x64x512, .bf16⟩
  | .hbm, ⟨3, _⟩ => ⟨S2x8x16x64x512, .f32⟩
  | .local _ .vmem, ⟨0, _⟩ => ⟨S1x1x4x128x512, .bf16⟩
  | .local _ .vmem, ⟨1, _⟩ => ⟨S1x1x4x128x512, .bf16⟩
  | .local _ .vmem, ⟨2, _⟩ => ⟨S1x1x8192x128, .bf16⟩
  | .local _ .vmem, ⟨3, _⟩ => ⟨S1x1x8192x128, .bf16⟩
  | .local _ .vmem, ⟨4, _⟩ => ⟨S1x1x16x64x512, .bf16⟩
  | .local _ .vmem, ⟨5, _⟩ => ⟨S1x1x16x64x512, .bf16⟩
  | .local _ .vmem, ⟨6, _⟩ => ⟨S1x1x4x64x512, .f32⟩
  | .local _ .vmem, ⟨7, _⟩ => ⟨S1x1x4x64x512, .f32⟩
  | .local _ .vmem, ⟨8, _⟩ => ⟨S3x512x512, .f32⟩
  | .local _ .smem, ⟨0, _⟩ => ⟨S1, .i32⟩
  | _, _ => ⟨S2x8x16x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 4], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (c0_i32_5 : BitVec 32) : Fin 5 → Nat :=
  let c0_6 : Index := 0#32
  let c0_7 : Index := 0#32
  let c0_i32_4 : BitVec 32 := 0#32
  let c4_i32 : BitVec 32 := 4#32
  let v8 : BitVec 32 := Scalar.muli c0_i32_4 c4_i32
  let v9 : BitVec 32 := Scalar.addi v8 c0_i32_5
  let v10 : Index := Scalar.indexCast v9
  let c0_8 : Index := 0#32
  let c0_9 : Index := 0#32
  ![0, 0, v10.toNat, 0, 0]
def k0_off2 (c0_i32_373 : BitVec 32) : Fin 5 → Nat :=
  let c0_375 : Index := 0#32
  let c0_376 : Index := 0#32
  let c0_i32_4 : BitVec 32 := 0#32
  let c4_i32_372 : BitVec 32 := 4#32
  let v416 : BitVec 32 := Scalar.muli c0_i32_4 c4_i32_372
  let v417 : BitVec 32 := Scalar.addi v416 c0_i32_373
  let v422 : Index := Scalar.indexCast v417
  let c0_377 : Index := 0#32
  let c0_378 : Index := 0#32
  ![0, 0, v422.toNat, 0, 0]
@[reducible] def k0_t1_loop : Scf.Loop 32 :=
  let c0_i32_4 : BitVec 32 := 0#32
  let c4_i32 : BitVec 32 := 4#32
  let v8 : BitVec 32 := Scalar.addi c0_i32_4 c4_i32
  let c1_i32 : BitVec 32 := 1#32
  ⟨c0_i32_4, v8, c1_i32⟩
def k0_off3 (k0_t1 : Fin k0_t1_loop.trips) : Fin 5 → Nat :=
  let c0_6 : Index := 0#32
  let c0_7 : Index := 0#32
  let c0_i32_4 : BitVec 32 := 0#32
  let c1_i32 : BitVec 32 := 1#32
  let arg9 : BitVec 32 := Scf.iv c0_i32_4 c1_i32 k0_t1
  let v9 : Index := Scalar.indexCast arg9
  let c0_8 : Index := 0#32
  let c0_9 : Index := 0#32
  ![0, 0, v9.toNat, 0, 0]
def k0_off4 (k0_t1 : Fin k0_t1_loop.trips) : Fin 5 → Nat :=
  let c0_287 : Index := 0#32
  let c0_288 : Index := 0#32
  let c0_i32_4 : BitVec 32 := 0#32
  let c1_i32 : BitVec 32 := 1#32
  let arg9 : BitVec 32 := Scf.iv c0_i32_4 c1_i32 k0_t1
  let v467 : Index := Scalar.indexCast arg9
  let c0_289 : Index := 0#32
  let c0_290 : Index := 0#32
  ![0, 0, v467.toNat, 0, 0]
def k0_cond1 (v0 : BitVec 32) : BitVec 1 :=
  let c0_i32 : BitVec 32 := 0#32
  let v1 : BitVec 1 := Scalar.cmpi .ne v0 c0_i32
  let v2 : BitVec 32 := Scalar.extui v1
  let c0_i32_0 : BitVec 32 := 0#32
  let v3 : BitVec 1 := Scalar.cmpi .ne v2 c0_i32_0
  v3

def k0_cond2 (v4 : BitVec 32) : BitVec 1 :=
  let c0_i32_2 : BitVec 32 := 0#32
  let v5 : BitVec 1 := Scalar.cmpi .eq v4 c0_i32_2
  let v6 : BitVec 32 := Scalar.extui v5
  let c0_i32_3 : BitVec 32 := 0#32
  let v7 : BitVec 1 := Scalar.cmpi .ne v6 c0_i32_3
  v7

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x4x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S1 : Shape := ⟨1, ![1]⟩
abbrev S2x8x16x128x512 : Shape := ⟨5, ![2, 8, 16, 128, 512]⟩
abbrev S2x8x8192x128 : Shape := ⟨4, ![2, 8, 8192, 128]⟩
abbrev S2x8x16x64x512 : Shape := ⟨5, ![2, 8, 16, 64, 512]⟩
abbrev S2x8x16x512x128 : Shape := ⟨5, ![2, 8, 16, 512, 128]⟩
abbrev S2x8x16x512x64 : Shape := ⟨5, ![2, 8, 16, 512, 64]⟩
abbrev S2x8x8192x64 : Shape := ⟨4, ![2, 8, 8192, 64]⟩
abbrev S2x8x8192x8192 : Shape := ⟨4, ![2, 8, 8192, 8192]⟩
abbrev S_ : Shape := ⟨0, ![]⟩
abbrev S2x8x8192 : Shape := ⟨3, ![2, 8, 8192]⟩
abbrev S2x8x8192x1 : Shape := ⟨4, ![2, 8, 8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x8x16x128x512, .bf16⟩
  | .hbm, ⟨2, _⟩ => ⟨S2x8x8192x128, .bf16⟩
  | .hbm, ⟨3, _⟩ => ⟨S2x8x16x64x512, .bf16⟩
  | .hbm, ⟨4, _⟩ => ⟨S2x8x16x128x512, .f32⟩
  | .hbm, ⟨5, _⟩ => ⟨S2x8x16x512x128, .f32⟩
  | .hbm, ⟨6, _⟩ => ⟨S2x8x8192x128, .f32⟩
  | .hbm, ⟨7, _⟩ => ⟨S2x8x8192x128, .f32⟩
  | .hbm, ⟨8, _⟩ => ⟨S2x8x16x64x512, .f32⟩
  | .hbm, ⟨9, _⟩ => ⟨S2x8x16x512x64, .f32⟩
  | .hbm, ⟨10, _⟩ => ⟨S2x8x8192x64, .f32⟩
  | .hbm, ⟨11, _⟩ => ⟨S2x8x8192x8192, .f32⟩
  | .hbm, ⟨12, _⟩ => ⟨S_, .f32⟩
  | .hbm, ⟨13, _⟩ => ⟨S_, .f32⟩
  | .hbm, ⟨14, _⟩ => ⟨S2x8x8192x8192, .f32⟩
  | .hbm, ⟨15, _⟩ => ⟨S2x8x8192x8192, .f32⟩
  | .hbm, ⟨16, _⟩ => ⟨S_, .f32⟩
  | .hbm, ⟨17, _⟩ => ⟨S2x8x8192, .f32⟩
  | .hbm, ⟨18, _⟩ => ⟨S_, .f32⟩
  | .hbm, ⟨19, _⟩ => ⟨S2x8x8192, .f32⟩
  | .hbm, ⟨20, _⟩ => ⟨S2x8x8192, .f32⟩
  | .hbm, ⟨21, _⟩ => ⟨S2x8x8192x1, .f32⟩
  | .hbm, ⟨22, _⟩ => ⟨S2x8x8192x8192, .f32⟩
  | .hbm, ⟨23, _⟩ => ⟨S2x8x8192x8192, .f32⟩
  | .hbm, ⟨24, _⟩ => ⟨S2x8x8192x8192, .f32⟩
  | .hbm, ⟨25, _⟩ => ⟨S_, .f32⟩
  | .hbm, ⟨26, _⟩ => ⟨S2x8x8192, .f32⟩
  | .hbm, ⟨27, _⟩ => ⟨S2x8x8192x1, .f32⟩
  | .hbm, ⟨28, _⟩ => ⟨S2x8x8192x8192, .f32⟩
  | .hbm, ⟨29, _⟩ => ⟨S2x8x8192x8192, .f32⟩
  | .hbm, ⟨30, _⟩ => ⟨S2x8x8192x64, .f32⟩
  | .hbm, ⟨31, _⟩ => ⟨S2x8x16x512x64, .f32⟩
  | .hbm, ⟨32, _⟩ => ⟨S2x8x16x64x512, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S1x512x1024 : Shape := ⟨3, ![1, 512, 1024]⟩
abbrev S1x8x1024 : Shape := ⟨3, ![1, 8, 1024]⟩
abbrev S8x576x128 : Shape := ⟨3, ![8, 576, 128]⟩
abbrev S512x1024 : Shape := ⟨2, ![512, 1024]⟩
abbrev S528x1024 : Shape := ⟨2, ![528, 1024]⟩
abbrev S3x528x256 : Shape := ⟨3, ![3, 528, 256]⟩
abbrev S512x2816 : Shape := ⟨2, ![512, 2816]⟩
abbrev S64x128 : Shape := ⟨2, ![64, 128]⟩
abbrev S1x64x128 : Shape := ⟨3, ![1, 64, 128]⟩
abbrev S1x8x128 : Shape := ⟨3, ![1, 8, 128]⟩
abbrev S8x128 : Shape := ⟨2, ![8, 128]⟩
abbrev S8x1024 : Shape := ⟨2, ![8, 1024]⟩
abbrev S8 : Shape := ⟨1, ![8]⟩
abbrev S8x1 : Shape := ⟨2, ![8, 1]⟩
abbrev S8x256 : Shape := ⟨2, ![8, 256]⟩
abbrev S1024x256 : Shape := ⟨2, ![1024, 256]⟩
abbrev S528x256 : Shape := ⟨2, ![528, 256]⟩
abbrev S1x528x256 : Shape := ⟨3, ![1, 528, 256]⟩
abbrev S1x8x256 : Shape := ⟨3, ![1, 8, 256]⟩
abbrev S1x504x256 : Shape := ⟨3, ![1, 504, 256]⟩
abbrev S504x256 : Shape := ⟨2, ![504, 256]⟩
abbrev S512x256 : Shape := ⟨2, ![512, 256]⟩
abbrev S3x256 : Shape := ⟨2, ![3, 256]⟩
abbrev S1x256 : Shape := ⟨2, ![1, 256]⟩
abbrev S1x512x256 : Shape := ⟨3, ![1, 512, 256]⟩

abbrev nBuf : Space → Nat
  | .hbm => 11
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1x1024, .f32⟩
  | .hbm, ⟨7, _⟩ => ⟨S1024x5632, .bf16⟩
  | .hbm, ⟨8, _⟩ => ⟨S1x5632, .f32⟩
  | .hbm, ⟨9, _⟩ => ⟨S2816x1024, .bf16⟩
  | .hbm, ⟨10, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x5632, .bf16⟩
  | .local _ .vmem, ⟨8, _⟩ => ⟨S3x5632, .f32⟩
  | .local _ .vmem, ⟨9, _⟩ => ⟨S1x5632, .f32⟩
  | .local _ .vmem, ⟨10, _⟩ => ⟨S2816x1024, .bf16⟩
  | .local _ .vmem, ⟨11, _⟩ => ⟨S1x512x1024, .f32⟩
  | .local _ .vmem, ⟨12, _⟩ => ⟨S1x512x1024, .f32⟩
  | .local _ .vmem, ⟨13, _⟩ => ⟨S8x576x128, .f32⟩
  | .local _ .vmem, ⟨14, _⟩ => ⟨S512x1024, .f32⟩
  | .local _ .vmem, ⟨15, _⟩ => ⟨S528x1024, .bf16⟩
  | .local _ .vmem, ⟨16, _⟩ => ⟨S3x528x256, .f32⟩
  | .local _ .vmem, ⟨17, _⟩ => ⟨S3x528x256, .f32⟩
  | .local _ .vmem, ⟨18, _⟩ => ⟨S512x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S2x8192x1024 : Shape := ⟨3, ![2, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩

abbrev nBuf : Space → Nat
  | .hbm => 63
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S2x8192x5632, .f32⟩
  | .hbm, ⟨23, _⟩ => ⟨S_, .i32⟩
  | .hbm, ⟨24, _⟩ => ⟨S_, .f32⟩
  | .hbm, ⟨25, _⟩ => ⟨S2x8194x5632, .f32⟩
  | .hbm, ⟨26, _⟩ => ⟨S2x8192x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S2x8192x5632, .f32⟩
  | .hbm, ⟨31, _⟩ => ⟨S2x8192x5632, .f32⟩
  | .hbm, ⟨32, _⟩ => ⟨S1x1x5632, .f32⟩
  | .hbm, ⟨33, _⟩ => ⟨S2x8192x5632, .f32⟩
  | .hbm, ⟨34, _⟩ => ⟨S2x8192x5632, .f32⟩
  | .hbm, ⟨35, _⟩ => ⟨S2x8192x5632, .f32⟩
  | .hbm, ⟨36, _⟩ => ⟨S1x5632, .f32⟩
  | .hbm, ⟨37, _⟩ => ⟨S5632, .f32⟩
  | .hbm, ⟨38, _⟩ => ⟨S1x1x5632, .f32⟩
  | .hbm, ⟨39, _⟩ => ⟨S2x8192x5632, .f32⟩
  | .hbm, ⟨40, _⟩ => ⟨S2x8192x5632, .f32⟩
  | .hbm, ⟨41, _⟩ => ⟨S2x8192x5632, .f32⟩
  | .hbm, ⟨42, _⟩ => ⟨S2x8192x5632, .f32⟩
  | .hbm, ⟨43, _⟩ => ⟨S1x5632, .f32⟩
  | .hbm, ⟨44, _⟩ => ⟨S5632, .f32⟩
  | .hbm, ⟨45, _⟩ => ⟨S1x1x5632, .f32⟩
  | .hbm, ⟨46, _⟩ => ⟨S2x8192x5632, .f32⟩
  | .hbm, ⟨47, _⟩ => ⟨S2x8192x5632, .f32⟩
  | .hbm, ⟨48, _⟩ => ⟨S2x8192x5632, .f32⟩
  | .hbm, ⟨49, _⟩ => ⟨S2x8192x2816, .f32⟩
  | .hbm, ⟨50, _⟩ => ⟨S2x8192x2816, .f32⟩
  | .hbm, ⟨51, _⟩ => ⟨S2x8192x2816, .f32⟩
  | .hbm, ⟨52, _⟩ => ⟨S2x8192x2816, .f32⟩
  | .hbm, ⟨53, _⟩ => ⟨S_, .f32⟩
  | .hbm, ⟨54, _⟩ => ⟨S2x8192x2816, .f32⟩
  | .hbm, ⟨55, _⟩ => ⟨S2x8192x2816, .f32⟩
  | .hbm, ⟨56, _⟩ => ⟨S_, .f32⟩
  | .hbm, ⟨57, _⟩ => ⟨S2x8192x2816, .f32⟩
  | .hbm, ⟨58, _⟩ => ⟨S2x8192x2816, .f32⟩
  | .hbm, ⟨59, _⟩ => ⟨S2x8192x2816, .f32⟩
  | .hbm, ⟨60, _⟩ => ⟨S2x8192x2816, .f32⟩
  | .hbm, ⟨61, _⟩ => ⟨S2x8192x1024, .f32⟩
  | .hbm, ⟨62, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x2x8192x512 : Shape := ⟨4, ![2, 2, 8192, 512]⟩
abbrev S2x8192x512 : Shape := ⟨3, ![2, 8192, 512]⟩
abbrev S2x8x16x64x512 : Shape := ⟨5, ![2, 8, 16, 64, 512]⟩
abbrev S512 : Shape := ⟨1, ![512]⟩
abbrev S1024x1024 : Shape := ⟨2, ![1024, 1024]⟩
abbrev S1024 : Shape := ⟨1, ![1024]⟩
abbrev S1024x512 : Shape := ⟨2, ![1024, 512]⟩
abbrev S128 : Shape := ⟨1, ![128]⟩
abbrev S2x4x256x128 : Shape := ⟨4, ![2, 4, 256, 128]⟩
abbrev S512x1024 : Shape := ⟨2, ![512, 1024]⟩
abbrev S1x512 : Shape := ⟨2, ![1, 512]⟩
abbrev S512x1 : Shape := ⟨2, ![512, 1]⟩
abbrev S1x1024 : Shape := ⟨2, ![1, 1024]⟩
abbrev S1x128 : Shape := ⟨2, ![1, 128]⟩
abbrev S1x512x1024 : Shape := ⟨3, ![1, 512, 1024]⟩
abbrev S1x1x512x512 : Shape := ⟨4, ![1, 1, 512, 512]⟩
abbrev S1x512x512 : Shape := ⟨3, ![1, 512, 512]⟩
abbrev S1x8x1x64x512 : Shape := ⟨5, ![1, 8, 1, 64, 512]⟩
abbrev S1x4x256x128 : Shape := ⟨4, ![1, 4, 256, 128]⟩
abbrev S512x512 : Shape := ⟨2, ![512, 512]⟩
abbrev S1x1x1x64x512 : Shape := ⟨5, ![1, 1, 1, 64, 512]⟩
abbrev S64x512 : Shape := ⟨2, ![64, 512]⟩
abbrev S512x128 : Shape := ⟨2, ![512, 128]⟩
abbrev S1x1x256x128 : Shape := ⟨4, ![1, 1, 256, 128]⟩
abbrev S256x128 : Shape := ⟨2, ![256, 128]⟩
abbrev S512x256 : Shape := ⟨2, ![512, 256]⟩

abbrev nBuf : Space → Nat
  | .hbm => 23
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S2x2x8192x512, .f32⟩
  | .hbm, ⟨2, _⟩ => ⟨S2x8192x512, .f32⟩
  | .hbm, ⟨3, _⟩ => ⟨S2x8x16x64x512, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S1024x512, .f32⟩
  | .hbm, ⟨9, _⟩ => ⟨S128, .f32⟩
  | .hbm, ⟨10, _⟩ => ⟨S2x4x256x128, .bf16⟩
  | .hbm, ⟨11, _⟩ => ⟨S2x4x256x128, .bf16⟩
  | .hbm, ⟨12, _⟩ => ⟨S512x1024, .f32⟩
  | .hbm, ⟨13, _⟩ => ⟨S1024x1024, .bf16⟩
  | .hbm, ⟨14, _⟩ => ⟨S1x512, .f32⟩
  | .hbm, ⟨15, _⟩ => ⟨S512x1, .f32⟩
  | .hbm, ⟨16, _⟩ => ⟨S512x1024, .bf16⟩
  | .hbm, ⟨17, _⟩ => ⟨S512x1024, .bf16⟩
  | .hbm, ⟨18, _⟩ => ⟨S1x1024, .f32⟩
  | .hbm, ⟨19, _⟩ => ⟨S1024x512, .bf16⟩
  | .hbm, ⟨20, _⟩ => ⟨S1x128, .f32⟩
  | .hbm, ⟨21, _⟩ => ⟨S512x1024, .bf16⟩
  | .hbm, ⟨22, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x512x512, .f32⟩
  | .local _ .vmem, ⟨3, _⟩ => ⟨S1x1x512x512, .f32⟩
  | .local _ .vmem, ⟨4, _⟩ => ⟨S1x1x512x512, .f32⟩
  | .local _ .vmem, ⟨5, _⟩ => ⟨S1x1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x8x1x64x512, .f32⟩
  | .local _ .vmem, ⟨9, _⟩ => ⟨S1x8x1x64x512, .f32⟩
  | .local _ .vmem, ⟨10, _⟩ => ⟨S1x512, .f32⟩
  | .local _ .vmem, ⟨11, _⟩ => ⟨S512x1, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1024x512, .bf16⟩
  | .local _ .vmem, ⟨16, _⟩ => ⟨S1x128, .f32⟩
  | .local _ .vmem, ⟨17, _⟩ => ⟨S1x4x256x128, .bf16⟩
  | .local _ .vmem, ⟨18, _⟩ => ⟨S1x4x256x128, .bf16⟩
  | .local _ .vmem, ⟨19, _⟩ => ⟨S1x4x256x128, .bf16⟩
  | .local _ .vmem, ⟨20, _⟩ => ⟨S1x4x256x128, .bf16⟩
  | .local _ .vmem, ⟨21, _⟩ => ⟨S512x1024, .bf16⟩
  | .local _ .vmem, ⟨22, _⟩ => ⟨S1x512x1024, .f32⟩
  | .local _ .vmem, ⟨23, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x4x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x4x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S2x8192x1024 : Shape := ⟨3, ![2, 8192, 1024]⟩
abbrev S2x2x8192x512 : Shape := ⟨4, ![2, 2, 8192, 512]⟩
abbrev S2x8192x512 : Shape := ⟨3, ![2, 8192, 512]⟩
abbrev S2x8x16x64x512 : Shape := ⟨5, ![2, 8, 16, 64, 512]⟩
abbrev S512 : Shape := ⟨1, ![512]⟩
abbrev S1024x1024 : Shape := ⟨2, ![1024, 1024]⟩
abbrev S1024 : Shape := ⟨1, ![1024]⟩
abbrev S1024x512 : Shape := ⟨2, ![1024, 512]⟩
abbrev S128 : Shape := ⟨1, ![128]⟩
abbrev S2x4x256x128 : Shape := ⟨4, ![2, 4, 256, 128]⟩
abbrev S512x1024 : Shape := ⟨2, ![512, 1024]⟩
abbrev S1x2x8192x512 : Shape := ⟨4, ![1, 2, 8192, 512]⟩
abbrev S_ : Shape := ⟨0, ![]⟩
abbrev S2x16x512x8x64 : Shape := ⟨5, ![2, 16, 512, 8, 64]⟩
abbrev S2x8192 : Shape := ⟨2, ![2, 8192]⟩
abbrev S2x8192x1 : Shape := ⟨3, ![2, 8192, 1]⟩
abbrev S1x1x512 : Shape := ⟨3, ![1, 1, 512]⟩
abbrev S1x1x1024 : Shape := ⟨3, ![1, 1, 1024]⟩
abbrev S2x8192x4x128 : Shape := ⟨4, ![2, 8192, 4, 128]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩

abbrev nBuf : Space → Nat
  | .hbm => 132
  | .vmem => 0
  | .smem => 0
  | _ => 0

abbrev hbmTy0_0 (i : Nat) : BufTy := match i % 128 with
  | 0 => ⟨S2x8192x1024, .f32⟩
  | 1 => ⟨S2x2x8192x512, .f32⟩
  | 2 => ⟨S2x8192x512, .f32⟩
  | 3 => ⟨S2x8x16x64x512, .f32⟩
  | 4 => ⟨S512, .f32⟩
  | 5 => ⟨S512, .f32⟩
  | 6 => ⟨S1024x1024, .f32⟩
  | 7 => ⟨S1024, .f32⟩
  | 8 => ⟨S1024x512, .f32⟩
  | 9 => ⟨S128, .f32⟩
  | 10 => ⟨S2x4x256x128, .bf16⟩
  | 11 => ⟨S2x4x256x128, .bf16⟩
  | 12 => ⟨S512x1024, .f32⟩
  | 13 => ⟨S1x2x8192x512, .f32⟩
  | 14 => ⟨S2x8192x512, .f32⟩
  | 15 => ⟨S1x2x8192x512, .f32⟩
  | 16 => ⟨S2x8192x512, .f32⟩
  | 17 => ⟨S2x8192x512, .f32⟩
  | 18 => ⟨S2x8192x512, .f32⟩
  | 19 => ⟨S2x8192x512, .f32⟩
  | 20 => ⟨S_, .f32⟩
  | 21 => ⟨S2x8192x512, .f32⟩
  | 22 => ⟨S2x8192x512, .f32⟩
  | 23 => ⟨S2x8192x512, .f32⟩
  | 24 => ⟨S_, .f32⟩
  | 25 => ⟨S2x8192x512, .f32⟩
  | 26 => ⟨S2x8192x512, .f32⟩
  | 27 => ⟨S2x8192x512, .f32⟩
  | 28 => ⟨S_, .f32⟩
  | 29 => ⟨S2x8192x512, .f32⟩
  | 30 => ⟨S2x8192x512, .f32⟩
  | 31 => ⟨S_, .f32⟩
  | 32 => ⟨S2x8192x512, .f32⟩
  | 33 => ⟨S2x8192x512, .f32⟩
  | 34 => ⟨S2x8192x512, .f32⟩
  | 35 => ⟨S2x8192x512, .f32⟩
  | 36 => ⟨S2x16x512x8x64, .f32⟩
  | 37 => ⟨S2x8192x512, .f32⟩
  | 38 => ⟨S2x8192x512, .f32⟩
  | 39 => ⟨S_, .f32⟩
  | 40 => ⟨S2x8192, .f32⟩
  | 41 => ⟨S2x8192x1, .f32⟩
  | 42 => ⟨S_, .f32⟩
  | 43 => ⟨S2x8192x1, .f32⟩
  | 44 => ⟨S2x8192x1, .f32⟩
  | 45 => ⟨S_, .f32⟩
  | 46 => ⟨S2x8192x1, .f32⟩
  | 47 => ⟨S2x8192x1, .f32⟩
  | 48 => ⟨S2x8192x1, .f32⟩
  | 49 => ⟨S2x8192x512, .f32⟩
  | 50 => ⟨S2x8192x512, .f32⟩
  | 51 => ⟨S1x1x512, .f32⟩
  | 52 => ⟨S2x8192x512, .f32⟩
  | 53 => ⟨S2x8192x512, .f32⟩
  | 54 => ⟨S2x8192x512, .f32⟩
  | 55 => ⟨S_, .f32⟩
  | 56 => ⟨S2x8192, .f32⟩
  | 57 => ⟨S2x8192x1, .f32⟩
  | 58 => ⟨S_, .f32⟩
  | 59 => ⟨S2x8192x1, .f32⟩
  | 60 => ⟨S2x8192x1, .f32⟩
  | 61 => ⟨S_, .f32⟩
  | 62 => ⟨S2x8192x1, .f32⟩
  | 63 => ⟨S2x8192x1, .f32⟩
  | 64 => ⟨S2x8192x1, .f32⟩
  | 65 => ⟨S2x8192x512, .f32⟩
  | 66 => ⟨S2x8192x512, .f32⟩
  | 67 => ⟨S1x1x512, .f32⟩
  | 68 => ⟨S2x8192x512, .f32⟩
  | 69 => ⟨S2x8192x512, .f32⟩
  | 70 => ⟨S2x8192x1024, .f32⟩
  | 71 => ⟨S2x8192x1024, .f32⟩
  | 72 => ⟨S2x8192x1024, .f32⟩
  | 73 => ⟨S2x8192x1024, .f32⟩
  | 74 => ⟨S_, .f32⟩
  | 75 => ⟨S2x8192, .f32⟩
  | 76 => ⟨S2x8192x1, .f32⟩
  | 77 => ⟨S_, .f32⟩
  | 78 => ⟨S2x8192x1, .f32⟩
  | 79 => ⟨S2x8192x1, .f32⟩
  | 80 => ⟨S_, .f32⟩
  | 81 => ⟨S2x8192x1, .f32⟩
  | 82 => ⟨S2x8192x1, .f32⟩
  | 83 => ⟨S2x8192x1, .f32⟩
  | 84 => ⟨S2x8192x1024, .f32⟩
  | 85 => ⟨S2x8192x1024, .f32⟩
  | 86 => ⟨S1x1x1024, .f32⟩
  | 87 => ⟨S2x8192x1024, .f32⟩
  | 88 => ⟨S2x8192x1024, .f32⟩
  | 89 => ⟨S2x8192x512, .f32⟩
  | 90 => ⟨S2x8192x4x128, .f32⟩
  | 91 => ⟨S2x8192x4x128, .f32⟩
  | 92 => ⟨S_, .f32⟩
  | 93 => ⟨S2x8192x4, .f32⟩
  | 94 => ⟨S2x8192x4x1, .f32⟩
  | 95 => ⟨S_, .f32⟩
  | 96 => ⟨S2x8192x4x1, .f32⟩
  | 97 => ⟨S2x8192x4x1, .f32⟩
  | 98 => ⟨S_, .f32⟩
  | 99 => ⟨S2x8192x4x1, .f32⟩
  | 100 => ⟨S2x8192x4x1, .f32⟩
  | 101 => ⟨S2x8192x4x1, .f32⟩
  | 102 => ⟨S2x8192x4x128, .f32⟩
  | 103 => ⟨S2x8192x4x128, .f32⟩
  | 104 => ⟨S1x1x1x128, .f32⟩
  | 105 => ⟨S2x8192x4x128, .f32⟩
  | 106 => ⟨S2x8192x4x128, .f32⟩
  | 107 => ⟨S2x4x256x128, .f32⟩
  | 108 => ⟨S2x4x8192x256, .f32⟩
  | 109 => ⟨S_, .f32⟩
  | 110 => ⟨S2x4x8192x256, .f32⟩
  | 111 => ⟨S2x4x8192x256, .f32⟩
  | 112 => ⟨S_, .f32⟩
  | 113 => ⟨S2x4x8192, .f32⟩
  | 114 => ⟨S_, .f32⟩
  | 115 => ⟨S2x4x8192, .f32⟩
  | 116 => ⟨S2x4x8192, .f32⟩
  | 117 => ⟨S2x4x8192x1, .f32⟩
  | 118 => ⟨S2x4x8192x256, .f32⟩
  | 119 => ⟨S2x4x8192x256, .f32⟩
  | 120 => ⟨S2x4x8192x256, .f32⟩
  | 121 => ⟨S_, .f32⟩
  | 122 => ⟨S2x4x8192, .f32⟩
  | 123 => ⟨S2x4x8192x1, .f32⟩
  | 124 => ⟨S2x4x8192x256, .f32⟩
  | 125 => ⟨S2x4x8192x256, .f32⟩
  | 126 => ⟨S2x4x256x128, .f32⟩
  | 127 => ⟨S2x4x128x8192, .f32⟩
  | _ => ⟨S2x8192x1024, .f32⟩

abbrev hbmTy0_1 (i : Nat) : BufTy := match i % 128 with
  | 0 => ⟨S2x8192x4x128, .f32⟩
  | 1 => ⟨S2x8192x512, .f32⟩
  | 2 => ⟨S2x8192x1024, .f32⟩
  | 3 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_12 : Ref sig .tc := ⟨.hbm, 92, rfl⟩
abbrev main_v66 : Ref sig .tc := ⟨.hbm, 93, rfl⟩
abbrev main_v67 : Ref sig .tc := ⟨.hbm, 94, rfl⟩
abbrev main_cst_13 : Ref sig .tc := ⟨.hbm, 95, rfl⟩
abbrev main_v68 : Ref sig .tc := ⟨.hbm, 96, rfl⟩
abbrev main_v69 : Ref sig .tc := ⟨.hbm, 97, rfl⟩
abbrev main_cst_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩
abbrev main_cst_16 : Ref sig .tc := ⟨.hbm, 112, rfl⟩
abbrev main_v82 : Ref sig .tc := ⟨.hbm, 113, rfl⟩
abbrev main_cst_17 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_18 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩

abbrev nD : Nat := 1
abbrev τ : Topo := Topo.v7x

variable {F : FTy → Type} [FloatOps F]
-- ==== Kernel4.lean ====
abbrev S2x256x1024 : Shape := ⟨3, ![2, 256, 1024]⟩
abbrev S1024 : Shape := ⟨1, ![1024]⟩
abbrev S1024x1024 : Shape := ⟨2, ![1024, 1024]⟩
abbrev S128 : Shape := ⟨1, ![128]⟩
abbrev S1x1024 : Shape := ⟨2, ![1, 1024]⟩
abbrev S1x128 : Shape := ⟨2, ![1, 128]⟩
abbrev S2x4x256x128 : Shape := ⟨4, ![2, 4, 256, 128]⟩
abbrev S1x256x1024 : Shape := ⟨3, ![1, 256, 1024]⟩
abbrev S1x4x256x128 : Shape := ⟨4, ![1, 4, 256, 128]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S1x1x256x128 : Shape := ⟨4, ![1, 1, 256, 128]⟩

abbrev nBuf : Space → Nat
  | .hbm => 9
  | .vmem => 9
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S1x1024, .f32⟩
  | .hbm, ⟨5, _⟩ => ⟨S1024x1024, .bf16⟩
  | .hbm, ⟨6, _⟩ => ⟨S1x128, .f32⟩
  | .hbm, ⟨7, _⟩ => ⟨S2x4x256x128, .bf16⟩
  | .hbm, ⟨8, _⟩ => ⟨S2x4x256x128, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1x128, .f32⟩
  | .local _ .vmem, ⟨5, _⟩ => ⟨S1x4x256x128, .bf16⟩
  | .local _ .vmem, ⟨6, _⟩ => ⟨S1x4x256x128, .bf16⟩
  | .local _ .vmem, ⟨7, _⟩ => ⟨S1x4x256x128, .bf16⟩
  | .local _ .vmem, ⟨8, _⟩ => ⟨S1x4x256x128, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S2x256x1024 : Shape := ⟨3, ![2, 256, 1024]⟩
abbrev S1024 : Shape := ⟨1, ![1024]⟩
abbrev S1024x1024 : Shape := ⟨2, ![1024, 1024]⟩
abbrev S128 : Shape := ⟨1, ![128]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x512 : Shape := ⟨3, ![2, 256, 512]⟩
abbrev S2x256x4x128 : Shape := ⟨4, ![2, 256, 4, 128]⟩
abbrev S2x256x4 : Shape := ⟨3, ![2, 256, 4]⟩
abbrev S2x256x4x1 : Shape := ⟨4, ![2, 256, 4, 1]⟩
abbrev S1x1x1x128 : Shape := ⟨4, ![1, 1, 1, 128]⟩
abbrev S2x4x256x128 : Shape := ⟨4, ![2, 4, 256, 128]⟩

abbrev nBuf : Space → Nat
  | .hbm => 45
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1x1x1024, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S2x256x512, .f32⟩
  | .hbm, ⟨22, _⟩ => ⟨S2x256x4x128, .f32⟩
  | .hbm, ⟨23, _⟩ => ⟨S2x256x4x128, .f32⟩
  | .hbm, ⟨24, _⟩ => ⟨S_, .f32⟩
  | .hbm, ⟨25, _⟩ => ⟨S2x256x4, .f32⟩
  | .hbm, ⟨26, _⟩ => ⟨S2x256x4x1, .f32⟩
  | .hbm, ⟨27, _⟩ => ⟨S_, .f32⟩
  | .hbm, ⟨28, _⟩ => ⟨S2x256x4x1, .f32⟩
  | .hbm, ⟨29, _⟩ => ⟨S2x256x4x1, .f32⟩
  | .hbm, ⟨30, _⟩ => ⟨S_, .f32⟩
  | .hbm, ⟨31, _⟩ => ⟨S2x256x4x1, .f32⟩
  | .hbm, ⟨32, _⟩ => ⟨S2x256x4x1, .f32⟩
  | .hbm, ⟨33, _⟩ => ⟨S2x256x4x1, .f32⟩
  | .hbm, ⟨34, _⟩ => ⟨S2x256x4x128, .f32⟩
  | .hbm, ⟨35, _⟩ => ⟨S2x256x4x128, .f32⟩
  | .hbm, ⟨36, _⟩ => ⟨S1x1x1x128, .f32⟩
  | .hbm, ⟨37, _⟩ => ⟨S2x256x4x128, .f32⟩
  | .hbm, ⟨38, _⟩ => ⟨S2x256x4x128, .f32⟩
  | .hbm, ⟨39, _⟩ => ⟨S2x256x512, .f32⟩
  | .hbm, ⟨40, _⟩ => ⟨S2x256x4x128, .f32⟩
  | .hbm, ⟨41, _⟩ => ⟨S2x4x256x128, .f32⟩
  | .hbm, ⟨42, _⟩ => ⟨S2x4x256x128, .bf16⟩
  | .hbm, ⟨43, _⟩ => ⟨S2x4x256x128, .f32⟩
  | .hbm, ⟨44, _⟩ => ⟨S2x4x256x128, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel5.lean ====
abbrev S2x8192x1024 : Shape := ⟨3, ![2, 8192, 1024]⟩
abbrev S2x8192 : Shape := ⟨2, ![2, 8192]⟩
abbrev S1024 : Shape := ⟨1, ![1024]⟩
abbrev S1024x1440 : Shape := ⟨2, ![1024, 1440]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S96 : Shape := ⟨1, ![96]⟩
abbrev S1024x1408 : Shape := ⟨2, ![1024, 1408]⟩
abbrev S1024x32 : Shape := ⟨2, ![1024, 32]⟩
abbrev S_ : Shape := ⟨0, ![]⟩
abbrev S1024x128 : Shape := ⟨2, ![1024, 128]⟩
abbrev S1024x1536 : Shape := ⟨2, ![1024, 1536]⟩
abbrev S256x8x96 : Shape := ⟨3, ![256, 8, 96]⟩
abbrev S8x96x256 : Shape := ⟨3, ![8, 96, 256]⟩
abbrev S128x8x128 : Shape := ⟨3, ![128, 8, 128]⟩
abbrev S8x128x128 : Shape := ⟨3, ![8, 128, 128]⟩
abbrev S8x128x64 : Shape := ⟨3, ![8, 128, 64]⟩
abbrev S8x64x128 : Shape := ⟨3, ![8, 64, 128]⟩
abbrev S1x96 : Shape := ⟨2, ![1, 96]⟩
abbrev S1x128 : Shape := ⟨2, ![1, 128]⟩
abbrev S128x1 : Shape := ⟨2, ![128, 1]⟩
abbrev S16 : Shape := ⟨1, ![16]⟩
abbrev S16x1 : Shape := ⟨2, ![16, 1]⟩
abbrev S2x1x8192 : Shape := ⟨3, ![2, 1, 8192]⟩
abbrev S1x1024 : Shape := ⟨2, ![1, 1024]⟩
abbrev S1x256 : Shape := ⟨2, ![1, 256]⟩
abbrev S1x1 : Shape := ⟨2, ![1, 1]⟩
abbrev S2x8192x512 : Shape := ⟨3, ![2, 8192, 512]⟩
abbrev S2x8x16x128x512 : Shape := ⟨5, ![2, 8, 16, 128, 512]⟩
abbrev S2x8x8192x128 : Shape := ⟨4, ![2, 8, 8192, 128]⟩
abbrev S2x8x16x64x512 : Shape := ⟨5, ![2, 8, 16, 64, 512]⟩
abbrev S1x512x1024 : Shape := ⟨3, ![1, 512, 1024]⟩
abbrev S1x1x512 : Shape := ⟨3, ![1, 1, 512]⟩
abbrev S1x512x512 : Shape := ⟨3, ![1, 512, 512]⟩
abbrev S1x8x1x128x512 : Shape := ⟨5, ![1, 8, 1, 128, 512]⟩
abbrev S1x8x512x128 : Shape := ⟨4, ![1, 8, 512, 128]⟩
abbrev S1x8x1x64x512 : Shape := ⟨5, ![1, 8, 1, 64, 512]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S512x512 : Shape := ⟨2, ![512, 512]⟩
abbrev S512x256 : Shape := ⟨2, ![512, 256]⟩
abbrev S512x128 : Shape := ⟨2, ![512, 128]⟩
abbrev S128x512 : Shape := ⟨2, ![128, 512]⟩
abbrev S256x512 : Shape := ⟨2, ![256, 512]⟩
abbrev S1x512 : Shape := ⟨2, ![1, 512]⟩
abbrev S16x512 : Shape := ⟨2, ![16, 512]⟩
abbrev S8x512 : Shape := ⟨2, ![8, 512]⟩
abbrev S24x512 : Shape := ⟨2, ![24, 512]⟩
abbrev S32x512 : Shape := ⟨2, ![32, 512]⟩
abbrev S96x1 : Shape := ⟨2, ![96, 1]⟩
abbrev S1x96x256 : Shape := ⟨3, ![1, 96, 256]⟩
abbrev S96x256 : Shape := ⟨2, ![96, 256]⟩
abbrev S96x512 : Shape := ⟨2, ![96, 512]⟩
abbrev S64x512 : Shape := ⟨2, ![64, 512]⟩
abbrev S1x1x1x128x512 : Shape := ⟨5, ![1, 1, 1, 128, 512]⟩
abbrev S1x64x128 : Shape := ⟨3, ![1, 64, 128]⟩
abbrev S64x128 : Shape := ⟨2, ![64, 128]⟩
abbrev S1x1x512x128 : Shape := ⟨4, ![1, 1, 512, 128]⟩
abbrev S1x1x1x64x512 : Shape := ⟨5, ![1, 1, 1, 64, 512]⟩

abbrev nBuf : Space → Nat
  | .hbm => 72
  | .vmem => 25
  | .smem => 0
  | _ => 0

abbrev bufTy : (tb : Table) → Fin (tcTables nBuf tb) → BufTy
  | .hbm, ⟨0, _⟩ => ⟨S2x8192x1024, .f32⟩
  | .hbm, ⟨1, _⟩ => ⟨S2x8192, .i32⟩
  | .hbm, ⟨2, _⟩ => ⟨S1024, .f32⟩
  | .hbm, ⟨3, _⟩ => ⟨S1024x1440, .f32⟩
  | .hbm, ⟨4, _⟩ => ⟨S256, .f32⟩
  | .hbm, ⟨5, _⟩ => ⟨S256x768, .f32⟩
  | .hbm, ⟨6, _⟩ => ⟨S128, .f32⟩
  | .hbm, ⟨7, _⟩ => ⟨S128x1024, .f32⟩
  | .hbm, ⟨8, _⟩ => ⟨S96, .f32⟩
  | .hbm, ⟨9, _⟩ => ⟨S96, .f32⟩
  | .hbm, ⟨10, _⟩ => ⟨S1024x1408, .f32⟩
  | .hbm, ⟨11, _⟩ => ⟨S1024x32, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x1536, .f32⟩
  | .hbm, ⟨16, _⟩ => ⟨S1024x1536, .bf16⟩
  | .hbm, ⟨17, _⟩ => ⟨S256x8x96, .f32⟩
  | .hbm, ⟨18, _⟩ => ⟨S8x96x256, .f32⟩
  | .hbm, ⟨19, _⟩ => ⟨S8x96x256, .bf16⟩
  | .hbm, ⟨20, _⟩ => ⟨S128x8x128, .f32⟩
  | .hbm, ⟨21, _⟩ => ⟨S8x128x128, .f32⟩
  | .hbm, ⟨22, _⟩ => ⟨S8x128x64, .f32⟩
  | .hbm, ⟨23, _⟩ => ⟨S8x64x128, .f32⟩
  | .hbm, ⟨24, _⟩ => ⟨S8x64x128, .bf16⟩
  | .hbm, ⟨25, _⟩ => ⟨S8x128x64, .f32⟩
  | .hbm, ⟨26, _⟩ => ⟨S8x64x128, .f32⟩
  | .hbm, ⟨27, _⟩ => ⟨S8x64x128, .bf16⟩
  | .hbm, ⟨28, _⟩ => ⟨S1x96, .f32⟩
  | .hbm, ⟨29, _⟩ => ⟨S_, .i32⟩
  | .hbm, ⟨30, _⟩ => ⟨S_, .f32⟩
  | .hbm, ⟨31, _⟩ => ⟨S1x128, .f32⟩
  | .hbm, ⟨32, _⟩ => ⟨S128x1, .f32⟩
  | .hbm, ⟨33, _⟩ => ⟨S1x96, .f32⟩
  | .hbm, ⟨34, _⟩ => ⟨S_, .i32⟩
  | .hbm, ⟨35, _⟩ => ⟨S_, .f32⟩
  | .hbm, ⟨36, _⟩ => ⟨S1x128, .f32⟩
  | .hbm, ⟨37, _⟩ => ⟨S128x1, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S16x1, .f32⟩
  | .hbm, ⟨53, _⟩ => ⟨S96, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S96, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S2x1x8192, .i32⟩
  | .hbm, ⟨63, _⟩ => ⟨S1x1024, .f32⟩
  | .hbm, ⟨64, _⟩ => ⟨S1x256, .f32⟩
  | .hbm, ⟨65, _⟩ => ⟨S1x128, .f32⟩
  | .hbm, ⟨66, _⟩ => ⟨S1x1, .f32⟩
  | .hbm, ⟨67, _⟩ => ⟨S2x8192x512, .f32⟩
  | .hbm, ⟨68, _⟩ => ⟨S2x8192x512, .f32⟩
  | .hbm, ⟨69, _⟩ => ⟨S2x8x16x128x512, .bf16⟩
  | .hbm, ⟨70, _⟩ => ⟨S2x8x8192x128, .bf16⟩
  | .hbm, ⟨71, _⟩ => ⟨S2x8x16x64x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x512, .i32⟩
  | .local _ .vmem, ⟨3, _⟩ => ⟨S1x1x512, .i32⟩
  | .local _ .vmem, ⟨4, _⟩ => ⟨S1x1024, .f32⟩
  | .local _ .vmem, ⟨5, _⟩ => ⟨S1024x1536, .bf16⟩
  | .local _ .vmem, ⟨6, _⟩ => ⟨S1x256, .f32⟩
  | .local _ .vmem, ⟨7, _⟩ => ⟨S1x128, .f32⟩
  | .local _ .vmem, ⟨8, _⟩ => ⟨S8x96x256, .bf16⟩
  | .local _ .vmem, ⟨9, _⟩ => ⟨S8x64x128, .bf16⟩
  | .local _ .vmem, ⟨10, _⟩ => ⟨S8x64x128, .bf16⟩
  | .local _ .vmem, ⟨11, _⟩ => ⟨S128x1, .f32⟩
  | .local _ .vmem, ⟨12, _⟩ => ⟨S128x1, .f32⟩
  | .local _ .vmem, ⟨13, _⟩ => ⟨S16x1, .f32⟩
  | .local _ .vmem, ⟨14, _⟩ => ⟨S1x1, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x8x1x128x512, .bf16⟩
  | .local _ .vmem, ⟨20, _⟩ => ⟨S1x8x1x128x512, .bf16⟩
  | .local _ .vmem, ⟨21, _⟩ => ⟨S1x8x512x128, .bf16⟩
  | .local _ .vmem, ⟨22, _⟩ => ⟨S1x8x512x128, .bf16⟩
  | .local _ .vmem, ⟨23, _⟩ => ⟨S1x8x1x64x512, .bf16⟩
  | .local _ .vmem, ⟨24, _⟩ => ⟨S1x8x1x64x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_call1_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_call2_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44_0 : Ref sig .tc := ⟨.hbm, 67, rfl⟩
abbrev main_v44_1 : Ref sig .tc := ⟨.hbm, 68, rfl⟩
abbrev main_v44_2 : Ref sig .tc := ⟨.hbm, 69, rfl⟩
abbrev main_v44_3 : Ref sig .tc := ⟨.hbm, 70, rfl⟩
abbrev main_v44_4 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x96x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x64x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x64x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S16x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x1x128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x1x64x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Kernel5Ideal.lean ====
variable {F : FTy → Type} [FloatOps F] [Named F]
def κ : String → Option EReal := fun
  | "inv96" => some ((1 / 96 : ℝ) : EReal)
  | _ => none
-- ==== Reference5Ideal.lean ====
abbrev S2x8192x1024 : Shape := ⟨3, ![2, 8192, 1024]⟩
abbrev S2x8192 : Shape := ⟨2, ![2, 8192]⟩
abbrev S1024 : Shape := ⟨1, ![1024]⟩
abbrev S1024x1440 : Shape := ⟨2, ![1024, 1440]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S96 : Shape := ⟨1, ![96]⟩
abbrev S16 : Shape := ⟨1, ![16]⟩
abbrev S_ : Shape := ⟨0, ![]⟩
abbrev S2x8192x1 : Shape := ⟨3, ![2, 8192, 1]⟩
abbrev S1x1x16 : Shape := ⟨3, ![1, 1, 16]⟩
abbrev S2x8192x16 : Shape := ⟨3, ![2, 8192, 16]⟩
abbrev S2x8192x1x16 : Shape := ⟨4, ![2, 8192, 1, 16]⟩
abbrev S1x1x1024 : Shape := ⟨3, ![1, 1, 1024]⟩
abbrev S2x8192x1440 : Shape := ⟨3, ![2, 8192, 1440]⟩
abbrev S2x8192x512 : Shape := ⟨3, ![2, 8192, 512]⟩
abbrev S2x8192x256 : Shape := ⟨3, ![2, 8192, 256]⟩
abbrev S2x8192x128 : Shape := ⟨3, ![2, 8192, 128]⟩
abbrev S2x8192x32 : Shape := ⟨3, ![2, 8192, 32]⟩
abbrev S1x1x256 : Shape := ⟨3, ![1, 1, 256]⟩
abbrev S2x8192x768 : Shape := ⟨3, ![2, 8192, 768]⟩
abbrev S2x8192x8x96 : Shape := ⟨4, ![2, 8192, 8, 96]⟩
abbrev S1x1x128 : Shape := ⟨3, ![1, 1, 128]⟩
abbrev S2x8192x8x128 : Shape := ⟨4, ![2, 8192, 8, 128]⟩
abbrev S2x8192x8x64 : Shape := ⟨4, ![2, 8192, 8, 64]⟩
abbrev S2x8192x1x32 : Shape := ⟨4, ![2, 8192, 1, 32]⟩
abbrev S2x8192x8x32 : Shape := ⟨4, ![2, 8192, 8, 32]⟩
abbrev S2x8192x8 : Shape := ⟨3, ![2, 8192, 8]⟩
abbrev S2x8192x8x1 : Shape := ⟨4, ![2, 8192, 8, 1]⟩
abbrev S1x1x1x96 : Shape := ⟨4, ![1, 1, 1, 96]⟩
abbrev S2x8192x8x16 : Shape := ⟨4, ![2, 8192, 8, 16]⟩
abbrev S2x8192x8x31 : Shape := ⟨4, ![2, 8192, 8, 31]⟩
abbrev S2x16x512x8x128 : Shape := ⟨5, ![2, 16, 512, 8, 128]⟩
abbrev S2x8x16x128x512 : Shape := ⟨5, ![2, 8, 16, 128, 512]⟩
abbrev S2x8x8192x128 : Shape := ⟨4, ![2, 8, 8192, 128]⟩
abbrev S2x16x512x8x64 : Shape := ⟨5, ![2, 16, 512, 8, 64]⟩
abbrev S2x8x16x64x512 : Shape := ⟨5, ![2, 8, 16, 64, 512]⟩

abbrev nBuf : Space → Nat
  | .hbm => 190
  | .vmem => 0
  | .smem => 0
  | _ => 0

abbrev hbmTy0_0 (i : Nat) : BufTy := match i % 128 with
  | 0 => ⟨S2x8192x1024, .f32⟩
  | 1 => ⟨S2x8192, .i32⟩
  | 2 => ⟨S1024, .f32⟩
  | 3 => ⟨S1024x1440, .f32⟩
  | 4 => ⟨S256, .f32⟩
  | 5 => ⟨S256x768, .f32⟩
  | 6 => ⟨S128, .f32⟩
  | 7 => ⟨S128x1024, .f32⟩
  | 8 => ⟨S96, .f32⟩
  | 9 => ⟨S96, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S2x8192, .f32⟩
  | 25 => ⟨S2x8192x1, .f32⟩
  | 26 => ⟨S1x1x16, .f32⟩
  | 27 => ⟨S2x8192x16, .f32⟩
  | 28 => ⟨S2x8192x16, .f32⟩
  | 29 => ⟨S2x8192x16, .f32⟩
  | 30 => ⟨S2x8192x16, .f32⟩
  | 31 => ⟨S2x8192x1x16, .f32⟩
  | 32 => ⟨S2x8192x16, .f32⟩
  | 33 => ⟨S2x8192x1x16, .f32⟩
  | 34 => ⟨S2x8192x1024, .f32⟩
  | 35 => ⟨S_, .f32⟩
  | 36 => ⟨S2x8192, .f32⟩
  | 37 => ⟨S2x8192x1, .f32⟩
  | 38 => ⟨S_, .f32⟩
  | 39 => ⟨S2x8192x1, .f32⟩
  | 40 => ⟨S2x8192x1, .f32⟩
  | 41 => ⟨S_, .f32⟩
  | 42 => ⟨S2x8192x1, .f32⟩
  | 43 => ⟨S2x8192x1, .f32⟩
  | 44 => ⟨S2x8192x1, .f32⟩
  | 45 => ⟨S2x8192x1024, .f32⟩
  | 46 => ⟨S2x8192x1024, .f32⟩
  | 47 => ⟨S1x1x1024, .f32⟩
  | 48 => ⟨S2x8192x1024, .f32⟩
  | 49 => ⟨S2x8192x1024, .f32⟩
  | 50 => ⟨S2x8192x1440, .f32⟩
  | 51 => ⟨S2x8192x512, .f32⟩
  | 52 => ⟨S2x8192x512, .f32⟩
  | 53 => ⟨S2x8192x256, .f32⟩
  | 54 => ⟨S2x8192x128, .f32⟩
  | 55 => ⟨S2x8192x32, .f32⟩
  | 56 => ⟨S2x8192x256, .f32⟩
  | 57 => ⟨S_, .f32⟩
  | 58 => ⟨S2x8192, .f32⟩
  | 59 => ⟨S2x8192x1, .f32⟩
  | 60 => ⟨S_, .f32⟩
  | 61 => ⟨S2x8192x1, .f32⟩
  | 62 => ⟨S2x8192x1, .f32⟩
  | 63 => ⟨S_, .f32⟩
  | 64 => ⟨S2x8192x1, .f32⟩
  | 65 => ⟨S2x8192x1, .f32⟩
  | 66 => ⟨S2x8192x1, .f32⟩
  | 67 => ⟨S2x8192x256, .f32⟩
  | 68 => ⟨S2x8192x256, .f32⟩
  | 69 => ⟨S1x1x256, .f32⟩
  | 70 => ⟨S2x8192x256, .f32⟩
  | 71 => ⟨S2x8192x256, .f32⟩
  | 72 => ⟨S2x8192x768, .f32⟩
  | 73 => ⟨S2x8192x8x96, .f32⟩
  | 74 => ⟨S2x8192x128, .f32⟩
  | 75 => ⟨S_, .f32⟩
  | 76 => ⟨S2x8192, .f32⟩
  | 77 => ⟨S2x8192x1, .f32⟩
  | 78 => ⟨S_, .f32⟩
  | 79 => ⟨S2x8192x1, .f32⟩
  | 80 => ⟨S2x8192x1, .f32⟩
  | 81 => ⟨S_, .f32⟩
  | 82 => ⟨S2x8192x1, .f32⟩
  | 83 => ⟨S2x8192x1, .f32⟩
  | 84 => ⟨S2x8192x1, .f32⟩
  | 85 => ⟨S2x8192x128, .f32⟩
  | 86 => ⟨S2x8192x128, .f32⟩
  | 87 => ⟨S1x1x128, .f32⟩
  | 88 => ⟨S2x8192x128, .f32⟩
  | 89 => ⟨S2x8192x128, .f32⟩
  | 90 => ⟨S2x8192x1024, .f32⟩
  | 91 => ⟨S2x8192x8x128, .f32⟩
  | 92 => ⟨S2x8192x8x64, .f32⟩
  | 93 => ⟨S2x8192x1x32, .f32⟩
  | 94 => ⟨S2x8192x8x32, .f32⟩
  | 95 => ⟨S2x8192x8x96, .f32⟩
  | 96 => ⟨S2x8192x8x64, .f32⟩
  | 97 => ⟨S2x8192x8x96, .f32⟩
  | 98 => ⟨S_, .f32⟩
  | 99 => ⟨S2x8192x8, .f32⟩
  | 100 => ⟨S2x8192x8x1, .f32⟩
  | 101 => ⟨S_, .f32⟩
  | 102 => ⟨S2x8192x8x1, .f32⟩
  | 103 => ⟨S2x8192x8x1, .f32⟩
  | 104 => ⟨S_, .f32⟩
  | 105 => ⟨S2x8192x8x1, .f32⟩
  | 106 => ⟨S2x8192x8x1, .f32⟩
  | 107 => ⟨S2x8192x8x1, .f32⟩
  | 108 => ⟨S2x8192x8x96, .f32⟩
  | 109 => ⟨S2x8192x8x96, .f32⟩
  | 110 => ⟨S1x1x1x96, .f32⟩
  | 111 => ⟨S2x8192x8x96, .f32⟩
  | 112 => ⟨S2x8192x8x96, .f32⟩
  | 113 => ⟨S2x8192x8x96, .f32⟩
  | 114 => ⟨S_, .f32⟩
  | 115 => ⟨S2x8192x8, .f32⟩
  | 116 => ⟨S2x8192x8x1, .f32⟩
  | 117 => ⟨S_, .f32⟩
  | 118 => ⟨S2x8192x8x1, .f32⟩
  | 119 => ⟨S2x8192x8x1, .f32⟩
  | 120 => ⟨S_, .f32⟩
  | 121 => ⟨S2x8192x8x1, .f32⟩
  | 122 => ⟨S2x8192x8x1, .f32⟩
  | 123 => ⟨S2x8192x8x1, .f32⟩
  | 124 => ⟨S2x8192x8x96, .f32⟩
  | 125 => ⟨S2x8192x8x96, .f32⟩
  | 126 => ⟨S1x1x1x96, .f32⟩
  | 127 => ⟨S2x8192x8x96, .f32⟩
  | _ => ⟨S2x8192x1024, .f32⟩

abbrev hbmTy0_1 (i : Nat) : BufTy := match i % 128 with
  | 0 => ⟨S2x8192x8x96, .f32⟩
  | 1 => ⟨S2x8192x8x64, .f32⟩
  | 2 => ⟨S2x8192x8x32, .f32⟩
  | 3 => ⟨S2x8192x8x16, .f32⟩
  | 4 => ⟨S2x8192x8x16, .f32⟩
  | 5 => ⟨S2x8192x8x16, .f32⟩
  | 6 => ⟨S2x8192x8x16, .f32⟩
  | 7 => ⟨S2x8192x8x16, .f32⟩
  | 8 => ⟨S2x8192x8x16, .f32⟩
  | 9 => ⟨S2x8192x8x16, .f32⟩
  | 10 => ⟨S2x8192x8x16, .f32⟩
  | 11 => ⟨S2x8192x8x16, .f32⟩
  | 12 => ⟨S2x8192x8x16, .f32⟩
  | 13 => ⟨S2x8192x8x16, .f32⟩
  | 14 => ⟨S2x8192x8x16, .f32⟩
  | 15 => ⟨S2x8192x8x32, .f32⟩
  | 16 => ⟨S2x8192x8x96, .f32⟩
  | 17 => ⟨S_, .f32⟩
  | 18 => ⟨S2x8192x8x96, .f32⟩
  | 19 => ⟨S2x8192x8x96, .f32⟩
  | 20 => ⟨S2x8192x8x64, .f32⟩
  | 21 => ⟨S2x8192x8x32, .f32⟩
  | 22 => ⟨S2x8192x8x16, .f32⟩
  | 23 => ⟨S2x8192x8x16, .f32⟩
  | 24 => ⟨S2x8192x8x16, .f32⟩
  | 25 => ⟨S2x8192x8x16, .f32⟩
  | 26 => ⟨S2x8192x8x16, .f32⟩
  | 27 => ⟨S2x8192x8x16, .f32⟩
  | 28 => ⟨S2x8192x8x16, .f32⟩
  | 29 => ⟨S2x8192x8x16, .f32⟩
  | 30 => ⟨S2x8192x8x16, .f32⟩
  | 31 => ⟨S2x8192x8x16, .f32⟩
  | 32 => ⟨S2x8192x8x16, .f32⟩
  | 33 => ⟨S2x8192x8x16, .f32⟩
  | 34 => ⟨S2x8192x8x32, .f32⟩
  | 35 => ⟨S2x8192x8x96, .f32⟩
  | 36 => ⟨S96, .f32⟩
  | 37 => ⟨S_, .f32⟩
  | 38 => ⟨S_, .f32⟩
  | 39 => ⟨S_, .f32⟩
  | 40 => ⟨S_, .f32⟩
  | 41 => ⟨S96, .f32⟩
  | 42 => ⟨S_, .f32⟩
  | 43 => ⟨S_, .f32⟩
  | 44 => ⟨S_, .f32⟩
  | 45 => ⟨S_, .f32⟩
  | 46 => ⟨S2x8192x8x1, .f32⟩
  | 47 => ⟨S_, .f32⟩
  | 48 => ⟨S2x8192x8x31, .f32⟩
  | 49 => ⟨S_, .f32⟩
  | 50 => ⟨S2x8192x8x1, .f32⟩
  | 51 => ⟨S2x8192x8x1, .f32⟩
  | 52 => ⟨S2x8192x8x128, .f32⟩
  | 53 => ⟨S2x8192x8x128, .f32⟩
  | 54 => ⟨S2x16x512x8x128, .f32⟩
  | 55 => ⟨S2x8x16x128x512, .f32⟩
  | 56 => ⟨S2x8x16x128x512, .bf16⟩
  | 57 => ⟨S2x8x8192x128, .f32⟩
  | 58 => ⟨S2x8x8192x128, .bf16⟩
  | 59 => ⟨S2x16x512x8x64, .f32⟩
  | 60 => ⟨S2x8x16x64x512, .f32⟩
  | 61 => ⟨S2x8x16x64x512, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_12 : Ref sig .tc := ⟨.hbm, 98, rfl⟩
abbrev main_v75 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_15 : Ref sig .tc := ⟨.hbm, 114, rfl⟩
abbrev main_v88 : Ref sig .tc := ⟨.hbm, 115, rfl⟩
abbrev main_v89 : Ref sig .tc := ⟨.hbm, 116, rfl⟩
abbrev main_cst_16 : Ref sig .tc := ⟨.hbm, 117, rfl⟩
abbrev main_v90 : Ref sig .tc := ⟨.hbm, 118, rfl⟩
abbrev main_v91 : Ref sig .tc := ⟨.hbm, 119, rfl⟩
abbrev main_cst_17 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_cst_18 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_cst_19 : Ref sig .tc := ⟨.hbm, 165, rfl⟩
abbrev main_v135 : Ref sig .tc := ⟨.hbm, 166, rfl⟩
abbrev main_cst_20 : Ref sig .tc := ⟨.hbm, 167, rfl⟩
abbrev main_v136 : Ref sig .tc := ⟨.hbm, 168, rfl⟩
abbrev main_v137 : Ref sig .tc := ⟨.hbm, 169, rfl⟩
abbrev main_cst_21 : Ref sig .tc := ⟨.hbm, 170, rfl⟩
abbrev main_v138 : Ref sig .tc := ⟨.hbm, 171, rfl⟩
abbrev main_v139 : Ref sig .tc := ⟨.hbm, 172, rfl⟩
abbrev main_cst_22 : Ref sig .tc := ⟨.hbm, 173, rfl⟩
abbrev main_v140 : Ref sig .tc := ⟨.hbm, 174, rfl⟩
abbrev main_cst_23 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩

abbrev nD : Nat := 1
abbrev τ : Topo := Topo.v7x

variable {F : FTy → Type} [FloatOps F]
-- ==== Proof.Kit.lean ====
/- The attention kernel's launch, for every contents of the one-word flag table and at any float instance: the buffers at
   the region's entry, the flag as the body is handed it, the input blocks, and what each staging buffer is called at a
   grid point. -/
module

public import proofs.«01_k».proof.Proof.Gen.KernelIdeal.Launch
public import proofs.«01_k».proof.Proof.Gen.KernelIdeal.Skeleton
public import Idealize.ShloMosaic.Lib.Exec
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the region is entered: the launch memory, since nothing runs before the region. -/
abbrev V (c : Dev nD) (b : Ref sig .tc) : Buf (Elt F) ((c : Thread nD τ).loc b) := m ((c : Thread nD τ).loc b)

set_option maxHeartbeats 800000 in
/-- The program is its one region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The flag table's contents at the region's entry. -/
def flags : pre0.Contents (Elt F) := fun j => V m (0 : Dev nD) (pre0.ref j)

/-- There is one device, so every device holds those contents. -/
theorem V_flags (c : Dev nD) (j : Fin 1) : V m c (pre0.ref j) = flags m j := by
  obtain rfl : c = 0 := Subsingleton.elim _ _; rfl

/-- Every contents of the flag table is admissible: no index map reads it. -/
theorem flags_ok : ok0 (F := F) (flags m) := by unfold ok0; trivial

/-- The flag table as admissible contents, and the pipeline at them. -/
abbrev adm : (pcfg0 (F := F)).Adm := ⟨flags m, flags_ok m⟩
abbrev cfgM : Pipeline.Cfg sig Λ₀ := cfg0 (adm m)

/-- The flag table's buffer as the body is handed it. -/
abbrev flagM : Memref sig .tc .smem S1 .i32 := Memref.whole main_arg0
abbrev flagM_whole : flagM.IsWhole := Memref.isWhole_whole _
/-- The contents of a table buffer, and the half share of it the body holds. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- The flag's word, as the body loads it. -/
abbrev flagWord (c : Dev nD) (f : TabBuf (F := F) c flagM) : BitVec 32 :=
  View.readAt (Elt F) flagM.view (Rect.unit (s := S1) ![0] S1.size inb_S1_S1_0).toLoadRect f (Shape.Idx.first (by decide))

/-- The tables' halves the region lends the body: the flag's alone. -/
theorem tables_eq (c : Dev nD) : (Pipeline.ΦT pre0 (flags m) c : sProp 𝕄) = iprop(tabPt c flagM (flags m 0)) := by
  unfold Pipeline.ΦT Pipeline.prefHeld
  rw [show (Finset.univ : Finset (Fin 1)) = {(0 : Fin 1)} from by decide, bigSep_singleton]
  rfl

/-- Window `w`'s block at point `t`, read off its array. -/
def blk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The queries' staging buffer holds their block at every point. -/
theorem before_q {c : Dev nD} (dat : Dat τ (Elt F) Unit ℕ (UR sig nD τ) ℕ (cfgM m) c) (hA : dat.A 0 = V m c (Pipeline.arrRef spec0 0))
    (hafter : ∀ t, dat.after 0 t = blk m c 0 t) (t : Fin (cfgM m).N) (d) : dat.before 0 t d = blk m c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The keys' staging buffer holds their block at every point. -/
theorem before_k {c : Dev nD} (dat : Dat τ (Elt F) Unit ℕ (UR sig nD τ) ℕ (cfgM m) c) (hA : dat.A 1 = V m c (Pipeline.arrRef spec0 1))
    (hafter : ∀ t, dat.after 1 t = blk m c 1 t) (t : Fin (cfgM m).N) (d) : dat.before 1 t d = blk m c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- The values' staging buffer holds their block at every point. -/
theorem before_v {c : Dev nD} (dat : Dat τ (Elt F) Unit ℕ (UR sig nD τ) ℕ (cfgM m) c) (hA : dat.A 2 = V m c (Pipeline.arrRef spec0 2))
    (hafter : ∀ t, dat.after 2 t = blk m c 2 t) (t : Fin (cfgM m).N) (d) : dat.before 2 t d = blk m c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- A buffer through which the output block's contents are stated. -/
abbrev outV : View sig .tc .vmem S1x1x4x64x512 .f32 := (Memref.whole cc0_stg3_0 : Memref sig .tc .vmem S1x1x4x64x512 .f32).view
/-- The windows' staging memrefs at point `t`, each a whole buffer. -/
abbrev stQ (t : Fin (cfgM m).N) : Memref sig .tc .vmem S1x1x4x128x512 .bf16 := spec0_0.stage ((cfgM m).slots t 0)
abbrev stQ_whole (t : Fin (cfgM m).N) : (stQ m t).IsWhole := hstage0_0 (((cfgM m).slots t 0).cast nbuf0_0)
abbrev stK (t : Fin (cfgM m).N) : Memref sig .tc .vmem S1x1x8192x128 .bf16 := spec0_1.stage ((cfgM m).slots t 1)
abbrev stK_whole (t : Fin (cfgM m).N) : (stK m t).IsWhole := hstage0_1 (((cfgM m).slots t 1).cast nbuf0_1)
abbrev stV (t : Fin (cfgM m).N) : Memref sig .tc .vmem S1x1x16x64x512 .bf16 := spec0_2.stage ((cfgM m).slots t 2)
abbrev stV_whole (t : Fin (cfgM m).N) : (stV m t).IsWhole := hstage0_2 (((cfgM m).slots t 2).cast nbuf0_2)
abbrev stO (t : Fin (cfgM m).N) : Memref sig .tc .vmem S1x1x4x64x512 .f32 := spec0_3.stage ((cfgM m).slots t 3)
abbrev stO_whole (t : Fin (cfgM m).N) : (stO m t).IsWhole := hstage0_3 (((cfgM m).slots t 3).cast nbuf0_3)
/-- The score scratch. -/
abbrev scM : Memref sig .tc .vmem S3x512x512 .f32 := Memref.whole cc0_scratch0

/-- The region's invariant: the score scratch at some contents, and the generator register. -/
theorem rest_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The kernel body at point `t`. -/
abbrev bodyAt (t : Fin (cfgM m).N) : Prog (TpuEff nD τ sig (Elt F) Λ₀ .tc) PUnit :=
  cc0_attn (grid0.coords t) flagM flagM_whole (stQ m t) (stQ_whole m t) (stK m t) (stK_whole m t) (stV m t) (stV_whole m t) (stO m t) (stO_whole m t) scM (Memref.isWhole_whole _)

end Cert.KernelIdeal.Attn

end
-- ==== Proof.RunFast.lean ====
/- The kernel body when the flag is set. -/
module

public import proofs.«01_k».proof.Proof.Kit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging buffer when the flag is set, with the proof that on whole
    staging buffers the body runs to the continuation holding the inputs as they were and those stores made. -/
noncomputable def fastRun (c : Dev nD) (i : grid0.Coords) (arg4 : Memref sig .tc .vmem S1x1x4x128x512 .bf16) (harg4 : arg4.IsWhole) (arg5 : Memref sig .tc .vmem S1x1x8192x128 .bf16) (harg5 : arg5.IsWhole) (arg6 : Memref sig .tc .vmem S1x1x16x64x512 .bf16) (harg6 : arg6.IsWhole) (arg7 : Memref sig .tc .vmem S1x1x4x64x512 .f32) (harg7 : arg7.IsWhole) (arg8 : Memref sig .tc .vmem S3x512x512 .f32) (harg8 : arg8.IsWhole)
    (x0 : Vec F S1x1x4x128x512 .bf16) (x1 : Vec F S1x1x8192x128 .bf16) (x2 : Vec F S1x1x16x64x512 .bf16) (xt0 : TabBuf (F := F) c flagM) (h1 : k0_cond1 (flagWord c xt0) = 1#1) (h2 : ¬ k0_cond2 (flagWord c xt0) = 1#1)  :
    { L3 : List (View.Piece (Elt F) S1x1x4x64x512 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ tabPt c flagM xt0
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ (∃ d, owns (c : Thread nD τ) arg8 fullShare d) ∗ tabPt c flagM xt0) -∗ K ⟨⟩))
          ⊢ wp frame (wpE (defs₀ (F := F)) Variants.none c none) E (cc0_attn i flagM flagM_whole arg4 harg4 arg5 harg5 arg6 harg6 arg7 harg7 arg8 harg8) K } := by
  refine ⟨?_, fun E K => ?run⟩
  case run =>
    rw [cc0_attn_eq_skeleton]; unfold cc0_attn_skel
    unfold owns
    iintro ⟨⟨%f0, %hf0, H0⟩, ⟨%f1, %hf1, H1⟩, ⟨%f2, %hf2, H2⟩, ⟨%d3, %f3, -, H3⟩, ⟨%ds0, %fs0, %hs0, HS0⟩, HT0, Hk⟩
    obtain rfl := harg4.eq_unread hf0; obtain rfl := harg5.eq_unread hf1; obtain rfl := harg6.eq_unread hf2
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]
    · iexists _, _; isplitr; · ipureintro; exact hs0
      iexact HS0
    iexact HT0

end Cert.KernelIdeal.Attn

end
-- ==== Proof.RunOnline.lean ====
/- The kernel body when the flag is clear: one trip of its loop over the query tiles, the loop, the body. -/
module

public import proofs.«01_k».proof.Proof.Kit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- What a trip of the loop holds: the inputs at their contents, the output's and the scratch's buffers. -/
abbrev TripRes (c : Dev nD) (arg4 : Memref sig .tc .vmem S1x1x4x128x512 .bf16) (arg5 : Memref sig .tc .vmem S1x1x8192x128 .bf16) (arg6 : Memref sig .tc .vmem S1x1x16x64x512 .bf16) (arg7 : Memref sig .tc .vmem S1x1x4x64x512 .f32) (arg8 : Memref sig .tc .vmem S3x512x512 .f32)
    (X4 : BufTy.Contents (Elt F) arg4.view.ty) (X5 : BufTy.Contents (Elt F) arg5.view.ty) (X6 : BufTy.Contents (Elt F) arg6.view.ty) (f7 : BufTy.Contents (Elt F) arg7.view.ty) : sProp 𝕄 :=
  iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} f7) ∗ (∃ f8, arg8.view.loc (c : Thread nD τ) ↦[arg8.view.set]{fullShare} f8))

set_option maxHeartbeats 4000000 in
/-- One trip of the loop over the query tiles: what it stores in the output's staging buffer, whatever it finds there
    and in the scratch, with the proof that it runs. -/
noncomputable def tileRun (c : Dev nD) (i : grid0.Coords) (arg4 : Memref sig .tc .vmem S1x1x4x128x512 .bf16) (harg4 : arg4.IsWhole) (arg5 : Memref sig .tc .vmem S1x1x8192x128 .bf16) (harg5 : arg5.IsWhole) (arg6 : Memref sig .tc .vmem S1x1x16x64x512 .bf16) (harg6 : arg6.IsWhole) (arg7 : Memref sig .tc .vmem S1x1x4x64x512 .f32) (harg7 : arg7.IsWhole) (arg8 : Memref sig .tc .vmem S3x512x512 .f32) (harg8 : arg8.IsWhole)
    (X4 : BufTy.Contents (Elt F) arg4.view.ty) (X5 : BufTy.Contents (Elt F) arg5.view.ty) (X6 : BufTy.Contents (Elt F) arg6.view.ty) (k : Fin k0_t1_loop.trips) :
    { L : List (View.Piece (Elt F) S1x1x4x64x512 .f32) // ∀ (E : Set ℕ) (f7 : BufTy.Contents (Elt F) arg7.view.ty),
      TripRes (F := F) c arg4 arg5 arg6 arg7 arg8 X4 X5 X6 f7
      ⊢ wp frame (wpE (defs₀ (F := F)) Variants.none (c : Thread nD τ) none) E (k0_t1_body i flagM flagM_whole arg4 harg4 arg5 harg5 arg6 harg6 arg7 harg7 arg8 harg8 k PUnit.unit)
          (fun _ => TripRes (F := F) c arg4 arg5 arg6 arg7 arg8 X4 X5 X6 (arg7.view.writes (Elt F) f7 L)) } := by
  have hk : k.val < 4 := Nat.lt_of_lt_of_le k.isLt k0_t1_abs.2.1
  refine ⟨?_, fun E f7 => ?run⟩
  case run =>
    unfold k0_t1_body
    iintro ⟨H4, H5, H6, H7, ⟨%f8, H8⟩⟩
    sl_exec
    sl_step
    isplitl [H4]; · iexact H4
    isplitl [H5]; · iexact H5
    isplitl [H6]; · iexact H6
    isplitl [H7]; · iexact H7
    iexists _; iexact H8

/-- The stores of the trips before `n`, last first. -/
def tilePieces (c : Dev nD) (i : grid0.Coords) (arg4 : Memref sig .tc .vmem S1x1x4x128x512 .bf16) (harg4 : arg4.IsWhole) (arg5 : Memref sig .tc .vmem S1x1x8192x128 .bf16) (harg5 : arg5.IsWhole) (arg6 : Memref sig .tc .vmem S1x1x16x64x512 .bf16) (harg6 : arg6.IsWhole) (arg7 : Memref sig .tc .vmem S1x1x4x64x512 .f32) (harg7 : arg7.IsWhole) (arg8 : Memref sig .tc .vmem S3x512x512 .f32) (harg8 : arg8.IsWhole)
    (X4 : BufTy.Contents (Elt F) arg4.view.ty) (X5 : BufTy.Contents (Elt F) arg5.view.ty) (X6 : BufTy.Contents (Elt F) arg6.view.ty) : ℕ → List (View.Piece (Elt F) S1x1x4x64x512 .f32)
  | 0 => []
  | n + 1 => (if h : n < k0_t1_loop.trips then (tileRun (F := F) c i arg4 harg4 arg5 harg5 arg6 harg6 arg7 harg7 arg8 harg8 X4 X5 X6 ⟨n, h⟩).1 else [])
      ++ tilePieces c i arg4 harg4 arg5 harg5 arg6 harg6 arg7 harg7 arg8 harg8 X4 X5 X6 n

/-- The loop's invariant: the inputs at their contents, the output's buffer with the earlier trips' stores made. -/
abbrev tileInv (c : Dev nD) (i : grid0.Coords) (arg4 : Memref sig .tc .vmem S1x1x4x128x512 .bf16) (harg4 : arg4.IsWhole) (arg5 : Memref sig .tc .vmem S1x1x8192x128 .bf16) (harg5 : arg5.IsWhole) (arg6 : Memref sig .tc .vmem S1x1x16x64x512 .bf16) (harg6 : arg6.IsWhole) (arg7 : Memref sig .tc .vmem S1x1x4x64x512 .f32) (harg7 : arg7.IsWhole) (arg8 : Memref sig .tc .vmem S3x512x512 .f32) (harg8 : arg8.IsWhole)
    (X4 : BufTy.Contents (Elt F) arg4.view.ty) (X5 : BufTy.Contents (Elt F) arg5.view.ty) (X6 : BufTy.Contents (Elt F) arg6.view.ty) (G7 : BufTy.Contents (Elt F) arg7.view.ty) (k : ℕ) (_ : Unit) : sProp 𝕄 :=
  iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ (∃ f, (arg7.view.loc (c : Thread nD τ) ↦[arg7.view.set]{fullShare} f) ∗ ⌜f = arg7.view.writes (Elt F) G7 (tilePieces (F := F) c i arg4 harg4 arg5 harg5 arg6 harg6 arg7 harg7 arg8 harg8 X4 X5 X6 k)⌝)
    ∗ (∃ f8, arg8.view.loc (c : Thread nD τ) ↦[arg8.view.set]{fullShare} f8))

set_option warn.classDefReducibility false in
/-- The loop by its invariant. -/
@[sl_loop] def tileLoop (c : Dev nD) (E : Set ℕ) (i : grid0.Coords) (arg4 : Memref sig .tc .vmem S1x1x4x128x512 .bf16) (harg4 : arg4.IsWhole) (arg5 : Memref sig .tc .vmem S1x1x8192x128 .bf16) (harg5 : arg5.IsWhole) (arg6 : Memref sig .tc .vmem S1x1x16x64x512 .bf16) (harg6 : arg6.IsWhole) (arg7 : Memref sig .tc .vmem S1x1x4x64x512 .f32) (harg7 : arg7.IsWhole) (arg8 : Memref sig .tc .vmem S3x512x512 .f32) (harg8 : arg8.IsWhole)
    (X4 : BufTy.Contents (Elt F) arg4.view.ty) (X5 : BufTy.Contents (Elt F) arg5.view.ty) (X6 : BufTy.Contents (Elt F) arg6.view.ty) (G7 : BufTy.Contents (Elt F) arg7.view.ty) :
    Idealize.ShloMosaic.LoopInv (M := 𝕄) Idealize.ShloMosaic.frame (wpE (defs₀ (F := F)) Variants.none (c : Thread nD τ) none) E
      k0_t1_loop.lb k0_t1_loop.ub k0_t1_loop.st k0_t1_ok () (k0_t1_body (F := F) i flagM flagM_whole arg4 harg4 arg5 harg5 arg6 harg6 arg7 harg7 arg8 harg8) where
  inv := tileInv (F := F) c i arg4 harg4 arg5 harg5 arg6 harg6 arg7 harg7 arg8 harg8 X4 X5 X6 G7
  step k acc := by
    iintro ⟨H4, H5, H6, ⟨%f7, H7, %h7⟩, H8⟩
    iapply (wp_wand_r Idealize.ShloMosaic.frame (wpE (defs₀ (F := F)) Variants.none (c : Thread nD τ) none) E)
    isplitl [H4 H5 H6 H7 H8]
    · iapply ((tileRun (F := F) c i arg4 harg4 arg5 harg5 arg6 harg6 arg7 harg7 arg8 harg8 X4 X5 X6 k).2 E f7)
      isplitl [H4]; · iexact H4
      isplitl [H5]; · iexact H5
      isplitl [H6]; · iexact H6
      isplitl [H7]; · iexact H7
      iexact H8
    · iintro %_ ⟨H4, H5, H6, H7, H8⟩
      isplitl [H4]; · iexact H4
      isplitl [H5]; · iexact H5
      isplitl [H6]; · iexact H6
      isplitl [H7]
      · iexists _; isplitl [H7]; · iexact H7
        ipureintro
        rw [h7, ← View.writes_append]
        congr 1
        rw [tilePieces, dif_pos k.isLt]
      iexact H8

set_option maxHeartbeats 4000000 in
/-- What the body's stores leave in the output's staging buffer when the flag is clear, with the proof that on whole
    staging buffers the body runs to the continuation holding the inputs as they were and those stores made. -/
noncomputable def onlineRun (c : Dev nD) (i : grid0.Coords) (arg4 : Memref sig .tc .vmem S1x1x4x128x512 .bf16) (harg4 : arg4.IsWhole) (arg5 : Memref sig .tc .vmem S1x1x8192x128 .bf16) (harg5 : arg5.IsWhole) (arg6 : Memref sig .tc .vmem S1x1x16x64x512 .bf16) (harg6 : arg6.IsWhole) (arg7 : Memref sig .tc .vmem S1x1x4x64x512 .f32) (harg7 : arg7.IsWhole) (arg8 : Memref sig .tc .vmem S3x512x512 .f32) (harg8 : arg8.IsWhole)
    (x0 : Vec F S1x1x4x128x512 .bf16) (x1 : Vec F S1x1x8192x128 .bf16) (x2 : Vec F S1x1x16x64x512 .bf16) (xt0 : TabBuf (F := F) c flagM) (h1 : ¬ k0_cond1 (flagWord c xt0) = 1#1) (h2 : k0_cond2 (flagWord c xt0) = 1#1) :
    { L3 : List (View.Piece (Elt F) S1x1x4x64x512 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ tabPt c flagM xt0
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ (∃ d, owns (c : Thread nD τ) arg8 fullShare d) ∗ tabPt c flagM xt0) -∗ K ⟨⟩))
          ⊢ wp frame (wpE (defs₀ (F := F)) Variants.none c none) E (cc0_attn i flagM flagM_whole arg4 harg4 arg5 harg5 arg6 harg6 arg7 harg7 arg8 harg8) K } := by
  refine ⟨tilePieces (F := F) c i arg4 harg4 arg5 harg5 arg6 harg6 arg7 harg7 arg8 harg8 (harg4.unread x0) (harg5.unread x1) (harg6.unread x2) 4, fun E K => ?run⟩
  case run =>
    rw [cc0_attn_eq_skeleton]; unfold cc0_attn_skel
    unfold owns
    iintro ⟨⟨%f0, %hf0, H0⟩, ⟨%f1, %hf1, H1⟩, ⟨%f2, %hf2, H2⟩, ⟨%d3, %f3, -, H3⟩, ⟨%ds0, %fs0, %hs0, HS0⟩, HT0, Hk⟩
    obtain rfl := harg4.eq_unread hf0; obtain rfl := harg5.eq_unread hf1; obtain rfl := harg6.eq_unread hf2
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]
    · iexists _, _; isplitr
      swap; · iexact HS0
      ipureintro; rfl
    iexact HT0

end Cert.KernelIdeal.Attn

end
-- ==== Proof.Frame.lean ====
/- The attention kernel's frame: what the body leaves at each grid point for either value of the flag, that its stores
   cover the output's block, the pipeline's proof data, the body obligation, the run, and that the arguments end unchanged
   with every semaphore back at zero. -/
module

public import proofs.«01_k».proof.Proof.RunFast
public import proofs.«01_k».proof.Proof.RunOnline
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The flag's two conditions exclude each other, -/
theorem cond2_of_set (w : BitVec 32) (h : k0_cond1 w = 1#1) : ¬ k0_cond2 w = 1#1 := by
  revert h; unfold k0_cond1 k0_cond2
  by_cases hw : w = 0#32
  · subst hw; decide
  · have h0 : (w == 0#32) = false := by simpa using hw
    simp only [Scalar.cmpi, Scalar.extui, IntOp.cmpi, bne, h0]; decide
/-- and one of them holds. -/
theorem cond2_of_clear (w : BitVec 32) (h : ¬ k0_cond1 w = 1#1) : k0_cond2 w = 1#1 := by
  revert h; unfold k0_cond1 k0_cond2
  by_cases hw : w = 0#32
  · subst hw; decide
  · have h0 : (w == 0#32) = false := by simpa using hw
    simp only [Scalar.cmpi, Scalar.extui, IntOp.cmpi, bne, h0]; decide

/-- The body's stores in the output's staging buffer, by the flag. -/
def bodyPieces (c : Dev nD) (i : grid0.Coords) (arg4 : Memref sig .tc .vmem S1x1x4x128x512 .bf16) (harg4 : arg4.IsWhole) (arg5 : Memref sig .tc .vmem S1x1x8192x128 .bf16) (harg5 : arg5.IsWhole) (arg6 : Memref sig .tc .vmem S1x1x16x64x512 .bf16) (harg6 : arg6.IsWhole) (arg7 : Memref sig .tc .vmem S1x1x4x64x512 .f32) (harg7 : arg7.IsWhole) (arg8 : Memref sig .tc .vmem S3x512x512 .f32) (harg8 : arg8.IsWhole)
    (x0 : Vec F S1x1x4x128x512 .bf16) (x1 : Vec F S1x1x8192x128 .bf16) (x2 : Vec F S1x1x16x64x512 .bf16) (xt0 : TabBuf (F := F) c flagM) : List (View.Piece (Elt F) S1x1x4x64x512 .f32) :=
  if h : k0_cond1 (flagWord c xt0) = 1#1 then
    (fastRun c i arg4 harg4 arg5 harg5 arg6 harg6 arg7 harg7 arg8 harg8 x0 x1 x2 xt0 h (cond2_of_set _ h)).1
  else
    (onlineRun c i arg4 harg4 arg5 harg5 arg6 harg6 arg7 harg7 arg8 harg8 x0 x1 x2 xt0 h (cond2_of_clear _ h)).1

/-- With those stores made the body runs to its continuation, whatever the flag. -/
theorem body_run (c : Dev nD) (i : grid0.Coords) (arg4 : Memref sig .tc .vmem S1x1x4x128x512 .bf16) (harg4 : arg4.IsWhole) (arg5 : Memref sig .tc .vmem S1x1x8192x128 .bf16) (harg5 : arg5.IsWhole) (arg6 : Memref sig .tc .vmem S1x1x16x64x512 .bf16) (harg6 : arg6.IsWhole) (arg7 : Memref sig .tc .vmem S1x1x4x64x512 .f32) (harg7 : arg7.IsWhole) (arg8 : Memref sig .tc .vmem S3x512x512 .f32) (harg8 : arg8.IsWhole)
    (x0 : Vec F S1x1x4x128x512 .bf16) (x1 : Vec F S1x1x8192x128 .bf16) (x2 : Vec F S1x1x16x64x512 .bf16) (xt0 : TabBuf (F := F) c flagM) (E : Set ℕ) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ tabPt c flagM xt0
        ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f (bodyPieces c i arg4 harg4 arg5 harg5 arg6 harg6 arg7 harg7 arg8 harg8 x0 x1 x2 xt0)) ∗ (∃ d, owns (c : Thread nD τ) arg8 fullShare d) ∗ tabPt c flagM xt0) -∗ K ⟨⟩))
      ⊢ wp frame (wpE (defs₀ (F := F)) Variants.none c none) E (cc0_attn i flagM flagM_whole arg4 harg4 arg5 harg5 arg6 harg6 arg7 harg7 arg8 harg8) K := by
  unfold bodyPieces
  split
  · exact (fastRun c i arg4 harg4 arg5 harg5 arg6 harg6 arg7 harg7 arg8 harg8 x0 x1 x2 xt0 _ _).2 E K
  · exact (onlineRun c i arg4 harg4 arg5 harg5 arg6 harg6 arg7 harg7 arg8 harg8 x0 x1 x2 xt0 _ _).2 E K

/-- The body's stores cover the output's block. -/
theorem body_cover (c : Dev nD) (i : grid0.Coords) (arg4 : Memref sig .tc .vmem S1x1x4x128x512 .bf16) (harg4 : arg4.IsWhole) (arg5 : Memref sig .tc .vmem S1x1x8192x128 .bf16) (harg5 : arg5.IsWhole) (arg6 : Memref sig .tc .vmem S1x1x16x64x512 .bf16) (harg6 : arg6.IsWhole) (arg7 : Memref sig .tc .vmem S1x1x4x64x512 .f32) (harg7 : arg7.IsWhole) (arg8 : Memref sig .tc .vmem S3x512x512 .f32) (harg8 : arg8.IsWhole)
    (x0 : Vec F S1x1x4x128x512 .bf16) (x1 : Vec F S1x1x8192x128 .bf16) (x2 : Vec F S1x1x16x64x512 .bf16) (xt0 : TabBuf (F := F) c flagM) (y : S1x1x4x64x512.Idx) :
    ∃ pc ∈ bodyPieces c i arg4 harg4 arg5 harg5 arg6 harg6 arg7 harg7 arg8 harg8 x0 x1 x2 xt0, y ∈ pc.1.set := by
  unfold bodyPieces
  split
  · exact View.cover_of_tiledL (fastRun c i arg4 harg4 arg5 harg5 arg6 harg6 arg7 harg7 arg8 harg8 x0 x1 x2 xt0 _ _).1 S1x1x1x64x512.size (by sl_kernel_rfl) y
  · exact View.cover_of_tiledL (onlineRun c i arg4 harg4 arg5 harg5 arg6 harg6 arg7 harg7 arg8 harg8 x0 x1 x2 xt0 _ _).1 S1x1x1x64x512.size (by sl_kernel_rfl) y

variable (m : (ℓ : Loc nD τ sig) → Buf (Elt F) ℓ) (ρ : Dev nD → PrngReg)

/-- What the output's staging buffer holds after the body at point `t`. -/
def outAt (c : Dev nD) (t : Fin (cfgM m).N) : Vec F S1x1x4x64x512 .f32 :=
  outV.read (Elt F) (outV.writes (Elt F) outV.junk
    (bodyPieces c (grid0.coords t) (stQ m t) (stQ_whole m t) (stK m t) (stK_whole m t) (stV m t) (stV_whole m t) (stO m t) (stO_whole m t)
      scM (Memref.isWhole_whole _) (blk m c 0 t) (blk m c 1 t) (blk m c 2 t) (flags m 0)))

/-- The pipeline's proof data: the arrays as launched; after each point the inputs' blocks in place and the output's at
    `outAt`. -/
def dats (_ : Fin 1) (c : Dev nD) : Dat τ (Elt F) Unit ℕ (UR sig nD τ) ℕ (cfgM m) c where
  A w := V m c (Pipeline.arrRef spec0 w)
  after w t := match w with
    | ⟨0, _⟩ => blk m c 0 t
    | ⟨1, _⟩ => blk m c 1 t
    | ⟨2, _⟩ => blk m c 2 t
    | ⟨3, _⟩ => outAt m c t
  Φ _ := iprop(Pipeline.ΦA spec0 c ∗ Pipeline.ΦT pre0 (flags m) c)
  q _ := fullShare
  owed _ := 0

/-- The arrays are the launch memory's, -/
theorem dats_A (c : Dev nD) (w : Fin (cfgM m).W) : (dats m 0 c).A w = V m c (Pipeline.arrRef spec0 w) := by dsimp only [dats]
/-- and after the body: the queries' block, -/
theorem after_q (c : Dev nD) (t : Fin (cfgM m).N) : (dats m 0 c).after 0 t = blk m c 0 t := by dsimp only [dats]; try rfl
/-- the keys', -/
theorem after_k (c : Dev nD) (t : Fin (cfgM m).N) : (dats m 0 c).after 1 t = blk m c 1 t := by dsimp only [dats]; try rfl
/-- the values', -/
theorem after_v (c : Dev nD) (t : Fin (cfgM m).N) : (dats m 0 c).after 2 t = blk m c 2 t := by dsimp only [dats]; try rfl
/-- the output's. -/
theorem after_o (c : Dev nD) (t : Fin (cfgM m).N) : (dats m 0 c).after 3 t = outAt m c t := by dsimp only [dats]; try rfl

/-- What the body is called with at point `t`. -/
def callPre (c : Dev nD) (t : Fin (cfgM m).N) : sProp 𝕄 :=
  iprop((dats m 0 c).Φ t.castSucc ∗ (dats m 0 c).owesAt () t.castSucc
    ∗ (∃ d, owns (c : Thread nD τ) (stQ m t) fullShare ((dats m 0 c).before 0 t d))
    ∗ (∃ d, owns (c : Thread nD τ) (stK m t) fullShare ((dats m 0 c).before 1 t d))
    ∗ (∃ d, owns (c : Thread nD τ) (stV m t) fullShare ((dats m 0 c).before 2 t d))
    ∗ (∃ d, owns (c : Thread nD τ) (stO m t) fullShare ((dats m 0 c).before 3 t d)))

/-- What it returns. -/
def callPost (c : Dev nD) (t : Fin (cfgM m).N) : sProp 𝕄 :=
  iprop((dats m 0 c).Φ t.succ ∗ (dats m 0 c).owesAt () t.succ
    ∗ owns (c : Thread nD τ) (stQ m t) fullShare ((dats m 0 c).after 0 t)
    ∗ owns (c : Thread nD τ) (stK m t) fullShare ((dats m 0 c).after 1 t)
    ∗ owns (c : Thread nD τ) (stV m t) fullShare ((dats m 0 c).after 2 t)
    ∗ owns (c : Thread nD τ) (stO m t) fullShare ((dats m 0 c).after 3 t))

/-- The body at any point: from what it is called with to what it returns. -/
theorem call_sound (c : Dev nD) (t : Fin (cfgM m).N) :
    callPre m c t ⊢ wp frame (wpE (defs₀ (F := F)) Variants.none c none) Set.univ (bodyAt m t) (fun _ => callPost m c t) := by
  unfold callPre callPost bodyAt
  simp only [before_q m (dats m 0 c) (dats_A m c 0) (after_q m c), before_k m (dats m 0 c) (dats_A m c 1) (after_k m c), before_v m (dats m 0 c) (dats_A m c 2) (after_v m c)]
  rw [show (dats m 0 c).Φ t.succ = (dats m 0 c).Φ t.castSucc from rfl,
    show (dats m 0 c).owesAt () t.succ = (dats m 0 c).owesAt () t.castSucc from rfl,
    after_q, after_k, after_v, after_o]
  rw [show (dats m 0 c).Φ t.castSucc = iprop(Pipeline.ΦA spec0 c ∗ Pipeline.ΦT pre0 (flags m) c) from rfl, tables_eq, rest_eq]
  unfold outAt
  iintro ⟨⟨⟨HS0, Hg⟩, HT0⟩, Ho, ⟨%d0, H0⟩, ⟨%d1, H1⟩, ⟨%d2, H2⟩, ⟨%d3, H3⟩⟩
  iapply (body_run c (grid0.coords t) _ _ _ _ _ _ _ _ _ _ (blk m c 0 t) (blk m c 1 t) (blk m c 2 t) (flags m 0) Set.univ _)
  isplitl [H0]; · iexact H0
  isplitl [H1]; · iexact H1
  isplitl [H2]; · iexact H2
  isplitl [H3]; · iexists _; iexact H3
  isplitl [HS0]; · iexact HS0
  isplitl [HT0]; · iexact HT0
  iintro ⟨H0, H1, H2, ⟨%e3, H3⟩, HS0, HT0⟩
  isplitl [HS0 Hg HT0]
  · isplitl [HS0 Hg]
    · isplitl [HS0]; · iexact HS0
      iexact Hg
    iexact HT0
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (body_cover c _ _ _ _ _ _ _ _ _ _ _ _ _ _ _)

/-- The body table's row at point `t` is the body. -/
theorem row_eq (t : Fin (cfgM m).N) :
    defs₀ (F := F) .tc (cfgM m).body ((cfgM m).bodyArgs t ((cfgM m).slots t)) = bodyAt m t := by
  unfold defs₀; rw [Defs.onTc_tc]

/-- The output's block is stored at every point: one of the flag's conditions holds. -/
theorem busy_o (t : Fin (cfgM m).N) : (cfgM m).idle 3 ((cfgM m).grid.coords t) = false := by
  change (!(k0_cond1 ((flags m).atD 0 ![0]) == 1#1) && !(k0_cond2 ((flags m).atD 0 ![0]) == 1#1)) = false
  by_cases h : k0_cond1 ((flags m).atD 0 ![0]) = 1#1
  · rw [h]; rfl
  · rw [cond2_of_clear _ h, Bool.and_eq_false_iff]; exact Or.inr rfl

/-- The pipeline's body obligation, at every point. -/
theorem obligation (c : Dev nD) : BodyObligation (dats (F := F) m 0 c) (defs₀ (F := F)) Variants.none () Set.univ := fun t => by
  rw [bigSep_W0, bigSep_W0, row_eq m]
  refine triple_restated (call_sound m c t) rfl .rfl fun _ => ?_
  simp only [busy_o m t]
  rw [show idle0 (flags m) 3 ((pcfg0.gridAt (flags m)).coords t) = false from busy_o m t]
  exact .rfl

set_option backward.isDefEq.respectTransparency.types false in
/-- The launch: every execution ends with the pipeline's arrays at what the proof data say, every other buffer as launched,
    and every semaphore at zero. -/
theorem run_all : θ_run defs (onTc (τ := τ) (main (F := F))) (s₀ m ρ) (fun r => (Pipeline.FramePost (Pipeline.pin pcfgs fun _ => adm m) (dats m) 0 (V m)) r ∧ r.2.sem = fun _ => 0) :=
  Pipeline.θ_run_frameP (Q' := _) pcfgs (fun _ => adm m) (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hpf := V_flags m)
    (hΦ := fun _ _ => rfl)

/-- Every execution ends with the result array at what the proof data's points leave in it, the arguments unchanged, and
    every semaphore at zero. -/
theorem run_main : θ_run defs (onTc (τ := τ) (main (F := F))) ⟨m, fun _ => 0, ρ⟩ (fun r => ∀ c : Dev nD,
      (r.2.mem ((c.tc : Thread nD τ).loc main_v0) = (dats m 0 c).arrAt 3 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ hs c => by
    obtain ⟨h, hz⟩ := hs
    exact ⟨⟨(h c).1 3, (h c).2 main_arg0 (by decide : main_arg0 ∈ Pipeline.restRefs sig spec0),
      ((h c).1 0).trans (((dats m 0 c).arrAt_in 0 rfl _).trans (dats_A m c 0)),
      ((h c).1 1).trans (((dats m 0 c).arrAt_in 1 rfl _).trans (dats_A m c 1)),
      ((h c).1 2).trans (((dats m 0 c).arrAt_in 2 rfl _).trans (dats_A m c 2))⟩, hz⟩) (run_all m ρ)

/-- The frame: every execution terminates with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h c).1.2, (h 0).2⟩) (run_main m ρ)

end Cert.KernelIdeal.Attn

end
-- ==== Proof.Frames.lean ====
/- The frames: the attention kernel as printed and idealized (one text, so one run serves both), and the reference. -/
module

public import proofs.«01_k».proof.Defs
public import proofs.«01_k».proof.Proof.Gen.Kernel
public import proofs.«01_k».proof.Proof.Gen.ReferenceIdeal.Run
public import proofs.«01_k».proof.Proof.Frame

@[expose] public section

noncomputable section

namespace Cert.Attn

open Idealize.ShloMosaic Idealize.SL.Sem

/-- The kernel as printed terminates with its arguments unchanged and every semaphore at zero. -/
theorem frame_kernel : Cert.quiescent_Kernel :=
  Eq.mp (by sl_kernel_rfl : (∀ (m : (ℓ : Loc Cert.KernelIdeal.nD Cert.KernelIdeal.τ Cert.KernelIdeal.sig) → Buf (Elt Bits) ℓ) (g : Dev Cert.KernelIdeal.nD → PrngReg), True →
      θ_run (Cert.KernelIdeal.defs (F := Bits)) (onTc (τ := Cert.KernelIdeal.τ) (Cert.KernelIdeal.main (F := Bits))) ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0)) = Cert.quiescent_Kernel)
    fun m ρ _ => Cert.KernelIdeal.Attn.frame (F := Bits) m ρ

/-- So does its idealization, -/
theorem frame_ideal : Cert.quiescent_KernelIdeal := fun m ρ _ => Cert.KernelIdeal.Attn.frame (F := Ideal) m ρ

/-- on finite queries and keys too, -/
theorem frame_ideal_pre [Cert.Pre_finite_queries_keys.Facts] : Cert.quiescent_KernelIdeal_pre_finite_queries_keys := fun m ρ _ =>
  Cert.KernelIdeal.Attn.frame (F := Ideal) m ρ

/-- and the reference, -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- on finite queries and keys too. -/
theorem frame_ref_pre [Cert.Pre_finite_queries_keys.Facts] : Cert.quiescent_ReferenceIdeal_pre_finite_queries_keys := fun m ρ _ => frame_ref m ρ trivial

end Cert.Attn

end
-- ==== Proof.Tile.lean ====
/- One query tile as the kernel computes it, over any float instance: the two ways (no running maximum; running
   maximum), each as a recursion over its blocks of keys. -/
module

public import proofs.«01_k».proof.Proof.RunFast
public import proofs.«01_k».proof.Proof.RunOnline
public import Idealize.ShloMosaic.Lib.Pipeline.ReadBack

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable {F : FTy → Type} [FloatOps F]

/-- A query tile as the products take it. -/
def qMat (x : Vec F S1x1x1x128x512 .bf16) : FVec F S128x512 .bf16 := shapeCast S128x512 x shapeCasts_S1x1x1x128x512_S128x512

/-! ## Without a running maximum -/

/-- The scores of 256 keys. -/
def fastScore (q : FVec F S128x512 .bf16) (k : Vec F S1x1x256x128 .bf16) : FVec F S256x512 .f32 :=
  matmul dot_S256x128_S128x512_S256x512_1_0_0_1_n_n none (shapeCast S256x128 k shapeCasts_S1x1x256x128_S256x128 : FVec F S256x128 .bf16) q (constant S256x512 .f32 0x00000000#32)

/-- The weights of 256 keys. -/
def fastWeight (q : FVec F S128x512 .bf16) (k : Vec F S1x1x256x128 .bf16) : FVec F S256x512 .f32 := exp2 (fastScore q k)

/-- The weighted values of 256 keys. -/
def fastPart (q : FVec F S128x512 .bf16) (k : Vec F S1x1x256x128 .bf16) (v : Vec F S1x1x1x64x256 .bf16) : FVec F S64x512 .f32 :=
  matmul dot_S64x256_S256x512_S64x512_1_0_0_1_n_n none (shapeCast S64x256 v shapeCasts_S1x1x1x64x256_S64x256 : FVec F S64x256 .bf16) (truncf .bf16 (fastWeight q k) bitsLt_bf16_f32) (constant S64x512 .f32 0x00000000#32)

/-- The weights of 256 keys, summed over the keys of one sublane. -/
def fastSub (q : FVec F S128x512 .bf16) (k : Vec F S1x1x256x128 .bf16) : FVec F S8x512 .f32 :=
  multiReduction .add [0] S8x512 (shapeCast S32x8x512 (fastWeight q k) shapeCasts_S256x512_S32x8x512 : FVec F S32x8x512 .f32) 0x00000000#32 reduces_S32x8x512_S8x512 (.inl rfl) rfl

/-- The weighted values of the blocks `0 … n`. -/
def fastAcc (q : FVec F S128x512 .bf16) (k : ℕ → Vec F S1x1x256x128 .bf16) (v : ℕ → Vec F S1x1x1x64x256 .bf16) (n : ℕ) : FVec F S64x512 .f32 :=
  Nat.rec (fastPart q (k 0) (v 0)) (fun j a => addf a (fastPart q (k (j + 1)) (v (j + 1)))) n

/-- The sublane sums of the weights of the blocks `0 … n`. -/
def fastSum (q : FVec F S128x512 .bf16) (k : ℕ → Vec F S1x1x256x128 .bf16) (n : ℕ) : FVec F S8x512 .f32 :=
  Nat.rec (fastSub q (k 0)) (fun j a => addf a (fastSub q (k (j + 1)))) n

/-- The quotient stored for a tile. -/
def finish (acc : FVec F S64x512 .f32) (sum : FVec F S8x512 .f32) : FVec F S1x1x1x64x512 .f32 :=
  shapeCast S1x1x1x64x512 (divf acc (broadcastTo S64x512 (shapeCast S1x512 (multiReduction .add [0] S512 sum 0x00000000#32 reduces_S8x512_S512 (.inl rfl) rfl : FVec F S512 .f32) shapeCasts_S512_S1x512 : FVec F S1x512 .f32) broadcasts_S1x512_S64x512) : FVec F S64x512 .f32) shapeCasts_S64x512_S1x1x1x64x512

/-- A tile's result without a running maximum. -/
def fastTile (x : Vec F S1x1x1x128x512 .bf16) (k : ℕ → Vec F S1x1x256x128 .bf16) (v : ℕ → Vec F S1x1x1x64x256 .bf16) : FVec F S1x1x1x64x512 .f32 :=
  finish (fastAcc (qMat x) k v 31) (fastSum (qMat x) k 31)

theorem inbQ (u : ℕ) : ∀ a, (![0, 0, u % 4, 0, 0] : Fin 5 → ℕ) a + S1x1x1x128x512.size a ≤ S1x1x4x128x512.size a := by
  intro a; have := Nat.mod_lt u (show 4 > 0 by decide); fin_cases a <;> simp [Shape.size] <;> omega

theorem inbK (j : ℕ) : ∀ a, (![0, 0, 256 * (j % 32), 0] : Fin 4 → ℕ) a + S1x1x256x128.size a ≤ S1x1x8192x128.size a := by
  intro a; have := Nat.mod_lt j (show 32 > 0 by decide); fin_cases a <;> simp [Shape.size] <;> omega

theorem inbV (j : ℕ) : ∀ a, (![0, 0, j / 2 % 16, 0, 256 * (j % 2)] : Fin 5 → ℕ) a + S1x1x1x64x256.size a ≤ S1x1x16x64x512.size a := by
  intro a; have := Nat.mod_lt (j / 2) (show 16 > 0 by decide); have := Nat.mod_lt j (show 2 > 0 by decide); fin_cases a <;> simp [Shape.size] <;> omega

theorem inbO (u : ℕ) : ∀ a, (![0, 0, u % 4, 0, 0] : Fin 5 → ℕ) a + S1x1x1x64x512.size a ≤ S1x1x4x64x512.size a := by
  intro a; have := Nat.mod_lt u (show 4 > 0 by decide); fin_cases a <;> simp [Shape.size] <;> omega

/-- Query tile `u` of the staging buffer. -/
def qAt (arg4 : Memref sig .tc .vmem S1x1x4x128x512 .bf16) (X4 : BufTy.Contents (Elt F) arg4.view.ty) (u : ℕ) : Vec F S1x1x1x128x512 .bf16 :=
  View.readAt (Elt F) arg4.view (Rect.unit (s := S1x1x4x128x512) ![0, 0, u % 4, 0, 0] S1x1x1x128x512.size (inbQ u)).toLoadRect X4

/-- Keys `256 j …` of the staging buffer. -/
def kAt (arg5 : Memref sig .tc .vmem S1x1x8192x128 .bf16) (X5 : BufTy.Contents (Elt F) arg5.view.ty) (j : ℕ) : Vec F S1x1x256x128 .bf16 :=
  View.readAt (Elt F) arg5.view (Rect.unit (s := S1x1x8192x128) ![0, 0, 256 * (j % 32), 0] S1x1x256x128.size (inbK j)).toLoadRect X5

/-- Values `256 j …` of the staging buffer. -/
def vAt (arg6 : Memref sig .tc .vmem S1x1x16x64x512 .bf16) (X6 : BufTy.Contents (Elt F) arg6.view.ty) (j : ℕ) : Vec F S1x1x1x64x256 .bf16 :=
  View.readAt (Elt F) arg6.view (Rect.unit (s := S1x1x16x64x512) ![0, 0, j / 2 % 16, 0, 256 * (j % 2)] S1x1x1x64x256.size (inbV j)).toLoadRect X6

/-- The store of tile `u`. -/
def oPiece (u : ℕ) (w : FVec F S1x1x1x64x512 .f32) : View.Piece (Elt F) S1x1x4x64x512 .f32 :=
  ⟨Rect.unit (s := S1x1x4x64x512) ![0, 0, u % 4, 0, 0] S1x1x1x64x512.size (inbO u), w⟩

/-- The body with the flag set stores the four tiles' results. -/
theorem fastRun_pieces (c : Dev nD) (i : grid0.Coords) (arg4 : Memref sig .tc .vmem S1x1x4x128x512 .bf16) (harg4 : arg4.IsWhole) (arg5 : Memref sig .tc .vmem S1x1x8192x128 .bf16) (harg5 : arg5.IsWhole) (arg6 : Memref sig .tc .vmem S1x1x16x64x512 .bf16) (harg6 : arg6.IsWhole) (arg7 : Memref sig .tc .vmem S1x1x4x64x512 .f32) (harg7 : arg7.IsWhole) (arg8 : Memref sig .tc .vmem S3x512x512 .f32) (harg8 : arg8.IsWhole)
    (x0 : Vec F S1x1x4x128x512 .bf16) (x1 : Vec F S1x1x8192x128 .bf16) (x2 : Vec F S1x1x16x64x512 .bf16) (xt0 : TabBuf (F := F) c flagM) (h1 : k0_cond1 (flagWord c xt0) = 1#1) (h2 : ¬ k0_cond2 (flagWord c xt0) = 1#1) :
    (fastRun c i arg4 harg4 arg5 harg5 arg6 harg6 arg7 harg7 arg8 harg8 x0 x1 x2 xt0 h1 h2).1
      = [oPiece 3 (fastTile (qAt arg4 (harg4.unread x0) 3) (kAt arg5 (harg5.unread x1)) (vAt arg6 (harg6.unread x2))),
         oPiece 2 (fastTile (qAt arg4 (harg4.unread x0) 2) (kAt arg5 (harg5.unread x1)) (vAt arg6 (harg6.unread x2))),
         oPiece 1 (fastTile (qAt arg4 (harg4.unread x0) 1) (kAt arg5 (harg5.unread x1)) (vAt arg6 (harg6.unread x2))),
         oPiece 0 (fastTile (qAt arg4 (harg4.unread x0) 0) (kAt arg5 (harg5.unread x1)) (vAt arg6 (harg6.unread x2)))] := by
  sl_kernel_rfl

/-! ## With a running maximum -/

/-- The scores of 512 keys. -/
def onScore (q : FVec F S128x512 .bf16) (k : Vec F S1x1x512x128 .bf16) : FVec F S512x512 .f32 :=
  matmul dot_S512x128_S128x512_S512x512_1_0_0_1_n_n none (shapeCast S512x128 k shapeCasts_S1x1x512x128_S512x128 : FVec F S512x128 .bf16) q (constant S512x512 .f32 0x00000000#32)

/-- The scores as a slot of the scratch keeps them. -/
def onSlot (q : FVec F S128x512 .bf16) (k : Vec F S1x1x512x128 .bf16) : FVec F S1x512x512 .f32 :=
  shapeCast S1x512x512 (onScore q k) shapeCasts_S512x512_S1x512x512

/-- The scores read from a slot. -/
def unslot (s : Vec F S1x512x512 .f32) : FVec F S512x512 .f32 := shapeCast S512x512 s shapeCasts_S1x512x512_S512x512

/-- The maximum after 512 more keys. -/
def onMax (m : FVec F S1x512 .f32) (s : FVec F S512x512 .f32) : FVec F S1x512 .f32 :=
  maximumf m (shapeCast S1x512 (multiReduction .maximumf [0] S512 s 0xFF800000#32 reduces_S512x512_S512 (.inl rfl) rfl : FVec F S512 .f32) shapeCasts_S512_S1x512)

/-- The factor by which earlier sums shrink. -/
def onAlpha (m : FVec F S1x512 .f32) (s : FVec F S512x512 .f32) : FVec F S1x512 .f32 := exp2 (subf m (onMax m s))

/-- The weights of 512 keys. -/
def onWeight (m : FVec F S1x512 .f32) (s : FVec F S512x512 .f32) : FVec F S512x512 .f32 :=
  exp2 (subf s (broadcastTo S512x512 (onMax m s) broadcasts_S1x512_S512x512))

/-- The weighted values after 512 more keys. -/
def onAcc (m : FVec F S1x512 .f32) (a : FVec F S64x512 .f32) (s : FVec F S512x512 .f32) (v : Vec F S1x1x1x64x512 .bf16) : FVec F S64x512 .f32 :=
  addf (mulf (broadcastTo S64x512 (onAlpha m s) broadcasts_S1x512_S64x512) a)
    (matmul dot_S64x512_S512x512_S64x512_1_0_0_1_n_n none (shapeCast S64x512 v shapeCasts_S1x1x1x64x512_S64x512 : FVec F S64x512 .bf16) (truncf .bf16 (onWeight m s) bitsLt_bf16_f32) (constant S64x512 .f32 0x00000000#32))

/-- The sublane sums of the weights after 512 more keys. -/
def onSum (m : FVec F S1x512 .f32) (l : FVec F S8x512 .f32) (s : FVec F S512x512 .f32) : FVec F S8x512 .f32 :=
  addf (mulf (broadcastTo S8x512 (onAlpha m s) broadcasts_S1x512_S8x512) l)
    (multiReduction .add [0] S8x512 (shapeCast S64x8x512 (onWeight m s) shapeCasts_S512x512_S64x8x512 : FVec F S64x8x512 .f32) 0x00000000#32 reduces_S64x8x512_S8x512 (.inl rfl) rfl)

/-- The maximum after the first `n` blocks. -/
def onM (s : ℕ → Vec F S1x512x512 .f32) (n : ℕ) : FVec F S1x512 .f32 :=
  Nat.rec (broadcast S1x512 (Scalar.ofBits .f32 0xFF800000#32)) (fun j m => onMax m (unslot (s j))) n

/-- The weighted values after the first `n` blocks. -/
def onA (s : ℕ → Vec F S1x512x512 .f32) (v : ℕ → Vec F S1x1x1x64x512 .bf16) (n : ℕ) : FVec F S64x512 .f32 :=
  Nat.rec (broadcast S64x512 (Scalar.ofBits .f32 0x00000000#32)) (fun j a => onAcc (onM s j) a (unslot (s j)) (v j)) n

/-- The sublane sums after the first `n` blocks. -/
def onL (s : ℕ → Vec F S1x512x512 .f32) (n : ℕ) : FVec F S8x512 .f32 :=
  Nat.rec (broadcast S8x512 (Scalar.ofBits .f32 0x00000000#32)) (fun j l => onSum (onM s j) l (unslot (s j))) n

/-- A tile's result with a running maximum. -/
def onTile (s : ℕ → Vec F S1x512x512 .f32) (v : ℕ → Vec F S1x1x1x64x512 .bf16) : FVec F S1x1x1x64x512 .f32 :=
  finish (onA s v 16) (onL s 16)

theorem inbK5 (j : ℕ) : ∀ a, (![0, 0, 512 * (j % 16), 0] : Fin 4 → ℕ) a + S1x1x512x128.size a ≤ S1x1x8192x128.size a := by
  intro a; have := Nat.mod_lt j (show 16 > 0 by decide); fin_cases a <;> simp [Shape.size] <;> omega

theorem inbV5 (j : ℕ) : ∀ a, (![0, 0, j % 16, 0, 0] : Fin 5 → ℕ) a + S1x1x1x64x512.size a ≤ S1x1x16x64x512.size a := by
  intro a; have := Nat.mod_lt j (show 16 > 0 by decide); fin_cases a <;> simp [Shape.size] <;> omega

theorem inbS (j : ℕ) : ∀ a, (![j % 3, 0, 0] : Fin 3 → ℕ) a + S1x512x512.size a ≤ S3x512x512.size a := by
  intro a; have := Nat.mod_lt j (show 3 > 0 by decide); fin_cases a <;> simp [Shape.size] <;> omega

/-- Keys `512 j …` of the staging buffer. -/
def kAt5 (arg5 : Memref sig .tc .vmem S1x1x8192x128 .bf16) (X5 : BufTy.Contents (Elt F) arg5.view.ty) (j : ℕ) : Vec F S1x1x512x128 .bf16 :=
  View.readAt (Elt F) arg5.view (Rect.unit (s := S1x1x8192x128) ![0, 0, 512 * (j % 16), 0] S1x1x512x128.size (inbK5 j)).toLoadRect X5

/-- Values `512 j …` of the staging buffer. -/
def vAt5 (arg6 : Memref sig .tc .vmem S1x1x16x64x512 .bf16) (X6 : BufTy.Contents (Elt F) arg6.view.ty) (j : ℕ) : Vec F S1x1x1x64x512 .bf16 :=
  View.readAt (Elt F) arg6.view (Rect.unit (s := S1x1x16x64x512) ![0, 0, j % 16, 0, 0] S1x1x1x64x512.size (inbV5 j)).toLoadRect X6

/-- The query tile a trip reads. -/
def qTrip (arg4 : Memref sig .tc .vmem S1x1x4x128x512 .bf16) (X4 : BufTy.Contents (Elt F) arg4.view.ty) (k : Fin k0_t1_loop.trips) : Vec F S1x1x1x128x512 .bf16 :=
  View.readAt (Elt F) arg4.view (Rect.unit (s := S1x1x4x128x512) (k0_off3 k) S1x1x1x128x512.size (k0_off3_inb k)).toLoadRect X4

/-- Slot `j mod 3` of the scratch. -/
def sRect (j : ℕ) : Rect S3x512x512 := Rect.unit (s := S3x512x512) ![j % 3, 0, 0] S1x512x512.size (inbS j)

/-- The store of a block's scores. -/
def sPiece (j : ℕ) (w : FVec F S1x512x512 .f32) : View.Piece (Elt F) S3x512x512 .f32 := ⟨sRect j, w⟩

theorem sRead0 (v : View sig .tc .vmem S3x512x512 .f32) (r : Rect S3x512x512) (w : r.shape.Idx → Elt F .f32) (L : List (View.Piece (Elt F) S3x512x512 .f32)) :
    v.readCov (⟨r, w⟩ :: L) r.toLoadRect = w :=
  View.readCov_cons_toLoadRect v r w L

theorem sSkip (v : View sig .tc .vmem S3x512x512 .f32) (r r' : Rect S3x512x512) (w : r'.shape.Idx → Elt F .f32) (L : List (View.Piece (Elt F) S3x512x512 .f32)) (h : LoadRect.disj r' r.toLoadRect = true) :
    v.readCov (⟨r', w⟩ :: L) r.toLoadRect = v.readCov L r.toLoadRect :=
  View.readCov_skip v r' w L r.toLoadRect h

/-- Block `j`'s scores for a trip's tile, as its slot keeps them. -/
def scAt (arg4 : Memref sig .tc .vmem S1x1x4x128x512 .bf16) (arg5 : Memref sig .tc .vmem S1x1x8192x128 .bf16) (X4 : BufTy.Contents (Elt F) arg4.view.ty) (X5 : BufTy.Contents (Elt F) arg5.view.ty) (k : Fin k0_t1_loop.trips) (j : ℕ) : FVec F S1x512x512 .f32 :=
  onSlot (qMat (qTrip arg4 X4 k)) (kAt5 arg5 X5 j)

/-- The stores of the first `n` blocks' scores, last first. -/
def scList (arg4 : Memref sig .tc .vmem S1x1x4x128x512 .bf16) (arg5 : Memref sig .tc .vmem S1x1x8192x128 .bf16) (X4 : BufTy.Contents (Elt F) arg4.view.ty) (X5 : BufTy.Contents (Elt F) arg5.view.ty) (k : Fin k0_t1_loop.trips) (n : ℕ) : List (View.Piece (Elt F) S3x512x512 .f32) :=
  Nat.rec [] (fun j L => sPiece j (scAt arg4 arg5 X4 X5 k j) :: L) n

theorem read_v33 (arg4 : Memref sig .tc .vmem S1x1x4x128x512 .bf16) (arg5 : Memref sig .tc .vmem S1x1x8192x128 .bf16) (arg8 : Memref sig .tc .vmem S3x512x512 .f32) (X4 : BufTy.Contents (Elt F) arg4.view.ty) (X5 : BufTy.Contents (Elt F) arg5.view.ty) (k : Fin k0_t1_loop.trips) :
    tileRun.sl.v33 arg4 arg5 arg8 X4 X5 k = scAt arg4 arg5 X4 X5 k 0 :=
  (by sl_kernel_rfl : tileRun.sl.v33 arg4 arg5 arg8 X4 X5 k = arg8.view.readCov (scList arg4 arg5 X4 X5 k 3) (sRect 0).toLoadRect).trans
    ((sSkip arg8.view (sRect 0) (sRect 2) _ _ (by decide)).trans ((sSkip arg8.view (sRect 0) (sRect 1) _ _ (by decide)).trans (sRead0 arg8.view (sRect 0) _ _)))

theorem read_v61 (arg4 : Memref sig .tc .vmem S1x1x4x128x512 .bf16) (arg5 : Memref sig .tc .vmem S1x1x8192x128 .bf16) (arg8 : Memref sig .tc .vmem S3x512x512 .f32) (X4 : BufTy.Contents (Elt F) arg4.view.ty) (X5 : BufTy.Contents (Elt F) arg5.view.ty) (k : Fin k0_t1_loop.trips) :
    tileRun.sl.v61 arg4 arg5 arg8 X4 X5 k = scAt arg4 arg5 X4 X5 k 1 :=
  (by sl_kernel_rfl : tileRun.sl.v61 arg4 arg5 arg8 X4 X5 k = arg8.view.readCov (scList arg4 arg5 X4 X5 k 4) (sRect 1).toLoadRect).trans
    ((sSkip arg8.view (sRect 1) (sRect 3) _ _ (by decide)).trans ((sSkip arg8.view (sRect 1) (sRect 2) _ _ (by decide)).trans (sRead0 arg8.view (sRect 1) _ _)))

theorem read_v89 (arg4 : Memref sig .tc .vmem S1x1x4x128x512 .bf16) (arg5 : Memref sig .tc .vmem S1x1x8192x128 .bf16) (arg8 : Memref sig .tc .vmem S3x512x512 .f32) (X4 : BufTy.Contents (Elt F) arg4.view.ty) (X5 : BufTy.Contents (Elt F) arg5.view.ty) (k : Fin k0_t1_loop.trips) :
    tileRun.sl.v89 arg4 arg5 arg8 X4 X5 k = scAt arg4 arg5 X4 X5 k 2 :=
  (by sl_kernel_rfl : tileRun.sl.v89 arg4 arg5 arg8 X4 X5 k = arg8.view.readCov (scList arg4 arg5 X4 X5 k 5) (sRect 2).toLoadRect).trans
    ((sSkip arg8.view (sRect 2) (sRect 4) _ _ (by decide)).trans ((sSkip arg8.view (sRect 2) (sRect 3) _ _ (by decide)).trans (sRead0 arg8.view (sRect 2) _ _)))

theorem read_v117 (arg4 : Memref sig .tc .vmem S1x1x4x128x512 .bf16) (arg5 : Memref sig .tc .vmem S1x1x8192x128 .bf16) (arg8 : Memref sig .tc .vmem S3x512x512 .f32) (X4 : BufTy.Contents (Elt F) arg4.view.ty) (X5 : BufTy.Contents (Elt F) arg5.view.ty) (k : Fin k0_t1_loop.trips) :
    tileRun.sl.v117 arg4 arg5 arg8 X4 X5 k = scAt arg4 arg5 X4 X5 k 3 :=
  (by sl_kernel_rfl : tileRun.sl.v117 arg4 arg5 arg8 X4 X5 k = arg8.view.readCov (scList arg4 arg5 X4 X5 k 6) (sRect 3).toLoadRect).trans
    ((sSkip arg8.view (sRect 3) (sRect 5) _ _ (by decide)).trans ((sSkip arg8.view (sRect 3) (sRect 4) _ _ (by decide)).trans (sRead0 arg8.view (sRect 3) _ _)))

theorem read_v145 (arg4 : Memref sig .tc .vmem S1x1x4x128x512 .bf16) (arg5 : Memref sig .tc .vmem S1x1x8192x128 .bf16) (arg8 : Memref sig .tc .vmem S3x512x512 .f32) (X4 : BufTy.Contents (Elt F) arg4.view.ty) (X5 : BufTy.Contents (Elt F) arg5.view.ty) (k : Fin k0_t1_loop.trips) :
    tileRun.sl.v145 arg4 arg5 arg8 X4 X5 k = scAt arg4 arg5 X4 X5 k 4 :=
  (by sl_kernel_rfl : tileRun.sl.v145 arg4 arg5 arg8 X4 X5 k = arg8.view.readCov (scList arg4 arg5 X4 X5 k 7) (sRect 4).toLoadRect).trans
    ((sSkip arg8.view (sRect 4) (sRect 6) _ _ (by decide)).trans ((sSkip arg8.view (sRect 4) (sRect 5) _ _ (by decide)).trans (sRead0 arg8.view (sRect 4) _ _)))

theorem read_v173 (arg4 : Memref sig .tc .vmem S1x1x4x128x512 .bf16) (arg5 : Memref sig .tc .vmem S1x1x8192x128 .bf16) (arg8 : Memref sig .tc .vmem S3x512x512 .f32) (X4 : BufTy.Contents (Elt F) arg4.view.ty) (X5 : BufTy.Contents (Elt F) arg5.view.ty) (k : Fin k0_t1_loop.trips) :
    tileRun.sl.v173 arg4 arg5 arg8 X4 X5 k = scAt arg4 arg5 X4 X5 k 5 :=
  (by sl_kernel_rfl : tileRun.sl.v173 arg4 arg5 arg8 X4 X5 k = arg8.view.readCov (scList arg4 arg5 X4 X5 k 8) (sRect 5).toLoadRect).trans
    ((sSkip arg8.view (sRect 5) (sRect 7) _ _ (by decide)).trans ((sSkip arg8.view (sRect 5) (sRect 6) _ _ (by decide)).trans (sRead0 arg8.view (sRect 5) _ _)))

theorem read_v201 (arg4 : Memref sig .tc .vmem S1x1x4x128x512 .bf16) (arg5 : Memref sig .tc .vmem S1x1x8192x128 .bf16) (arg8 : Memref sig .tc .vmem S3x512x512 .f32) (X4 : BufTy.Contents (Elt F) arg4.view.ty) (X5 : BufTy.Contents (Elt F) arg5.view.ty) (k : Fin k0_t1_loop.trips) :
    tileRun.sl.v201 arg4 arg5 arg8 X4 X5 k = scAt arg4 arg5 X4 X5 k 6 :=
  (by sl_kernel_rfl : tileRun.sl.v201 arg4 arg5 arg8 X4 X5 k = arg8.view.readCov (scList arg4 arg5 X4 X5 k 9) (sRect 6).toLoadRect).trans
    ((sSkip arg8.view (sRect 6) (sRect 8) _ _ (by decide)).trans ((sSkip arg8.view (sRect 6) (sRect 7) _ _ (by decide)).trans (sRead0 arg8.view (sRect 6) _ _)))

theorem read_v229 (arg4 : Memref sig .tc .vmem S1x1x4x128x512 .bf16) (arg5 : Memref sig .tc .vmem S1x1x8192x128 .bf16) (arg8 : Memref sig .tc .vmem S3x512x512 .f32) (X4 : BufTy.Contents (Elt F) arg4.view.ty) (X5 : BufTy.Contents (Elt F) arg5.view.ty) (k : Fin k0_t1_loop.trips) :
    tileRun.sl.v229 arg4 arg5 arg8 X4 X5 k = scAt arg4 arg5 X4 X5 k 7 :=
  (by sl_kernel_rfl : tileRun.sl.v229 arg4 arg5 arg8 X4 X5 k = arg8.view.readCov (scList arg4 arg5 X4 X5 k 10) (sRect 7).toLoadRect).trans
    ((sSkip arg8.view (sRect 7) (sRect 9) _ _ (by decide)).trans ((sSkip arg8.view (sRect 7) (sRect 8) _ _ (by decide)).trans (sRead0 arg8.view (sRect 7) _ _)))

theorem read_v257 (arg4 : Memref sig .tc .vmem S1x1x4x128x512 .bf16) (arg5 : Memref sig .tc .vmem S1x1x8192x128 .bf16) (arg8 : Memref sig .tc .vmem S3x512x512 .f32) (X4 : BufTy.Contents (Elt F) arg4.view.ty) (X5 : BufTy.Contents (Elt F) arg5.view.ty) (k : Fin k0_t1_loop.trips) :
    tileRun.sl.v257 arg4 arg5 arg8 X4 X5 k = scAt arg4 arg5 X4 X5 k 8 :=
  (by sl_kernel_rfl : tileRun.sl.v257 arg4 arg5 arg8 X4 X5 k = arg8.view.readCov (scList arg4 arg5 X4 X5 k 11) (sRect 8).toLoadRect).trans
    ((sSkip arg8.view (sRect 8) (sRect 10) _ _ (by decide)).trans ((sSkip arg8.view (sRect 8) (sRect 9) _ _ (by decide)).trans (sRead0 arg8.view (sRect 8) _ _)))

theorem read_v285 (arg4 : Memref sig .tc .vmem S1x1x4x128x512 .bf16) (arg5 : Memref sig .tc .vmem S1x1x8192x128 .bf16) (arg8 : Memref sig .tc .vmem S3x512x512 .f32) (X4 : BufTy.Contents (Elt F) arg4.view.ty) (X5 : BufTy.Contents (Elt F) arg5.view.ty) (k : Fin k0_t1_loop.trips) :
    tileRun.sl.v285 arg4 arg5 arg8 X4 X5 k = scAt arg4 arg5 X4 X5 k 9 :=
  (by sl_kernel_rfl : tileRun.sl.v285 arg4 arg5 arg8 X4 X5 k = arg8.view.readCov (scList arg4 arg5 X4 X5 k 12) (sRect 9).toLoadRect).trans
    ((sSkip arg8.view (sRect 9) (sRect 11) _ _ (by decide)).trans ((sSkip arg8.view (sRect 9) (sRect 10) _ _ (by decide)).trans (sRead0 arg8.view (sRect 9) _ _)))

theorem read_v313 (arg4 : Memref sig .tc .vmem S1x1x4x128x512 .bf16) (arg5 : Memref sig .tc .vmem S1x1x8192x128 .bf16) (arg8 : Memref sig .tc .vmem S3x512x512 .f32) (X4 : BufTy.Contents (Elt F) arg4.view.ty) (X5 : BufTy.Contents (Elt F) arg5.view.ty) (k : Fin k0_t1_loop.trips) :
    tileRun.sl.v313 arg4 arg5 arg8 X4 X5 k = scAt arg4 arg5 X4 X5 k 10 :=
  (by sl_kernel_rfl : tileRun.sl.v313 arg4 arg5 arg8 X4 X5 k = arg8.view.readCov (scList arg4 arg5 X4 X5 k 13) (sRect 10).toLoadRect).trans
    ((sSkip arg8.view (sRect 10) (sRect 12) _ _ (by decide)).trans ((sSkip arg8.view (sRect 10) (sRect 11) _ _ (by decide)).trans (sRead0 arg8.view (sRect 10) _ _)))

theorem read_v341 (arg4 : Memref sig .tc .vmem S1x1x4x128x512 .bf16) (arg5 : Memref sig .tc .vmem S1x1x8192x128 .bf16) (arg8 : Memref sig .tc .vmem S3x512x512 .f32) (X4 : BufTy.Contents (Elt F) arg4.view.ty) (X5 : BufTy.Contents (Elt F) arg5.view.ty) (k : Fin k0_t1_loop.trips) :
    tileRun.sl.v341 arg4 arg5 arg8 X4 X5 k = scAt arg4 arg5 X4 X5 k 11 :=
  (by sl_kernel_rfl : tileRun.sl.v341 arg4 arg5 arg8 X4 X5 k = arg8.view.readCov (scList arg4 arg5 X4 X5 k 14) (sRect 11).toLoadRect).trans
    ((sSkip arg8.view (sRect 11) (sRect 13) _ _ (by decide)).trans ((sSkip arg8.view (sRect 11) (sRect 12) _ _ (by decide)).trans (sRead0 arg8.view (sRect 11) _ _)))

theorem read_v369 (arg4 : Memref sig .tc .vmem S1x1x4x128x512 .bf16) (arg5 : Memref sig .tc .vmem S1x1x8192x128 .bf16) (arg8 : Memref sig .tc .vmem S3x512x512 .f32) (X4 : BufTy.Contents (Elt F) arg4.view.ty) (X5 : BufTy.Contents (Elt F) arg5.view.ty) (k : Fin k0_t1_loop.trips) :
    tileRun.sl.v369 arg4 arg5 arg8 X4 X5 k = scAt arg4 arg5 X4 X5 k 12 :=
  (by sl_kernel_rfl : tileRun.sl.v369 arg4 arg5 arg8 X4 X5 k = arg8.view.readCov (scList arg4 arg5 X4 X5 k 15) (sRect 12).toLoadRect).trans
    ((sSkip arg8.view (sRect 12) (sRect 14) _ _ (by decide)).trans ((sSkip arg8.view (sRect 12) (sRect 13) _ _ (by decide)).trans (sRead0 arg8.view (sRect 12) _ _)))

theorem read_v397 (arg4 : Memref sig .tc .vmem S1x1x4x128x512 .bf16) (arg5 : Memref sig .tc .vmem S1x1x8192x128 .bf16) (arg8 : Memref sig .tc .vmem S3x512x512 .f32) (X4 : BufTy.Contents (Elt F) arg4.view.ty) (X5 : BufTy.Contents (Elt F) arg5.view.ty) (k : Fin k0_t1_loop.trips) :
    tileRun.sl.v397 arg4 arg5 arg8 X4 X5 k = scAt arg4 arg5 X4 X5 k 13 :=
  (by sl_kernel_rfl : tileRun.sl.v397 arg4 arg5 arg8 X4 X5 k = arg8.view.readCov (scList arg4 arg5 X4 X5 k 16) (sRect 13).toLoadRect).trans
    ((sSkip arg8.view (sRect 13) (sRect 15) _ _ (by decide)).trans ((sSkip arg8.view (sRect 13) (sRect 14) _ _ (by decide)).trans (sRead0 arg8.view (sRect 13) _ _)))

theorem read_v419 (arg4 : Memref sig .tc .vmem S1x1x4x128x512 .bf16) (arg5 : Memref sig .tc .vmem S1x1x8192x128 .bf16) (arg8 : Memref sig .tc .vmem S3x512x512 .f32) (X4 : BufTy.Contents (Elt F) arg4.view.ty) (X5 : BufTy.Contents (Elt F) arg5.view.ty) (k : Fin k0_t1_loop.trips) :
    tileRun.sl.v419 arg4 arg5 arg8 X4 X5 k = scAt arg4 arg5 X4 X5 k 14 :=
  (by sl_kernel_rfl : tileRun.sl.v419 arg4 arg5 arg8 X4 X5 k = arg8.view.readCov (scList arg4 arg5 X4 X5 k 16) (sRect 14).toLoadRect).trans
    ((sSkip arg8.view (sRect 14) (sRect 15) _ _ (by decide)).trans (sRead0 arg8.view (sRect 14) _ _))

theorem read_v441 (arg4 : Memref sig .tc .vmem S1x1x4x128x512 .bf16) (arg5 : Memref sig .tc .vmem S1x1x8192x128 .bf16) (arg8 : Memref sig .tc .vmem S3x512x512 .f32) (X4 : BufTy.Contents (Elt F) arg4.view.ty) (X5 : BufTy.Contents (Elt F) arg5.view.ty) (k : Fin k0_t1_loop.trips) :
    tileRun.sl.v441 arg4 arg5 arg8 X4 X5 k = scAt arg4 arg5 X4 X5 k 15 :=
  (by sl_kernel_rfl : tileRun.sl.v441 arg4 arg5 arg8 X4 X5 k = arg8.view.readCov (scList arg4 arg5 X4 X5 k 16) (sRect 15).toLoadRect).trans
    (sRead0 arg8.view (sRect 15) _ _)

/-- A trip's score blocks, as the run reads them back. -/
def readBack (arg4 : Memref sig .tc .vmem S1x1x4x128x512 .bf16) (arg5 : Memref sig .tc .vmem S1x1x8192x128 .bf16) (arg8 : Memref sig .tc .vmem S3x512x512 .f32) (X4 : BufTy.Contents (Elt F) arg4.view.ty) (X5 : BufTy.Contents (Elt F) arg5.view.ty) (k : Fin k0_t1_loop.trips) : ℕ → Vec F S1x512x512 .f32
  | 0 => tileRun.sl.v33 arg4 arg5 arg8 X4 X5 k
  | 1 => tileRun.sl.v61 arg4 arg5 arg8 X4 X5 k
  | 2 => tileRun.sl.v89 arg4 arg5 arg8 X4 X5 k
  | 3 => tileRun.sl.v117 arg4 arg5 arg8 X4 X5 k
  | 4 => tileRun.sl.v145 arg4 arg5 arg8 X4 X5 k
  | 5 => tileRun.sl.v173 arg4 arg5 arg8 X4 X5 k
  | 6 => tileRun.sl.v201 arg4 arg5 arg8 X4 X5 k
  | 7 => tileRun.sl.v229 arg4 arg5 arg8 X4 X5 k
  | 8 => tileRun.sl.v257 arg4 arg5 arg8 X4 X5 k
  | 9 => tileRun.sl.v285 arg4 arg5 arg8 X4 X5 k
  | 10 => tileRun.sl.v313 arg4 arg5 arg8 X4 X5 k
  | 11 => tileRun.sl.v341 arg4 arg5 arg8 X4 X5 k
  | 12 => tileRun.sl.v369 arg4 arg5 arg8 X4 X5 k
  | 13 => tileRun.sl.v397 arg4 arg5 arg8 X4 X5 k
  | 14 => tileRun.sl.v419 arg4 arg5 arg8 X4 X5 k
  | 15 => tileRun.sl.v441 arg4 arg5 arg8 X4 X5 k
  | j => scAt arg4 arg5 X4 X5 k j

theorem readBack_eq (arg4 : Memref sig .tc .vmem S1x1x4x128x512 .bf16) (arg5 : Memref sig .tc .vmem S1x1x8192x128 .bf16) (arg8 : Memref sig .tc .vmem S3x512x512 .f32) (X4 : BufTy.Contents (Elt F) arg4.view.ty) (X5 : BufTy.Contents (Elt F) arg5.view.ty) (k : Fin k0_t1_loop.trips) :
    readBack arg4 arg5 arg8 X4 X5 k = scAt arg4 arg5 X4 X5 k := by
  funext j
  unfold readBack
  split
  · exact read_v33 arg4 arg5 arg8 X4 X5 k
  · exact read_v61 arg4 arg5 arg8 X4 X5 k
  · exact read_v89 arg4 arg5 arg8 X4 X5 k
  · exact read_v117 arg4 arg5 arg8 X4 X5 k
  · exact read_v145 arg4 arg5 arg8 X4 X5 k
  · exact read_v173 arg4 arg5 arg8 X4 X5 k
  · exact read_v201 arg4 arg5 arg8 X4 X5 k
  · exact read_v229 arg4 arg5 arg8 X4 X5 k
  · exact read_v257 arg4 arg5 arg8 X4 X5 k
  · exact read_v285 arg4 arg5 arg8 X4 X5 k
  · exact read_v313 arg4 arg5 arg8 X4 X5 k
  · exact read_v341 arg4 arg5 arg8 X4 X5 k
  · exact read_v369 arg4 arg5 arg8 X4 X5 k
  · exact read_v397 arg4 arg5 arg8 X4 X5 k
  · exact read_v419 arg4 arg5 arg8 X4 X5 k
  · exact read_v441 arg4 arg5 arg8 X4 X5 k
  · rfl

/-- A trip of the loop stores its tile's result. -/
theorem tileRun_pieces (c : Dev nD) (i : grid0.Coords) (arg4 : Memref sig .tc .vmem S1x1x4x128x512 .bf16) (harg4 : arg4.IsWhole) (arg5 : Memref sig .tc .vmem S1x1x8192x128 .bf16) (harg5 : arg5.IsWhole) (arg6 : Memref sig .tc .vmem S1x1x16x64x512 .bf16) (harg6 : arg6.IsWhole) (arg7 : Memref sig .tc .vmem S1x1x4x64x512 .f32) (harg7 : arg7.IsWhole) (arg8 : Memref sig .tc .vmem S3x512x512 .f32) (harg8 : arg8.IsWhole)
    (X4 : BufTy.Contents (Elt F) arg4.view.ty) (X5 : BufTy.Contents (Elt F) arg5.view.ty) (X6 : BufTy.Contents (Elt F) arg6.view.ty) (k : Fin k0_t1_loop.trips) :
    (tileRun (F := F) c i arg4 harg4 arg5 harg5 arg6 harg6 arg7 harg7 arg8 harg8 X4 X5 X6 k).1
      = [⟨Rect.unit (s := S1x1x4x64x512) (k0_off4 k) S1x1x1x64x512.size (k0_off4_inb k), onTile (scAt arg4 arg5 X4 X5 k) (vAt5 arg6 X6)⟩] := by
  rw [← readBack_eq arg4 arg5 arg8 X4 X5 k]
  sl_kernel_rfl

end Cert.KernelIdeal.Attn

end
-- ==== Proof.Read.lean ====
/- The tile functions at the exact instance, read at an index. -/
module

public import proofs.«01_k».proof.Proof.Tile
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe Idealize.SL.Sem

theorem neg_inf : Ideal.ofBits .f32 0xFF800000#32 = (⊥ : EReal) := by
  simp [Ideal.ofBits, Ideal.ieee, -EReal.coe_mul]

theorem fastScore_at (x : Vec Ideal S1x1x1x128x512 .bf16) (k : Vec Ideal S1x1x256x128 .bf16) (κ : Fin 256) (r : Fin 512) :
    fastScore (F := Ideal) (qMat x) k (ix2 κ r) = ∑ d : Fin 128, (k (ix4 0 0 κ d) : EReal) * x (ix5 0 0 0 d r) := by
  pointwise [fastScore, qMat]

theorem fastPart_at (q : FVec Ideal S128x512 .bf16) (k : Vec Ideal S1x1x256x128 .bf16) (v : Vec Ideal S1x1x1x64x256 .bf16) (e : Fin 64) (r : Fin 512) :
    fastPart (F := Ideal) q k v (ix2 e r) = ∑ κ : Fin 256, (v (ix5 0 0 0 e κ) : EReal) * Ideal.exp2 (fastScore q k (ix2 κ r)) := by
  pointwise [fastPart, fastWeight]
  rfl

theorem fastSub_at (q : FVec Ideal S128x512 .bf16) (k : Vec Ideal S1x1x256x128 .bf16) (g : Fin 8) (r : Fin 512) :
    fastSub (F := Ideal) q k (ix2 g r) = ∑ a : Fin 32, Ideal.exp2 (fastScore q k (ix2 ⟨a.val * 8 + g.val, by omega⟩ r)) := by
  pointwise [fastSub, fastWeight]
  rfl

theorem finish_at (a : FVec Ideal S64x512 .f32) (l : FVec Ideal S8x512 .f32) (e : Fin 64) (r : Fin 512) :
    finish (F := Ideal) a l (ix5 0 0 0 e r) = Ideal.div (a (ix2 e r)) (∑ g : Fin 8, l (ix2 g r)) := by
  pointwise [finish]

theorem onScore_at (x : Vec Ideal S1x1x1x128x512 .bf16) (k : Vec Ideal S1x1x512x128 .bf16) (κ : Fin 512) (r : Fin 512) :
    (unslot (onSlot (qMat x) k) : FVec Ideal S512x512 .f32) (ix2 κ r) = ∑ d : Fin 128, (k (ix4 0 0 κ d) : EReal) * x (ix5 0 0 0 d r) := by
  pointwise [unslot, onSlot, onScore, qMat]

theorem onMax_at (m : FVec Ideal S1x512 .f32) (s : FVec Ideal S512x512 .f32) (r : Fin 512) :
    onMax (F := Ideal) m s (ix2 0 r) = max (m (ix2 0 r)) (Finset.univ.fold max (⊥ : EReal) fun κ : Fin 512 => s (ix2 κ r)) := by
  pointwise [onMax]
  rw [neg_inf]

theorem onAlpha_at (m : FVec Ideal S1x512 .f32) (s : FVec Ideal S512x512 .f32) (r : Fin 512) :
    onAlpha (F := Ideal) m s (ix2 0 r) = Ideal.exp2 ((m (ix2 0 r) : EReal) - onMax m s (ix2 0 r)) := by
  pointwise [onAlpha]
  rfl

theorem onAcc_at (m : FVec Ideal S1x512 .f32) (a : FVec Ideal S64x512 .f32) (s : FVec Ideal S512x512 .f32) (v : Vec Ideal S1x1x1x64x512 .bf16) (e : Fin 64) (r : Fin 512) :
    onAcc (F := Ideal) m a s v (ix2 e r) = (onAlpha m s (ix2 0 r) : EReal) * a (ix2 e r)
      + ∑ κ : Fin 512, (v (ix5 0 0 0 e κ) : EReal) * Ideal.exp2 ((s (ix2 κ r) : EReal) - onMax m s (ix2 0 r)) := by
  pointwise [onAcc, onWeight]
  rfl

theorem onSum_at (m : FVec Ideal S1x512 .f32) (l : FVec Ideal S8x512 .f32) (s : FVec Ideal S512x512 .f32) (g : Fin 8) (r : Fin 512) :
    onSum (F := Ideal) m l s (ix2 g r) = (onAlpha m s (ix2 0 r) : EReal) * l (ix2 g r)
      + ∑ a : Fin 64, Ideal.exp2 ((s (ix2 ⟨a.val * 8 + g.val, by omega⟩ r) : EReal) - onMax m s (ix2 0 r)) := by
  pointwise [onSum, onWeight]
  rfl

end Cert.KernelIdeal.Attn
-- ==== Proof.Softmax.lean ====
/- Sums of weighted values over the extended reals: an accumulation that rescales by a running maximum, and quotients
   of weighted sums, in closed form. -/
module

public import Idealize.ShloMosaic.Lib.Pointwise

@[expose] public section

noncomputable section

namespace Cert.Softmax

open Idealize.ShloMosaic

/-- A nonnegative real factor distributes over a finite sum. -/
theorem coe_mul_sum {ι : Type} (s : Finset ι) (c : ℝ) (hc : 0 ≤ c) (f : ι → EReal) : (c : EReal) * ∑ x ∈ s, f x = ∑ x ∈ s, (c : EReal) * f x := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- `2` to a real power. -/
def pw (t : ℝ) : ℝ := Real.rpow 2 t

theorem pw_pos (t : ℝ) : 0 < pw t := Real.rpow_pos_of_pos two_pos t
theorem pw_add (a b : ℝ) : pw (a + b) = pw a * pw b := Real.rpow_add two_pos a b
theorem exp2_real (t : ℝ) : Ideal.exp2 (t : EReal) = (pw t : EReal) := Ideal.exp2_coe t

/-- The largest of finitely many reals, at least one, is a real. -/
theorem fold_max_real {ι : Type} (s : Finset ι) (f : ι → EReal) (hf : ∀ x, ∃ r : ℝ, f x = r) (hs : s.Nonempty) : ∃ r : ℝ, s.fold max (⊥ : EReal) f = r := by
  classical
  induction s using Finset.induction_on with
  | empty => exact absurd hs Finset.not_nonempty_empty
  | insert a s ha ih =>
    rw [Finset.fold_insert ha]
    obtain ⟨r, hr⟩ := hf a
    rcases s.eq_empty_or_nonempty with rfl | hne
    · exact ⟨r, by simp [hr]⟩
    · obtain ⟨r', hr'⟩ := ih hne
      exact ⟨max r r', by rw [hr, hr']; exact (EReal.coe_strictMono.monotone.map_max).symm⟩

/-- An accumulation that rescales what it has by `2 ^ (m n - m (n + 1))` at every step, from nothing, is
    the plain sum scaled once by `2 ^ (- m)`. -/
theorem scan {ι : Type} [Fintype ι] (N : ℕ) (m : ℕ → EReal) (μ : ℕ → ℝ) (hm : ∀ n, n < N → m (n + 1) = μ n)
    (w : ℕ → ι → EReal) (t : ℕ → ι → ℝ) (A : ℕ → EReal) (hA0 : A 0 = 0)
    (hA : ∀ n, n < N → A (n + 1) = Ideal.exp2 (m n - m (n + 1)) * A n + ∑ x, w n x * Ideal.exp2 ((t n x : EReal) - m (n + 1))) (n : ℕ) (hn : n < N) :
    A (n + 1) = (pw (-μ n) : EReal) * ∑ j ∈ Finset.range (n + 1), ∑ x, w j x * (pw (t j x) : EReal) := by
  have part : ∀ n, n < N → ∑ x, w n x * Ideal.exp2 ((t n x : EReal) - m (n + 1)) = (pw (-μ n) : EReal) * ∑ x, w n x * (pw (t n x) : EReal) := by
    intro n hn
    rw [coe_mul_sum _ _ (pw_pos _).le]
    refine Finset.sum_congr rfl fun x _ => ?_
    rw [hm n hn, ← EReal.coe_sub, exp2_real, sub_eq_add_neg, add_comm, pw_add, EReal.coe_mul, mul_left_comm]
  induction n with
  | zero => rw [hA 0 hn, hA0, mul_zero, zero_add, Finset.sum_range_one, part 0 hn]
  | succ n ih =>
    rw [hA (n + 1) hn, part (n + 1) hn, ih (by omega), hm n (by omega), hm (n + 1) hn, ← EReal.coe_sub, exp2_real, Finset.sum_range_succ _ (n + 1),
      EReal.left_distrib_of_nonneg_of_ne_top (by exact_mod_cast (pw_pos _).le) (EReal.coe_ne_top _), ← mul_assoc, ← EReal.coe_mul, ← pw_add]
    congr 4
    ring

/-- A common positive factor cancels in a quotient by a positive real. -/
theorem div_scale (c : ℝ) (hc : 0 < c) (z : ℝ) (hz : 0 < z) (b : EReal) : Ideal.div ((c : EReal) * b) ((c : EReal) * (z : EReal)) = b * ((z⁻¹ : ℝ) : EReal) := by
  rw [← EReal.coe_mul, Ideal.div, if_neg (by exact_mod_cast (mul_pos hc hz).ne'), ← EReal.coe_inv, mul_comm (c : EReal) b, mul_assoc, ← EReal.coe_mul]
  congr 2
  field_simp

theorem div_real (z : ℝ) (hz : 0 < z) (b : EReal) : Ideal.div b (z : EReal) = b * ((z⁻¹ : ℝ) : EReal) := by
  rw [Ideal.div, if_neg (by exact_mod_cast hz.ne'), ← EReal.coe_inv]

/-- The attention of one query over `8192` keys with real scores `s` (in powers of two) and values `v`. -/
def attend (s : Fin 8192 → ℝ) (v : Fin 8192 → EReal) : EReal :=
  (∑ κ, v κ * (pw (s κ) : EReal)) * (((∑ κ, pw (s κ))⁻¹ : ℝ) : EReal)

theorem total_pos (s : Fin 8192 → ℝ) : 0 < ∑ κ, pw (s κ) := Finset.sum_pos (fun κ _ => pw_pos _) ⟨0, Finset.mem_univ _⟩

/-- The same from weights divided one by one, each the exponential of `ln 2 · s` less any real. -/
theorem attend_of_weights (s : Fin 8192 → ℝ) (v : Fin 8192 → EReal) (M : ℝ) :
    ∑ κ, Ideal.div (Ideal.exp (((s κ * Real.log 2 : ℝ) : EReal) - M)) (∑ l, Ideal.exp (((s l * Real.log 2 : ℝ) : EReal) - M)) * v κ = attend s v := by
  have he : ∀ κ, Ideal.exp (((s κ * Real.log 2 : ℝ) : EReal) - M) = ((Real.exp (-M) * pw (s κ) : ℝ) : EReal) := by
    intro κ
    rw [← EReal.coe_sub, Ideal.exp_coe, sub_eq_add_neg, add_comm, Real.exp_add]
    congr 2
    show _ = (2 : ℝ) ^ (s κ)
    rw [Real.rpow_def_of_pos two_pos, mul_comm]
  have hZ := total_pos s
  simp only [he, ← coe_sum, ← Finset.mul_sum]
  rw [attend, mul_comm _ (((∑ κ, pw (s κ))⁻¹ : ℝ) : EReal), coe_mul_sum _ _ (inv_pos.2 hZ).le]
  refine Finset.sum_congr rfl fun κ _ => ?_
  rw [div_real _ (mul_pos (Real.exp_pos _) hZ), ← EReal.coe_mul, mul_comm (v κ), ← mul_assoc, ← EReal.coe_mul]
  congr 2
  have := (Real.exp_pos (-M)).ne'
  field_simp

/-- A sum over the keys by blocks. -/
theorem sum_blocks (J T : ℕ) (h : J * T = 8192) (f : Fin 8192 → EReal) (g : ℕ → Fin T → EReal)
    (hg : ∀ (j : ℕ) (hj : j < J) (x : Fin T), g j x = f ⟨j * T + x.val, by have := x.isLt; calc j * T + x.val < (j + 1) * T := by rw [add_mul]; omega
      _ ≤ J * T := Nat.mul_le_mul_right _ hj
      _ = 8192 := h⟩) : ∑ j ∈ Finset.range J, ∑ x, g j x = ∑ κ, f κ := by
  rw [Finset.sum_range, Fin.sum_univ_tiles J T h f]
  exact Finset.sum_congr rfl fun j _ => Finset.sum_congr rfl fun x _ => hg j j.isLt x

end Cert.Softmax

end
-- ==== Proof.TileValue.lean ====
/- What a query tile computes, either way: the attention of each of its queries over all keys. -/
module

public import proofs.«01_k».proof.Proof.Read
public import proofs.«01_k».proof.Proof.Softmax

@[expose] public section

set_option maxRecDepth 16384

noncomputable section

namespace Cert.KernelIdeal.Attn

open Cert.KernelIdeal Cert.KernelIdeal.Gen Cert.Softmax
open Idealize.ShloMosaic Idealize.ShloMosaic.TcCoe Idealize.SL.Sem

theorem fastAcc_at (q : FVec Ideal S128x512 .bf16) (k : ℕ → Vec Ideal S1x1x256x128 .bf16) (v : ℕ → Vec Ideal S1x1x1x64x256 .bf16) (e : Fin 64) (r : Fin 512) (n : ℕ) :
    fastAcc (F := Ideal) q k v n (ix2 e r) = ∑ j ∈ Finset.range (n + 1), (fastPart q (k j) (v j) (ix2 e r) : EReal) := by
  induction n with
  | zero => rw [Finset.sum_range_one]; rfl
  | succ n ih => rw [Finset.sum_range_succ, ← ih]; rfl

theorem fastSum_at (q : FVec Ideal S128x512 .bf16) (k : ℕ → Vec Ideal S1x1x256x128 .bf16) (g : Fin 8) (r : Fin 512) (n : ℕ) :
    fastSum (F := Ideal) q k n (ix2 g r) = ∑ j ∈ Finset.range (n + 1), (fastSub q (k j) (ix2 g r) : EReal) := by
  induction n with
  | zero => rw [Finset.sum_range_one]; rfl
  | succ n ih => rw [Finset.sum_range_succ, ← ih]; rfl

theorem key_lt (J T : ℕ) (h : J * T = 8192) (j : ℕ) (hj : j < J) (x : Fin T) : j * T + x.val < 8192 := by
  have := x.isLt
  calc j * T + x.val < (j + 1) * T := by rw [add_mul]; omega
    _ ≤ J * T := Nat.mul_le_mul_right _ hj
    _ = 8192 := h

/-- Without a running maximum. -/
theorem fastTile_at (x : Vec Ideal S1x1x1x128x512 .bf16) (k : ℕ → Vec Ideal S1x1x256x128 .bf16) (v : ℕ → Vec Ideal S1x1x1x64x256 .bf16) (e : Fin 64) (r : Fin 512)
    (s : Fin 8192 → ℝ) (V : Fin 8192 → EReal)
    (hs : ∀ (j : ℕ) (hj : j < 32) (κ : Fin 256), ∑ d : Fin 128, (k j (ix4 0 0 κ d) : EReal) * x (ix5 0 0 0 d r) = (s ⟨j * 256 + κ.val, key_lt 32 256 rfl j hj κ⟩ : EReal))
    (hv : ∀ (j : ℕ) (hj : j < 32) (κ : Fin 256), (v j (ix5 0 0 0 e κ) : EReal) = V ⟨j * 256 + κ.val, key_lt 32 256 rfl j hj κ⟩) :
    fastTile (F := Ideal) x k v (ix5 0 0 0 e r) = attend s V := by
  have hnum : fastAcc (F := Ideal) (qMat x) k v 31 (ix2 e r) = ∑ κ, V κ * (pw (s κ) : EReal) := by
    rw [fastAcc_at, ← sum_blocks 32 256 rfl _ (fun j κ => (v j (ix5 0 0 0 e κ) : EReal) * Ideal.exp2 (fastScore (F := Ideal) (qMat x) (k j) (ix2 κ r)))
      (fun j hj κ => by rw [fastScore_at, hs j hj, hv j hj, exp2_real])]
    exact Finset.sum_congr rfl fun j _ => fastPart_at _ _ _ _ _
  have hden : ∑ g : Fin 8, (fastSum (F := Ideal) (qMat x) k 31 (ix2 g r) : EReal) = ((∑ κ, pw (s κ) : ℝ) : EReal) := by
    rw [coe_sum, ← sum_blocks 32 256 rfl _ (fun j κ => Ideal.exp2 (fastScore (F := Ideal) (qMat x) (k j) (ix2 κ r)))
      (fun j hj κ => by rw [fastScore_at, hs j hj, exp2_real])]
    simp only [fastSum_at, fastSub_at]
    rw [Finset.sum_comm]
    refine Finset.sum_congr rfl fun j _ => ?_
    rw [Fin.sum_univ_tiles 32 8 rfl, Finset.sum_comm]
  rw [fastTile, finish_at, hnum, hden, div_real _ (total_pos s)]
  rfl

/-- With a running maximum. -/
theorem onTile_at (sc : ℕ → Vec Ideal S1x512x512 .f32) (v : ℕ → Vec Ideal S1x1x1x64x512 .bf16) (e : Fin 64) (r : Fin 512)
    (s : Fin 8192 → ℝ) (V : Fin 8192 → EReal)
    (hs : ∀ (j : ℕ) (hj : j < 16) (κ : Fin 512), (unslot (sc j) : FVec Ideal S512x512 .f32) (ix2 κ r) = (s ⟨j * 512 + κ.val, key_lt 16 512 rfl j hj κ⟩ : EReal))
    (hv : ∀ (j : ℕ) (hj : j < 16) (κ : Fin 512), (v j (ix5 0 0 0 e κ) : EReal) = V ⟨j * 512 + κ.val, key_lt 16 512 rfl j hj κ⟩) :
    onTile (F := Ideal) sc v (ix5 0 0 0 e r) = attend s V := by
  have hmax : ∀ n, n < 16 → ∃ μ : ℝ, (onM (F := Ideal) sc (n + 1) (ix2 0 r) : EReal) = μ := by
    intro n hn
    have hfold : ∀ n, n < 16 → ∃ ρ : ℝ, (Finset.univ.fold max (⊥ : EReal) fun κ : Fin 512 => (unslot (sc n) : FVec Ideal S512x512 .f32) (ix2 κ r)) = ρ := by
      intro n hn
      exact fold_max_real _ _ (fun κ => ⟨_, hs n hn κ⟩) ⟨0, Finset.mem_univ _⟩
    have hstep : ∀ n, (onM (F := Ideal) sc (n + 1) (ix2 0 r) : EReal) = max (onM (F := Ideal) sc n (ix2 0 r)) (Finset.univ.fold max (⊥ : EReal) fun κ : Fin 512 => (unslot (sc n) : FVec Ideal S512x512 .f32) (ix2 κ r)) :=
      fun n => onMax_at _ _ _
    induction n with
    | zero =>
      obtain ⟨ρ, hρ⟩ := hfold 0 hn
      refine ⟨ρ, ?_⟩
      rw [hstep, hρ]
      exact max_eq_right (le_of_eq_of_le neg_inf bot_le)
    | succ n ih =>
      obtain ⟨ρ, hρ⟩ := hfold (n + 1) hn
      obtain ⟨μ, hμ⟩ := ih (by omega)
      refine ⟨max μ ρ, ?_⟩
      rw [hstep, hρ, hμ]
      exact (EReal.coe_strictMono.monotone.map_max).symm
  have hex : ∃ μ : ℕ → ℝ, ∀ n, n < 16 → (onM (F := Ideal) sc (n + 1) (ix2 0 r) : EReal) = μ n :=
    ⟨fun n => if h : n < 16 then (hmax n h).choose else 0, fun n hn => by simp only [dif_pos hn]; exact (hmax n hn).choose_spec⟩
  obtain ⟨μ, hμ⟩ := hex
  have zero_lit : Ideal.ofBits .f32 0x00000000#32 = (0 : EReal) := by simp [Ideal.ofBits, Ideal.ieee, -EReal.coe_mul]
  let t : ℕ → Fin 512 → ℝ := fun j κ => if h : j < 16 then s ⟨j * 512 + κ.val, key_lt 16 512 rfl j h κ⟩ else 0
  have ht : ∀ (j : ℕ) (hj : j < 16) (κ : Fin 512), t j κ = s ⟨j * 512 + κ.val, key_lt 16 512 rfl j hj κ⟩ := fun j hj κ => dif_pos hj
  have hnum : (onA (F := Ideal) sc v 16 (ix2 e r) : EReal) = (pw (-μ 15) : EReal) * ∑ κ, V κ * (pw (s κ) : EReal) := by
    rw [scan 16 (fun n => onM (F := Ideal) sc n (ix2 0 r)) μ hμ (fun j κ => (v j (ix5 0 0 0 e κ) : EReal)) t (fun n => onA (F := Ideal) sc v n (ix2 e r)) zero_lit
      (fun n hn => ?_) 15 (by decide), sum_blocks 16 512 rfl (fun κ => V κ * (pw (s κ) : EReal)) _ (fun j hj κ => by rw [hv j hj, ht j hj])]
    refine (onAcc_at _ _ _ _ _ _).trans ?_
    simp only [ht n hn, ← hs n hn]
    rw [onAlpha_at]
    rfl
  have hsub : ∀ g : Fin 8, (onL (F := Ideal) sc 16 (ix2 g r) : EReal) = (pw (-μ 15) : EReal) * ∑ j ∈ Finset.range 16, ∑ a : Fin 64, (pw (t j ⟨a.val * 8 + g.val, by omega⟩) : EReal) := by
    intro g
    have := scan 16 (fun n => onM (F := Ideal) sc n (ix2 0 r)) μ hμ (fun j (a : Fin 64) => (1 : EReal)) (fun j a => t j ⟨a.val * 8 + g.val, by omega⟩) (fun n => onL (F := Ideal) sc n (ix2 g r)) zero_lit
      (fun n hn => by
        refine (onSum_at _ _ _ _ _).trans ?_
        simp only [ht n hn, one_mul]
        rw [onAlpha_at]
        exact congrArg₂ (· + ·) rfl (Finset.sum_congr rfl fun a _ => congrArg (fun z : EReal => Ideal.exp2 (z - onM (F := Ideal) sc (n + 1) (ix2 0 r))) (hs n hn _))) 15 (by decide)
    simp only [one_mul] at this
    exact this
  have hden : ∑ g : Fin 8, (onL (F := Ideal) sc 16 (ix2 g r) : EReal) = (pw (-μ 15) : EReal) * ((∑ κ, pw (s κ) : ℝ) : EReal) := by
    simp only [hsub]
    rw [← coe_mul_sum _ _ (pw_pos _).le]
    refine congrArg (fun z : EReal => (pw (-μ 15) : EReal) * z) ?_
    rw [coe_sum, ← sum_blocks 16 512 rfl _ (fun j κ => (pw (t j κ) : EReal)) (fun j hj κ => by rw [ht j hj]), Finset.sum_comm]
    refine Finset.sum_congr rfl fun j _ => ?_
    rw [Fin.sum_univ_tiles 64 8 rfl, Finset.sum_comm]
  rw [onTile, finish_at, hnum, hden, div_scale _ (pw_pos _) _ (total_pos s)]
  rfl

end Cert.KernelIdeal.Attn
-- ==== Proof.BodyValue.lean ====
/- What the body leaves in the output's staging buffer, at an index, whichever way it computes. -/
module

public import proofs.«01_k».proof.Proof.TileValue
public import proofs.«01_k».proof.Proof.Frame
public import Idealize.ShloMosaic.Lib.Pipeline.ValueKit

@[expose] public section

set_option maxRecDepth 16384

noncomputable section

namespace Cert.KernelIdeal.Attn

open Cert.KernelIdeal Cert.KernelIdeal.Gen Cert.Softmax
open Idealize.ShloMosaic Idealize.ShloMosaic.TcCoe Idealize.ShloMosaic.Tactic Idealize.SL.Sem

/-! ## Loads of a block -/

theorem qAt_at (a : Memref sig .tc .vmem S1x1x4x128x512 .bf16) (h : a.IsWhole) (x : Vec Ideal S1x1x4x128x512 .bf16) (u : Fin 4) (d : Fin 128) (r : Fin 512) :
    qAt (F := Ideal) a (h.unread x) u (ix5 0 0 0 d r) = x (ix5 0 0 u d r) := by
  unfold qAt
  rw [View.readAt_eq_ld, h.read_unread]
  pointwise []
  exact congrArg (fun z => x (ix5 0 0 z d r)) (Fin.ext (Nat.mod_eq_of_lt u.isLt))

theorem kAt_at (a : Memref sig .tc .vmem S1x1x8192x128 .bf16) (h : a.IsWhole) (x : Vec Ideal S1x1x8192x128 .bf16) (j : ℕ) (hj : j < 32) (κ : Fin 256) (d : Fin 128) :
    kAt (F := Ideal) a (h.unread x) j (ix4 0 0 κ d) = x (ix4 0 0 ⟨j * 256 + κ.val, key_lt 32 256 rfl j hj κ⟩ d) := by
  unfold kAt
  rw [View.readAt_eq_ld, h.read_unread]
  pointwise []
  exact congrArg (fun z => x (ix4 0 0 z d)) (Fin.ext (by simp only []; omega))

theorem vAt_at (a : Memref sig .tc .vmem S1x1x16x64x512 .bf16) (h : a.IsWhole) (x : Vec Ideal S1x1x16x64x512 .bf16) (j : ℕ) (hj : j < 32) (e : Fin 64) (κ : Fin 256) :
    vAt (F := Ideal) a (h.unread x) j (ix5 0 0 0 e κ) = x (ix5 0 0 ⟨(j * 256 + κ.val) / 512, by omega⟩ e ⟨(j * 256 + κ.val) % 512, by omega⟩) := by
  unfold vAt
  rw [View.readAt_eq_ld, h.read_unread]
  pointwise []
  exact congrArg₂ (fun y z => x (ix5 0 0 y e z)) (Fin.ext (by simp only []; omega)) (Fin.ext (by simp only []; omega))

theorem kAt5_at (a : Memref sig .tc .vmem S1x1x8192x128 .bf16) (h : a.IsWhole) (x : Vec Ideal S1x1x8192x128 .bf16) (j : ℕ) (hj : j < 16) (κ : Fin 512) (d : Fin 128) :
    kAt5 (F := Ideal) a (h.unread x) j (ix4 0 0 κ d) = x (ix4 0 0 ⟨j * 512 + κ.val, key_lt 16 512 rfl j hj κ⟩ d) := by
  unfold kAt5
  rw [View.readAt_eq_ld, h.read_unread]
  pointwise []
  exact congrArg (fun z => x (ix4 0 0 z d)) (Fin.ext (by simp only []; omega))

theorem vAt5_at (a : Memref sig .tc .vmem S1x1x16x64x512 .bf16) (h : a.IsWhole) (x : Vec Ideal S1x1x16x64x512 .bf16) (j : ℕ) (hj : j < 16) (e : Fin 64) (κ : Fin 512) :
    vAt5 (F := Ideal) a (h.unread x) j (ix5 0 0 0 e κ) = x (ix5 0 0 ⟨(j * 512 + κ.val) / 512, by omega⟩ e ⟨(j * 512 + κ.val) % 512, by omega⟩) := by
  unfold vAt5
  rw [View.readAt_eq_ld, h.read_unread]
  pointwise []
  exact congrArg₂ (fun y z => x (ix5 0 0 y e z)) (Fin.ext (by simp only []; omega)) (Fin.ext (by simp only []; omega))

/-! ## The stores -/

theorem oPiece_emb (u : Fin 4) (w : FVec Ideal S1x1x1x64x512 .f32) (e : Fin 64) (r : Fin 512) :
    (oPiece (F := Ideal) u w).1.emb (ix5 0 0 0 e r : S1x1x1x64x512.Idx) = (ix5 0 0 u e r : S1x1x4x64x512.Idx) := by
  have hu := u.isLt
  funext a
  refine Fin.ext ?_
  fin_cases a
  · rfl
  · rfl
  · show (u : ℕ) % 4 + 1 * 0 = u; omega
  · show 0 + 1 * (e : ℕ) = e; omega
  · show 0 + 1 * (r : ℕ) = r; omega

/-- The store of a tile read at an index of the buffer. -/
theorem canon_hit (u : Fin 4) (w : FVec Ideal S1x1x1x64x512 .f32) (L : List (View.Piece (Elt Ideal) S1x1x4x64x512 .f32)) (e : Fin 64) (r : Fin 512) :
    View.canon (oPiece (F := Ideal) u w :: L) (ix5 0 0 u e r) = w (ix5 0 0 0 e r) :=
  (congrArg (View.canon (oPiece (F := Ideal) u w :: L)) (oPiece_emb u w e r)).symm.trans (View.canon_cons_emb _ _ _ _)

theorem canon_miss (u u' : Fin 4) (h : u ≠ u') (w : FVec Ideal S1x1x1x64x512 .f32) (L : List (View.Piece (Elt Ideal) S1x1x4x64x512 .f32)) (e : Fin 64) (r : Fin 512) :
    View.canon (oPiece (F := Ideal) u w :: L) (ix5 0 0 u' e r) = View.canon L (ix5 0 0 u' e r) := by
  refine View.canon_cons_of_not_mem _ _ fun hm => h ?_
  have h2 := (Rect.mem_set_unit (inb := inbO u)).1 hm (2 : Fin 5)
  have hu := u.isLt
  have h3 : (u : ℕ) % 4 ≤ (u' : ℕ) ∧ (u' : ℕ) < (u : ℕ) % 4 + 1 := h2
  exact Fin.ext (by omega)

/-- Four tiles' stores read at an index: the tile's own. -/
theorem canon_four (w : Fin 4 → FVec Ideal S1x1x1x64x512 .f32) (u : Fin 4) (e : Fin 64) (r : Fin 512) :
    View.canon [oPiece (F := Ideal) 3 (w 3), oPiece 2 (w 2), oPiece 1 (w 1), oPiece 0 (w 0)] (ix5 0 0 u e r) = w u (ix5 0 0 0 e r) := by
  fin_cases u
  · exact (canon_miss 3 0 (by decide) _ _ _ _).trans ((canon_miss 2 0 (by decide) _ _ _ _).trans ((canon_miss 1 0 (by decide) _ _ _ _).trans (canon_hit 0 _ _ _ _)))
  · exact (canon_miss 3 1 (by decide) _ _ _ _).trans ((canon_miss 2 1 (by decide) _ _ _ _).trans (canon_hit 1 _ _ _ _))
  · exact (canon_miss 3 2 (by decide) _ _ _ _).trans (canon_hit 2 _ _ _ _)
  · exact canon_hit 3 _ _ _ _

/-- A tile's result when the flag is clear. -/
def onOf (arg4 : Memref sig .tc .vmem S1x1x4x128x512 .bf16) (arg5 : Memref sig .tc .vmem S1x1x8192x128 .bf16) (arg6 : Memref sig .tc .vmem S1x1x16x64x512 .bf16)
    (X4 : BufTy.Contents (Elt Ideal) arg4.view.ty) (X5 : BufTy.Contents (Elt Ideal) arg5.view.ty) (X6 : BufTy.Contents (Elt Ideal) arg6.view.ty) (u : ℕ) : FVec Ideal S1x1x1x64x512 .f32 :=
  onTile (F := Ideal) (fun j => onSlot (qMat (qAt arg4 X4 u)) (kAt5 arg5 X5 j)) (vAt5 arg6 X6)

theorem trips_eq : k0_t1_loop.trips = 4 := by decide +kernel

theorem tileRun_piece (c : Dev nD) (i : grid0.Coords) (arg4 : Memref sig .tc .vmem S1x1x4x128x512 .bf16) (harg4 : arg4.IsWhole) (arg5 : Memref sig .tc .vmem S1x1x8192x128 .bf16) (harg5 : arg5.IsWhole) (arg6 : Memref sig .tc .vmem S1x1x16x64x512 .bf16) (harg6 : arg6.IsWhole) (arg7 : Memref sig .tc .vmem S1x1x4x64x512 .f32) (harg7 : arg7.IsWhole) (arg8 : Memref sig .tc .vmem S3x512x512 .f32) (harg8 : arg8.IsWhole)
    (X4 : BufTy.Contents (Elt Ideal) arg4.view.ty) (X5 : BufTy.Contents (Elt Ideal) arg5.view.ty) (X6 : BufTy.Contents (Elt Ideal) arg6.view.ty) (n : ℕ) (hn : n < 4) (h : n < k0_t1_loop.trips) :
    (tileRun (F := Ideal) c i arg4 harg4 arg5 harg5 arg6 harg6 arg7 harg7 arg8 harg8 X4 X5 X6 ⟨n, h⟩).1 = [oPiece n (onOf arg4 arg5 arg6 X4 X5 X6 n)] := by
  rw [tileRun_pieces]
  interval_cases n <;> sl_kernel_rfl

theorem tilePieces_four (c : Dev nD) (i : grid0.Coords) (arg4 : Memref sig .tc .vmem S1x1x4x128x512 .bf16) (harg4 : arg4.IsWhole) (arg5 : Memref sig .tc .vmem S1x1x8192x128 .bf16) (harg5 : arg5.IsWhole) (arg6 : Memref sig .tc .vmem S1x1x16x64x512 .bf16) (harg6 : arg6.IsWhole) (arg7 : Memref sig .tc .vmem S1x1x4x64x512 .f32) (harg7 : arg7.IsWhole) (arg8 : Memref sig .tc .vmem S3x512x512 .f32) (harg8 : arg8.IsWhole)
    (X4 : BufTy.Contents (Elt Ideal) arg4.view.ty) (X5 : BufTy.Contents (Elt Ideal) arg5.view.ty) (X6 : BufTy.Contents (Elt Ideal) arg6.view.ty) :
    tilePieces (F := Ideal) c i arg4 harg4 arg5 harg5 arg6 harg6 arg7 harg7 arg8 harg8 X4 X5 X6 4
      = [oPiece 3 (onOf arg4 arg5 arg6 X4 X5 X6 3), oPiece 2 (onOf arg4 arg5 arg6 X4 X5 X6 2), oPiece 1 (onOf arg4 arg5 arg6 X4 X5 X6 1), oPiece 0 (onOf arg4 arg5 arg6 X4 X5 X6 0)] := by
  have h : ∀ n, n < 4 → n < k0_t1_loop.trips := fun n hn => trips_eq ▸ hn
  simp only [tilePieces]
  rw [dif_pos (h 3 (by decide)), dif_pos (h 2 (by decide)), dif_pos (h 1 (by decide)), dif_pos (h 0 (by decide)),
    tileRun_piece _ _ _ _ _ _ _ _ _ _ _ _ _ _ _ 3 (by decide), tileRun_piece _ _ _ _ _ _ _ _ _ _ _ _ _ _ _ 2 (by decide), tileRun_piece _ _ _ _ _ _ _ _ _ _ _ _ _ _ _ 1 (by decide), tileRun_piece _ _ _ _ _ _ _ _ _ _ _ _ _ _ _ 0 (by decide)]
  rfl

/-- What the body leaves, at an index: the attention of the query there over the block's keys and values. -/
theorem body_value (c : Dev nD) (i : grid0.Coords) (arg4 : Memref sig .tc .vmem S1x1x4x128x512 .bf16) (harg4 : arg4.IsWhole) (arg5 : Memref sig .tc .vmem S1x1x8192x128 .bf16) (harg5 : arg5.IsWhole) (arg6 : Memref sig .tc .vmem S1x1x16x64x512 .bf16) (harg6 : arg6.IsWhole) (arg7 : Memref sig .tc .vmem S1x1x4x64x512 .f32) (harg7 : arg7.IsWhole) (arg8 : Memref sig .tc .vmem S3x512x512 .f32) (harg8 : arg8.IsWhole)
    (x0 : Vec Ideal S1x1x4x128x512 .bf16) (x1 : Vec Ideal S1x1x8192x128 .bf16) (x2 : Vec Ideal S1x1x16x64x512 .bf16) (xt0 : TabBuf (F := Ideal) c flagM) (u : Fin 4) (e : Fin 64) (r : Fin 512)
    (s : Fin 8192 → ℝ) (hs : ∀ κ, ∑ d : Fin 128, (x1 (ix4 0 0 κ d) : EReal) * x0 (ix5 0 0 u d r) = (s κ : EReal)) :
    View.canon (bodyPieces (F := Ideal) c i arg4 harg4 arg5 harg5 arg6 harg6 arg7 harg7 arg8 harg8 x0 x1 x2 xt0) (ix5 0 0 u e r)
      = attend s (fun κ => x2 (ix5 0 0 ⟨κ.val / 512, by omega⟩ e ⟨κ.val % 512, by omega⟩)) := by
  unfold bodyPieces
  split
  · rename_i h
    rw [fastRun_pieces]
    refine (canon_four (fun u => fastTile (F := Ideal) (qAt arg4 (harg4.unread x0) u) (kAt arg5 (harg5.unread x1)) (vAt arg6 (harg6.unread x2))) u e r).trans ?_
    refine fastTile_at _ _ _ e r s _ (fun j hj κ => ?_) (fun j hj κ => vAt_at arg6 harg6 x2 j hj e κ)
    simp only [kAt_at arg5 harg5 x1 j hj, qAt_at arg4 harg4 x0]
    exact hs _
  · rename_i h
    show View.canon (tilePieces (F := Ideal) c i arg4 harg4 arg5 harg5 arg6 harg6 arg7 harg7 arg8 harg8 (harg4.unread x0) (harg5.unread x1) (harg6.unread x2) 4) _ = _
    rw [tilePieces_four]
    refine (canon_four (fun u => onOf arg4 arg5 arg6 (harg4.unread x0) (harg5.unread x1) (harg6.unread x2) u) u e r).trans ?_
    refine onTile_at _ _ e r s _ (fun j hj κ => ?_) (fun j hj κ => vAt5_at arg6 harg6 x2 j hj e κ)
    rw [onScore_at]
    simp only [kAt5_at arg5 harg5 x1 j hj, qAt_at arg4 harg4 x0]
    exact hs _

end Cert.KernelIdeal.Attn
-- ==== Proof.ArrayValue.lean ====
/- The kernel's result array: the attention of every query over its head's keys and values. -/
module

public import proofs.«01_k».proof.Proof.BodyValue

@[expose] public section

set_option maxRecDepth 16384

noncomputable section

namespace Cert.KernelIdeal.Attn

open Cert.KernelIdeal Cert.KernelIdeal.Gen Cert.Softmax
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The score of key `κ` for query `r` of tile `t`. -/
def score (Q : FVec Ideal S2x8x16x128x512 .bf16) (K : FVec Ideal S2x8x8192x128 .bf16) (b : Fin 2) (h : Fin 8) (t : Fin 16) (r : Fin 512) (κ : Fin 8192) : EReal :=
  ∑ d : Fin 128, (K (ix4 b h κ d) : EReal) * Q (ix5 b h t d r)

/-- The result array as a function of the queries, the keys and the values. -/
def G (Q : FVec Ideal S2x8x16x128x512 .bf16) (K : FVec Ideal S2x8x8192x128 .bf16) (V : FVec Ideal S2x8x16x64x512 .bf16) : FVec Ideal S2x8x16x64x512 .f32 := fun i =>
  attend (fun κ => (score Q K (i 0) (i 1) (i 2) (i 4) κ).toReal)
    (fun κ => V (ix5 (i 0) (i 1) ⟨κ.val / 512, by omega⟩ (i 3) ⟨κ.val % 512, by omega⟩))

theorem idx : ∀ t : Fin (cfgM m).N, ((cfgM m).win 0).index t = ![(grid0.coords t 0).val, (grid0.coords t 1).val, (grid0.coords t 2).val, 0, 0]
    ∧ ((cfgM m).win 1).index t = ![(grid0.coords t 0).val, (grid0.coords t 1).val, 0, 0]
    ∧ ((cfgM m).win 2).index t = ![(grid0.coords t 0).val, (grid0.coords t 1).val, 0, 0, 0]
    ∧ ((cfgM m).win 3).index t = ![(grid0.coords t 0).val, (grid0.coords t 1).val, (grid0.coords t 2).val, 0, 0] :=
  (by decide +kernel : ∀ t : Fin grid0.N, cc0_transform_0 (grid0.coords t) = ![(grid0.coords t 0).val, (grid0.coords t 1).val, (grid0.coords t 2).val, 0, 0]
    ∧ cc0_transform_1 (grid0.coords t) = ![(grid0.coords t 0).val, (grid0.coords t 1).val, 0, 0]
    ∧ cc0_transform_2 (grid0.coords t) = ![(grid0.coords t 0).val, (grid0.coords t 1).val, 0, 0, 0]
    ∧ cc0_transform_3 (grid0.coords t) = ![(grid0.coords t 0).val, (grid0.coords t 1).val, (grid0.coords t 2).val, 0, 0])

theorem covers : ((cfgM m).win 3).Covers := by
  have : ((cfg0 (F := Ideal) ⟨fun w => match w with | ⟨0, _⟩ => fun _ => (0#32 : BitVec 32), trivial⟩).win 3).Covers := by decide +kernel
  exact this

/-- A step's query block, read at an index. -/
theorem blk_q (c : Dev nD) (t : Fin (cfgM m).N) (u : Fin 4) (d : Fin 128) (r : Fin 512) (i : S2x8x16x128x512.Idx) (h0 : (i 0).val = (grid0.coords t 0).val) (h1 : (i 1).val = (grid0.coords t 1).val)
    (h2 : (i 2).val = (grid0.coords t 2).val * 4 + u.val) (h3 : (i 3).val = d.val) (h4 : (i 4).val = r.val) : blk m c 0 t (ix5 0 0 u d r : S1x1x4x128x512.Idx) = (m ((c : Thread nD τ).loc main_arg1) : FVec Ideal S2x8x16x128x512 .bf16) i := by
  blk_ext [blk, V, idx m t]

/-- A step's key block, read at an index. -/
theorem blk_k (c : Dev nD) (t : Fin (cfgM m).N) (κ : Fin 8192) (d : Fin 128) : blk m c 1 t (ix4 0 0 κ d : S1x1x8192x128.Idx) = (m ((c : Thread nD τ).loc main_arg2) : FVec Ideal S2x8x8192x128 .bf16) (ix4 (grid0.coords t 0) (grid0.coords t 1) κ d) := by
  blk_ext [blk, V, idx m t]

/-- A step's value block, read at an index. -/
theorem blk_v (c : Dev nD) (t : Fin (cfgM m).N) (n : Fin 16) (e : Fin 64) (r : Fin 512) : blk m c 2 t (ix5 0 0 n e r : S1x1x16x64x512.Idx) = (m ((c : Thread nD τ).loc main_arg3) : FVec Ideal S2x8x16x64x512 .bf16) (ix5 (grid0.coords t 0) (grid0.coords t 1) n e r) := by
  blk_ext [blk, V, idx m t]

/-- Which of the sixteen tiles of queries a step's tile `u` is. -/
def tile (t : Fin (cfgM m).N) (u : Fin 4) : Fin 16 := ⟨(grid0.coords t 2).val * 4 + u.val, by have h : (grid0.coords t 2).val < 4 := (grid0.coords t 2).isLt; omega⟩

/-- Where the output's block lies in the array. -/
theorem emb_o (t : Fin (cfgM m).N) (u : Fin 4) (e : Fin 64) (r : Fin 512) :
    (((cfgM m).win 3).blk t).view.emb (ix5 0 0 u e r : S1x1x4x64x512.Idx) = (ix5 (grid0.coords t 0) (grid0.coords t 1) (tile m t u) e r : S2x8x16x64x512.Idx) := by
  funext a
  fin_cases a <;> apply Fin.ext <;> blk_simp [idx m t] <;> simp [tile]

/-- What a step leaves of the output, at an index. -/
theorem out_at (c : Dev nD) (hreal : ∀ (b : Fin 2) (h : Fin 8) (t : Fin 16) (r : Fin 512) (κ : Fin 8192), ∃ ρ : ℝ,
      score (m ((c : Thread nD τ).loc main_arg1)) (m ((c : Thread nD τ).loc main_arg2)) b h t r κ = ρ) (t : Fin (cfgM m).N) (u : Fin 4) (e : Fin 64) (r : Fin 512) :
    outAt m c t (ix5 0 0 u e r) = G (m ((c : Thread nD τ).loc main_arg1)) (m ((c : Thread nD τ).loc main_arg2)) (m ((c : Thread nD τ).loc main_arg3)) (ix5 (grid0.coords t 0) (grid0.coords t 1) (tile m t u) e r) := by
  unfold outAt
  rw [View.read_writes_junk_apply_eq_canon]
  refine (body_value c (grid0.coords t) _ _ _ _ _ _ _ _ _ _ (blk m c 0 t) (blk m c 1 t) (blk m c 2 t) _ u e r
    (fun κ => (score (m ((c : Thread nD τ).loc main_arg1)) (m ((c : Thread nD τ).loc main_arg2)) (grid0.coords t 0) (grid0.coords t 1) (tile m t u) r κ).toReal) (fun κ => ?_)).trans ?_
  · obtain ⟨ρ, hρ⟩ := hreal (grid0.coords t 0) (grid0.coords t 1) (tile m t u) r κ
    rw [hρ, EReal.toReal_coe, ← hρ]
    refine Finset.sum_congr rfl fun d _ => ?_
    rw [blk_k, blk_q m c t u d r (ix5 (grid0.coords t 0) (grid0.coords t 1) (tile m t u) d r) rfl rfl rfl rfl rfl]
  · refine congrArg (attend _) (funext fun κ => ?_)
    exact blk_v m c t _ e _

/-- The result array after the last step. -/
theorem final (c : Dev nD) (hreal : ∀ (b : Fin 2) (h : Fin 8) (t : Fin 16) (r : Fin 512) (κ : Fin 8192), ∃ ρ : ℝ,
      score (m ((c : Thread nD τ).loc main_arg1)) (m ((c : Thread nD τ).loc main_arg2)) b h t r κ = ρ) :
    (dats m 0 c).arrAt 3 (cfgM m).N = G (m ((c : Thread nD τ).loc main_arg1)) (m ((c : Thread nD τ).loc main_arg2)) (m ((c : Thread nD τ).loc main_arg3)) := by
  refine (dats m 0 c).arrAt_eq_of_covers 3 _ (covers m) fun t _ y => ?_
  blk_simp
  rw [after_o]
  obtain ⟨u, e, r, rfl⟩ : ∃ (u : Fin 4) (e : Fin 64) (r : Fin 512), y = (ix5 0 0 u e r : S1x1x4x64x512.Idx) := by
    have h (y : S1x1x4x64x512.Idx) : y = ix5 0 0 (y 2) (y 3) (y 4) := by
      refine (eq_ix5 y).trans ?_
      have h0 : y 0 = (0 : Fin 1) := (Subsingleton.elim (α := Fin 1) _ _)
      have h1 : y 1 = (0 : Fin 1) := (Subsingleton.elim (α := Fin 1) _ _)
      exact congrArg₂ (fun p q : Fin 1 => (ix5 p q (y 2) (y 3) (y 4) : S1x1x4x64x512.Idx)) h0 h1
    exact ⟨_, _, _, h y⟩
  exact (out_at m c hreal t u e r).trans (congrArg _ (emb_o m t u e r).symm)

end Cert.KernelIdeal.Attn
-- ==== Proof.RefValue.lean ====
/- The reference's result at an index. -/
module

public import proofs.«01_k».proof.Proof.Gen.ReferenceIdeal.Run
public import proofs.«01_k».proof.Proof.Softmax
public import Idealize.ShloMosaic.Lib.Pointwise

@[expose] public section

set_option maxRecDepth 16384

noncomputable section

namespace Cert.ReferenceIdeal.Attn

open Cert.ReferenceIdeal Cert.ReferenceIdeal.Gen Cert.Softmax
open Idealize.ShloMosaic Idealize.ShloMosaic.TcCoe Idealize.SL.Sem

/-- The queries, one row each. -/
def refQ (Q : FVec Ideal S2x8x16x128x512 .bf16) : FVec Ideal S2x8x8192x128 .f32 :=
  shapeCast _ (transpose S2x8x16x512x128 [0, 1, 2, 4, 3] (extf .f32 Q bitsLt_bf16_f32) transposes_S2x8x16x128x512_S2x8x16x512x128_0_1_2_4_3) shapeCasts_S2x8x16x512x128_S2x8x8192x128

/-- The values, one row each. -/
def refV (V : FVec Ideal S2x8x16x64x512 .bf16) : FVec Ideal S2x8x8192x64 .f32 :=
  shapeCast _ (transpose S2x8x16x512x64 [0, 1, 2, 4, 3] (extf .f32 V bitsLt_bf16_f32) transposes_S2x8x16x64x512_S2x8x16x512x64_0_1_2_4_3) shapeCasts_S2x8x16x512x64_S2x8x8192x64

/-- The scores, as exponents of `e`. -/
def refX (Q : FVec Ideal S2x8x16x128x512 .bf16) (K : FVec Ideal S2x8x8192x128 .bf16) : FVec Ideal S2x8x8192x8192 .f32 :=
  mulf (Host.dotGeneral dot_S2x8x8192x128_S2x8x8192x128_S2x8x8192x8192_3_3_2_2_01_01 none (refQ Q) (extf .f32 K bitsLt_bf16_f32 : FVec Ideal S2x8x8192x128 .f32))
    (broadcastInDim S2x8x8192x8192 ![] bcast_S_S2x8x8192x8192 (Host.log (constant S_ .f32 0x40000000#32)))

/-- The largest score of each query. -/
def refM (X : FVec Ideal S2x8x8192x8192 .f32) : FVec Ideal S2x8x8192 .f32 :=
  maximumf (broadcastInDim S2x8x8192 ![] bcast_S_S2x8x8192 (constant S_ .f32 0xFF800000#32)) (Host.reduce FloatOps.maximumf X (constant S_ .f32 0xFF800000#32) reducesTo_S2x8x8192x8192_S2x8x8192_d3 h_S_)

/-- The weights before they are normalised. -/
def refE (X : FVec Ideal S2x8x8192x8192 .f32) : FVec Ideal S2x8x8192x8192 .f32 :=
  Host.exp (subf X (broadcastInDim S2x8x8192x8192 ![0, 1, 2, 3] bcast_S2x8x8192x1_S2x8x8192x8192_0_1_2_3 (broadcastInDim S2x8x8192x1 ![0, 1, 2] bcast_S2x8x8192_S2x8x8192x1_0_1_2 (refM X))))

/-- The weights. -/
def refP (E : FVec Ideal S2x8x8192x8192 .f32) : FVec Ideal S2x8x8192x8192 .f32 :=
  Host.divf E (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduceAdd E (constant S_ .f32 0x00000000#32) reducesTo_S2x8x8192x8192_S2x8x8192_d3 h_S_)))

/-- The reference's result, of its three arrays. -/
def REF (Q : FVec Ideal S2x8x16x128x512 .bf16) (K : FVec Ideal S2x8x8192x128 .bf16) (V : FVec Ideal S2x8x16x64x512 .bf16) : FVec Ideal S2x8x16x64x512 .f32 :=
  transpose S2x8x16x64x512 [0, 1, 2, 4, 3] (shapeCast S2x8x16x512x64 (Host.dotGeneral dot_S2x8x8192x8192_S2x8x8192x64_S2x8x8192x64_3_2_2_3_01_01 none (refP (refE (refX Q K))) (refV V)) shapeCasts_S2x8x8192x64_S2x8x16x512x64) transposes_S2x8x16x512x64_S2x8x16x64x512_0_1_2_4_3

theorem two_lit : Ideal.ofBits .f32 0x40000000#32 = ((2 : ℝ) : EReal) := by
  simp [Ideal.ofBits, Ideal.ieee, -EReal.coe_mul]; norm_num

theorem neg_inf : Ideal.ofBits .f32 0xFF800000#32 = (⊥ : EReal) := by
  simp [Ideal.ofBits, Ideal.ieee, -EReal.coe_mul]

theorem refX_at (Q : FVec Ideal S2x8x16x128x512 .bf16) (K : FVec Ideal S2x8x8192x128 .bf16) (b : Fin 2) (h : Fin 8) (q κ : Fin 8192) :
    refX Q K (ix4 b h q κ) = (∑ d : Fin 128, (Q (ix5 b h ⟨q.val / 512, by omega⟩ d ⟨q.val % 512, by omega⟩) : EReal) * K (ix4 b h κ d)) * ((Real.log 2 : ℝ) : EReal) := by
  pointwise [refX, refQ]
  rw [two_lit, Ideal.log_coe, if_neg (by norm_num)]

/-- The largest of finitely many reals along one axis, at least one, is a real. -/
theorem reduce_max_real {s t u : Shape} {a : Fin s.rank} (f : EReal → EReal → EReal) (hf : f = max) (x : s.Idx → EReal) (hx : ∀ i, ∃ ρ : ℝ, x i = ρ) (init : u.Idx → EReal) (h' : s.ReducesTo [a] t) (h : s.Reduces [a] t)
    (hu : 0 < u.numel) (hinit : ∀ i, init i = ⊥) (ha : 0 < s.size a) (j : t.Idx) : ∃ ρ : ℝ, f ⊥ (Host.reduce f x init h' hu j) = ρ := by
  subst hf
  rw [Host.reduce_eq_fold_single _ x init h' h hu j, hinit, max_eq_right bot_le]
  exact fold_max_real _ _ (fun k => hx _) ⟨⟨0, ha⟩, Finset.mem_univ _⟩

theorem reduces_scores : S2x8x8192x8192.Reduces [3] S2x8x8192 := by decide

theorem maximumf_eq : (FloatOps.maximumf : Ideal .f32 → Ideal .f32 → Ideal .f32) = (max : EReal → EReal → EReal) := rfl

theorem start_at (i : S_.Idx) : (constant (F := Ideal) S_ .f32 0xFF800000#32) i = (⊥ : EReal) := neg_inf

theorem refM_read (X : FVec Ideal S2x8x8192x8192 .f32) (j : S2x8x8192.Idx) : refM X j = FloatOps.maximumf (F := Ideal) (broadcastInDim S2x8x8192 ![] bcast_S_S2x8x8192 (constant (F := Ideal) S_ .f32 0xFF800000#32) j)
    (Host.reduce FloatOps.maximumf X (constant (F := Ideal) S_ .f32 0xFF800000#32) reducesTo_S2x8x8192x8192_S2x8x8192_d3 h_S_ j) := by
  unfold refM
  rw [maximumf]

theorem refM_real (X : FVec Ideal S2x8x8192x8192 .f32) (hX : ∀ i, ∃ ρ : ℝ, X i = (ρ : EReal)) (j : S2x8x8192.Idx) : ∃ ρ : ℝ, refM X j = (ρ : EReal) := by
  obtain ⟨ρ, hρ⟩ := reduce_max_real _ maximumf_eq X hX (constant (F := Ideal) S_ .f32 0xFF800000#32) reducesTo_S2x8x8192x8192_S2x8x8192_d3 reduces_scores h_S_ start_at (by show 0 < 8192; omega) j
  refine ⟨ρ, ?_⟩
  have e : broadcastInDim S2x8x8192 ![] bcast_S_S2x8x8192 (constant (F := Ideal) S_ .f32 0xFF800000#32) j = (⊥ : EReal) := start_at _
  rw [refM_read, e]
  exact hρ

theorem refE_at (X : FVec Ideal S2x8x8192x8192 .f32) (b : Fin 2) (h : Fin 8) (q κ : Fin 8192) :
    refE X (ix4 b h q κ) = Ideal.exp ((X (ix4 b h q κ) : EReal) - refM X (ix3 b h q)) := by
  pointwise [refE]

theorem refP_at (E : FVec Ideal S2x8x8192x8192 .f32) (b : Fin 2) (h : Fin 8) (q κ : Fin 8192) :
    refP E (ix4 b h q κ) = Ideal.div (E (ix4 b h q κ)) (∑ l : Fin 8192, E (ix4 b h q l)) := by
  pointwise [refP]

theorem REF_at (Q : FVec Ideal S2x8x16x128x512 .bf16) (K : FVec Ideal S2x8x8192x128 .bf16) (V : FVec Ideal S2x8x16x64x512 .bf16) (b : Fin 2) (h : Fin 8) (t : Fin 16) (e : Fin 64) (r : Fin 512) :
    REF Q K V (ix5 b h t e r) = ∑ κ : Fin 8192, (refP (refE (refX Q K)) (ix4 b h ⟨t.val * 512 + r.val, by omega⟩ κ) : EReal) * V (ix5 b h ⟨κ.val / 512, by omega⟩ e ⟨κ.val % 512, by omega⟩) := by
  pointwise [REF, refV]

/-- At real scores the reference is the attention of the query at the index. -/
theorem REF_eq (Q : FVec Ideal S2x8x16x128x512 .bf16) (K : FVec Ideal S2x8x8192x128 .bf16) (V : FVec Ideal S2x8x16x64x512 .bf16) (hQ : ∀ i, ∃ ρ : ℝ, Q i = (ρ : EReal)) (hK : ∀ i, ∃ ρ : ℝ, K i = (ρ : EReal))
    (b : Fin 2) (h : Fin 8) (t : Fin 16) (e : Fin 64) (r : Fin 512) (s : Fin 8192 → ℝ)
    (hs : ∀ κ, ∑ d : Fin 128, (K (ix4 b h κ d) : EReal) * Q (ix5 b h t d r) = (s κ : EReal)) :
    REF Q K V (ix5 b h t e r) = attend s (fun κ => V (ix5 b h ⟨κ.val / 512, by omega⟩ e ⟨κ.val % 512, by omega⟩)) := by
  have hX : ∀ i, ∃ ρ : ℝ, refX Q K i = (ρ : EReal) := by
    refine fun i => ?_
    obtain ⟨b, h, q, κ, rfl⟩ : ∃ (b : Fin 2) (h : Fin 8) (q κ : Fin 8192), i = ix4 b h q κ := ⟨i 0, i 1, i 2, i 3, eq_ix4 i⟩
    obtain ⟨Qr, hQr⟩ := Classical.axiomOfChoice hQ
    obtain ⟨Kr, hKr⟩ := Classical.axiomOfChoice hK
    rw [refX_at]
    simp only [hQr, hKr, ← EReal.coe_mul, ← coe_sum]
    exact ⟨_, rfl⟩
  obtain ⟨M, hM⟩ := refM_real (refX Q K) hX (ix3 b h ⟨t.val * 512 + r.val, by omega⟩)
  have hx : ∀ κ, (refX Q K (ix4 b h ⟨t.val * 512 + r.val, by omega⟩ κ) : EReal) = ((s κ * Real.log 2 : ℝ) : EReal) := by
    intro κ
    rw [refX_at, EReal.coe_mul, ← hs κ]
    refine congrArg (fun z : EReal => z * ((Real.log 2 : ℝ) : EReal)) (Finset.sum_congr rfl fun d _ => ?_)
    rw [mul_comm]
    have e1 : (⟨(t.val * 512 + r.val) / 512, by omega⟩ : Fin 16) = t := Fin.ext (by simp only []; omega)
    have e2 : (⟨(t.val * 512 + r.val) % 512, by omega⟩ : Fin 512) = r := Fin.ext (by simp only []; omega)
    simp only [e1, e2]
  rw [REF_at]
  simp only [refP_at, refE_at, hM, hx]
  exact attend_of_weights s _ M

end Cert.ReferenceIdeal.Attn
-- ==== Proof.Finite.lean ====
/- What the precondition says: every query and every key is a real number. -/
module

public import proofs.«01_k».proof.Pre_finite_queries_keys
public import Idealize.ShloMosaic.Lib.ReduceAll
public import Idealize.ShloMosaic.Lib.Affine
public import Idealize.ShloMosaic.PureOps.Ideal

@[expose] public section

noncomputable section

namespace Cert.Pre_finite_queries_keys

open Idealize.ShloMosaic

/-- The side conditions of the precondition's operations. -/
instance facts : Facts where
  bcast_S_S2x8x16x128x512 := by decide
  reducesTo_S2x8x16x128x512_S_d0_1_2_3_4 := by decide
  h_S_ := by decide
  bcast_S_S2x8x8192x128 := by decide
  reducesTo_S2x8x8192x128_S_d0_1_2_3 := by decide

theorem inf_lit : Ideal.ofBits .bf16 0x7F80#16 = (⊤ : EReal) := by
  simp [Ideal.ofBits, Ideal.ieee, -EReal.coe_mul]

/-- An extended real whose absolute value lies below infinity is real. -/
theorem real_of_abs_lt (x : EReal) (h : Ideal.cmp .olt (max x (-x)) ⊤ = 1#1) : ∃ ρ : ℝ, x = (ρ : EReal) := by
  have hx : max x (-x) < ⊤ := by
    by_contra hn
    simp [Ideal.cmp, hn] at h
  induction x using EReal.rec with
  | bot => simp at hx
  | coe ρ => exact ⟨ρ, rfl⟩
  | top => simp at hx

instance : Subsingleton S_.Idx := ⟨fun a b => funext fun d => d.elim0⟩

/-- If every element of an array passes the comparison, every element is real. -/
theorem real_of_all {s : Shape} {axes : List (Fin s.rank)} (x : FVec Ideal s .bf16) (hb : S_.BroadcastsInDim s (![] : Fin 0 → Fin s.rank)) (hr : s.ReducesTo axes S_) (hu : 0 < S_.numel) (j : S_.Idx)
    (h : Host.reduce IntOp.andi (cmpf .olt (Host.absf x) (broadcastInDim s ![] hb (constant S_ .bf16 0x7F80#16))) (constantI S_ 1 1#1) hr hu j = 1#1) (i : s.Idx) : ∃ ρ : ℝ, x i = (ρ : EReal) := by
  have e := Host.reduce_andi_all _ _ _ _ j h i
  refine real_of_abs_lt (x i) ?_
  rw [← inf_lit]
  exact e

/-- Under the precondition every query and every key is real. -/
theorem real (f : IVec S1 32) (Q : FVec Ideal S2x8x16x128x512 .bf16) (K : FVec Ideal S2x8x8192x128 .bf16) (V : FVec Ideal S2x8x16x64x512 .bf16) (h : fn (F := Ideal) f Q K V = fun _ => 1#1) :
    (∀ i, ∃ ρ : ℝ, Q i = (ρ : EReal)) ∧ ∀ i, ∃ ρ : ℝ, K i = (ρ : EReal) := by
  have e := congrFun h (fun d => d.elim0)
  obtain ⟨hq, hk⟩ := IntOp.andi_eq_one.1 e
  exact ⟨real_of_all Q _ _ _ _ hq, real_of_all K _ _ _ _ hk⟩

end Cert.Pre_finite_queries_keys
-- ==== Proof.Algebraic.lean ====
/- The kernel and the reference end with the same result array. -/
module

public import proofs.«01_k».proof.Proof.ArrayValue
public import proofs.«01_k».proof.Proof.RefValue
public import proofs.«01_k».proof.Proof.Finite
public import proofs.«01_k».proof.Defs

@[expose] public section

noncomputable section

namespace Cert.Attn

open Idealize.ShloMosaic Idealize.ShloMosaic.TcCoe Idealize.SL.Sem
open Cert.Softmax

/-- The scores of real queries and keys are real. -/
theorem score_real (Q : FVec Ideal Cert.KernelIdeal.S2x8x16x128x512 .bf16) (K : FVec Ideal Cert.KernelIdeal.S2x8x8192x128 .bf16) (hQ : ∀ i, ∃ ρ : ℝ, Q i = (ρ : EReal)) (hK : ∀ i, ∃ ρ : ℝ, K i = (ρ : EReal))
    (b : Fin 2) (h : Fin 8) (t : Fin 16) (r : Fin 512) (κ : Fin 8192) : ∃ ρ : ℝ, Cert.KernelIdeal.Attn.score Q K b h t r κ = ρ := by
  obtain ⟨Qr, hQr⟩ := Classical.axiomOfChoice hQ
  obtain ⟨Kr, hKr⟩ := Classical.axiomOfChoice hK
  unfold Cert.KernelIdeal.Attn.score
  simp only [hQr, hKr, ← EReal.coe_mul, ← coe_sum]
  exact ⟨_, rfl⟩

/-- On real queries and keys the reference's result is the kernel's. -/
theorem reference_eq (Q : FVec Ideal Cert.KernelIdeal.S2x8x16x128x512 .bf16) (K : FVec Ideal Cert.KernelIdeal.S2x8x8192x128 .bf16) (V : FVec Ideal Cert.KernelIdeal.S2x8x16x64x512 .bf16) (hQ : ∀ i, ∃ ρ : ℝ, Q i = (ρ : EReal)) (hK : ∀ i, ∃ ρ : ℝ, K i = (ρ : EReal)) :
    Cert.ReferenceIdeal.Attn.REF Q K V = Cert.KernelIdeal.Attn.G Q K V := by
  funext i
  obtain ⟨b, h, t, e, r, rfl⟩ : ∃ (b : Fin 2) (h : Fin 8) (t : Fin 16) (e : Fin 64) (r : Fin 512), i = ix5 b h t e r := ⟨i 0, i 1, i 2, i 3, i 4, eq_ix5 i⟩
  refine Cert.ReferenceIdeal.Attn.REF_eq Q K V hQ hK b h t e r (fun κ => (Cert.KernelIdeal.Attn.score Q K b h t r κ).toReal) fun κ => ?_
  obtain ⟨ρ, hρ⟩ := score_real Q K hQ hK b h t r κ
  rw [hρ, EReal.toReal_coe, ← hρ]
  rfl

/-- On finite queries and keys the kernel, idealized, computes the reference. -/
theorem algebraic : Cert.algebraic_KernelIdeal_ReferenceIdeal_pre_finite_queries_keys := by
  intro m g m' g' hpre hargs
  have hreal := fun c => Cert.Pre_finite_queries_keys.real _ _ _ _ (hpre c)
  refine ⟨fun c => Cert.KernelIdeal.Attn.G (m (c.tc.loc Cert.KernelIdeal.main_arg1)) (m (c.tc.loc Cert.KernelIdeal.main_arg2)) (m (c.tc.loc Cert.KernelIdeal.main_arg3)), ?_, ?_⟩
  · refine (θ_run _ _ _).mono (fun r h c => ?_) (Cert.KernelIdeal.Attn.run_main (F := Ideal) m g)
    obtain ⟨⟨h0, ha⟩, _⟩ := h c
    exact ⟨h0.trans (Cert.KernelIdeal.Attn.final m c (score_real _ _ (hreal c).1 (hreal c).2)), ha⟩
  · refine (θ_run _ _ _).mono (fun r h c => ?_) (Cert.ReferenceIdeal.Value.run (F := Ideal) m' g')
    obtain ⟨h0, ha⟩ := h c
    refine ⟨h0.trans ?_, ha⟩
    obtain ⟨_, e1, e2, e3⟩ := hargs c
    rw [e1, e2, e3]
    exact reference_eq _ _ _ (hreal c).1 (hreal c).2

end Cert.Attn

end
-- ==== Proof.FfnFrames.lean ====
/- The frames of the feed-forward kernel as printed and idealized (one text, so one run serves both), and of its reference. -/
module

public import proofs.«01_k».proof.Defs
public import proofs.«01_k».proof.Proof.Gen.Kernel2
public import proofs.«01_k».proof.Proof.Gen.Reference2Ideal.Run
public import proofs.«01_k».proof.Proof.Gen.Kernel2Ideal.Frame

@[expose] public section

noncomputable section

namespace Cert.Ffn

open Idealize.ShloMosaic Idealize.SL.Sem

/-- The kernel as printed terminates with its arguments unchanged and every semaphore at zero. -/
theorem frame_kernel : Cert.quiescent_Kernel2 :=
  Eq.mp (by sl_kernel_rfl : (∀ (m : (ℓ : Loc Cert.Kernel2Ideal.nD Cert.Kernel2Ideal.τ Cert.Kernel2Ideal.sig) → Buf (Elt Bits) ℓ) (g : Dev Cert.Kernel2Ideal.nD → PrngReg), True →
      θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
        r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
        ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
        ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
        ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
        ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
        ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
        ∧ r.2.sem = fun _ => 0)) = Cert.quiescent_Kernel2)
    fun m ρ _ => Cert.Kernel2Ideal.Gen.frame (F := Bits) m ρ

/-- So does its idealization, -/
theorem frame_ideal : Cert.quiescent_Kernel2Ideal := fun m ρ _ => Cert.Kernel2Ideal.Gen.frame (F := Ideal) m ρ

/-- and the reference. -/
theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Ffn

end
-- ==== Proof.FfnStores.lean ====
/- One grid point of the feed-forward kernel as lists of stores, over any float instance: every scratch buffer's list
   as a function of the list before it. -/
module

public import proofs.«01_k».proof.Proof.Gen.Kernel2Ideal.Value
public import Idealize.ShloMosaic.Lib.Pipeline.ReadBack

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic

variable {F : FTy → Type} [FloatOps F]

/-- The stores `P 0, …, P (n - 1)` over the list `L`, the last one first. -/
def stack {s : Shape} {e : EltTy} (P : ℕ → View.Piece (Elt F) s e) (L : List (View.Piece (Elt F) s e)) (n : ℕ) : List (View.Piece (Elt F) s e) :=
  Nat.rec L (fun k l => P k :: l) n

/-! ## The rows, permuted -/

theorem inbPm (n : ℕ) : ∀ a, (![n % 8, 72 * (n / 8 % 8), 0] : Fin 3 → ℕ) a + S1x64x128.size a ≤ S8x576x128.size a := by
  intro a; have := Nat.mod_lt n (show 8 > 0 by decide); have := Nat.mod_lt (n / 8) (show 8 > 0 by decide); fin_cases a <;> simp [Shape.size] <;> omega

theorem slPm (n : ℕ) : S512x1024.Slices ![64 * (n / 8 % 8), 128 * (n % 8)] S64x128 := by
  refine ⟨rfl, fun a => ?_⟩
  have := Nat.mod_lt n (show 8 > 0 by decide); have := Nat.mod_lt (n / 8) (show 8 > 0 by decide); fin_cases a <;> simp [Shape.size] <;> omega

/-- Store `n`: rows `64 (n / 8) …`, lanes `128 (n % 8) …` of the block. -/
def pmP (x : Vec F S1x512x1024 .f32) (n : ℕ) : View.Piece (Elt F) S8x576x128 .f32 :=
  ⟨Rect.unit (s := S8x576x128) ![n % 8, 72 * (n / 8 % 8), 0] S1x64x128.size (inbPm n),
    shapeCast S1x64x128 (extractStridedSlice S64x128 ![64 * (n / 8 % 8), 128 * (n % 8)] (shapeCast S512x1024 x shapeCasts_S1x512x1024_S512x1024 : FVec F S512x1024 .f32) (slPm n) : FVec F S64x128 .f32) shapeCasts_S64x128_S1x64x128⟩

/-- The block of rows as loaded. -/
def xAt (arg2 : Memref sig .tc .vmem S1x512x1024 .f32) (harg2 : arg2.IsWhole) (x0 : Vec F S1x512x1024 .f32) : Vec F S1x512x1024 .f32 :=
  View.readAt (Elt F) arg2.view (Rect.unit (s := S1x512x1024) ![0, 0, 0] S1x512x1024.size inb_S1x512x1024_S1x512x1024_0_0_0).toLoadRect (harg2.unread x0)

theorem pm_eq (c : Dev nD) (arg2 : Memref sig .tc .vmem S1x512x1024 .f32) (harg2 : arg2.IsWhole) (x0 : Vec F S1x512x1024 .f32) :
    kernelRun0_A.sl.HS0_64 c arg2 harg2 x0 = stack (pmP (xAt arg2 harg2 x0)) [] 64 := by sl_kernel_rfl

/-! ## Eight rows at a time, one of every sublane -/

theorem inbKj (k j : ℕ) : ∀ a, S1x8x128.size a = 0 ∨ (![j % 8, k % 64, 0] : Fin 3 → ℕ) a + (![1, 72, 1] : Fin 3 → ℕ) a * (S1x8x128.size a - 1) < S8x576x128.size a := by
  intro a; right; have := Nat.mod_lt j (show 8 > 0 by decide); have := Nat.mod_lt k (show 64 > 0 by decide); fin_cases a <;> simp [Shape.size] <;> omega

/-- Rows `k, k + 72, …` of lane block `j`. -/
def kjRect (k j : ℕ) : LoadRect S8x576x128 := { off := ![j % 8, k % 64, 0], size := S1x8x128.size, stride := ![1, 72, 1], inb := inbKj k j }

/-- Eight lane blocks side by side. -/
def xkV (w : ℕ → Vec F S1x8x128 .f32) : FVec F S8x1024 .f32 :=
  concatenate S8x1024 1 [⟨S8x128, (shapeCast S8x128 (w 0) shapeCasts_S1x8x128_S8x128 : FVec F S8x128 .f32)⟩, ⟨S8x128, (shapeCast S8x128 (w 1) shapeCasts_S1x8x128_S8x128 : FVec F S8x128 .f32)⟩,
    ⟨S8x128, (shapeCast S8x128 (w 2) shapeCasts_S1x8x128_S8x128 : FVec F S8x128 .f32)⟩, ⟨S8x128, (shapeCast S8x128 (w 3) shapeCasts_S1x8x128_S8x128 : FVec F S8x128 .f32)⟩,
    ⟨S8x128, (shapeCast S8x128 (w 4) shapeCasts_S1x8x128_S8x128 : FVec F S8x128 .f32)⟩, ⟨S8x128, (shapeCast S8x128 (w 5) shapeCasts_S1x8x128_S8x128 : FVec F S8x128 .f32)⟩,
    ⟨S8x128, (shapeCast S8x128 (w 6) shapeCasts_S1x8x128_S8x128 : FVec F S8x128 .f32)⟩, ⟨S8x128, (shapeCast S8x128 (w 7) shapeCasts_S1x8x128_S8x128 : FVec F S8x128 .f32)⟩]
    concatenates_S8x128_S8x128_S8x128_S8x128_S8x128_S8x128_S8x128_S8x128_S8x1024_d1

/-- Eight rows over their root mean squares, times the gain. -/
def rmsV (g : FVec F S1x1024 .f32) (x : FVec F S8x1024 .f32) : FVec F S8x1024 .bf16 :=
  truncf .bf16 (mulf (mulf x (broadcastTo S8x1024 (rsqrt (addf (divf (shapeCast S8x1 (multiReduction .add [1] S8 (mulf x x) 0x00000000#32 reduces_S8x1024_S8 (.inl rfl) rfl : FVec F S8 .f32) shapeCasts_S8_S8x1 : FVec F S8x1 .f32)
    (broadcast S8x1 (Scalar.ofBits .f32 0x44800000#32 : F .f32))) (broadcast S8x1 (Scalar.ofBits .f32 0x358637BD#32 : F .f32))) : FVec F S8x1 .f32) broadcasts_S8x1_S8x1024)) (broadcastTo S8x1024 g broadcasts_S1x1024_S8x1024)) bitsLt_bf16_f32

theorem inbRes (k : ℕ) : ∀ a, (![8 * (k % 64), 0] : Fin 2 → ℕ) a + S8x1024.size a ≤ S512x1024.size a := by
  intro a; have := Nat.mod_lt k (show 64 > 0 by decide); fin_cases a <;> simp [Shape.size] <;> omega

theorem inbXe (k : ℕ) : ∀ a, (![8 * (k % 66), 0] : Fin 2 → ℕ) a + S8x1024.size a ≤ S528x1024.size a := by
  intro a; have := Nat.mod_lt k (show 66 > 0 by decide); fin_cases a <;> simp [Shape.size] <;> omega

/-- The rows of step `k`. -/
def rowsAt (arg11 : Memref sig .tc .vmem S8x576x128 .f32) (L : List (View.Piece (Elt F) S8x576x128 .f32)) (k : ℕ) : FVec F S8x1024 .f32 :=
  xkV fun j => arg11.view.readCov L (kjRect k j)

/-- Store `k` of the rows. -/
def resP (arg11 : Memref sig .tc .vmem S8x576x128 .f32) (L : List (View.Piece (Elt F) S8x576x128 .f32)) (k : ℕ) : View.Piece (Elt F) S512x1024 .f32 :=
  ⟨Rect.unit (s := S512x1024) ![8 * (k % 64), 0] S8x1024.size (inbRes k), shapeCast S8x1024 (rowsAt arg11 L k) shapeCasts_S8x1024_S8x1024⟩

/-- Store `k` of eight normalised rows. -/
def xeP (g : FVec F S1x1024 .f32) (w : ℕ → FVec F S8x1024 .f32) (k : ℕ) : View.Piece (Elt F) S528x1024 .bf16 :=
  ⟨Rect.unit (s := S528x1024) ![8 * (k % 66), 0] S8x1024.size (inbXe k), shapeCast S8x1024 (rmsV g (w k)) shapeCasts_S8x1024_S8x1024⟩

/-- The gain. -/
def gainAt (arg5 : Memref sig .tc .vmem S1x1024 .f32) (harg5 : arg5.IsWhole) (x3 : Vec F S1x1024 .f32) : FVec F S1x1024 .f32 :=
  shapeCast S1x1024 (View.readAt (Elt F) arg5.view (Rect.unit (s := S1x1024) ![0, 0] S1x1024.size inb_S1x1024_S1x1024_0_0).toLoadRect (harg5.unread x3) : Vec F S1x1024 .f32) shapeCasts_S1x1024_S1x1024

/-- Eight rows of a neighbouring block, or zeros at the end `e` of the sequence. -/
def haloV (e t : BitVec 32) (arg3 : Memref sig .tc .vmem S1x8x1024 .f32) (harg3 : arg3.IsWhole) (x1 : Vec F S1x8x1024 .f32) : FVec F S8x1024 .f32 :=
  Scalar.select (Scalar.cmpi .eq t e) (broadcast S8x1024 (Scalar.ofBits .f32 0x00000000#32 : F .f32))
    (shapeCast S8x1024 (View.readAt (Elt F) arg3.view (Rect.unit (s := S1x8x1024) ![0, 0, 0] S1x8x1024.size inb_S1x8x1024_S1x8x1024_0_0_0).toLoadRect (harg3.unread x1) : Vec F S1x8x1024 .f32) shapeCasts_S1x8x1024_S8x1024)

/-- The rows of step `k`: 64 steps of the block, the rows before it, the rows after it. -/
def stepRows (arg11 : Memref sig .tc .vmem S8x576x128 .f32) (L : List (View.Piece (Elt F) S8x576x128 .f32)) (p n : FVec F S8x1024 .f32) (k : ℕ) : FVec F S8x1024 .f32 :=
  bif Nat.blt k 64 then rowsAt arg11 L k else bif Nat.beq k 64 then p else n

theorem res_eq (c : Dev nD) (arg2 : Memref sig .tc .vmem S1x512x1024 .f32) (harg2 : arg2.IsWhole) (arg11 : Memref sig .tc .vmem S8x576x128 .f32) (x0 : Vec F S1x512x1024 .f32) :
    kernelRun0_A.sl.HS1_64 c arg2 harg2 arg11 x0 = stack (resP arg11 (kernelRun0_A.sl.HS0_64 c arg2 harg2 x0)) [] 64 := by sl_kernel_rfl

theorem xe_eq (c : Dev nD) (i : grid0.Coords) (arg2 : Memref sig .tc .vmem S1x512x1024 .f32) (harg2 : arg2.IsWhole) (arg3 : Memref sig .tc .vmem S1x8x1024 .f32) (harg3 : arg3.IsWhole)
    (arg4 : Memref sig .tc .vmem S1x8x1024 .f32) (harg4 : arg4.IsWhole) (arg5 : Memref sig .tc .vmem S1x1024 .f32) (harg5 : arg5.IsWhole) (arg11 : Memref sig .tc .vmem S8x576x128 .f32)
    (x0 : Vec F S1x512x1024 .f32) (x1 x2 : Vec F S1x8x1024 .f32) (x3 : Vec F S1x1024 .f32) :
    kernelRun0_A.sl.HS2_66 c i arg2 harg2 arg3 harg3 arg4 harg4 arg5 harg5 arg11 x0 x1 x2 x3
      = stack (xeP (gainAt arg5 harg5 x3) (stepRows arg11 (kernelRun0_A.sl.HS0_64 c arg2 harg2 x0)
          (haloV 0#32 (BitVec.ofNat 32 (i 1).val) arg3 harg3 x1) (haloV 15#32 (BitVec.ofNat 32 (i 1).val) arg4 harg4 x2))) [] 66 := by sl_kernel_rfl

/-! ## The up projection -/

theorem inbSlot (n : ℕ) : ∀ a, (![n % 3, 0, 0] : Fin 3 → ℕ) a + S1x528x256.size a ≤ S3x528x256.size a := by
  intro a; have := Nat.mod_lt n (show 3 > 0 by decide); fin_cases a <;> simp [Shape.size] <;> omega

theorem inbW (n : ℕ) : ∀ a, (![0, 256 * (n % 22)] : Fin 2 → ℕ) a + S1024x256.size a ≤ S1024x5632.size a := by
  intro a; have := Nat.mod_lt n (show 22 > 0 by decide); fin_cases a <;> simp [Shape.size] <;> omega

/-- 256 columns of the up projection. -/
def wAt (arg6 : Memref sig .tc .vmem S1024x5632 .bf16) (harg6 : arg6.IsWhole) (x4 : Vec F S1024x5632 .bf16) (n : ℕ) : Vec F S1024x256 .bf16 :=
  View.readAt (Elt F) arg6.view (Rect.unit (s := S1024x5632) ![0, 256 * (n % 22)] S1024x256.size (inbW n)).toLoadRect (harg6.unread x4)

/-- Store `n` of 256 features of every row, columns `256 (o + n) …`. -/
def slotP (o : ℕ) (xe : Vec F S528x1024 .bf16) (w : ℕ → Vec F S1024x256 .bf16) (n : ℕ) : View.Piece (Elt F) S3x528x256 .f32 :=
  ⟨Rect.unit (s := S3x528x256) ![n % 3, 0, 0] S1x528x256.size (inbSlot n),
    shapeCast S1x528x256 (matmul dot_S528x1024_S1024x256_S528x256_1_0_0_1_n_n none (xe : FVec F S528x1024 .bf16) (shapeCast S1024x256 (w (o + n)) shapeCasts_S1024x256_S1024x256 : FVec F S1024x256 .bf16) (constant S528x256 .f32 0x00000000#32) : FVec F S528x256 .f32) shapeCasts_S528x256_S1x528x256⟩

/-! ## The convolution of 256 features -/

theorem inb8 (n o : ℕ) : ∀ a, (![n % 3, 8 * (o % 66), 0] : Fin 3 → ℕ) a + S1x8x256.size a ≤ S3x528x256.size a := by
  intro a; have := Nat.mod_lt n (show 3 > 0 by decide); have := Nat.mod_lt o (show 66 > 0 by decide); fin_cases a <;> simp [Shape.size] <;> omega

theorem inb504 (n o : ℕ) : ∀ a, (![n % 3, 8 * (o % 4), 0] : Fin 3 → ℕ) a + S1x504x256.size a ≤ S3x528x256.size a := by
  intro a; have := Nat.mod_lt n (show 3 > 0 by decide); have := Nat.mod_lt o (show 4 > 0 by decide); fin_cases a <;> simp [Shape.size] <;> omega

theorem inb512 (n : ℕ) : ∀ a, (![n % 3, 0, 0] : Fin 3 → ℕ) a + S1x512x256.size a ≤ S3x528x256.size a := by
  intro a; have := Nat.mod_lt n (show 3 > 0 by decide); fin_cases a <;> simp [Shape.size] <;> omega

/-- Eight rows `8 o …` of a slot. -/
def r8 (n o : ℕ) : Rect S3x528x256 := Rect.unit (s := S3x528x256) ![n % 3, 8 * (o % 66), 0] S1x8x256.size (inb8 n o)
/-- 504 rows `8 o …` of a slot. -/
def r504 (n o : ℕ) : Rect S3x528x256 := Rect.unit (s := S3x528x256) ![n % 3, 8 * (o % 4), 0] S1x504x256.size (inb504 n o)
/-- The block's 512 rows of a slot. -/
def r512 (n : ℕ) : Rect S3x528x256 := Rect.unit (s := S3x528x256) ![n % 3, 0, 0] S1x512x256.size (inb512 n)

/-- The rows before, the rows themselves and the rows after, weighted by the three taps, with the bias. -/
def convV (first last bef aft : Vec F S1x8x256 .f32) (lo hi : Vec F S1x504x256 .f32) (here : Vec F S1x512x256 .f32) (cw : Vec F S3x256 .f32) (cb : Vec F S1x256 .f32) : FVec F S512x256 .f32 :=
  addf (addf (addf (broadcastTo S512x256 (shapeCast S1x256 cb shapeCasts_S1x256_S1x256 : FVec F S1x256 .f32) broadcasts_S1x256_S512x256)
      (mulf (broadcastTo S512x256 (extractStridedSlice S1x256 ![0, 0] cw slices_S3x256_o0_0_S1x256 : FVec F S1x256 .f32) broadcasts_S1x256_S512x256)
        (concatenate S512x256 0 [⟨S8x256, (dynamicRotate 0 1#32 none (select (cmpi .eq (iota .tc S8x256 32 [0] iota_S8x256_d0_w32) (broadcast S8x256 7#32)) (shapeCast S8x256 bef shapeCasts_S1x8x256_S8x256 : FVec F S8x256 .f32) (shapeCast S8x256 last shapeCasts_S1x8x256_S8x256 : FVec F S8x256 .f32)) rotates_S8x256_d0 : FVec F S8x256 .f32)⟩,
          ⟨S504x256, (shapeCast S504x256 lo shapeCasts_S1x504x256_S504x256 : FVec F S504x256 .f32)⟩] concatenates_S8x256_S504x256_S512x256_d0)))
      (mulf (broadcastTo S512x256 (extractStridedSlice S1x256 ![1, 0] cw slices_S3x256_o1_0_S1x256 : FVec F S1x256 .f32) broadcasts_S1x256_S512x256) (shapeCast S512x256 here shapeCasts_S1x512x256_S512x256 : FVec F S512x256 .f32)))
    (mulf (broadcastTo S512x256 (extractStridedSlice S1x256 ![2, 0] cw slices_S3x256_o2_0_S1x256 : FVec F S1x256 .f32) broadcasts_S1x256_S512x256)
      (concatenate S512x256 0 [⟨S504x256, (shapeCast S504x256 hi shapeCasts_S1x504x256_S504x256 : FVec F S504x256 .f32)⟩,
        ⟨S8x256, (dynamicRotate 0 7#32 none (select (cmpi .eq (iota .tc S8x256 32 [0] iota_S8x256_d0_w32) (broadcast S8x256 0#32)) (shapeCast S8x256 aft shapeCasts_S1x8x256_S8x256 : FVec F S8x256 .f32) (shapeCast S8x256 first shapeCasts_S1x8x256_S8x256 : FVec F S8x256 .f32)) rotates_S8x256_d0 : FVec F S8x256 .f32)⟩] concatenates_S504x256_S8x256_S512x256_d0))

/-- The convolution of slot `n` of a buffer. -/
def convAt (v : Memref sig .tc .vmem S3x528x256 .f32) (L : List (View.Piece (Elt F) S3x528x256 .f32)) (n : ℕ) (cw : Vec F S3x256 .f32) (cb : Vec F S1x256 .f32) : FVec F S512x256 .f32 :=
  convV (v.view.readCov L (r8 n 0).toLoadRect) (v.view.readCov L (r8 n 63).toLoadRect) (v.view.readCov L (r8 n 64).toLoadRect) (v.view.readCov L (r8 n 65).toLoadRect)
    (v.view.readCov L (r504 n 0).toLoadRect) (v.view.readCov L (r504 n 1).toLoadRect) (v.view.readCov L (r512 n).toLoadRect) cw cb

theorem inbCw (n : ℕ) : ∀ a, (![0, 256 * (n % 22)] : Fin 2 → ℕ) a + S3x256.size a ≤ S3x5632.size a := by
  intro a; have := Nat.mod_lt n (show 22 > 0 by decide); fin_cases a <;> simp [Shape.size] <;> omega

theorem inbCb (n : ℕ) : ∀ a, (![0, 256 * (n % 22)] : Fin 2 → ℕ) a + S1x256.size a ≤ S1x5632.size a := by
  intro a; have := Nat.mod_lt n (show 22 > 0 by decide); fin_cases a <;> simp [Shape.size] <;> omega

/-- The taps of 256 features. -/
def cwAt (arg7 : Memref sig .tc .vmem S3x5632 .f32) (harg7 : arg7.IsWhole) (x5 : Vec F S3x5632 .f32) (n : ℕ) : Vec F S3x256 .f32 :=
  View.readAt (Elt F) arg7.view (Rect.unit (s := S3x5632) ![0, 256 * (n % 22)] S3x256.size (inbCw n)).toLoadRect (harg7.unread x5)

/-- The biases of 256 features. -/
def cbAt (arg8 : Memref sig .tc .vmem S1x5632 .f32) (harg8 : arg8.IsWhole) (x6 : Vec F S1x5632 .f32) (n : ℕ) : Vec F S1x256 .f32 :=
  View.readAt (Elt F) arg8.view (Rect.unit (s := S1x5632) ![0, 256 * (n % 22)] S1x256.size (inbCb n)).toLoadRect (harg8.unread x6)

theorem inbAct (n : ℕ) : ∀ a, (![0, 256 * (n % 11)] : Fin 2 → ℕ) a + S512x256.size a ≤ S512x2816.size a := by
  intro a; have := Nat.mod_lt n (show 11 > 0 by decide); fin_cases a <;> simp [Shape.size] <;> omega

/-- Store `n` of the gated features: columns `256 n …`. -/
def actP (g u : ℕ → FVec F S512x256 .f32) (n : ℕ) : View.Piece (Elt F) S512x2816 .bf16 :=
  ⟨Rect.unit (s := S512x2816) ![0, 256 * (n % 11)] S512x256.size (inbAct n),
    shapeCast S512x256 (truncf .bf16 (mulf (mulf (g n) (logistic (g n))) (u n)) bitsLt_bf16_f32 : FVec F S512x256 .bf16) shapeCasts_S512x256_S512x256⟩

/-- How many stores of features are made before those of step `n` are read. -/
def made (n : ℕ) : ℕ := bif Nat.blt n 9 then n + 3 else 11

/-! ## The down projection and the rows in order -/

/-- The rows plus the gated features' projection. -/
def downV (res : Vec F S512x1024 .f32) (act : Vec F S512x2816 .bf16) (w : Vec F S2816x1024 .bf16) : FVec F S512x1024 .f32 :=
  addf (res : FVec F S512x1024 .f32) (matmul dot_S512x2816_S2816x1024_S512x1024_1_0_0_1_n_n none (act : FVec F S512x2816 .bf16) (shapeCast S2816x1024 w shapeCasts_S2816x1024_S2816x1024 : FVec F S2816x1024 .bf16) (constant S512x1024 .f32 0x00000000#32))

theorem slY (n : ℕ) : S512x1024.Slices ![8 * (n / 8 % 64), 128 * (n % 8)] S8x128 := by
  refine ⟨rfl, fun a => ?_⟩
  have := Nat.mod_lt n (show 8 > 0 by decide); have := Nat.mod_lt (n / 8) (show 64 > 0 by decide); fin_cases a <;> simp [Shape.size] <;> omega

/-- Store `n` of eight rows of the result, lane block `n % 8`, one row to a sublane. -/
def backP (y : FVec F S512x1024 .f32) (n : ℕ) : View.Piece (Elt F) S8x576x128 .f32 :=
  ⟨{ toLoadRect := kjRect (n / 8) (n % 8), stride_pos := fun a => (show 0 < (![1, 72, 1] : Fin 3 → ℕ) a by revert a; decide) },
    shapeCast S1x8x128 (extractStridedSlice S8x128 ![8 * (n / 8 % 64), 128 * (n % 8)] y (slY n) : FVec F S8x128 .f32) shapeCasts_S8x128_S1x8x128⟩

theorem inbOut (n : ℕ) : ∀ a, (![0, 64 * (n / 8 % 8), 128 * (n % 8)] : Fin 3 → ℕ) a + S1x64x128.size a ≤ S1x512x1024.size a := by
  intro a; have := Nat.mod_lt n (show 8 > 0 by decide); have := Nat.mod_lt (n / 8) (show 8 > 0 by decide); fin_cases a <;> simp [Shape.size] <;> omega

/-- Store `n` of the result: rows `64 (n / 8) …`, lanes `128 (n % 8) …`. -/
def outP (arg11 : Memref sig .tc .vmem S8x576x128 .f32) (L : List (View.Piece (Elt F) S8x576x128 .f32)) (n : ℕ) : View.Piece (Elt F) S1x512x1024 .f32 :=
  ⟨Rect.unit (s := S1x512x1024) ![0, 64 * (n / 8 % 8), 128 * (n % 8)] S1x64x128.size (inbOut n),
    shapeCast S1x64x128 (shapeCast S64x128 (arg11.view.readCov L (Rect.unit (s := S8x576x128) ![n % 8, 72 * (n / 8 % 8), 0] S1x64x128.size (inbPm n)).toLoadRect : Vec F S1x64x128 .f32) shapeCasts_S1x64x128_S64x128 : FVec F S64x128 .f32) shapeCasts_S64x128_S1x64x128⟩

section

variable (c : Dev nD) (i : grid0.Coords) (arg2 : Memref sig .tc .vmem S1x512x1024 .f32) (harg2 : arg2.IsWhole) (arg3 : Memref sig .tc .vmem S1x8x1024 .f32) (harg3 : arg3.IsWhole)
  (arg4 : Memref sig .tc .vmem S1x8x1024 .f32) (harg4 : arg4.IsWhole) (arg5 : Memref sig .tc .vmem S1x1024 .f32) (harg5 : arg5.IsWhole)
  (arg6 : Memref sig .tc .vmem S1024x5632 .bf16) (harg6 : arg6.IsWhole) (arg7 : Memref sig .tc .vmem S3x5632 .f32) (harg7 : arg7.IsWhole)
  (arg8 : Memref sig .tc .vmem S1x5632 .f32) (harg8 : arg8.IsWhole) (arg9 : Memref sig .tc .vmem S2816x1024 .bf16) (harg9 : arg9.IsWhole)
  (arg10 : Memref sig .tc .vmem S1x512x1024 .f32) (harg10 : arg10.IsWhole)
  (arg11 : Memref sig .tc .vmem S8x576x128 .f32) (harg11 : arg11.IsWhole) (arg12 : Memref sig .tc .vmem S512x1024 .f32) (harg12 : arg12.IsWhole) (arg13 : Memref sig .tc .vmem S528x1024 .bf16) (harg13 : arg13.IsWhole)
  (arg14 : Memref sig .tc .vmem S3x528x256 .f32) (harg14 : arg14.IsWhole) (arg15 : Memref sig .tc .vmem S3x528x256 .f32) (harg15 : arg15.IsWhole) (arg16 : Memref sig .tc .vmem S512x2816 .bf16) (harg16 : arg16.IsWhole)
  (x0 : Vec F S1x512x1024 .f32) (x1 x2 : Vec F S1x8x1024 .f32) (x3 : Vec F S1x1024 .f32) (x4 : Vec F S1024x5632 .bf16) (x5 : Vec F S3x5632 .f32) (x6 : Vec F S1x5632 .f32) (x7 : Vec F S2816x1024 .bf16)

/-- The gated features' stores. -/
theorem act_eq :
    kernelRun0_A.sl.HS5_11 c i arg2 harg2 arg3 harg3 arg4 harg4 arg5 harg5 arg6 harg6 arg7 harg7 arg8 harg8 arg11 arg13 arg14 arg15 x0 x1 x2 x3 x4 x5 x6
      = stack (actP
          (fun n => convAt arg14 (stack (slotP 0 (kernelRun0_A.sl.v2607 c i arg2 harg2 arg3 harg3 arg4 harg4 arg5 harg5 arg11 arg13 x0 x1 x2 x3) (wAt arg6 harg6 x4)) [] (made n)) n (cwAt arg7 harg7 x5 n) (cbAt arg8 harg8 x6 n))
          (fun n => convAt arg15 (stack (slotP 11 (kernelRun0_A.sl.v2607 c i arg2 harg2 arg3 harg3 arg4 harg4 arg5 harg5 arg11 arg13 x0 x1 x2 x3) (wAt arg6 harg6 x4)) [] (made n)) n (cwAt arg7 harg7 x5 (11 + n)) (cbAt arg8 harg8 x6 (11 + n)))) [] 11 := by sl_kernel_rfl

/-- The result before its rows are put in order. -/
def yAt : FVec F S512x1024 .f32 :=
  downV (kernelRun0_A.sl.v3707 c arg2 harg2 arg11 arg12 x0)
    (kernelRun0_A.sl.v3708 c i arg2 harg2 arg3 harg3 arg4 harg4 arg5 harg5 arg6 harg6 arg7 harg7 arg8 harg8 arg11 arg13 arg14 arg15 arg16 x0 x1 x2 x3 x4 x5 x6)
    (View.readAt (Elt F) arg9.view (Rect.unit (s := S2816x1024) ![0, 0] S2816x1024.size inb_S2816x1024_S2816x1024_0_0).toLoadRect (harg9.unread x7))

/-- The stores of the result, one row to a sublane, over the stores of the rows. -/
theorem back_eq :
    kernelRun0_A.sl.HS0_576 c i arg2 harg2 arg3 harg3 arg4 harg4 arg5 harg5 arg6 harg6 arg7 harg7 arg8 harg8 arg9 harg9 arg11 arg12 arg13 arg14 arg15 arg16 x0 x1 x2 x3 x4 x5 x6 x7
      = stack (backP (yAt c i arg2 harg2 arg3 harg3 arg4 harg4 arg5 harg5 arg6 harg6 arg7 harg7 arg8 harg8 arg9 harg9 arg11 arg12 arg13 arg14 arg15 arg16 x0 x1 x2 x3 x4 x5 x6 x7))
          (kernelRun0_A.sl.HS0_64 c arg2 harg2 x0) 512 := by sl_kernel_rfl

/-- The stores of a grid point's result. -/
theorem out_eq :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1
      = stack (outP arg11 (kernelRun0_A.sl.HS0_576 c i arg2 harg2 arg3 harg3 arg4 harg4 arg5 harg5 arg6 harg6 arg7 harg7 arg8 harg8 arg9 harg9 arg11 arg12 arg13 arg14 arg15 arg16 x0 x1 x2 x3 x4 x5 x6 x7)) [] 64 := by sl_kernel_rfl

end

end Cert.Kernel2Ideal.Ffn

end
-- ==== Proof.FfnSpec.lean ====
/- The gated feed-forward of one row of the residual stream, as a function of extended reals. -/
module

public import Idealize.ShloMosaic.PureOps.Ideal

@[expose] public section

noncomputable section

namespace Cert.Ffn

open Idealize.ShloMosaic

/-- A row over its root mean square, times a gain. -/
def unitRow (x g : Fin 1024 → EReal) (d : Fin 1024) : EReal :=
  x d * Ideal.rsqrt (Ideal.div (∑ k : Fin 1024, x k * x k) (Ideal.ofBits .f32 0x44800000#32) + Ideal.ofBits .f32 0x358637BD#32) * g d

/-- One feature of a row: the normalised row against one column of the up projection. -/
def up (x g w : Fin 1024 → EReal) : EReal := ∑ d : Fin 1024, unitRow x g d * w d

/-- A convolution of three neighbours, with a bias. -/
def conv (a b c w0 w1 w2 β : EReal) : EReal := β + w0 * a + w1 * b + w2 * c

/-- The gate `g` through SiLU, times `u`. -/
def gate (g u : EReal) : EReal := g * Ideal.logistic g * u

/-- The row of zeros has no features. -/
theorem up_zero (g w : Fin 1024 → EReal) : up (fun _ => 0) g w = 0 := by
  simp [up, unitRow]

/-- The three products of the convolution in another order. -/
theorem conv_comm (a b c w0 w1 w2 β : EReal) : a * w0 + β + b * w1 + c * w2 = conv a b c w0 w1 w2 β := by
  rw [conv, add_comm (a * w0) β, mul_comm a, mul_comm b, mul_comm c]

end Cert.Ffn

end
-- ==== Proof.FfnVec.lean ====
/- The feed-forward kernel's vector functions at the exact instance, read at an index. -/
module

public import proofs.«01_k».proof.Proof.FfnStores
public import proofs.«01_k».proof.Proof.FfnSpec
public import Idealize.ShloMosaic.Lib.Pointwise

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.SL.Sem

/-- A choice on the equality of two words. -/
theorem sel_eq {α : Type} {w : ℕ} (x y : BitVec w) (a b : α) : Scalar.select (IntOp.cmpi .eq x y) a b = if x = y then a else b := by
  show (if BitVec.ofBool (x == y) = 1 then a else b) = _
  by_cases h : x = y
  · rw [if_pos h, beq_iff_eq.2 h]; rfl
  · rw [if_neg h, beq_eq_false_iff_ne.2 h]; rfl

theorem ofNat_ne (n e : ℕ) (hn : n < 8) (he : e < 8) (h : n ≠ e) : BitVec.ofNat 32 n ≠ BitVec.ofNat 32 e := fun hc => h (by
  have h1 := congrArg BitVec.toNat hc
  rw [BitVec.toNat_ofNat, BitVec.toNat_ofNat, Nat.mod_eq_of_lt (by omega), Nat.mod_eq_of_lt (by omega)] at h1
  exact h1)

/-- A store of the permuted rows, read at an index. -/
theorem pmP_at (x : Vec Ideal S1x512x1024 .f32) (n : ℕ) (k : Fin 64) (l : Fin 128) :
    (pmP (F := Ideal) x n).2 (ix3 0 k l : S1x64x128.Idx) = x (ix3 0 ⟨64 * (n / 8 % 8) + k.val, by omega⟩ ⟨128 * (n % 8) + l.val, by omega⟩) := by
  pointwise [pmP]

/-- Eight lane blocks side by side, read at an index. -/
theorem xkV_at (w : ℕ → Vec Ideal S1x8x128 .f32) (a : Fin 8) (d : Fin 1024) :
    xkV (F := Ideal) w (ix2 a d) = w (d.val / 128) (ix3 0 a ⟨d.val % 128, by omega⟩) := by
  have hw (i x : ℕ) (hx : x < 128) (h : d.val = 128 * i + x) : w i (ix3 0 a ⟨x, hx⟩ : S1x8x128.Idx) = w (d.val / 128) (ix3 0 a ⟨d.val % 128, by omega⟩ : S1x8x128.Idx) := by
    have h1 : d.val / 128 = i := by omega
    have h2 : d.val % 128 = x := by omega
    subst h1; subst h2; rfl
  have hd := d.isLt
  pointwise [xkV]
  split_ifs
  all_goals exact hw _ _ _ (by omega)

/-- Eight normalised rows, read at an index. -/
theorem rmsV_at (g : FVec Ideal S1x1024 .f32) (x : FVec Ideal S8x1024 .f32) (a : Fin 8) (d : Fin 1024) :
    rmsV (F := Ideal) g x (ix2 a d) = unitRow (fun k => x (ix2 a k)) (fun k => g (ix2 0 k)) d := by
  pointwise [rmsV]
  rfl

/-- A store of features, read at an index. -/
theorem slotP_at (o : ℕ) (xe : Vec Ideal S528x1024 .bf16) (w : ℕ → Vec Ideal S1024x256 .bf16) (n : ℕ) (r : Fin 528) (l : Fin 256) :
    (slotP (F := Ideal) o xe w n).2 (ix3 0 r l : S1x528x256.Idx) = ∑ d : Fin 1024, (xe (ix2 r d) : EReal) * w (o + n) (ix2 d l) := by
  pointwise [slotP]

/-- The convolution of 256 features, read at an index. -/
theorem convV_at (first last bef aft : Vec Ideal S1x8x256 .f32) (lo hi : Vec Ideal S1x504x256 .f32) (here : Vec Ideal S1x512x256 .f32) (cw : Vec Ideal S3x256 .f32) (cb : Vec Ideal S1x256 .f32)
    (r : Fin 512) (l : Fin 256) :
    convV (F := Ideal) first last bef aft lo hi here cw cb (ix2 r l)
      = conv (if h : r.val < 8 then (if r.val = 0 then bef (ix3 0 7 l) else last (ix3 0 ⟨(r.val + 7) % 8, by omega⟩ l)) else lo (ix3 0 ⟨r.val - 8, by omega⟩ l)) (here (ix3 0 r l))
        (if h : r.val < 504 then hi (ix3 0 ⟨r.val, h⟩ l) else if r.val = 511 then aft (ix3 0 0 l) else first (ix3 0 ⟨(r.val - 503) % 8, by omega⟩ l))
        (cw (ix2 0 l)) (cw (ix2 1 l)) (cw (ix2 2 l)) (cb (ix2 0 l)) := by
  have hr := r.isLt
  have h1 : (if h : r.val < 8 then (Scalar.select (IntOp.cmpi CmpIPredicate.eq (BitVec.ofNat 32 ((r.val + 8 - 1) % 8)) 7#32) (bef (ix3 0 ⟨(r.val + 8 - 1) % 8, by omega⟩ l)) (last (ix3 0 ⟨(r.val + 8 - 1) % 8, by omega⟩ l)) : EReal)
        else lo (ix3 0 ⟨r.val - 8, by omega⟩ l))
      = if h : r.val < 8 then (if r.val = 0 then bef (ix3 0 7 l) else last (ix3 0 ⟨(r.val + 7) % 8, by omega⟩ l)) else lo (ix3 0 ⟨r.val - 8, by omega⟩ l) := by
    by_cases h : r.val < 8
    · rw [dif_pos h, dif_pos h]
      rw [sel_eq]
      by_cases h0 : r.val = 0
      · rw [if_pos h0, if_pos (congrArg (BitVec.ofNat 32) (by omega : (r.val + 8 - 1) % 8 = 7))]
        exact congrArg (fun z : Fin 8 => bef (ix3 0 z l)) (Fin.ext (by show (r.val + 8 - 1) % 8 = 7; omega))
      · rw [if_neg h0, if_neg (ofNat_ne _ 7 (by omega) (by omega) (by omega))]
        exact congrArg (fun z : Fin 8 => last (ix3 0 z l)) (Fin.ext (by show (r.val + 8 - 1) % 8 = (r.val + 7) % 8; omega))
    · rw [dif_neg h, dif_neg h]
  have h2 : (if h : r.val < 504 then hi (ix3 0 ⟨r.val, h⟩ l)
        else (Scalar.select (IntOp.cmpi CmpIPredicate.eq (BitVec.ofNat 32 ((r.val - 504 + 8 - 7) % 8)) 0#32) (aft (ix3 0 ⟨(r.val - 504 + 8 - 7) % 8, by omega⟩ l)) (first (ix3 0 ⟨(r.val - 504 + 8 - 7) % 8, by omega⟩ l)) : EReal))
      = if h : r.val < 504 then hi (ix3 0 ⟨r.val, h⟩ l) else if r.val = 511 then aft (ix3 0 0 l) else first (ix3 0 ⟨(r.val - 503) % 8, by omega⟩ l) := by
    by_cases h : r.val < 504
    · rw [dif_pos h, dif_pos h]
    · rw [dif_neg h, dif_neg h]
      rw [sel_eq]
      by_cases h0 : r.val = 511
      · rw [if_pos h0, if_pos (congrArg (BitVec.ofNat 32) (by omega : (r.val - 504 + 8 - 7) % 8 = 0))]
        exact congrArg (fun z : Fin 8 => aft (ix3 0 z l)) (Fin.ext (by show (r.val - 504 + 8 - 7) % 8 = 0; omega))
      · rw [if_neg h0, if_neg (ofNat_ne _ 0 (by omega) (by omega) (by omega))]
        exact congrArg (fun z : Fin 8 => first (ix3 0 z l)) (Fin.ext (by show (r.val - 504 + 8 - 7) % 8 = (r.val - 503) % 8; omega))
  rw [← h1, ← h2]
  pointwise [convV]
  rfl

/-- A store of gated features, read at an index. -/
theorem actP_at (g u : ℕ → FVec Ideal S512x256 .f32) (n : ℕ) (r : Fin 512) (l : Fin 256) :
    (actP (F := Ideal) g u n).2 (ix2 r l : S512x256.Idx) = gate (g n (ix2 r l)) (u n (ix2 r l)) := by
  pointwise [actP]
  rfl

/-- The result of a row, read at an index. -/
theorem downV_at (res : Vec Ideal S512x1024 .f32) (act : Vec Ideal S512x2816 .bf16) (w : Vec Ideal S2816x1024 .bf16) (r : Fin 512) (d : Fin 1024) :
    downV (F := Ideal) res act w (ix2 r d) = (res (ix2 r d) : EReal) + ∑ f : Fin 2816, (act (ix2 r f) : EReal) * w (ix2 f d) := by
  pointwise [downV]

/-- A store of the result's rows, one to a sublane, read at an index. -/
theorem backP_at (y : FVec Ideal S512x1024 .f32) (n : ℕ) (a : Fin 8) (l : Fin 128) :
    (backP (F := Ideal) y n).2 (ix3 0 a l : S1x8x128.Idx) = y (ix2 ⟨8 * (n / 8 % 64) + a.val, by omega⟩ ⟨128 * (n % 8) + l.val, by omega⟩) := by
  pointwise [backP]

/-- Eight rows of a neighbouring block, or zeros, read at an index. -/
theorem haloV_at (e : BitVec 32) (t : BitVec 32) (arg3 : Memref sig .tc .vmem S1x8x1024 .f32) (harg3 : arg3.IsWhole) (x1 : Vec Ideal S1x8x1024 .f32) (a : Fin 8) (d : Fin 1024) :
    haloV (F := Ideal) e t arg3 harg3 x1 (ix2 a d) = if t = e then (0 : EReal) else x1 (ix3 0 a d) := by
  pointwise [haloV]
  rw [View.readAt_eq_ld, harg3.read_unread]
  refine (sel_eq t e _ _).trans ?_
  pointwise []

end Cert.Kernel2Ideal.Ffn

end
-- ==== Proof.FfnBody.lean ====
/- What one grid point of the feed-forward kernel leaves of its result, at an index. -/
module

public import proofs.«01_k».proof.Proof.FfnVec
public import Idealize.ShloMosaic.Lib.WholeRead

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.SL.Sem

/-- A list of stores read at an index of store `n`, when no later store holds the index: what store `n` wrote. -/
theorem canon_stack {s : Shape} {e : EltTy} (P : ℕ → View.Piece (Elt Ideal) s e) (L : List (View.Piece (Elt Ideal) s e)) (n : ℕ) (x : (P n).1.shape.Idx) (y : s.Idx) (hy : y = (P n).1.emb x) :
    ∀ N : ℕ, n < N → (∀ k, n < k → k < N → y ∉ (P k).1.set) → View.canon (stack P L N) y = (P n).2 x
  | 0, h, _ => absurd h (Nat.not_lt_zero _)
  | N + 1, h, hm => by
    show View.canon (P N :: stack P L N) y = _
    by_cases hN : n = N
    · subst hN; subst hy
      exact View.canon_cons_emb _ _ _ _
    · rw [View.canon_cons_of_not_mem _ _ (hm N (by omega) (Nat.lt_succ_self N))]
      exact canon_stack P L n x y hy N (by omega) fun k h1 h2 => hm k h1 (by omega)

/-! ## The rows -/

theorem xAt_at (arg2 : Memref sig .tc .vmem S1x512x1024 .f32) (harg2 : arg2.IsWhole) (x0 : Vec Ideal S1x512x1024 .f32) (s : Fin 512) (d : Fin 1024) :
    xAt (F := Ideal) arg2 harg2 x0 (ix3 0 s d) = x0 (ix3 0 s d) := by
  unfold xAt
  rw [View.readAt_eq_ld, harg2.read_unread]
  pointwise []

/-- The permuted rows read back: lane block `j`, row `72 a + k`. -/
theorem pm_at (arg2 : Memref sig .tc .vmem S1x512x1024 .f32) (harg2 : arg2.IsWhole) (x0 : Vec Ideal S1x512x1024 .f32) (j a : Fin 8) (k : Fin 64) (l : Fin 128) :
    View.canon (stack (pmP (F := Ideal) (xAt arg2 harg2 x0)) [] 64) (ix3 j ⟨72 * a.val + k.val, by omega⟩ l : S8x576x128.Idx)
      = x0 (ix3 0 ⟨64 * a.val + k.val, by omega⟩ ⟨128 * j.val + l.val, by omega⟩) := by
  have hj := j.isLt
  have ha := a.isLt
  refine (canon_stack (pmP (F := Ideal) (xAt arg2 harg2 x0)) [] (8 * a.val + j.val) (ix3 0 k l : S1x64x128.Idx) _ ?_ 64 (by omega) ?_).trans ?_
  · funext c
    refine Fin.ext ?_
    fin_cases c
    · show j.val = (8 * a.val + j.val) % 8 + 1 * 0; omega
    · show 72 * a.val + k.val = 72 * ((8 * a.val + j.val) / 8 % 8) + 1 * k.val; omega
    · show l.val = 0 + 1 * l.val; omega
  · intro n h1 h2 hm
    have h := (Rect.mem_set_unit (inb := inbPm n)).1 hm
    have e0 : n % 8 ≤ j.val ∧ j.val < n % 8 + 1 := h (0 : Fin 3)
    have e1 : 72 * (n / 8 % 8) ≤ 72 * a.val + k.val ∧ 72 * a.val + k.val < 72 * (n / 8 % 8) + 64 := h (1 : Fin 3)
    omega
  · refine (pmP_at _ _ k l).trans ((xAt_at arg2 harg2 x0 _ _).trans ?_)
    exact congrArg₂ (fun y z => x0 (ix3 0 y z)) (Fin.ext (by show 64 * ((8 * a.val + j.val) / 8 % 8) + k.val = _; simp only []; omega)) (Fin.ext (by show 128 * ((8 * a.val + j.val) % 8) + l.val = _; simp only []; omega))

/-- The rows of a step read at an index. -/
theorem rowsAt_at (arg11 : Memref sig .tc .vmem S8x576x128 .f32) (arg2 : Memref sig .tc .vmem S1x512x1024 .f32) (harg2 : arg2.IsWhole) (x0 : Vec Ideal S1x512x1024 .f32) (k : ℕ) (hk : k < 64) (a : Fin 8) (d : Fin 1024) :
    rowsAt (F := Ideal) arg11 (stack (pmP (F := Ideal) (xAt arg2 harg2 x0)) [] 64) k (ix2 a d) = x0 (ix3 0 ⟨64 * a.val + k, by omega⟩ d) := by
  unfold rowsAt
  refine (xkV_at _ a d).trans ?_
  show arg11.view.readCov _ (kjRect k (d.val / 128)) (ix3 0 a ⟨d.val % 128, by omega⟩ : S1x8x128.Idx) = _
  rw [View.readCov_eq_canon']
  have e : (kjRect k (d.val / 128)).idx (ix3 0 a ⟨d.val % 128, by omega⟩ : S1x8x128.Idx) = (ix3 ⟨d.val / 128, by omega⟩ ⟨72 * a.val + k, by omega⟩ ⟨d.val % 128, by omega⟩ : S8x576x128.Idx) := by
    funext c
    refine Fin.ext ?_
    fin_cases c
    · show d.val / 128 % 8 + 1 * 0 = d.val / 128; omega
    · show k % 64 + 72 * a.val = 72 * a.val + k; omega
    · show 0 + 1 * (d.val % 128) = d.val % 128; omega
  refine (congrArg (View.canon _) e).trans ((pm_at arg2 harg2 x0 ⟨d.val / 128, by omega⟩ a ⟨k, hk⟩ ⟨d.val % 128, by omega⟩).trans ?_)
  exact congrArg (fun z => x0 (ix3 0 ⟨64 * a.val + k, by omega⟩ z)) (Fin.ext (by show 128 * (d.val / 128) + d.val % 128 = d.val; omega))

/-- Row `r` of the buffers: of the block (permuted) below 512, then the eight rows before it, then the eight after it. -/
def brow (i1 : ℕ) (x0 : Vec Ideal S1x512x1024 .f32) (x1 x2 : Vec Ideal S1x8x1024 .f32) (r : ℕ) (d : Fin 1024) : EReal :=
  if h : r < 512 then x0 (ix3 0 ⟨64 * (r % 8) + r / 8, by omega⟩ d)
  else if r < 520 then (if i1 = 0 then 0 else x1 (ix3 0 ⟨r % 8, by omega⟩ d))
  else (if i1 = 15 then 0 else x2 (ix3 0 ⟨r % 8, by omega⟩ d))

section

variable (c : Dev nD) (i : grid0.Coords) (arg2 : Memref sig .tc .vmem S1x512x1024 .f32) (harg2 : arg2.IsWhole) (arg3 : Memref sig .tc .vmem S1x8x1024 .f32) (harg3 : arg3.IsWhole)
  (arg4 : Memref sig .tc .vmem S1x8x1024 .f32) (harg4 : arg4.IsWhole) (arg5 : Memref sig .tc .vmem S1x1024 .f32) (harg5 : arg5.IsWhole)
  (arg6 : Memref sig .tc .vmem S1024x5632 .bf16) (harg6 : arg6.IsWhole) (arg7 : Memref sig .tc .vmem S3x5632 .f32) (harg7 : arg7.IsWhole)
  (arg8 : Memref sig .tc .vmem S1x5632 .f32) (harg8 : arg8.IsWhole) (arg9 : Memref sig .tc .vmem S2816x1024 .bf16) (harg9 : arg9.IsWhole)
  (arg10 : Memref sig .tc .vmem S1x512x1024 .f32) (harg10 : arg10.IsWhole)
  (arg11 : Memref sig .tc .vmem S8x576x128 .f32) (harg11 : arg11.IsWhole) (arg12 : Memref sig .tc .vmem S512x1024 .f32) (harg12 : arg12.IsWhole) (arg13 : Memref sig .tc .vmem S528x1024 .bf16) (harg13 : arg13.IsWhole)
  (arg14 : Memref sig .tc .vmem S3x528x256 .f32) (harg14 : arg14.IsWhole) (arg15 : Memref sig .tc .vmem S3x528x256 .f32) (harg15 : arg15.IsWhole) (arg16 : Memref sig .tc .vmem S512x2816 .bf16) (harg16 : arg16.IsWhole)
  (x0 : Vec Ideal S1x512x1024 .f32) (x1 x2 : Vec Ideal S1x8x1024 .f32) (x3 : Vec Ideal S1x1024 .f32) (x4 : Vec Ideal S1024x5632 .bf16) (x5 : Vec Ideal S3x5632 .f32) (x6 : Vec Ideal S1x5632 .f32) (x7 : Vec Ideal S2816x1024 .bf16)

/-- The permuted rows, read whole. -/
theorem res_at (r : Fin 512) (d : Fin 1024) :
    kernelRun0_A.sl.v3707 (F := Ideal) c arg2 harg2 arg11 arg12 x0 (ix2 r d : S512x1024.Idx) = x0 (ix3 0 ⟨64 * (r.val % 8) + r.val / 8, by omega⟩ d) := by
  show arg12.view.readCov (kernelRun0_A.sl.HS1_64 (F := Ideal) c arg2 harg2 arg11 x0) (Rect.unit (s := S512x1024) ![0, 0] S512x1024.size inb_S512x1024_S512x1024_0_0).toLoadRect (ix2 r d : S512x1024.Idx) = _
  rw [res_eq, pm_eq, View.readCov_eq_canon']
  have hr := r.isLt
  refine (canon_stack (resP (F := Ideal) arg11 (stack (pmP (xAt arg2 harg2 x0)) [] 64)) [] (r.val / 8) (ix2 ⟨r.val % 8, by omega⟩ d : S8x1024.Idx) _ ?_ 64 (by omega) ?_).trans ?_
  · funext c
    refine Fin.ext ?_
    fin_cases c
    · show 0 + 1 * r.val = 8 * (r.val / 8 % 64) + 1 * (r.val % 8); omega
    · show 0 + 1 * d.val = 0 + 1 * d.val; rfl
  · intro n h1 h2 hm
    have h := (Rect.mem_set_unit (inb := inbRes n)).1 hm
    have e0 : 8 * (n % 64) ≤ 0 + 1 * r.val ∧ 0 + 1 * r.val < 8 * (n % 64) + 8 := h (0 : Fin 2)
    omega
  · show shapeCast S8x1024 (rowsAt (F := Ideal) arg11 (stack (pmP (xAt arg2 harg2 x0)) [] 64) (r.val / 8)) shapeCasts_S8x1024_S8x1024 (ix2 ⟨r.val % 8, by omega⟩ d) = _
    pointwise []
    exact rowsAt_at arg11 arg2 harg2 x0 (r.val / 8) (by omega) ⟨r.val % 8, by omega⟩ d

theorem gainAt_at (d : Fin 1024) : gainAt (F := Ideal) arg5 harg5 x3 (ix2 0 d) = x3 (ix2 0 d) := by
  unfold gainAt
  pointwise []
  rw [View.readAt_eq_ld, harg5.read_unread]
  pointwise []

theorem ofNat_eq_iff (n e : ℕ) (hn : n < 16) (he : e < 16) : (BitVec.ofNat 32 n = BitVec.ofNat 32 e) = (n = e) := propext ⟨fun hc => by
  have h1 := congrArg BitVec.toNat hc
  rw [BitVec.toNat_ofNat, BitVec.toNat_ofNat, Nat.mod_eq_of_lt (by omega), Nat.mod_eq_of_lt (by omega)] at h1
  exact h1, fun h => h ▸ rfl⟩

/-- The normalised rows, read whole. -/
theorem xe_at (r : Fin 528) (d : Fin 1024) :
    kernelRun0_A.sl.v2607 (F := Ideal) c i arg2 harg2 arg3 harg3 arg4 harg4 arg5 harg5 arg11 arg13 x0 x1 x2 x3 (ix2 r d : S528x1024.Idx)
      = unitRow (brow (i 1).val x0 x1 x2 r.val) (fun k => x3 (ix2 0 k)) d := by
  show arg13.view.readCov (kernelRun0_A.sl.HS2_66 (F := Ideal) c i arg2 harg2 arg3 harg3 arg4 harg4 arg5 harg5 arg11 x0 x1 x2 x3) (Rect.unit (s := S528x1024) ![0, 0] S528x1024.size inb_S528x1024_S528x1024_0_0).toLoadRect (ix2 r d : S528x1024.Idx) = _
  rw [xe_eq, pm_eq, View.readCov_eq_canon']
  have hr := r.isLt
  have hi : (i 1).val < 16 := (i 1).isLt
  refine (canon_stack (xeP (F := Ideal) _ _) [] (r.val / 8) (ix2 ⟨r.val % 8, by omega⟩ d : S8x1024.Idx) _ ?_ 66 (by omega) ?_).trans ?_
  · funext c
    refine Fin.ext ?_
    fin_cases c
    · show 0 + 1 * r.val = 8 * (r.val / 8 % 66) + 1 * (r.val % 8); omega
    · show 0 + 1 * d.val = 0 + 1 * d.val; rfl
  · intro n h1 h2 hm
    have h := (Rect.mem_set_unit (inb := inbXe n)).1 hm
    have e0 : 8 * (n % 66) ≤ 0 + 1 * r.val ∧ 0 + 1 * r.val < 8 * (n % 66) + 8 := h (0 : Fin 2)
    omega
  · show shapeCast S8x1024 (rmsV (F := Ideal) (gainAt arg5 harg5 x3) (stepRows arg11 (stack (pmP (xAt arg2 harg2 x0)) [] 64)
          (haloV 0#32 (BitVec.ofNat 32 (i 1).val) arg3 harg3 x1) (haloV 15#32 (BitVec.ofNat 32 (i 1).val) arg4 harg4 x2) (r.val / 8))) shapeCasts_S8x1024_S8x1024 (ix2 ⟨r.val % 8, by omega⟩ d) = _
    pointwise []
    rw [rmsV_at]
    refine congrArg₂ (fun p q => unitRow p q d) (funext fun k => ?_) (funext fun k => gainAt_at arg5 harg5 x3 k)
    unfold stepRows brow
    by_cases h : r.val < 512
    · rw [dif_pos h, show Nat.blt (r.val / 8) 64 = true by rw [Nat.blt_eq]; omega]
      exact rowsAt_at arg11 arg2 harg2 x0 (r.val / 8) (by omega) ⟨r.val % 8, by omega⟩ k
    · rw [dif_neg h, show Nat.blt (r.val / 8) 64 = false from Bool.eq_false_iff.2 fun hc => by rw [Nat.blt_eq] at hc; omega]
      by_cases h' : r.val < 520
      · rw [if_pos h', show Nat.beq (r.val / 8) 64 = true by rw [Nat.beq_eq]; omega]
        refine (haloV_at 0#32 (BitVec.ofNat 32 (i 1).val) arg3 harg3 x1 ⟨r.val % 8, by omega⟩ k).trans ?_
        exact if_congr (iff_of_eq (ofNat_eq_iff _ 0 hi (by omega))) rfl rfl
      · rw [if_neg h', show Nat.beq (r.val / 8) 64 = false from Bool.eq_false_iff.2 fun hc => by rw [Nat.beq_eq] at hc; omega]
        refine (haloV_at 15#32 (BitVec.ofNat 32 (i 1).val) arg4 harg4 x2 ⟨r.val % 8, by omega⟩ k).trans ?_
        exact if_congr (iff_of_eq (ofNat_eq_iff _ 15 hi (by omega))) rfl rfl

end

end Cert.Kernel2Ideal.Ffn

end
-- ==== Proof.FfnOut.lean ====
/- The features of one grid point of the feed-forward kernel, convolved, gated and projected, at an index. -/
module

public import proofs.«01_k».proof.Proof.FfnBody

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.SL.Sem

theorem wAt_at (arg6 : Memref sig .tc .vmem S1024x5632 .bf16) (harg6 : arg6.IsWhole) (x4 : Vec Ideal S1024x5632 .bf16) (n : ℕ) (hn : n < 22) (d : Fin 1024) (l : Fin 256) :
    wAt (F := Ideal) arg6 harg6 x4 n (ix2 d l) = x4 (ix2 d ⟨256 * n + l.val, by omega⟩) := by
  unfold wAt
  rw [View.readAt_eq_ld, harg6.read_unread]
  pointwise []
  exact congrArg (fun z => x4 (ix2 d z)) (Fin.ext (by simp only []; omega))

theorem cwAt_at (arg7 : Memref sig .tc .vmem S3x5632 .f32) (harg7 : arg7.IsWhole) (x5 : Vec Ideal S3x5632 .f32) (n : ℕ) (hn : n < 22) (t : Fin 3) (l : Fin 256) :
    cwAt (F := Ideal) arg7 harg7 x5 n (ix2 t l) = x5 (ix2 t ⟨256 * n + l.val, by omega⟩) := by
  unfold cwAt
  rw [View.readAt_eq_ld, harg7.read_unread]
  pointwise []
  exact congrArg (fun z => x5 (ix2 t z)) (Fin.ext (by simp only []; omega))

theorem cbAt_at (arg8 : Memref sig .tc .vmem S1x5632 .f32) (harg8 : arg8.IsWhole) (x6 : Vec Ideal S1x5632 .f32) (n : ℕ) (hn : n < 22) (l : Fin 256) :
    cbAt (F := Ideal) arg8 harg8 x6 n (ix2 0 l) = x6 (ix2 0 ⟨256 * n + l.val, by omega⟩) := by
  unfold cbAt
  rw [View.readAt_eq_ld, harg8.read_unread]
  pointwise []
  exact congrArg (fun z => x6 (ix2 0 z)) (Fin.ext (by simp only []; omega))

/-- Slot `n` read at an index, after the stores made when step `n` reads it: what store `n` wrote. -/
theorem slot_at (o : ℕ) (xe : Vec Ideal S528x1024 .bf16) (w : ℕ → Vec Ideal S1024x256 .bf16) (n : ℕ) (hn : n < 11) (r : Fin 528) (l : Fin 256) (y : S3x528x256.Idx)
    (h0 : (y 0).val = n % 3) (h1 : (y 1).val = r.val) (h2 : (y 2).val = l.val) :
    View.canon (stack (slotP (F := Ideal) o xe w) [] (made n)) y = ∑ d : Fin 1024, (xe (ix2 r d) : EReal) * w (o + n) (ix2 d l) := by
  have hm : n < made n ∧ made n ≤ n + 3 := by
    unfold made
    by_cases h : n < 9
    · rw [show Nat.blt n 9 = true by rw [Nat.blt_eq]; omega]; exact ⟨by show n < n + 3; omega, le_refl _⟩
    · rw [show Nat.blt n 9 = false from Bool.eq_false_iff.2 fun hc => by rw [Nat.blt_eq] at hc; omega]; exact ⟨hn, by show 11 ≤ n + 3; omega⟩
  refine (canon_stack (slotP (F := Ideal) o xe w) [] n (ix3 0 r l : S1x528x256.Idx) y ?_ (made n) hm.1 ?_).trans (slotP_at o xe w n r l)
  · funext c
    refine Fin.ext ?_
    fin_cases c
    · show (y 0).val = n % 3 + 1 * 0; omega
    · show (y 1).val = 0 + 1 * r.val; omega
    · show (y 2).val = 0 + 1 * l.val; omega
  · intro k h3 h4 hk
    have h := (Rect.mem_set_unit (inb := inbSlot k)).1 hk
    have e0 : k % 3 ≤ (y 0).val ∧ (y 0).val < k % 3 + 1 := h (0 : Fin 3)
    omega

/-- The row before row `r` of a slot, and the row after it. -/
def before (r : ℕ) : ℕ := if r < 8 then (if r = 0 then 519 else 503 + r) else r - 8
def after (r : ℕ) : ℕ := if r < 504 then r + 8 else if r = 511 then 520 else r - 503

theorem conv_congr {a a' b b' e e' : EReal} (h1 : a = a') (h2 : b = b') (h3 : e = e') (w0 w1 w2 β : EReal) : conv a b e w0 w1 w2 β = conv a' b' e' w0 w1 w2 β := by
  rw [h1, h2, h3]

/-- The convolution of slot `n` at an index, from the features `ft` of its rows. -/
theorem convAt_at (v : Memref sig .tc .vmem S3x528x256 .f32) (o : ℕ) (xe : Vec Ideal S528x1024 .bf16) (w : ℕ → Vec Ideal S1024x256 .bf16) (n : ℕ) (hn : n < 11) (cw : Vec Ideal S3x256 .f32) (cb : Vec Ideal S1x256 .f32)
    (r : Fin 512) (l : Fin 256) (ft : ℕ → EReal) (hft : ∀ ρ : Fin 528, ft ρ.val = ∑ d : Fin 1024, (xe (ix2 ρ d) : EReal) * w (o + n) (ix2 d l)) :
    convAt (F := Ideal) v (stack (slotP (F := Ideal) o xe w) [] (made n)) n cw cb (ix2 r l)
      = conv (ft (before r.val)) (ft r.val) (ft (after r.val)) (cw (ix2 0 l)) (cw (ix2 1 l)) (cw (ix2 2 l)) (cb (ix2 0 l)) := by
  have hr := r.isLt
  have h8 (q : ℕ) (hq : q < 66) (a : Fin 8) : v.view.readCov (stack (slotP (F := Ideal) o xe w) [] (made n)) (r8 n q).toLoadRect (ix3 0 a l : S1x8x256.Idx) = ft (8 * q + a.val) := by
    rw [View.readCov_eq_canon']
    refine (slot_at o xe w n hn ⟨8 * q + a.val, by omega⟩ l _ ?_ ?_ ?_).trans (hft _).symm
    · show n % 3 + 1 * 0 = n % 3; omega
    · show 8 * (q % 66) + 1 * a.val = 8 * q + a.val; omega
    · show 0 + 1 * l.val = l.val; omega
  have h504 (q : ℕ) (hq : q < 4) (a : Fin 504) : v.view.readCov (stack (slotP (F := Ideal) o xe w) [] (made n)) (r504 n q).toLoadRect (ix3 0 a l : S1x504x256.Idx) = ft (8 * q + a.val) := by
    rw [View.readCov_eq_canon']
    refine (slot_at o xe w n hn ⟨8 * q + a.val, by omega⟩ l _ ?_ ?_ ?_).trans (hft _).symm
    · show n % 3 + 1 * 0 = n % 3; omega
    · show 8 * (q % 4) + 1 * a.val = 8 * q + a.val; omega
    · show 0 + 1 * l.val = l.val; omega
  have h512 (a : Fin 512) : v.view.readCov (stack (slotP (F := Ideal) o xe w) [] (made n)) (r512 n).toLoadRect (ix3 0 a l : S1x512x256.Idx) = ft a.val := by
    rw [View.readCov_eq_canon']
    refine (slot_at o xe w n hn ⟨a.val, by omega⟩ l _ ?_ ?_ ?_).trans (hft _).symm
    · show n % 3 + 1 * 0 = n % 3; omega
    · show 0 + 1 * a.val = a.val; omega
    · show 0 + 1 * l.val = l.val; omega
  unfold convAt
  refine (convV_at _ _ _ _ _ _ _ cw cb r l).trans ?_
  refine conv_congr ?_ (h512 r) ?_ _ _ _ _
  · unfold before
    by_cases h : r.val < 8
    · rw [dif_pos h, if_pos h]
      by_cases h0 : r.val = 0
      · rw [if_pos h0, if_pos h0]; exact h8 64 (by omega) 7
      · rw [if_neg h0, if_neg h0]; exact (h8 63 (by omega) ⟨(r.val + 7) % 8, by omega⟩).trans (congrArg ft (by show 8 * 63 + (r.val + 7) % 8 = 503 + r.val; omega))
    · rw [dif_neg h, if_neg h]; exact (h504 0 (by omega) ⟨r.val - 8, by omega⟩).trans (congrArg ft (by show 8 * 0 + (r.val - 8) = r.val - 8; omega))
  · unfold after
    by_cases h : r.val < 504
    · rw [dif_pos h, if_pos h]; exact (h504 1 (by omega) ⟨r.val, h⟩).trans (congrArg ft (by show 8 * 1 + r.val = r.val + 8; omega))
    · rw [dif_neg h, if_neg h]
      by_cases h0 : r.val = 511
      · rw [if_pos h0, if_pos h0]; exact h8 65 (by omega) 0
      · rw [if_neg h0, if_neg h0]; exact (h8 0 (by omega) ⟨(r.val - 503) % 8, by omega⟩).trans (congrArg ft (by show 8 * 0 + (r.val - 503) % 8 = r.val - 503; omega))

/-- Feature `f` of row `r` of the buffers. -/
def bfeat (i1 : ℕ) (x0 : Vec Ideal S1x512x1024 .f32) (x1 x2 : Vec Ideal S1x8x1024 .f32) (x3 : Vec Ideal S1x1024 .f32) (x4 : Vec Ideal S1024x5632 .bf16) (f : Fin 5632) (r : ℕ) : EReal :=
  up (brow i1 x0 x1 x2 r) (fun k => x3 (ix2 0 k)) (fun d => x4 (ix2 d f))

/-- The convolution of feature `f` at row `r` of the buffers. -/
def bconv (i1 : ℕ) (x0 : Vec Ideal S1x512x1024 .f32) (x1 x2 : Vec Ideal S1x8x1024 .f32) (x3 : Vec Ideal S1x1024 .f32) (x4 : Vec Ideal S1024x5632 .bf16) (x5 : Vec Ideal S3x5632 .f32) (x6 : Vec Ideal S1x5632 .f32) (r : ℕ) (f : Fin 5632) : EReal :=
  conv (bfeat i1 x0 x1 x2 x3 x4 f (before r)) (bfeat i1 x0 x1 x2 x3 x4 f r) (bfeat i1 x0 x1 x2 x3 x4 f (after r)) (x5 (ix2 0 f)) (x5 (ix2 1 f)) (x5 (ix2 2 f)) (x6 (ix2 0 f))

section

variable (c : Dev nD) (i : grid0.Coords) (arg2 : Memref sig .tc .vmem S1x512x1024 .f32) (harg2 : arg2.IsWhole) (arg3 : Memref sig .tc .vmem S1x8x1024 .f32) (harg3 : arg3.IsWhole)
  (arg4 : Memref sig .tc .vmem S1x8x1024 .f32) (harg4 : arg4.IsWhole) (arg5 : Memref sig .tc .vmem S1x1024 .f32) (harg5 : arg5.IsWhole)
  (arg6 : Memref sig .tc .vmem S1024x5632 .bf16) (harg6 : arg6.IsWhole) (arg7 : Memref sig .tc .vmem S3x5632 .f32) (harg7 : arg7.IsWhole)
  (arg8 : Memref sig .tc .vmem S1x5632 .f32) (harg8 : arg8.IsWhole) (arg9 : Memref sig .tc .vmem S2816x1024 .bf16) (harg9 : arg9.IsWhole)
  (arg10 : Memref sig .tc .vmem S1x512x1024 .f32) (harg10 : arg10.IsWhole)
  (arg11 : Memref sig .tc .vmem S8x576x128 .f32) (harg11 : arg11.IsWhole) (arg12 : Memref sig .tc .vmem S512x1024 .f32) (harg12 : arg12.IsWhole) (arg13 : Memref sig .tc .vmem S528x1024 .bf16) (harg13 : arg13.IsWhole)
  (arg14 : Memref sig .tc .vmem S3x528x256 .f32) (harg14 : arg14.IsWhole) (arg15 : Memref sig .tc .vmem S3x528x256 .f32) (harg15 : arg15.IsWhole) (arg16 : Memref sig .tc .vmem S512x2816 .bf16) (harg16 : arg16.IsWhole)
  (x0 : Vec Ideal S1x512x1024 .f32) (x1 x2 : Vec Ideal S1x8x1024 .f32) (x3 : Vec Ideal S1x1024 .f32) (x4 : Vec Ideal S1024x5632 .bf16) (x5 : Vec Ideal S3x5632 .f32) (x6 : Vec Ideal S1x5632 .f32) (x7 : Vec Ideal S2816x1024 .bf16)

/-- One step's convolution of either half of the features. -/
theorem conv_step (v : Memref sig .tc .vmem S3x528x256 .f32) (o n : ℕ) (ho : o ≤ 11) (hn : n < 11) (r : Fin 512) (l : Fin 256) :
    convAt (F := Ideal) v (stack (slotP (F := Ideal) o (kernelRun0_A.sl.v2607 c i arg2 harg2 arg3 harg3 arg4 harg4 arg5 harg5 arg11 arg13 x0 x1 x2 x3) (wAt arg6 harg6 x4)) [] (made n)) n (cwAt arg7 harg7 x5 (o + n)) (cbAt arg8 harg8 x6 (o + n)) (ix2 r l)
      = bconv (i 1).val x0 x1 x2 x3 x4 x5 x6 r.val ⟨256 * (o + n) + l.val, by omega⟩ := by
  refine (convAt_at v o _ _ n hn _ _ r l (bfeat (i 1).val x0 x1 x2 x3 x4 ⟨256 * (o + n) + l.val, by omega⟩) fun ρ => ?_).trans ?_
  · unfold bfeat up
    refine Finset.sum_congr rfl fun d _ => ?_
    rw [xe_at, wAt_at arg6 harg6 x4 (o + n) (by omega)]
  · rw [cwAt_at arg7 harg7 x5 (o + n) (by omega), cwAt_at arg7 harg7 x5 (o + n) (by omega), cwAt_at arg7 harg7 x5 (o + n) (by omega), cbAt_at arg8 harg8 x6 (o + n) (by omega)]
    rfl

/-- The gated features, read whole. -/
theorem act_at (r : Fin 512) (f : Fin 2816) :
    kernelRun0_A.sl.v3708 (F := Ideal) c i arg2 harg2 arg3 harg3 arg4 harg4 arg5 harg5 arg6 harg6 arg7 harg7 arg8 harg8 arg11 arg13 arg14 arg15 arg16 x0 x1 x2 x3 x4 x5 x6 (ix2 r f : S512x2816.Idx)
      = gate (bconv (i 1).val x0 x1 x2 x3 x4 x5 x6 r.val ⟨f.val, by omega⟩) (bconv (i 1).val x0 x1 x2 x3 x4 x5 x6 r.val ⟨2816 + f.val, by omega⟩) := by
  show arg16.view.readCov (kernelRun0_A.sl.HS5_11 (F := Ideal) c i arg2 harg2 arg3 harg3 arg4 harg4 arg5 harg5 arg6 harg6 arg7 harg7 arg8 harg8 arg11 arg13 arg14 arg15 x0 x1 x2 x3 x4 x5 x6) (Rect.unit (s := S512x2816) ![0, 0] S512x2816.size inb_S512x2816_S512x2816_0_0).toLoadRect (ix2 r f : S512x2816.Idx) = _
  rw [act_eq, View.readCov_eq_canon']
  have hf := f.isLt
  refine (canon_stack (actP (F := Ideal) _ _) [] (f.val / 256) (ix2 r ⟨f.val % 256, by omega⟩ : S512x256.Idx) _ ?_ 11 (by omega) ?_).trans ?_
  · funext c
    refine Fin.ext ?_
    fin_cases c
    · show 0 + 1 * r.val = 0 + 1 * r.val; rfl
    · show 0 + 1 * f.val = 256 * (f.val / 256 % 11) + 1 * (f.val % 256); omega
  · intro n h1 h2 hm
    have h := (Rect.mem_set_unit (inb := inbAct n)).1 hm
    have e0 : 256 * (n % 11) ≤ 0 + 1 * f.val ∧ 0 + 1 * f.val < 256 * (n % 11) + 256 := h (1 : Fin 2)
    omega
  · refine (actP_at _ _ _ r ⟨f.val % 256, by omega⟩).trans (congrArg₂ gate ?_ ?_)
    · have h := conv_step c i arg2 harg2 arg3 harg3 arg4 harg4 arg5 harg5 arg6 harg6 arg7 harg7 arg8 harg8 arg11 arg13 x0 x1 x2 x3 x4 x5 x6 arg14 0 (f.val / 256) (by omega) (by omega) r ⟨f.val % 256, by omega⟩
      simp only [Nat.zero_add] at h
      exact h.trans (congrArg (bconv (i 1).val x0 x1 x2 x3 x4 x5 x6 r.val) (Fin.ext (by show 256 * (f.val / 256) + f.val % 256 = f.val; omega)))
    · have h := conv_step c i arg2 harg2 arg3 harg3 arg4 harg4 arg5 harg5 arg6 harg6 arg7 harg7 arg8 harg8 arg11 arg13 x0 x1 x2 x3 x4 x5 x6 arg15 11 (f.val / 256) (by omega) (by omega) r ⟨f.val % 256, by omega⟩
      exact h.trans (congrArg (bconv (i 1).val x0 x1 x2 x3 x4 x5 x6 r.val) (Fin.ext (by show 256 * (11 + f.val / 256) + f.val % 256 = 2816 + f.val; omega)))

/-- Row `r` of the result, before the rows are put in order. -/
theorem y_at (r : Fin 512) (d : Fin 1024) :
    yAt (F := Ideal) c i arg2 harg2 arg3 harg3 arg4 harg4 arg5 harg5 arg6 harg6 arg7 harg7 arg8 harg8 arg9 harg9 arg11 arg12 arg13 arg14 arg15 arg16 x0 x1 x2 x3 x4 x5 x6 x7 (ix2 r d)
      = x0 (ix3 0 ⟨64 * (r.val % 8) + r.val / 8, by omega⟩ d) + ∑ f : Fin 2816, gate (bconv (i 1).val x0 x1 x2 x3 x4 x5 x6 r.val ⟨f.val, by omega⟩) (bconv (i 1).val x0 x1 x2 x3 x4 x5 x6 r.val ⟨2816 + f.val, by omega⟩) * x7 (ix2 f d) := by
  unfold yAt
  refine (downV_at _ _ _ r d).trans ?_
  rw [res_at]
  refine congrArg (fun z : EReal => x0 (ix3 0 ⟨64 * (r.val % 8) + r.val / 8, by omega⟩ d) + z) (Finset.sum_congr rfl fun f _ => ?_)
  rw [act_at, View.readAt_eq_ld, harg9.read_unread]
  refine congrArg (fun z : EReal => gate (bconv (i 1).val x0 x1 x2 x3 x4 x5 x6 r.val ⟨f.val, by omega⟩) (bconv (i 1).val x0 x1 x2 x3 x4 x5 x6 r.val ⟨2816 + f.val, by omega⟩) * z) ?_
  pointwise []

/-- The result's rows read back, lane block `j`, row `72 a + k`. -/
theorem back_at (y : FVec Ideal S512x1024 .f32) (L : List (View.Piece (Elt Ideal) S8x576x128 .f32)) (j a : Fin 8) (k : Fin 64) (l : Fin 128) :
    View.canon (stack (backP (F := Ideal) y) L 512) (ix3 j ⟨72 * a.val + k.val, by omega⟩ l : S8x576x128.Idx) = y (ix2 ⟨8 * k.val + a.val, by omega⟩ ⟨128 * j.val + l.val, by omega⟩) := by
  have hj := j.isLt
  have ha := a.isLt
  have hk := k.isLt
  refine (canon_stack (backP (F := Ideal) y) L (8 * k.val + j.val) (ix3 0 a l : S1x8x128.Idx) _ ?_ 512 (by omega) ?_).trans ?_
  · funext c
    refine Fin.ext ?_
    fin_cases c
    · show j.val = (8 * k.val + j.val) % 8 % 8 + 1 * 0; omega
    · show 72 * a.val + k.val = (8 * k.val + j.val) / 8 % 64 + 72 * a.val; omega
    · show l.val = 0 + 1 * l.val; omega
  · intro n h1 h2 hm
    have h := (LoadRect.mem_set _).1 hm
    obtain ⟨q, hq, e0⟩ := h (0 : Fin 3)
    obtain ⟨p, hp, e1⟩ := h (1 : Fin 3)
    have hq' : q < 1 := hq
    have hp' : p < 8 := hp
    have e0' : j.val = n % 8 % 8 + 1 * q := e0
    have e1' : 72 * a.val + k.val = n / 8 % 64 + 72 * p := e1
    omega
  · refine (backP_at _ _ a l).trans ?_
    exact congrArg₂ (fun p q => y (ix2 p q)) (Fin.ext (by show 8 * ((8 * k.val + j.val) / 8 % 64) + a.val = _; simp only []; omega)) (Fin.ext (by show 128 * ((8 * k.val + j.val) % 8) + l.val = _; simp only []; omega))

/-- A grid point's result at an index. -/
theorem out_at (s : Fin 512) (d : Fin 1024) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1 (ix3 0 s d : S1x512x1024.Idx)
      = x0 (ix3 0 s d) + ∑ f : Fin 2816, gate (bconv (i 1).val x0 x1 x2 x3 x4 x5 x6 (8 * (s.val % 64) + s.val / 64) ⟨f.val, by omega⟩) (bconv (i 1).val x0 x1 x2 x3 x4 x5 x6 (8 * (s.val % 64) + s.val / 64) ⟨2816 + f.val, by omega⟩) * x7 (ix2 f d) := by
  have hs := s.isLt
  have hd := d.isLt
  rw [out_eq, back_eq]
  refine (canon_stack (outP (F := Ideal) arg11 _) [] (8 * (s.val / 64) + d.val / 128) (ix3 0 ⟨s.val % 64, by omega⟩ ⟨d.val % 128, by omega⟩ : S1x64x128.Idx) _ ?_ 64 (by omega) ?_).trans ?_
  · funext c
    refine Fin.ext ?_
    fin_cases c
    · show 0 = 0 + 1 * 0; rfl
    · show s.val = 64 * ((8 * (s.val / 64) + d.val / 128) / 8 % 8) + 1 * (s.val % 64); omega
    · show d.val = 128 * ((8 * (s.val / 64) + d.val / 128) % 8) + 1 * (d.val % 128); omega
  · intro n h1 h2 hm
    have h := (Rect.mem_set_unit (inb := inbOut n)).1 hm
    have e1 : 64 * (n / 8 % 8) ≤ s.val ∧ s.val < 64 * (n / 8 % 8) + 64 := h (1 : Fin 3)
    have e2 : 128 * (n % 8) ≤ d.val ∧ d.val < 128 * (n % 8) + 128 := h (2 : Fin 3)
    omega
  · unfold outP
    pointwise []
    rw [View.readCov_eq_canon']
    refine (congrArg (View.canon _) (?_ : _ = (ix3 ⟨d.val / 128, by omega⟩ ⟨72 * (s.val / 64) + s.val % 64, by omega⟩ ⟨d.val % 128, by omega⟩ : S8x576x128.Idx))).trans
      ((back_at _ _ ⟨d.val / 128, by omega⟩ ⟨s.val / 64, by omega⟩ ⟨s.val % 64, by omega⟩ ⟨d.val % 128, by omega⟩).trans ?_)
    · funext c
      refine Fin.ext ?_
      fin_cases c
      · show (8 * (s.val / 64) + d.val / 128) % 8 + 1 * 0 = d.val / 128; omega
      · show 72 * ((8 * (s.val / 64) + d.val / 128) / 8 % 8) + 1 * (s.val % 64) = 72 * (s.val / 64) + s.val % 64; omega
      · show 0 + 1 * (d.val % 128) = d.val % 128; omega
    · have e : (⟨128 * (d.val / 128) + d.val % 128, by omega⟩ : Fin 1024) = d := Fin.ext (by show 128 * (d.val / 128) + d.val % 128 = d.val; omega)
      have es : (⟨64 * ((8 * (s.val % 64) + s.val / 64) % 8) + (8 * (s.val % 64) + s.val / 64) / 8, by omega⟩ : Fin 512) = s := Fin.ext (by show 64 * ((8 * (s.val % 64) + s.val / 64) % 8) + (8 * (s.val % 64) + s.val / 64) / 8 = s.val; omega)
      refine (y_at c i arg2 harg2 arg3 harg3 arg4 harg4 arg5 harg5 arg6 harg6 arg7 harg7 arg8 harg8 arg9 harg9 arg11 arg12 arg13 arg14 arg15 arg16 x0 x1 x2 x3 x4 x5 x6 x7
        ⟨8 * (s.val % 64) + s.val / 64, by omega⟩ ⟨128 * (d.val / 128) + d.val % 128, by omega⟩).trans ?_
      rw [e]
      exact congrArg (fun z => x0 (ix3 0 z d) + ∑ f : Fin 2816, gate (bconv (i 1).val x0 x1 x2 x3 x4 x5 x6 (8 * (s.val % 64) + s.val / 64) ⟨f.val, by omega⟩) (bconv (i 1).val x0 x1 x2 x3 x4 x5 x6 (8 * (s.val % 64) + s.val / 64) ⟨2816 + f.val, by omega⟩) * x7 (ix2 f d)) es

end

/-! ## The three rows of position `s` of the block -/

theorem brow_here (i1 : ℕ) (x0 : Vec Ideal S1x512x1024 .f32) (x1 x2 : Vec Ideal S1x8x1024 .f32) (s : Fin 512) (d : Fin 1024) :
    brow i1 x0 x1 x2 (8 * (s.val % 64) + s.val / 64) d = x0 (ix3 0 s d) := by
  have hs := s.isLt
  unfold brow
  rw [dif_pos (by omega : 8 * (s.val % 64) + s.val / 64 < 512)]
  exact congrArg (fun z : Fin 512 => x0 (ix3 0 z d)) (Fin.ext (by show 64 * ((8 * (s.val % 64) + s.val / 64) % 8) + (8 * (s.val % 64) + s.val / 64) / 8 = s.val; omega))

theorem brow_before (i1 : ℕ) (x0 : Vec Ideal S1x512x1024 .f32) (x1 x2 : Vec Ideal S1x8x1024 .f32) (s : Fin 512) (d : Fin 1024) :
    brow i1 x0 x1 x2 (before (8 * (s.val % 64) + s.val / 64)) d = if s.val = 0 then (if i1 = 0 then 0 else x1 (ix3 0 7 d)) else x0 (ix3 0 ⟨s.val - 1, by omega⟩ d) := by
  have hs := s.isLt
  by_cases h0 : s.val = 0
  · rw [if_pos h0, show before (8 * (s.val % 64) + s.val / 64) = 519 by rw [h0]; rfl]
    rfl
  · have e : before (8 * (s.val % 64) + s.val / 64) < 512 ∧ 64 * (before (8 * (s.val % 64) + s.val / 64) % 8) + before (8 * (s.val % 64) + s.val / 64) / 8 = s.val - 1 := by
      unfold before; split_ifs <;> omega
    rw [if_neg h0]
    unfold brow
    rw [dif_pos e.1]
    exact congrArg (fun z : Fin 512 => x0 (ix3 0 z d)) (Fin.ext e.2)

theorem brow_after (i1 : ℕ) (x0 : Vec Ideal S1x512x1024 .f32) (x1 x2 : Vec Ideal S1x8x1024 .f32) (s : Fin 512) (d : Fin 1024) :
    brow i1 x0 x1 x2 (after (8 * (s.val % 64) + s.val / 64)) d = if h : s.val = 511 then (if i1 = 15 then 0 else x2 (ix3 0 0 d)) else x0 (ix3 0 ⟨s.val + 1, by omega⟩ d) := by
  have hs := s.isLt
  by_cases h0 : s.val = 511
  · rw [dif_pos h0, show after (8 * (s.val % 64) + s.val / 64) = 520 by rw [h0]; rfl]
    rfl
  · have e : after (8 * (s.val % 64) + s.val / 64) < 512 ∧ 64 * (after (8 * (s.val % 64) + s.val / 64) % 8) + after (8 * (s.val % 64) + s.val / 64) / 8 = s.val + 1 := by
      unfold after; split_ifs <;> omega
    rw [dif_neg h0]
    unfold brow
    rw [dif_pos e.1]
    exact congrArg (fun z : Fin 512 => x0 (ix3 0 z d)) (Fin.ext e.2)

end Cert.Kernel2Ideal.Ffn

end
-- ==== Proof.FfnRef.lean ====
/- The feed-forward reference's result at an index. -/
module

public import proofs.«01_k».proof.Proof.Gen.Reference2Ideal.Run
public import proofs.«01_k».proof.Proof.FfnSpec
public import Idealize.ShloMosaic.Lib.Pointwise
public import Idealize.ShloMosaic.Lib.KernelVsHost

@[expose] public section

set_option maxRecDepth 16384

noncomputable section

namespace Cert.Reference2Ideal.Ffn

open Cert.Reference2Ideal Cert.Reference2Ideal.Gen Cert.Ffn
open Idealize.ShloMosaic Idealize.ShloMosaic.TcCoe Idealize.SL.Sem

/-- The normalised residual stream. -/
def refH (X : FVec Ideal S2x8192x1024 .f32) (N : FVec Ideal S1024 .f32) : FVec Ideal S2x8192x1024 .f32 :=
  mulf (mulf X (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 N))

/-- The features, with a row of zeros before the first position and one after the last. -/
def refP (H : FVec Ideal S2x8192x1024 .f32) (W : FVec Ideal S1024x5632 .f32) : FVec Ideal S2x8194x5632 .f32 :=
  pad S2x8194x5632 ![0, 1, 0] ![0, 1, 0] ![0, 0, 0] (Host.dotGeneral dot_S2x8192x1024_S1024x5632_S2x8192x5632_2_0_01_1_n_n none H W) (sitofp .f32 (constantI S_ 32 0#32)) pads_S2x8192x5632_S2x8194x5632_000_110_000 h_S_

/-- The features after the convolution along the positions. -/
def refC (P : FVec Ideal S2x8194x5632 .f32) (C : FVec Ideal S3x5632 .f32) (B : FVec Ideal S5632 .f32) : FVec Ideal S2x8192x5632 .f32 :=
  addf (addf (addf (mulf (extractStridedSlice S2x8192x5632 ![0, 0, 0] P slices_S2x8194x5632_S2x8192x5632_0_0_0) (broadcastInDim S2x8192x5632 ![0, 1, 2] bcast_S1x1x5632_S2x8192x5632_0_1_2 (broadcastInDim S1x1x5632 ![2] bcast_S5632_S1x1x5632_2 (shapeCast _ (extractStridedSlice S1x5632 ![0, 0] C slices_S3x5632_S1x5632_0_0) shapeCasts_S1x5632_S5632))))
      (broadcastInDim S2x8192x5632 ![0, 1, 2] bcast_S1x1x5632_S2x8192x5632_0_1_2 (broadcastInDim S1x1x5632 ![2] bcast_S5632_S1x1x5632_2 B)))
    (mulf (extractStridedSlice S2x8192x5632 ![0, 1, 0] P slices_S2x8194x5632_S2x8192x5632_0_1_0) (broadcastInDim S2x8192x5632 ![0, 1, 2] bcast_S1x1x5632_S2x8192x5632_0_1_2 (broadcastInDim S1x1x5632 ![2] bcast_S5632_S1x1x5632_2 (shapeCast _ (extractStridedSlice S1x5632 ![1, 0] C slices_S3x5632_S1x5632_1_0) shapeCasts_S1x5632_S5632)))))
    (mulf (extractStridedSlice S2x8192x5632 ![0, 2, 0] P slices_S2x8194x5632_S2x8192x5632_0_2_0) (broadcastInDim S2x8192x5632 ![0, 1, 2] bcast_S1x1x5632_S2x8192x5632_0_1_2 (broadcastInDim S1x1x5632 ![2] bcast_S5632_S1x1x5632_2 (shapeCast _ (extractStridedSlice S1x5632 ![2, 0] C slices_S3x5632_S1x5632_2_0) shapeCasts_S1x5632_S5632))))

/-- The gated features. -/
def refA (Y : FVec Ideal S2x8192x5632 .f32) : FVec Ideal S2x8192x2816 .f32 :=
  mulf (mulf (extractStridedSlice S2x8192x2816 ![0, 0, 0] Y slices_S2x8192x5632_S2x8192x2816_0_0_0) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (extractStridedSlice S2x8192x2816 ![0, 0, 0] Y slices_S2x8192x5632_S2x8192x2816_0_0_0))))))
    (extractStridedSlice S2x8192x2816 ![0, 0, 2816] Y slices_S2x8192x5632_S2x8192x2816_0_0_2816)

/-- The reference's result, of its six arrays. -/
def REF (X : FVec Ideal S2x8192x1024 .f32) (N : FVec Ideal S1024 .f32) (W : FVec Ideal S1024x5632 .f32) (C : FVec Ideal S3x5632 .f32) (B : FVec Ideal S5632 .f32) (D : FVec Ideal S2816x1024 .f32) : FVec Ideal S2x8192x1024 .f32 :=
  addf X (Host.dotGeneral dot_S2x8192x2816_S2816x1024_S2x8192x1024_2_0_01_1_n_n none (refA (refC (refP (refH X N) W) C B)) D)

theorem res_eq (m : (ℓ : Loc nD τ sig) → Buf (Elt Ideal) ℓ) (c : Dev nD) :
    Cert.Reference2Ideal.Value.res_main_v43 m c = REF (m (c.tc.loc main_arg0)) (m (c.tc.loc main_arg1)) (m (c.tc.loc main_arg2)) (m (c.tc.loc main_arg3)) (m (c.tc.loc main_arg4)) (m (c.tc.loc main_arg5)) := rfl

theorem refH_at (X : FVec Ideal S2x8192x1024 .f32) (N : FVec Ideal S1024 .f32) (b : Fin 2) (s : Fin 8192) (d : Fin 1024) :
    refH X N (ix3 b s d) = unitRow (fun k => X (ix3 b s k)) (fun k => N (ix1 k)) d := by
  pointwise [refH]
  rfl

theorem refP_at (H : FVec Ideal S2x8192x1024 .f32) (W : FVec Ideal S1024x5632 .f32) (b : Fin 2) (s : Fin 8194) (f : Fin 5632) :
    refP H W (ix3 b s f) = if h : 1 ≤ s.val ∧ s.val < 8193 then (∑ d : Fin 1024, (H (ix3 b ⟨s.val - 1, by omega⟩ d) : EReal) * W (ix2 d f)) else 0 := by
  split
  next h =>
    unfold refP
    rw [pad_apply_of_inside _ _ _ _ _ _ _ _ (ix3 b ⟨s.val - 1, by omega⟩ f : S2x8192x5632.Idx) (fun a => by fin_cases a <;> simp <;> omega)]
    pointwise
  next h =>
    unfold refP
    rw [pad_apply_of_not_inside _ _ _ _ _ _ _ _ (1 : Fin 3) (fun hh => h (by
      obtain ⟨h1, -, h3⟩ := hh
      simp at h1 h3
      omega))]
    show (((0 : ℤ) : ℝ) : EReal) = 0
    simp

theorem refC_at (P : FVec Ideal S2x8194x5632 .f32) (C : FVec Ideal S3x5632 .f32) (B : FVec Ideal S5632 .f32) (b : Fin 2) (s : Fin 8192) (f : Fin 5632) :
    refC P C B (ix3 b s f) = conv (P (ix3 b ⟨s.val, by omega⟩ f)) (P (ix3 b ⟨s.val + 1, by omega⟩ f)) (P (ix3 b ⟨s.val + 2, by omega⟩ f)) (C (ix2 0 f)) (C (ix2 1 f)) (C (ix2 2 f)) (B (ix1 f)) := by
  rw [← conv_comm]
  pointwise [refC]
  simp only [Nat.add_comm 1, Nat.add_comm 2]

theorem refA_at (Y : FVec Ideal S2x8192x5632 .f32) (b : Fin 2) (s : Fin 8192) (f : Fin 2816) :
    refA Y (ix3 b s f) = gate (Y (ix3 b s ⟨f.val, by omega⟩)) (Y (ix3 b s ⟨2816 + f.val, by omega⟩)) := by
  pointwise [refA]
  rfl

theorem REF_at (X : FVec Ideal S2x8192x1024 .f32) (N : FVec Ideal S1024 .f32) (W : FVec Ideal S1024x5632 .f32) (C : FVec Ideal S3x5632 .f32) (B : FVec Ideal S5632 .f32) (D : FVec Ideal S2816x1024 .f32) (b : Fin 2) (s : Fin 8192) (d : Fin 1024) :
    REF X N W C B D (ix3 b s d) = X (ix3 b s d) + ∑ f : Fin 2816, (refA (refC (refP (refH X N) W) C B) (ix3 b s f) : EReal) * D (ix2 f d) := by
  pointwise [REF]

/-- A feature of position `s - 1` of sequence `b`; zero before the first position and after the last. -/
def feat (X : FVec Ideal S2x8192x1024 .f32) (N : FVec Ideal S1024 .f32) (W : FVec Ideal S1024x5632 .f32) (b : Fin 2) (s : ℕ) (f : Fin 5632) : EReal :=
  if h : 1 ≤ s ∧ s < 8193 then up (fun k => X (ix3 b ⟨s - 1, by omega⟩ k)) (fun k => N (ix1 k)) (fun k => W (ix2 k f)) else 0

/-- A feature of position `s` after the convolution. -/
def convFeat (X : FVec Ideal S2x8192x1024 .f32) (N : FVec Ideal S1024 .f32) (W : FVec Ideal S1024x5632 .f32) (C : FVec Ideal S3x5632 .f32) (B : FVec Ideal S5632 .f32) (b : Fin 2) (s : Fin 8192) (f : Fin 5632) : EReal :=
  conv (feat X N W b s.val f) (feat X N W b (s.val + 1) f) (feat X N W b (s.val + 2) f) (C (ix2 0 f)) (C (ix2 1 f)) (C (ix2 2 f)) (B (ix1 f))

/-- The reference at an index. -/
theorem REF_eq (X : FVec Ideal S2x8192x1024 .f32) (N : FVec Ideal S1024 .f32) (W : FVec Ideal S1024x5632 .f32) (C : FVec Ideal S3x5632 .f32) (B : FVec Ideal S5632 .f32) (D : FVec Ideal S2816x1024 .f32) (b : Fin 2) (s : Fin 8192) (d : Fin 1024) :
    REF X N W C B D (ix3 b s d) = X (ix3 b s d) + ∑ f : Fin 2816, gate (convFeat X N W C B b s ⟨f.val, by omega⟩) (convFeat X N W C B b s ⟨2816 + f.val, by omega⟩) * D (ix2 f d) := by
  have hP : ∀ (s : ℕ) (hs : s < 8194) (f : Fin 5632), refP (refH X N) W (ix3 b ⟨s, hs⟩ f) = feat X N W b s f := by
    intro s hs f
    rw [refP_at, feat]
    split
    · exact Finset.sum_congr rfl fun k _ => by rw [refH_at]
    · rfl
  rw [REF_at]
  refine congrArg (fun z : EReal => X (ix3 b s d) + z) (Finset.sum_congr rfl fun f _ => ?_)
  rw [refA_at, refC_at, refC_at]
  simp only [hP]
  rfl

end Cert.Reference2Ideal.Ffn

end
-- ==== Proof.FfnArray.lean ====
/- The feed-forward kernel's result array: every position's residual plus its gated features projected back. -/
module

public import proofs.«01_k».proof.Proof.FfnOut
public import proofs.«01_k».proof.Proof.FfnRef
public import proofs.«01_k».proof.Proof.Gen.Kernel2Ideal.Value
public import Idealize.ShloMosaic.Lib.Pipeline.ValueKit

@[expose] public section

set_option maxRecDepth 16384

noncomputable section

namespace Cert.Kernel2Ideal.Ffn

open Cert.Kernel2Ideal Cert.Kernel2Ideal.Gen Cert.Ffn
open Cert.Reference2Ideal.Ffn (feat convFeat REF REF_eq)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-! ## The arrays the launch prepares -/

theorem gain_at (c : Dev nD) (k : Fin 1024) : (V m c main_v0 : FVec Ideal S1x1024 .f32) (ix2 0 k) = (m ((c : Thread nD τ).loc main_arg1) : FVec Ideal S1024 .f32) (ix1 k) := by
  unfold V
  after_results
  pointwise []

theorem upW_at (c : Dev nD) (k : Fin 1024) (f : Fin 5632) : (V m c main_v1 : FVec Ideal S1024x5632 .bf16) (ix2 k f) = (m ((c : Thread nD τ).loc main_arg2) : FVec Ideal S1024x5632 .f32) (ix2 k f) := by
  unfold V
  after_results
  pointwise []

theorem bias_at (c : Dev nD) (f : Fin 5632) : (V m c main_v2 : FVec Ideal S1x5632 .f32) (ix2 0 f) = (m ((c : Thread nD τ).loc main_arg4) : FVec Ideal S5632 .f32) (ix1 f) := by
  unfold V
  after_results
  pointwise []

theorem downW_at (c : Dev nD) (f : Fin 2816) (d : Fin 1024) : (V m c main_v3 : FVec Ideal S2816x1024 .bf16) (ix2 f d) = (m ((c : Thread nD τ).loc main_arg5) : FVec Ideal S2816x1024 .f32) (ix2 f d) := by
  unfold V
  after_results
  pointwise []

/-! ## The blocks of a grid point -/

theorem idx : ∀ t : Fin cfg0.N, (cfg0.win 0).index t = ![(grid0.coords t 0).val, (grid0.coords t 1).val, 0]
    ∧ (cfg0.win 1).index t = ![(grid0.coords t 0).val, 64 * (grid0.coords t 1).val - 1, 0]
    ∧ (cfg0.win 2).index t = ![(grid0.coords t 0).val, min (64 * (grid0.coords t 1).val + 64) 1023, 0]
    ∧ (cfg0.win 3).index t = ![0, 0] ∧ (cfg0.win 4).index t = ![0, 0] ∧ (cfg0.win 5).index t = ![0, 0] ∧ (cfg0.win 6).index t = ![0, 0] ∧ (cfg0.win 7).index t = ![0, 0]
    ∧ (cfg0.win 8).index t = ![(grid0.coords t 0).val, (grid0.coords t 1).val, 0] :=
  (by decide +kernel : ∀ t : Fin grid0.N, cc0_transform_0 (grid0.coords t) = ![(grid0.coords t 0).val, (grid0.coords t 1).val, 0]
    ∧ cc0_transform_1 (grid0.coords t) = ![(grid0.coords t 0).val, 64 * (grid0.coords t 1).val - 1, 0]
    ∧ cc0_transform_2 (grid0.coords t) = ![(grid0.coords t 0).val, min (64 * (grid0.coords t 1).val + 64) 1023, 0]
    ∧ cc0_transform_3 (grid0.coords t) = ![0, 0] ∧ cc0_transform_4 (grid0.coords t) = ![0, 0] ∧ cc0_transform_5 (grid0.coords t) = ![0, 0] ∧ cc0_transform_6 (grid0.coords t) = ![0, 0] ∧ cc0_transform_7 (grid0.coords t) = ![0, 0]
    ∧ cc0_transform_8 (grid0.coords t) = ![(grid0.coords t 0).val, (grid0.coords t 1).val, 0])

theorem covers : (cfg0.win 8).Covers := by decide +kernel

/-- A step's own rows, read at an index. -/
theorem blk_x (c : Dev nD) (t : Fin cfg0.N) (s : Fin 512) (d : Fin 1024) (i : S2x8192x1024.Idx) (h0 : (i 0).val = (grid0.coords t 0).val) (h1 : (i 1).val = (grid0.coords t 1).val * 512 + s.val) (h2 : (i 2).val = d.val) :
    iblk m c 0 t (ix3 0 s d : S1x512x1024.Idx) = (m ((c : Thread nD τ).loc main_arg0) : FVec Ideal S2x8192x1024 .f32) i := by
  rw [← V_main_arg0 m c]
  blk_ext [iblk, idx t]

/-- The eight rows before them, -/
theorem blk_p (c : Dev nD) (t : Fin cfg0.N) (s : Fin 8) (d : Fin 1024) (i : S2x8192x1024.Idx) (h0 : (i 0).val = (grid0.coords t 0).val) (h1 : (i 1).val = (64 * (grid0.coords t 1).val - 1) * 8 + s.val) (h2 : (i 2).val = d.val) :
    iblk m c 1 t (ix3 0 s d : S1x8x1024.Idx) = (m ((c : Thread nD τ).loc main_arg0) : FVec Ideal S2x8192x1024 .f32) i := by
  rw [← V_main_arg0 m c]
  blk_ext [iblk, idx t]

/-- and the eight after them. -/
theorem blk_n (c : Dev nD) (t : Fin cfg0.N) (s : Fin 8) (d : Fin 1024) (i : S2x8192x1024.Idx) (h0 : (i 0).val = (grid0.coords t 0).val) (h1 : (i 1).val = min (64 * (grid0.coords t 1).val + 64) 1023 * 8 + s.val) (h2 : (i 2).val = d.val) :
    iblk m c 2 t (ix3 0 s d : S1x8x1024.Idx) = (m ((c : Thread nD τ).loc main_arg0) : FVec Ideal S2x8192x1024 .f32) i := by
  rw [← V_main_arg0 m c]
  blk_ext [iblk, idx t]

theorem blk_gain (c : Dev nD) (t : Fin cfg0.N) (k : Fin 1024) : iblk m c 3 t (ix2 0 k : S1x1024.Idx) = (m ((c : Thread nD τ).loc main_arg1) : FVec Ideal S1024 .f32) (ix1 k) := by
  rw [← gain_at m c k]
  blk_ext [iblk, idx t]

theorem blk_up (c : Dev nD) (t : Fin cfg0.N) (k : Fin 1024) (f : Fin 5632) : iblk m c 4 t (ix2 k f : S1024x5632.Idx) = (m ((c : Thread nD τ).loc main_arg2) : FVec Ideal S1024x5632 .f32) (ix2 k f) := by
  rw [← upW_at m c k f]
  blk_ext [iblk, idx t]

theorem blk_taps (c : Dev nD) (t : Fin cfg0.N) (k : Fin 3) (f : Fin 5632) : iblk m c 5 t (ix2 k f : S3x5632.Idx) = (m ((c : Thread nD τ).loc main_arg3) : FVec Ideal S3x5632 .f32) (ix2 k f) := by
  rw [← V_main_arg3 m c]
  blk_ext [iblk, idx t]

theorem blk_bias (c : Dev nD) (t : Fin cfg0.N) (f : Fin 5632) : iblk m c 6 t (ix2 0 f : S1x5632.Idx) = (m ((c : Thread nD τ).loc main_arg4) : FVec Ideal S5632 .f32) (ix1 f) := by
  rw [← bias_at m c f]
  blk_ext [iblk, idx t]

theorem blk_down (c : Dev nD) (t : Fin cfg0.N) (f : Fin 2816) (d : Fin 1024) : iblk m c 7 t (ix2 f d : S2816x1024.Idx) = (m ((c : Thread nD τ).loc main_arg5) : FVec Ideal S2816x1024 .f32) (ix2 f d) := by
  rw [← downW_at m c f d]
  blk_ext [iblk, idx t]

/-! ## A grid point's features are the reference's -/

theorem up_congr {x x' g g' w w' : Fin 1024 → EReal} (hx : ∀ k, x k = x' k) (hg : ∀ k, g k = g' k) (hw : ∀ k, w k = w' k) : up x g w = up x' g' w' := by
  rw [funext hx, funext hg, funext hw]

theorem conv_congr7 {a a' b b' d d' w0 w0' w1 w1' w2 w2' β β' : EReal} (ha : a = a') (hb : b = b') (hd : d = d') (h0 : w0 = w0') (h1 : w1 = w1') (h2 : w2 = w2') (hβ : β = β') :
    conv a b d w0 w1 w2 β = conv a' b' d' w0' w1' w2' β' := by
  rw [ha, hb, hd, h0, h1, h2, hβ]

section

variable (c : Dev nD) (t : Fin cfg0.N) (s : Fin 512) (f : Fin 5632)

/-- The position of row `s` of a step's block. -/
def pos : Fin 8192 := ⟨(grid0.coords t 1).val * 512 + s.val, by have h : (grid0.coords t 1).val < 16 := (grid0.coords t 1).isLt; have := s.isLt; omega⟩

theorem feat_here : bfeat (grid0.coords t 1).val (iblk m c 0 t) (iblk m c 1 t) (iblk m c 2 t) (iblk m c 3 t) (iblk m c 4 t) f (8 * (s.val % 64) + s.val / 64)
    = feat (m ((c : Thread nD τ).loc main_arg0)) (m ((c : Thread nD τ).loc main_arg1)) (m ((c : Thread nD τ).loc main_arg2)) (grid0.coords t 0) ((pos t s).val + 1) f := by
  have hp := (pos t s).isLt
  unfold bfeat feat
  rw [dif_pos ⟨by omega, by omega⟩]
  refine up_congr (fun k => ?_) (fun k => blk_gain m c t k) (fun k => blk_up m c t k f)
  rw [brow_here]
  exact blk_x m c t s k _ rfl (by show (pos t s).val + 1 - 1 = _; unfold pos; simp only []; omega) rfl

theorem feat_before : bfeat (grid0.coords t 1).val (iblk m c 0 t) (iblk m c 1 t) (iblk m c 2 t) (iblk m c 3 t) (iblk m c 4 t) f (before (8 * (s.val % 64) + s.val / 64))
    = feat (m ((c : Thread nD τ).loc main_arg0)) (m ((c : Thread nD τ).loc main_arg1)) (m ((c : Thread nD τ).loc main_arg2)) (grid0.coords t 0) (pos t s).val f := by
  have hp := (pos t s).isLt
  have hs := s.isLt
  have hpos : (pos t s).val = (grid0.coords t 1).val * 512 + s.val := rfl
  unfold bfeat feat
  split
  next h =>
    refine up_congr (fun k => ?_) (fun k => blk_gain m c t k) (fun k => blk_up m c t k f)
    rw [brow_before]
    split
    · rw [if_neg (by omega)]
      exact blk_p m c t 7 k _ rfl (by show (pos t s).val - 1 = (64 * (grid0.coords t 1).val - 1) * 8 + 7; omega) rfl
    · exact blk_x m c t ⟨s.val - 1, by omega⟩ k _ rfl (by show (pos t s).val - 1 = (grid0.coords t 1).val * 512 + (s.val - 1); omega) rfl
  next h =>
    refine (up_congr (fun k => ?_) (fun _ => rfl) (fun _ => rfl)).trans (up_zero _ _)
    rw [brow_before, if_pos (by omega), if_pos (by omega)]

theorem feat_after : bfeat (grid0.coords t 1).val (iblk m c 0 t) (iblk m c 1 t) (iblk m c 2 t) (iblk m c 3 t) (iblk m c 4 t) f (after (8 * (s.val % 64) + s.val / 64))
    = feat (m ((c : Thread nD τ).loc main_arg0)) (m ((c : Thread nD τ).loc main_arg1)) (m ((c : Thread nD τ).loc main_arg2)) (grid0.coords t 0) ((pos t s).val + 2) f := by
  have hp := (pos t s).isLt
  have hs := s.isLt
  have hi : (grid0.coords t 1).val < 16 := (grid0.coords t 1).isLt
  have hpos : (pos t s).val = (grid0.coords t 1).val * 512 + s.val := rfl
  unfold bfeat feat
  split
  next h =>
    refine up_congr (fun k => ?_) (fun k => blk_gain m c t k) (fun k => blk_up m c t k f)
    rw [brow_after]
    split
    · rw [if_neg (by omega)]
      exact blk_n m c t 0 k _ rfl (by show (pos t s).val + 2 - 1 = min (64 * (grid0.coords t 1).val + 64) 1023 * 8 + 0; omega) rfl
    · exact blk_x m c t ⟨s.val + 1, by omega⟩ k _ rfl (by show (pos t s).val + 2 - 1 = (grid0.coords t 1).val * 512 + (s.val + 1); omega) rfl
  next h =>
    refine (up_congr (fun k => ?_) (fun _ => rfl) (fun _ => rfl)).trans (up_zero _ _)
    rw [brow_after, dif_pos (by omega), if_pos (by omega)]

theorem conv_at : bconv (grid0.coords t 1).val (iblk m c 0 t) (iblk m c 1 t) (iblk m c 2 t) (iblk m c 3 t) (iblk m c 4 t) (iblk m c 5 t) (iblk m c 6 t) (8 * (s.val % 64) + s.val / 64) f
    = convFeat (m ((c : Thread nD τ).loc main_arg0)) (m ((c : Thread nD τ).loc main_arg1)) (m ((c : Thread nD τ).loc main_arg2)) (m ((c : Thread nD τ).loc main_arg3)) (m ((c : Thread nD τ).loc main_arg4)) (grid0.coords t 0) (pos t s) f :=
  conv_congr7 (feat_before m c t s f) (feat_here m c t s f) (feat_after m c t s f) (blk_taps m c t 0 f) (blk_taps m c t 1 f) (blk_taps m c t 2 f) (blk_bias m c t f)

end

/-! ## The result array -/

/-- Where the output's block lies in the array. -/
theorem emb_o (t : Fin cfg0.N) (s : Fin 512) (d : Fin 1024) :
    ((cfg0.win 8).blk t).view.emb (ix3 0 s d : S1x512x1024.Idx) = (ix3 (grid0.coords t 0) (pos t s) d : S2x8192x1024.Idx) := by
  funext a
  fin_cases a <;> apply Fin.ext <;> blk_simp [idx t] <;> simp [pos]

/-- What a step leaves of the output, at an index. -/
theorem step_at (c : Dev nD) (t : Fin cfg0.N) (s : Fin 512) (d : Fin 1024) :
    outsAt0 m c t (ix3 0 s d) = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (grid0.coords t 0) (pos t s) d) := by
  unfold outsAt0 out0_A_8
  rw [View.read_writes_junk_apply_eq_canon]
  refine Eq.trans ?_ (REF_eq _ _ _ _ _ _ _ _ _).symm
  refine (out_at c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) s d).trans ?_
  refine congrArg₂ (fun a b : EReal => a + b) (blk_x m c t s d _ rfl rfl rfl) (Finset.sum_congr rfl fun f _ => ?_)
  exact congrArg₂ (fun a b : EReal => a * b) (congrArg₂ gate (conv_at m c t s _) (conv_at m c t s _)) (blk_down m c t f d)

/-- The result array after the last step is the reference's result. -/
theorem final (c : Dev nD) : (dats m 0 c).arrAt 8 cfg0.N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ covers fun t _ y => ?_
  blk_simp
  rw [after0_8]
  obtain ⟨s, d, rfl⟩ : ∃ (s : Fin 512) (d : Fin 1024), y = (ix3 0 s d : S1x512x1024.Idx) := by
    have h (y : S1x512x1024.Idx) : y = ix3 0 (y 1) (y 2) := by
      refine (eq_ix3 y).trans ?_
      have h0 : y 0 = (0 : Fin 1) := (Subsingleton.elim (α := Fin 1) _ _)
      exact congrArg (fun p : Fin 1 => (ix3 p (y 1) (y 2) : S1x512x1024.Idx)) h0
    exact ⟨_, _, h y⟩
  exact (step_at m c t s d).trans (congrArg _ (emb_o t s d).symm)

end Cert.Kernel2Ideal.Ffn

end
-- ==== Proof.FfnAlgebraic.lean ====
/- The feed-forward kernel and its reference end with the same result array. -/
module

public import proofs.«01_k».proof.Proof.FfnArray
public import proofs.«01_k».proof.Defs

@[expose] public section

noncomputable section

namespace Cert.Ffn

open Idealize.ShloMosaic Idealize.ShloMosaic.TcCoe Idealize.SL.Sem

/-- The kernel, idealized, computes the reference. -/
theorem algebraic : Cert.algebraic_Kernel2Ideal_Reference2Ideal := by
  intro m g m' g' _ hargs
  refine ⟨fun c => Cert.Reference2Ideal.Ffn.REF (m (c.tc.loc Cert.Kernel2Ideal.main_arg0)) (m (c.tc.loc Cert.Kernel2Ideal.main_arg1)) (m (c.tc.loc Cert.Kernel2Ideal.main_arg2)) (m (c.tc.loc Cert.Kernel2Ideal.main_arg3))
    (m (c.tc.loc Cert.Kernel2Ideal.main_arg4)) (m (c.tc.loc Cert.Kernel2Ideal.main_arg5)), ?_, ?_⟩
  · refine (θ_run _ _ _).mono (fun r h c => ?_) (Cert.Kernel2Ideal.Value.run_blocks (F := Ideal) m g)
    obtain ⟨h0, ha⟩ := h c
    exact ⟨h0.trans (Cert.Kernel2Ideal.Ffn.final m c), ha⟩
  · refine (θ_run _ _ _).mono (fun r h c => ?_) (Cert.Reference2Ideal.Value.run (F := Ideal) m' g')
    obtain ⟨h0, ha⟩ := h c
    refine ⟨h0.trans ((Cert.Reference2Ideal.Ffn.res_eq m' c).trans ?_), ha⟩
    obtain ⟨e0, e1, e2, e3, e4, e5⟩ := hargs c
    rw [e0, e1, e2, e3, e4, e5]

end Cert.Ffn

end
-- ==== Proof.MixFrames.lean ====
/- The frames of the mixing kernel as printed and idealized (one text, so one run serves both), and of its reference. -/
module

public import proofs.«01_k».proof.Defs
public import proofs.«01_k».proof.Proof.Gen.Kernel3
public import proofs.«01_k».proof.Proof.Gen.Reference3Ideal.Run
public import proofs.«01_k».proof.Proof.Gen.Kernel3Ideal.Frame

@[expose] public section

noncomputable section

namespace Cert.Mix

open Idealize.ShloMosaic Idealize.SL.Sem

/-- The kernel as printed terminates with its arguments unchanged and every semaphore at zero. -/
theorem frame_kernel : Cert.quiescent_Kernel3 :=
  Eq.mp (by sl_kernel_rfl : (∀ (m : (ℓ : Loc Cert.Kernel3Ideal.nD Cert.Kernel3Ideal.τ Cert.Kernel3Ideal.sig) → Buf (Elt Bits) ℓ) (g : Dev Cert.Kernel3Ideal.nD → PrngReg), True →
      θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
        r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
        ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
        ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
        ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
        ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
        ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
        ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
        ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
        ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
        ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
        ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
        ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
        ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
        ∧ r.2.sem = fun _ => 0)) = Cert.quiescent_Kernel3)
    fun m ρ _ => Cert.Kernel3Ideal.Gen.frame (F := Bits) m ρ

/-- So does its idealization, -/
theorem frame_ideal : Cert.quiescent_Kernel3Ideal := fun m ρ _ => Cert.Kernel3Ideal.Gen.frame (F := Ideal) m ρ

/-- on a finite gain and finite memory keys too, -/
theorem frame_ideal_pre [Cert.Pre_finite_memory_keys.Facts] : Cert.quiescent_Kernel3Ideal_pre_finite_memory_keys := fun m ρ _ =>
  Cert.Kernel3Ideal.Gen.frame (F := Ideal) m ρ

/-- and the reference. -/
theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- on a finite gain and finite memory keys too. -/
theorem frame_ref_pre [Cert.Pre_finite_memory_keys.Facts] : Cert.quiescent_Reference3Ideal_pre_finite_memory_keys := fun m ρ _ => frame_ref m ρ trivial

end Cert.Mix

end
-- ==== Proof.MixSpec.lean ====
/- The mixing of one row of the residual stream and its attention over the memory, as functions of extended reals. -/
module

public import proofs.«01_k».proof.Proof.Softmax
public import Idealize.ShloMosaic.PureOps.Ideal

@[expose] public section

noncomputable section

namespace Cert.Mix

open Idealize.ShloMosaic Cert.Softmax

/-- A row over its root mean square, times a gain; `N` is the pattern of the row's length. -/
def unit {n : ℕ} (N : BitVec 32) (x g : Fin n → EReal) (d : Fin n) : EReal :=
  x d * Ideal.rsqrt (Ideal.div (∑ k : Fin n, x k * x k) (Ideal.ofBits .f32 N) + Ideal.ofBits .f32 0x358637BD#32) * g d

/-- The two directions of the recurrence, added and gated by GELU of `y`. -/
def lru (a b y : EReal) : EReal :=
  (a + b) * (y * (Ideal.ofBits .f32 0x3F000000#32 * (1
    + Ideal.tanh (Ideal.ofBits .f32 0x3F4C422A#32 * (y + Ideal.ofBits .f32 0x3D372713#32 * (y * y * y))))))

/-- The residual row plus the normalised recurrent and attention rows, each through its half of the projection. -/
def first (x : Fin 1024 → EReal) (l m : Fin 512 → EReal) (wl wm : Fin 512 → Fin 1024 → EReal) (d : Fin 1024) : EReal :=
  x d + ∑ c, l c * wl c d + ∑ c, m c * wm c d

/-- The query of head `h`: the normalised row through the query projection. -/
def query (x g : Fin 1024 → EReal) (w : Fin 1024 → Fin 512 → EReal) (h : Fin 4) (e : Fin 128) : EReal :=
  ∑ d, unit 0x44800000#32 x g d * w d ⟨128 * h.val + e.val, by omega⟩

/-- `128 ^ (-1/2)`, rounded. -/
def σ : EReal := Ideal.ofBits .f32 0x3DB504F3#32

/-- A score, scaled before the product. -/
def preScore (q g : Fin 128 → EReal) (k : Fin 256 → Fin 128 → EReal) (κ : Fin 256) : EReal :=
  ∑ d, unit 0x43000000#32 q g d * σ * k κ d

/-- A score, scaled after the product. -/
def postScore (q g : Fin 128 → EReal) (k : Fin 256 → Fin 128 → EReal) (κ : Fin 256) : EReal :=
  (∑ d, unit 0x43000000#32 q g d * k κ d) * σ

/-- Softmax attention with one division at the end. -/
def late (s : Fin 256 → EReal) (v : Fin 256 → EReal) : EReal :=
  Ideal.div (∑ κ, Ideal.exp (s κ - Finset.univ.fold max (⊥ : EReal) s) * v κ) (∑ κ, Ideal.exp (s κ - Finset.univ.fold max (⊥ : EReal) s))

/-- Softmax attention with every weight divided, the scores less `M`. -/
def early (s : Fin 256 → EReal) (M : EReal) (v : Fin 256 → EReal) : EReal :=
  ∑ κ, v κ * Ideal.div (Ideal.exp (s κ - M)) (∑ l, Ideal.exp (s l - M))

/-- A row plus its four heads through the output projection. -/
def last (x : Fin 1024 → EReal) (o : Fin 4 → Fin 128 → EReal) (w : Fin 512 → Fin 1024 → EReal) (d : Fin 1024) : EReal :=
  x d + ∑ c : Fin 512, o ⟨c.val / 128, by omega⟩ ⟨c.val % 128, by omega⟩ * w c d

theorem eps_real : ∃ ε : ℝ, 0 < ε ∧ Ideal.ofBits .f32 0x358637BD#32 = (ε : EReal) := by
  refine ⟨(1 + 407485 / 8388608) * (2 : ℝ) ^ (-20 : ℤ), by positivity, ?_⟩
  simp [Ideal.ofBits, Ideal.ieee, -EReal.coe_mul]
  norm_num

theorem len_real : Ideal.ofBits .f32 0x43000000#32 = ((128 : ℝ) : EReal) := by
  simp [Ideal.ofBits, Ideal.ieee, -EReal.coe_mul]
  norm_num

theorem scale_real : ∃ ρ : ℝ, σ = (ρ : EReal) := by
  refine ⟨(1 + 3474675 / 8388608) * (2 : ℝ) ^ (-4 : ℤ), ?_⟩
  simp [σ, Ideal.ofBits, Ideal.ieee, -EReal.coe_mul]
  norm_num

/-- A square is not negative. -/
theorem sq_nonneg (x : EReal) : 0 ≤ x * x := by
  induction x using EReal.rec with
  | bot => simp
  | coe ρ => rw [← EReal.coe_mul]; exact_mod_cast mul_self_nonneg ρ
  | top => simp

/-- A row of 128 over its root mean square is real whatever the row, for a real gain. -/
theorem unit_real (x g : Fin 128 → EReal) (hg : ∀ d, ∃ ρ : ℝ, g d = (ρ : EReal)) (d : Fin 128) : ∃ ρ : ℝ, unit 0x43000000#32 x g d = (ρ : EReal) := by
  obtain ⟨γ, hγ⟩ := hg d
  obtain ⟨ε, hε, he⟩ := eps_real
  have hle : x d * x d ≤ ∑ k, x k * x k := Finset.single_le_sum (f := fun k => x k * x k) (fun k _ => sq_nonneg (x k)) (Finset.mem_univ d)
  have h0 : 0 ≤ ∑ k, x k * x k := Finset.sum_nonneg fun k _ => sq_nonneg (x k)
  rw [unit, len_real, he, hγ]
  generalize (∑ k, x k * x k) = S at hle h0
  generalize x d = y at hle
  have h128 : ((128 : ℝ) : EReal) ≠ 0 := by exact_mod_cast (by norm_num : (128 : ℝ) ≠ 0)
  induction S using EReal.rec with
  | bot => simp at h0
  | top =>
    refine ⟨0, ?_⟩
    have ht : Ideal.div ⊤ ((128 : ℝ) : EReal) = ⊤ := by
      rw [Ideal.div, if_neg h128, ← EReal.coe_inv]
      exact EReal.top_mul_coe_of_pos (by norm_num)
    rw [ht, EReal.top_add_coe]
    simp
  | coe s =>
    have hs : 0 ≤ s := by exact_mod_cast h0
    have hd : Ideal.div (s : EReal) ((128 : ℝ) : EReal) + (ε : EReal) = ((s * 128⁻¹ + ε : ℝ) : EReal) := by
      rw [Ideal.div, if_neg h128, ← EReal.coe_inv, ← EReal.coe_mul, ← EReal.coe_add]
    have hy : ∃ η : ℝ, y = (η : EReal) := by
      induction y using EReal.rec with
      | bot => simp at hle
      | coe η => exact ⟨η, rfl⟩
      | top => simp at hle
    obtain ⟨η, rfl⟩ := hy
    have hr : ∃ ρ : ℝ, Ideal.rsqrt ((s * 128⁻¹ + ε : ℝ) : EReal) = (ρ : EReal) := by
      have : 0 < s * 128⁻¹ + ε := by positivity
      exact ⟨_, by rw [Ideal.rsqrt_coe, if_neg (not_lt.2 this.le), if_neg this.ne']⟩
    obtain ⟨ρ, hρ⟩ := hr
    exact ⟨η * ρ * γ, by rw [hd, hρ, ← EReal.coe_mul, ← EReal.coe_mul]⟩

/-- With a real gain and real keys the scores are real and the scale may stand on either side of the product. -/
theorem scores (q g : Fin 128 → EReal) (k : Fin 256 → Fin 128 → EReal) (hg : ∀ d, ∃ ρ : ℝ, g d = (ρ : EReal)) (hk : ∀ κ d, ∃ ρ : ℝ, k κ d = (ρ : EReal)) :
    ∃ s : Fin 256 → ℝ, preScore q g k = (fun κ => (s κ : EReal)) ∧ postScore q g k = fun κ => (s κ : EReal) := by
  obtain ⟨τ, hτ⟩ := scale_real
  choose u hu using unit_real q g hg
  choose y hy using hk
  refine ⟨fun κ => (∑ d, u d * y κ d) * τ, funext fun κ => ?_, funext fun κ => ?_⟩
  · simp only [preScore, hu, hτ, hy, ← EReal.coe_mul, ← coe_sum]
    refine congrArg _ ?_
    rw [Finset.sum_mul]
    exact Finset.sum_congr rfl fun d _ => by ring
  · simp only [postScore, hu, hτ, hy, ← EReal.coe_mul, ← coe_sum]

/-- At real scores both softmaxes are one, whichever real the second takes from the scores. -/
theorem softmax (s : Fin 256 → ℝ) (v : Fin 256 → EReal) (M : ℝ) : late (fun κ => (s κ : EReal)) v = early (fun κ => (s κ : EReal)) M v := by
  have hexp : ∀ (N : ℝ) (κ : Fin 256), Ideal.exp ((s κ : EReal) - (N : EReal)) = ((Real.exp (-N) * Real.exp (s κ) : ℝ) : EReal) := by
    intro N κ
    rw [← EReal.coe_sub, Ideal.exp_coe, sub_eq_add_neg, add_comm, Real.exp_add]
  obtain ⟨N, hN⟩ := fold_max_real Finset.univ (fun κ => (s κ : EReal)) (fun κ => ⟨_, rfl⟩) ⟨(0 : Fin 256), Finset.mem_univ _⟩
  have hZ : 0 < ∑ κ, Real.exp (s κ) := Finset.sum_pos (fun κ _ => Real.exp_pos _) ⟨0, Finset.mem_univ _⟩
  rw [late, hN]
  simp only [early, hexp, ← coe_sum, ← Finset.mul_sum]
  have hl : ∑ κ, ((Real.exp (-N) * Real.exp (s κ) : ℝ) : EReal) * v κ = (Real.exp (-N) : EReal) * ∑ κ, v κ * (Real.exp (s κ) : EReal) := by
    rw [coe_mul_sum _ _ (Real.exp_pos _).le]
    exact Finset.sum_congr rfl fun κ _ => by rw [EReal.coe_mul, mul_assoc, mul_comm (v κ)]
  rw [hl, EReal.coe_mul, div_scale _ (Real.exp_pos _) _ hZ, mul_comm, coe_mul_sum _ _ (inv_pos.2 hZ).le]
  refine Finset.sum_congr rfl fun κ _ => ?_
  rw [EReal.coe_mul, EReal.coe_mul (Real.exp (-M)), div_scale _ (Real.exp_pos _) _ hZ, mul_left_comm, mul_comm (((∑ κ, Real.exp (s κ))⁻¹ : ℝ) : EReal)]

/-- A head, either way. -/
theorem heads (q g : Fin 128 → EReal) (k : Fin 256 → Fin 128 → EReal) (v : Fin 256 → EReal) (M : EReal) (hg : ∀ d, ∃ ρ : ℝ, g d = (ρ : EReal)) (hk : ∀ κ d, ∃ ρ : ℝ, k κ d = (ρ : EReal))
    (hM : ∃ ρ : ℝ, M = (ρ : EReal)) : late (preScore q g k) v = early (postScore q g k) M v := by
  obtain ⟨s, h1, h2⟩ := scores q g k hg hk
  obtain ⟨ρ, rfl⟩ := hM
  rw [h1, h2]
  exact softmax s v ρ

end Cert.Mix

end
-- ==== Proof.MixBody.lean ====
/- What one step of the mixing kernel stores, read at an index. -/
module

public import proofs.«01_k».proof.Proof.MixSpec
public import proofs.«01_k».proof.Proof.Gen.Kernel3Ideal.Frame
public import Idealize.ShloMosaic.Lib.Pointwise
public import Idealize.ShloMosaic.Lib.Pipeline.ValueKit

@[expose] public section

set_option maxRecDepth 16384

noncomputable section

namespace Cert.Kernel3Ideal.Mix

open Cert.Kernel3Ideal Cert.Kernel3Ideal.Gen Cert.Mix
open Idealize.ShloMosaic Idealize.ShloMosaic.TcCoe Idealize.SL.Sem

theorem neg_inf : Ideal.ofBits .f32 0xFF800000#32 = (⊥ : EReal) := by
  simp [Ideal.ofBits, Ideal.ieee, -EReal.coe_mul]

/-- The normalised recurrent rows. -/
theorem lruV_at (g : Vec Ideal S1x512 .f32) (a b : Vec Ideal S1x1x512x512 .f32) (y : Vec Ideal S1x512x512 .f32) (r c : Fin 512) :
    k0_pay5 (F := Ideal) (k0_pay3 g) (k0_pay4 a b y) (ix2 r c)
      = unit 0x44000000#32 (fun k : Fin 512 => lru (a (ix4 0 0 r k)) (b (ix4 0 0 r k)) (y (ix3 0 r k))) (fun k => g (ix2 0 k)) c := by
  pointwise [k0_pay5, k0_pay3, k0_pay4]
  rfl

/-- Eight heads of attention, one above the other. -/
theorem mlaV_at (w : ℕ → Vec Ideal S1x1x1x64x512 .f32) (k r : Fin 512) :
    k0_pay6 (F := Ideal) (w 0) (w 1) (w 2) (w 3) (w 4) (w 5) (w 6) (w 7) (ix2 k r) = w (k.val / 64) (ix5 0 0 0 ⟨k.val % 64, by omega⟩ r) := by
  have hw (i x : ℕ) (hx : x < 64) (h : k.val = 64 * i + x) : w i (ix5 0 0 0 ⟨x, hx⟩ r : S1x1x1x64x512.Idx) = w (k.val / 64) (ix5 0 0 0 ⟨k.val % 64, by omega⟩ r : S1x1x1x64x512.Idx) := by
    have h1 : k.val / 64 = i := by omega
    have h2 : k.val % 64 = x := by omega
    subst h1; subst h2; rfl
  have hk := k.isLt
  pointwise [k0_pay6]
  split_ifs
  all_goals exact hw _ _ _ (by omega)

/-- The residual rows plus both branches through the projection. -/
theorem firstV_at (x : FVec Ideal S512x1024 .f32) (l : FVec Ideal S512x512 .bf16) (m : FVec Ideal S512x512 .f32) (g : Vec Ideal S512x1 .f32) (wl wm : Vec Ideal S512x1024 .bf16) (r : Fin 512) (d : Fin 1024) :
    k0_pay7 (F := Ideal) x l m g wl wm (ix2 r d)
      = first (fun k => x (ix2 r k)) (fun k => l (ix2 r k)) (unit 0x44000000#32 (fun k : Fin 512 => m (ix2 k r)) (fun k => g (ix2 k 0))) (fun k e => wl (ix2 k e)) (fun k e => wm (ix2 k e)) d := by
  pointwise [k0_pay7]
  rfl

/-- The normalised rows through the query projection. -/
theorem queryV_at (x : FVec Ideal S512x1024 .f32) (l : FVec Ideal S512x512 .bf16) (m : FVec Ideal S512x512 .f32) (g : Vec Ideal S512x1 .f32) (wl wm : Vec Ideal S512x1024 .bf16) (man : Vec Ideal S1x1024 .f32)
    (wq : Vec Ideal S1024x512 .bf16) (r : Fin 512) (h : Fin 4) (e : Fin 128) :
    k0_pay10 (F := Ideal) (k0_pay8 x l m g wl wm man) (k0_pay9 wq) (constant S512x512 .f32 0x00000000#32) (ix2 r ⟨128 * h.val + e.val, by omega⟩)
      = query (fun k => k0_pay7 (F := Ideal) x l m g wl wm (ix2 r k)) (fun k => man (ix2 0 k)) (fun k c => wq (ix2 k c)) h e := by
  pointwise [k0_pay10, k0_pay9, k0_pay8]
  rfl

/-- The queries of a head over their root mean square, times the gain and the scale. -/
def scaledV (q : FVec Ideal S512x128 .f32) (g : FVec Ideal S1x128 .f32) : FVec Ideal S512x128 .f32 :=
  mulf (mulf (mulf q (broadcastTo S512x128 (rsqrt (addf (divf (shapeCast S512x1 (multiReduction .add [1] S512 (mulf q q) 0x00000000#32 reduces_S512x128_S512 (.inl rfl) rfl) shapeCasts_S512_S512x1)
    (broadcast S512x1 (Scalar.ofBits .f32 0x43000000#32))) (broadcast S512x1 (Scalar.ofBits .f32 0x358637BD#32)))) broadcasts_S512x1_S512x128)) (broadcastTo S512x128 g broadcasts_S1x128_S512x128))
    (broadcast S512x128 (Scalar.ofBits .f32 0x3DB504F3#32))

/-- Their scores against the keys. -/
def scoreV (q : FVec Ideal S512x128 .f32) (k : Vec Ideal S1x1x256x128 .bf16) : FVec Ideal S512x256 .f32 :=
  matmul dot_S512x128_S256x128_S512x256_1_1_0_0_n_n none (truncf .bf16 q bitsLt_bf16_f32) (shapeCast S256x128 k shapeCasts_S1x1x256x128_S256x128 : FVec Ideal S256x128 .bf16) (constant S512x256 .f32 0x00000000#32)

/-- The exponentials of the scores less the largest of each row. -/
def weightV (s : FVec Ideal S512x256 .f32) : FVec Ideal S512x256 .f32 :=
  exp (subf s (broadcastTo S512x256 (shapeCast S512x1 (multiReduction .maximumf [1] S512 s 0xFF800000#32 reduces_S512x256_S512 (.inl rfl) rfl) shapeCasts_S512_S512x1) broadcasts_S512x1_S512x256))

/-- The weighted values over the sum of the weights. -/
def attendV (p : FVec Ideal S512x256 .f32) (v : Vec Ideal S1x1x256x128 .bf16) : FVec Ideal S512x128 .f32 :=
  divf (matmul dot_S512x256_S256x128_S512x128_1_0_0_1_n_n none (truncf .bf16 p bitsLt_bf16_f32) (shapeCast S256x128 v shapeCasts_S1x1x256x128_S256x128 : FVec Ideal S256x128 .bf16) (constant S512x128 .f32 0x00000000#32))
    (broadcastTo S512x128 (shapeCast S512x1 (multiReduction .add [1] S512 p 0x00000000#32 reduces_S512x256_S512 (.inl rfl) rfl) shapeCasts_S512_S512x1) broadcasts_S512x1_S512x128)

/-- One head of the attention over the memory. -/
def headV (q : FVec Ideal S512x128 .f32) (g : FVec Ideal S1x128 .f32) (k v : Vec Ideal S1x1x256x128 .bf16) : FVec Ideal S512x128 .f32 :=
  attendV (weightV (scoreV (scaledV q g) k)) v

theorem scaledV_at (q : FVec Ideal S512x128 .f32) (g : FVec Ideal S1x128 .f32) (r : Fin 512) (d : Fin 128) :
    scaledV q g (ix2 r d) = unit 0x43000000#32 (fun d => q (ix2 r d)) (fun d => g (ix2 0 d)) d * σ := by
  pointwise [scaledV]
  rfl

theorem scoreV_at (q : FVec Ideal S512x128 .f32) (k : Vec Ideal S1x1x256x128 .bf16) (r : Fin 512) (κ : Fin 256) :
    scoreV q k (ix2 r κ) = ∑ d : Fin 128, (q (ix2 r d) : EReal) * k (ix4 0 0 κ d) := by
  pointwise [scoreV]

theorem weightV_at (s : FVec Ideal S512x256 .f32) (r : Fin 512) (κ : Fin 256) :
    weightV s (ix2 r κ) = Ideal.exp ((s (ix2 r κ) : EReal) - Finset.univ.fold max (⊥ : EReal) fun l : Fin 256 => s (ix2 r l)) := by
  pointwise [weightV]
  rw [neg_inf]

theorem attendV_at (p : FVec Ideal S512x256 .f32) (v : Vec Ideal S1x1x256x128 .bf16) (r : Fin 512) (e : Fin 128) :
    attendV p v (ix2 r e) = Ideal.div (∑ κ : Fin 256, (p (ix2 r κ) : EReal) * v (ix4 0 0 κ e)) (∑ κ : Fin 256, p (ix2 r κ)) := by
  pointwise [attendV]

theorem headV_at (q : FVec Ideal S512x128 .f32) (g : FVec Ideal S1x128 .f32) (k v : Vec Ideal S1x1x256x128 .bf16) (r : Fin 512) (e : Fin 128) :
    headV q g k v (ix2 r e) = late (preScore (fun d => q (ix2 r d)) (fun d => g (ix2 0 d)) (fun κ d => k (ix4 0 0 κ d))) (fun κ => v (ix4 0 0 κ e)) := by
  simp only [headV, attendV_at, weightV_at, scoreV_at, scaledV_at]
  rfl

/-- The four heads side by side through the output projection, added to the rows. -/
def lastV (x : FVec Ideal S512x1024 .f32) (o0 o1 o2 o3 : FVec Ideal S512x128 .f32) (w : Vec Ideal S512x1024 .bf16) : FVec Ideal S1x512x1024 .f32 :=
  shapeCast S1x512x1024 (addf x (matmul dot_S512x512_S512x1024_S512x1024_1_0_0_1_n_n none (truncf .bf16 (concatenate S512x512 1 [⟨S512x128, o0⟩, ⟨S512x128, o1⟩, ⟨S512x128, o2⟩, ⟨S512x128, o3⟩] concatenates_S512x128_S512x128_S512x128_S512x128_S512x512_d1) bitsLt_bf16_f32)
    (shapeCast S512x1024 w shapeCasts_S512x1024_S512x1024 : FVec Ideal S512x1024 .bf16) (constant S512x1024 .f32 0x00000000#32))) shapeCasts_S512x1024_S1x512x1024

/-- Four heads side by side. -/
theorem sideV_at (o : ℕ → FVec Ideal S512x128 .f32) (r c : Fin 512) :
    concatenate S512x512 1 [⟨S512x128, o 0⟩, ⟨S512x128, o 1⟩, ⟨S512x128, o 2⟩, ⟨S512x128, o 3⟩] concatenates_S512x128_S512x128_S512x128_S512x128_S512x512_d1 (ix2 r c)
      = o (c.val / 128) (ix2 r ⟨c.val % 128, by omega⟩) := by
  have hw (i x : ℕ) (hx : x < 128) (h : c.val = 128 * i + x) : o i (ix2 r ⟨x, hx⟩ : S512x128.Idx) = o (c.val / 128) (ix2 r ⟨c.val % 128, by omega⟩ : S512x128.Idx) := by
    have h1 : c.val / 128 = i := by omega
    have h2 : c.val % 128 = x := by omega
    subst h1; subst h2; rfl
  have hc := c.isLt
  pointwise []
  split_ifs
  all_goals exact hw _ _ _ (by omega)

theorem lastV_at (x : FVec Ideal S512x1024 .f32) (o : ℕ → FVec Ideal S512x128 .f32) (w : Vec Ideal S512x1024 .bf16) (r : Fin 512) (d : Fin 1024) :
    lastV x (o 0) (o 1) (o 2) (o 3) w (ix3 0 r d) = last (fun k => x (ix2 r k)) (fun h e => o h.val (ix2 r e)) (fun c k => w (ix2 c k)) d := by
  have e : lastV x (o 0) (o 1) (o 2) (o 3) w (ix3 0 r d) = x (ix2 r d) + ∑ c : Fin 512, (concatenate S512x512 1 [⟨S512x128, o 0⟩, ⟨S512x128, o 1⟩, ⟨S512x128, o 2⟩, ⟨S512x128, o 3⟩] concatenates_S512x128_S512x128_S512x128_S512x128_S512x512_d1 (ix2 r c) : EReal) * w (ix2 c d) := by
    unfold lastV
    generalize concatenate S512x512 1 [⟨S512x128, o 0⟩, ⟨S512x128, o 1⟩, ⟨S512x128, o 2⟩, ⟨S512x128, o 3⟩] concatenates_S512x128_S512x128_S512x128_S512x128_S512x512_d1 = O
    pointwise []
  rw [e]
  simp only [sideV_at]
  rfl

/-! ## The payloads as these functions -/

theorem pay11_eq (h : FVec Ideal S512x1024 .bf16) (w : FVec Ideal S1024x512 .bf16) (z : FVec Ideal S512x512 .f32) (g : Vec Ideal S1x128 .f32) (k v : Vec Ideal S1x1x256x128 .bf16) :
    k0_pay11 (F := Ideal) h w z g k v = headV (extractStridedSlice S512x128 ![0, 0] (k0_pay10 h w z) slices_S512x512_o0_0_S512x128) (k0_pay13 g) k v := rfl

theorem pay15_eq (h : FVec Ideal S512x1024 .bf16) (w : FVec Ideal S1024x512 .bf16) (z : FVec Ideal S512x512 .f32) (g : Vec Ideal S1x128 .f32) (k v : Vec Ideal S1x1x256x128 .bf16) :
    k0_pay15 (F := Ideal) (k0_pay12 h w z) (k0_pay13 g) (k0_pay14 h w z) k v = headV (extractStridedSlice S512x128 ![0, 128] (k0_pay10 h w z) slices_S512x512_o0_128_S512x128) (k0_pay13 g) k v := rfl

theorem pay19_eq (q : FVec Ideal S512x512 .f32) (g : Vec Ideal S1x128 .f32) (k v : Vec Ideal S1x1x256x128 .bf16) :
    k0_pay19 (F := Ideal) (k0_pay16 q) (k0_pay17 g) (k0_pay18 q) k v = headV (extractStridedSlice S512x128 ![0, 256] q slices_S512x512_o0_256_S512x128) (k0_pay13 g) k v := rfl

theorem pay1_eq (x : FVec Ideal S512x1024 .f32) (o0 o1 o2 : FVec Ideal S512x128 .f32) (q : FVec Ideal S512x512 .f32) (g : Vec Ideal S1x128 .f32) (k v : Vec Ideal S1x1x256x128 .bf16) (w : Vec Ideal S512x1024 .bf16) :
    k0_pay1 (F := Ideal) x o0 o1 o2 (k0_pay20 q g) k v w = lastV x o0 o1 o2 (headV (extractStridedSlice S512x128 ![0, 384] q slices_S512x512_o0_384_S512x128) (k0_pay13 g) k v) w := rfl

/-! ## The blocks' parts -/

/-- Head `n` of a block of attention output. -/
def mlaB (x : Vec Ideal S1x8x1x64x512 .f32) (n : ℕ) : Vec Ideal S1x1x1x64x512 .f32 := fun i => x (ix5 0 ⟨n % 8, by omega⟩ 0 (i 3) (i 4))

/-- Head `n` of a block of memory keys or values. -/
def memB (x : Vec Ideal S1x4x256x128 .bf16) (n : ℕ) : Vec Ideal S1x1x256x128 .bf16 := fun i => x (ix4 0 ⟨n % 4, by omega⟩ (i 2) (i 3))

/-- Head `n` of the queries. -/
def queryB (x : FVec Ideal S512x512 .f32) (n : ℕ) : FVec Ideal S512x128 .f32 := fun i => x (ix2 (i 0) ⟨128 * (n % 4) + (i 1).val, by have h : (i 1).val < 128 := (i 1).isLt; omega⟩)

theorem mlaB_eq (x : Vec Ideal S1x8x1x64x512 .f32) (n : ℕ) (inb) (hn : n < 8) : View.ld x (Rect.unit (s := S1x8x1x64x512) ![0, n, 0, 0, 0] S1x1x1x64x512.size inb) = mlaB x n := by
  funext i
  refine congrArg x (funext fun a => Fin.ext ?_)
  have h0 : (i 0).val < 1 := (i 0).isLt
  have h1 : (i 1).val < 1 := (i 1).isLt
  have h2 : (i 2).val < 1 := (i 2).isLt
  fin_cases a
  · show 0 + 1 * (i 0).val = 0; omega
  · show n + 1 * (i 1).val = n % 8; omega
  · show 0 + 1 * (i 2).val = 0; omega
  · show 0 + 1 * (i 3).val = (i 3).val; omega
  · show 0 + 1 * (i 4).val = (i 4).val; omega

theorem memB_eq (x : Vec Ideal S1x4x256x128 .bf16) (n : ℕ) (inb) (hn : n < 4) : View.ld x (Rect.unit (s := S1x4x256x128) ![0, n, 0, 0] S1x1x256x128.size inb) = memB x n := by
  funext i
  refine congrArg x (funext fun a => Fin.ext ?_)
  have h0 : (i 0).val < 1 := (i 0).isLt
  have h1 : (i 1).val < 1 := (i 1).isLt
  fin_cases a
  · show 0 + 1 * (i 0).val = 0; omega
  · show n + 1 * (i 1).val = n % 4; omega
  · show 0 + 1 * (i 2).val = (i 2).val; omega
  · show 0 + 1 * (i 3).val = (i 3).val; omega

theorem queryB_eq (x : FVec Ideal S512x512 .f32) (n o : ℕ) (h) (hn : n < 4) (ho : o = 128 * n) : extractStridedSlice S512x128 ![0, o] x h = queryB x n := by
  subst ho
  funext i
  refine congrArg x (funext fun a => Fin.ext ?_)
  fin_cases a
  · show 0 + (i 0).val = (i 0).val; omega
  · show 128 * n + (i 1).val = 128 * (n % 4) + (i 1).val; omega

/-! ## What the step stores -/

section

variable (x0 : Vec Ideal S1x512x1024 .f32) (x1 x2 : Vec Ideal S1x1x512x512 .f32) (x3 : Vec Ideal S1x512x512 .f32) (x4 : Vec Ideal S1x8x1x64x512 .f32) (x5 : Vec Ideal S1x512 .f32) (x6 : Vec Ideal S512x1 .f32)
  (x7 x8 : Vec Ideal S512x1024 .bf16) (x9 : Vec Ideal S1x1024 .f32) (x10 : Vec Ideal S1024x512 .bf16) (x11 : Vec Ideal S1x128 .f32) (x12 x13 : Vec Ideal S1x4x256x128 .bf16) (x14 : Vec Ideal S512x1024 .bf16)

/-- The rows after both branches. -/
def rowsV : FVec Ideal S512x1024 .f32 :=
  k0_pay7 (F := Ideal) (k0_pay2 x0) (k0_pay5 (k0_pay3 x5) (k0_pay4 x1 x2 x3)) (k0_pay6 (mlaB x4 0) (mlaB x4 1) (mlaB x4 2) (mlaB x4 3) (mlaB x4 4) (mlaB x4 5) (mlaB x4 6) (mlaB x4 7)) x6 x7 x8

/-- Their queries. -/
def queriesV : FVec Ideal S512x512 .f32 :=
  k0_pay10 (F := Ideal) (k0_pay8 (k0_pay2 x0) (k0_pay5 (k0_pay3 x5) (k0_pay4 x1 x2 x3)) (k0_pay6 (mlaB x4 0) (mlaB x4 1) (mlaB x4 2) (mlaB x4 3) (mlaB x4 4) (mlaB x4 5) (mlaB x4 6) (mlaB x4 7)) x6 x7 x8 x9)
    (k0_pay9 x10) (constant S512x512 .f32 0x00000000#32)

/-- Head `n` of their attention over the memory. -/
def headN (n : ℕ) : FVec Ideal S512x128 .f32 :=
  headV (queryB (queriesV x0 x1 x2 x3 x4 x5 x6 x7 x8 x9 x10) n) (k0_pay13 x11) (memB x12 n) (memB x13 n)

theorem out_eq : out0_15 (F := Ideal) x0 x1 x2 x3 x4 x5 x6 x7 x8 x9 x10 x11 x12 x13 x14
    = lastV (rowsV x0 x1 x2 x3 x4 x5 x6 x7 x8) (headN x0 x1 x2 x3 x4 x5 x6 x7 x8 x9 x10 x11 x12 x13 0) (headN x0 x1 x2 x3 x4 x5 x6 x7 x8 x9 x10 x11 x12 x13 1)
        (headN x0 x1 x2 x3 x4 x5 x6 x7 x8 x9 x10 x11 x12 x13 2) (headN x0 x1 x2 x3 x4 x5 x6 x7 x8 x9 x10 x11 x12 x13 3) x14 := by
  unfold out0_15
  rw [View.canon_cons_unit_lit _ _ _ (by decide), pay1_eq, pay11_eq, pay15_eq, pay19_eq, queryB_eq _ 0 0 _ (by decide) rfl, queryB_eq _ 1 128 _ (by decide) rfl, queryB_eq _ 2 256 _ (by decide) rfl, queryB_eq _ 3 384 _ (by decide) rfl,
    memB_eq x12 0 _ (by decide), memB_eq x12 1 _ (by decide), memB_eq x12 2 _ (by decide), memB_eq x12 3 _ (by decide), memB_eq x13 0 _ (by decide), memB_eq x13 1 _ (by decide), memB_eq x13 2 _ (by decide), memB_eq x13 3 _ (by decide)]
  unfold k0_pay27 k0_pay26 k0_pay25 k0_pay24 k0_pay23 k0_pay22 k0_pay21
  rw [mlaB_eq x4 0 _ (by decide), mlaB_eq x4 1 _ (by decide), mlaB_eq x4 2 _ (by decide), mlaB_eq x4 3 _ (by decide), mlaB_eq x4 4 _ (by decide), mlaB_eq x4 5 _ (by decide), mlaB_eq x4 6 _ (by decide), mlaB_eq x4 7 _ (by decide),
    View.ld_unit_lit _ x0 (by decide), View.ld_unit_lit _ x1 (by decide), View.ld_unit_lit _ x2 (by decide), View.ld_unit_lit _ x3 (by decide), View.ld_unit_lit _ x5 (by decide), View.ld_unit_lit _ x6 (by decide), View.ld_unit_lit _ x7 (by decide),
    View.ld_unit_lit _ x8 (by decide), View.ld_unit_lit _ x9 (by decide), View.ld_unit_lit _ x10 (by decide), View.ld_unit_lit _ x11 (by decide), View.ld_unit_lit _ x14 (by decide)]
  rfl

/-- A row after both branches, as a function of the blocks. -/
def brow (r : Fin 512) : Fin 1024 → EReal :=
  first (fun k => x0 (ix3 0 r k)) (unit 0x44000000#32 (fun k : Fin 512 => lru (x1 (ix4 0 0 r k)) (x2 (ix4 0 0 r k)) (x3 (ix3 0 r k))) (fun k => x5 (ix2 0 k)))
    (unit 0x44000000#32 (fun k : Fin 512 => x4 (ix5 0 ⟨k.val / 64, by omega⟩ 0 ⟨k.val % 64, by omega⟩ r)) (fun k => x6 (ix2 k 0))) (fun k e => x7 (ix2 k e)) (fun k e => x8 (ix2 k e))

theorem rows_at (r : Fin 512) (d : Fin 1024) : rowsV x0 x1 x2 x3 x4 x5 x6 x7 x8 (ix2 r d) = brow x0 x1 x2 x3 x4 x5 x6 x7 x8 r d := by
  rw [rowsV, firstV_at]
  unfold brow
  have hx : (fun k => k0_pay2 (F := Ideal) x0 (ix2 r k) : Fin 1024 → EReal) = fun k => x0 (ix3 0 r k) := by
    funext k
    pointwise [k0_pay2]
  have hm : (fun k : Fin 512 => k0_pay6 (F := Ideal) (mlaB x4 0) (mlaB x4 1) (mlaB x4 2) (mlaB x4 3) (mlaB x4 4) (mlaB x4 5) (mlaB x4 6) (mlaB x4 7) (ix2 k r) : Fin 512 → EReal)
      = fun k => x4 (ix5 0 ⟨k.val / 64, by omega⟩ 0 ⟨k.val % 64, by omega⟩ r) := by
    funext k
    refine (mlaV_at (mlaB x4) k r).trans ?_
    have hk : k.val / 64 % 8 = k.val / 64 := by omega
    show x4 (ix5 0 ⟨k.val / 64 % 8, _⟩ 0 ⟨k.val % 64, _⟩ r) = _
    simp only [hk]
  have hl : (fun c : Fin 512 => k0_pay5 (F := Ideal) (k0_pay3 x5) (k0_pay4 x1 x2 x3) (ix2 r c) : Fin 512 → EReal)
      = unit 0x44000000#32 (fun k : Fin 512 => lru (x1 (ix4 0 0 r k)) (x2 (ix4 0 0 r k)) (x3 (ix3 0 r k))) (fun k => x5 (ix2 0 k)) := funext fun c => lruV_at x5 x1 x2 x3 r c
  rw [hx, hm, hl]

theorem head_at (h : Fin 4) (r : Fin 512) (e : Fin 128) : headN x0 x1 x2 x3 x4 x5 x6 x7 x8 x9 x10 x11 x12 x13 h.val (ix2 r e)
    = late (preScore (query (brow x0 x1 x2 x3 x4 x5 x6 x7 x8 r) (fun k => x9 (ix2 0 k)) (fun k c => x10 (ix2 k c)) h) (fun d => x11 (ix2 0 d)) (fun κ d => x12 (ix4 0 h κ d))) (fun κ => x13 (ix4 0 h κ e)) := by
  have hh : h.val % 4 = h.val := by omega
  have hq : (fun d => queryB (queriesV x0 x1 x2 x3 x4 x5 x6 x7 x8 x9 x10) h.val (ix2 r d) : Fin 128 → EReal) = query (brow x0 x1 x2 x3 x4 x5 x6 x7 x8 r) (fun k => x9 (ix2 0 k)) (fun k c => x10 (ix2 k c)) h := by
    funext d
    show queriesV x0 x1 x2 x3 x4 x5 x6 x7 x8 x9 x10 (ix2 r ⟨128 * (h.val % 4) + d.val, _⟩) = _
    simp only [hh]
    refine (queryV_at _ _ _ _ _ _ _ _ r h d).trans ?_
    exact congrArg (fun p => query p (fun k => x9 (ix2 0 k)) (fun k c => x10 (ix2 k c)) h d) (funext fun k => rows_at x0 x1 x2 x3 x4 x5 x6 x7 x8 r k)
  have hg : (fun d => k0_pay13 (F := Ideal) x11 (ix2 0 d) : Fin 128 → EReal) = fun d => x11 (ix2 0 d) := by
    funext d
    pointwise [k0_pay13]
  have hb (x : Vec Ideal S1x4x256x128 .bf16) (κ : Fin 256) (d : Fin 128) : memB x h.val (ix4 0 0 κ d : S1x1x256x128.Idx) = x (ix4 0 h κ d) := by
    show x (ix4 0 ⟨h.val % 4, _⟩ κ d) = _
    simp only [hh]
  rw [headN, headV_at, hq, hg]
  simp only [hb]

/-- What a step stores, at an index. -/
theorem out_at (r : Fin 512) (d : Fin 1024) : out0_15 (F := Ideal) x0 x1 x2 x3 x4 x5 x6 x7 x8 x9 x10 x11 x12 x13 x14 (ix3 0 r d)
    = last (brow x0 x1 x2 x3 x4 x5 x6 x7 x8 r)
        (fun h e => late (preScore (query (brow x0 x1 x2 x3 x4 x5 x6 x7 x8 r) (fun k => x9 (ix2 0 k)) (fun k c => x10 (ix2 k c)) h) (fun d => x11 (ix2 0 d)) (fun κ d => x12 (ix4 0 h κ d))) (fun κ => x13 (ix4 0 h κ e)))
        (fun c k => x14 (ix2 c k)) d := by
  rw [out_eq]
  refine (lastV_at _ (headN x0 x1 x2 x3 x4 x5 x6 x7 x8 x9 x10 x11 x12 x13) _ r d).trans ?_
  simp only [rows_at, head_at]

end

end Cert.Kernel3Ideal.Mix

end
-- ==== Proof.MixRef.lean ====
/- The mixing reference's result at an index. -/
module

public import proofs.«01_k».proof.Proof.Gen.Reference3Ideal.Run
public import proofs.«01_k».proof.Proof.RefValue
public import proofs.«01_k».proof.Proof.MixSpec
public import Idealize.ShloMosaic.Lib.Pointwise
public import Idealize.ShloMosaic.Lib.KernelVsHost

@[expose] public section

set_option maxRecDepth 16384

noncomputable section

namespace Cert.Reference3Ideal.Mix

open Cert.Reference3Ideal Cert.Reference3Ideal.Gen Cert.Mix Cert.Softmax
open Idealize.ShloMosaic Idealize.ShloMosaic.TcCoe Idealize.SL.Sem

/-- The recurrence's two directions, added and gated. -/
def refL (H : FVec Ideal S2x2x8192x512 .f32) (Y : FVec Ideal S2x8192x512 .f32) : FVec Ideal S2x8192x512 .f32 :=
  mulf (addf (shapeCast S2x8192x512 (extractStridedSlice S1x2x8192x512 ![0, 0, 0, 0] H slices_S2x2x8192x512_S1x2x8192x512_0_0_0_0) shapeCasts_S1x2x8192x512_S2x8192x512)
    (shapeCast S2x8192x512 (extractStridedSlice S1x2x8192x512 ![1, 0, 0, 0] H slices_S2x2x8192x512_S1x2x8192x512_1_0_0_0) shapeCasts_S1x2x8192x512_S2x8192x512))
    (mulf Y (mulf (broadcastInDim S2x8192x512 ![] bcast_S_S2x8192x512 (constant S_ .f32 0x3F000000#32)) (addf (broadcastInDim S2x8192x512 ![] bcast_S_S2x8192x512 (constant S_ .f32 0x3F800000#32))
      (Host.tanh (mulf (broadcastInDim S2x8192x512 ![] bcast_S_S2x8192x512 (constant S_ .f32 0x3F4C422A#32)) (addf Y (mulf (broadcastInDim S2x8192x512 ![] bcast_S_S2x8192x512 (constant S_ .f32 0x3D372713#32)) (mulf (mulf Y Y) Y))))))))

/-- The attention's output, position by position. -/
def refO (A : FVec Ideal S2x8x16x64x512 .f32) : FVec Ideal S2x8192x512 .f32 :=
  shapeCast S2x8192x512 (transpose S2x16x512x8x64 [0, 2, 4, 1, 3] A transposes_S2x8x16x64x512_S2x16x512x8x64_0_2_4_1_3) shapeCasts_S2x16x512x8x64_S2x8192x512

/-- Rows of 512 over their root mean square, times a gain. -/
def refU (X : FVec Ideal S2x8192x512 .f32) (G : FVec Ideal S512 .f32) : FVec Ideal S2x8192x512 .f32 :=
  mulf (mulf X (broadcastInDim S2x8192x512 ![0, 1, 2] bcast_S2x8192x1_S2x8192x512_0_1_2 (Host.rsqrt (addf (Host.divf (broadcastInDim S2x8192x1 ![0, 1] bcast_S2x8192_S2x8192x1_0_1 (Host.reduceAdd (mulf X X) (constant S_ .f32 0x00000000#32) reducesTo_S2x8192x512_S2x8192_d2 h_S_)) (broadcastInDim S2x8192x1 ![] bcast_S_S2x8192x1 (constant S_ .f32 0x44000000#32))) (broadcastInDim S2x8192x1 ![] bcast_S_S2x8192x1 (constant S_ .f32 0x358637BD#32))))))
    (broadcastInDim S2x8192x512 ![0, 1, 2] bcast_S1x1x512_S2x8192x512_0_1_2 (broadcastInDim S1x1x512 ![2] bcast_S512_S1x1x512_2 G))

/-- The residual stream plus both branches through the projection. -/
def refX (X : FVec Ideal S2x8192x1024 .f32) (L O : FVec Ideal S2x8192x512 .f32) (W : FVec Ideal S1024x1024 .f32) : FVec Ideal S2x8192x1024 .f32 :=
  addf X (Host.dotGeneral dot_S2x8192x1024_S1024x1024_S2x8192x1024_2_0_01_1_n_n none (concatenate S2x8192x1024 2 [⟨S2x8192x512, L⟩, ⟨S2x8192x512, O⟩] concatenates_S2x8192x512_S2x8192x512_S2x8192x1024_d2) W)

/-- Rows of 1024 over their root mean square, times a gain. -/
def refN (X : FVec Ideal S2x8192x1024 .f32) (G : FVec Ideal S1024 .f32) : FVec Ideal S2x8192x1024 .f32 :=
  mulf (mulf X (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 G))

/-- The queries, head by head. -/
def refQ (N : FVec Ideal S2x8192x1024 .f32) (W : FVec Ideal S1024x512 .f32) : FVec Ideal S2x8192x4x128 .f32 :=
  shapeCast S2x8192x4x128 (Host.dotGeneral dot_S2x8192x1024_S1024x512_S2x8192x512_2_0_01_1_n_n none N W : FVec Ideal S2x8192x512 .f32) shapeCasts_S2x8192x512_S2x8192x4x128

/-- The queries over their root mean square, times a gain. -/
def refR (Q : FVec Ideal S2x8192x4x128 .f32) (G : FVec Ideal S128 .f32) : FVec Ideal S2x8192x4x128 .f32 :=
  mulf (mulf Q (broadcastInDim S2x8192x4x128 ![0, 1, 2, 3] bcast_S2x8192x4x1_S2x8192x4x128_0_1_2_3 (Host.rsqrt (addf (Host.divf (broadcastInDim S2x8192x4x1 ![0, 1, 2] bcast_S2x8192x4_S2x8192x4x1_0_1_2 (Host.reduceAdd (mulf Q Q) (constant S_ .f32 0x00000000#32) reducesTo_S2x8192x4x128_S2x8192x4_d3 h_S_)) (broadcastInDim S2x8192x4x1 ![] bcast_S_S2x8192x4x1 (constant S_ .f32 0x43000000#32))) (broadcastInDim S2x8192x4x1 ![] bcast_S_S2x8192x4x1 (constant S_ .f32 0x358637BD#32))))))
    (broadcastInDim S2x8192x4x128 ![0, 1, 2, 3] bcast_S1x1x1x128_S2x8192x4x128_0_1_2_3 (broadcastInDim S1x1x1x128 ![3] bcast_S128_S1x1x1x128_3 G))

/-- The scores. -/
def refS (R : FVec Ideal S2x8192x4x128 .f32) (K : FVec Ideal S2x4x256x128 .bf16) : FVec Ideal S2x4x8192x256 .f32 :=
  mulf (Host.dotGeneral dot_S2x8192x4x128_S2x4x256x128_S2x4x8192x256_3_3_1_2_02_01 none R (extf .f32 K bitsLt_bf16_f32)) (broadcastInDim S2x4x8192x256 ![] bcast_S_S2x4x8192x256 (constant S_ .f32 0x3DB504F3#32))

/-- The largest score of each query. -/
def refM (S : FVec Ideal S2x4x8192x256 .f32) : FVec Ideal S2x4x8192 .f32 :=
  maximumf (broadcastInDim S2x4x8192 ![] bcast_S_S2x4x8192 (constant S_ .f32 0xFF800000#32)) (Host.reduce FloatOps.maximumf S (constant S_ .f32 0xFF800000#32) reducesTo_S2x4x8192x256_S2x4x8192_d3 h_S_)

/-- The exponentials of the scores less an array of shifts. -/
def refE (S : FVec Ideal S2x4x8192x256 .f32) (M : FVec Ideal S2x4x8192 .f32) : FVec Ideal S2x4x8192x256 .f32 :=
  Host.exp (subf S (broadcastInDim S2x4x8192x256 ![0, 1, 2, 3] bcast_S2x4x8192x1_S2x4x8192x256_0_1_2_3 (broadcastInDim S2x4x8192x1 ![0, 1, 2] bcast_S2x4x8192_S2x4x8192x1_0_1_2 M)))

/-- The values, weighted. -/
def refV (E : FVec Ideal S2x4x8192x256 .f32) (V : FVec Ideal S2x4x256x128 .bf16) : FVec Ideal S2x4x128x8192 .f32 :=
  Host.dotGeneral dot_S2x4x256x128_S2x4x8192x256_S2x4x128x8192_2_3_3_2_01_01 none (extf .f32 V bitsLt_bf16_f32)
    (Host.divf E (broadcastInDim S2x4x8192x256 ![0, 1, 2, 3] bcast_S2x4x8192x1_S2x4x8192x256_0_1_2_3 (broadcastInDim S2x4x8192x1 ![0, 1, 2] bcast_S2x4x8192_S2x4x8192x1_0_1_2 (Host.reduceAdd E (constant S_ .f32 0x00000000#32) reducesTo_S2x4x8192x256_S2x4x8192_d3 h_S_))))

/-- The rows plus the attention through the output projection. -/
def refZ (X : FVec Ideal S2x8192x1024 .f32) (A : FVec Ideal S2x4x128x8192 .f32) (W : FVec Ideal S512x1024 .f32) : FVec Ideal S2x8192x1024 .f32 :=
  addf X (Host.dotGeneral dot_S2x8192x512_S512x1024_S2x8192x1024_2_0_01_1_n_n none (shapeCast S2x8192x512 (transpose S2x8192x4x128 [0, 3, 1, 2] A transposes_S2x4x128x8192_S2x8192x4x128_0_3_1_2) shapeCasts_S2x8192x4x128_S2x8192x512 : FVec Ideal S2x8192x512 .f32) W)

section

variable (x : FVec Ideal S2x8192x1024 .f32) (h2 : FVec Ideal S2x2x8192x512 .f32) (yg : FVec Ideal S2x8192x512 .f32) (mla : FVec Ideal S2x8x16x64x512 .f32) (ln mn : FVec Ideal S512 .f32) (wo : FVec Ideal S1024x1024 .f32)
  (man : FVec Ideal S1024 .f32) (wq : FVec Ideal S1024x512 .f32) (gq : FVec Ideal S128 .f32) (km vm : FVec Ideal S2x4x256x128 .bf16) (wm : FVec Ideal S512x1024 .f32)

/-- The residual stream after both branches. -/
def rows : FVec Ideal S2x8192x1024 .f32 := refX x (refU (refL h2 yg) ln) (refU (refO mla) mn) wo

/-- The scores of its queries. -/
def scoresR : FVec Ideal S2x4x8192x256 .f32 := refS (refR (refQ (refN (rows x h2 yg mla ln mn wo) man) wq) gq) km

/-- The reference's result, of its thirteen arrays. -/
def REF : FVec Ideal S2x8192x1024 .f32 :=
  refZ (rows x h2 yg mla ln mn wo) (refV (refE (scoresR x h2 yg mla ln mn wo man wq gq km) (refM (scoresR x h2 yg mla ln mn wo man wq gq km))) vm) wm

end

/-! ## The pieces at an index -/

theorem refL_at (H : FVec Ideal S2x2x8192x512 .f32) (Y : FVec Ideal S2x8192x512 .f32) (b : Fin 2) (s : Fin 8192) (c : Fin 512) :
    refL H Y (ix3 b s c) = lru (H (ix4 0 b s c)) (H (ix4 1 b s c)) (Y (ix3 b s c)) := by
  pointwise [refL]
  rfl

theorem refO_at (A : FVec Ideal S2x8x16x64x512 .f32) (b : Fin 2) (s : Fin 8192) (c : Fin 512) :
    refO A (ix3 b s c) = A (ix5 b ⟨c.val / 64, by omega⟩ ⟨s.val / 512, by omega⟩ ⟨c.val % 64, by omega⟩ ⟨s.val % 512, by omega⟩) := by
  pointwise [refO]

theorem refU_at (X : FVec Ideal S2x8192x512 .f32) (G : FVec Ideal S512 .f32) (b : Fin 2) (s : Fin 8192) (c : Fin 512) :
    refU X G (ix3 b s c) = unit 0x44000000#32 (fun k : Fin 512 => X (ix3 b s k)) (fun k => G (ix1 k)) c := by
  pointwise [refU]
  rfl

theorem refN_at (X : FVec Ideal S2x8192x1024 .f32) (G : FVec Ideal S1024 .f32) (b : Fin 2) (s : Fin 8192) (c : Fin 1024) :
    refN X G (ix3 b s c) = unit 0x44800000#32 (fun k : Fin 1024 => X (ix3 b s k)) (fun k => G (ix1 k)) c := by
  pointwise [refN]
  rfl

theorem refR_at (Q : FVec Ideal S2x8192x4x128 .f32) (G : FVec Ideal S128 .f32) (b : Fin 2) (s : Fin 8192) (h : Fin 4) (d : Fin 128) :
    refR Q G (ix4 b s h d) = unit 0x43000000#32 (fun k : Fin 128 => Q (ix4 b s h k)) (fun k => G (ix1 k)) d := by
  pointwise [refR]
  rfl

theorem refQ_at (N : FVec Ideal S2x8192x1024 .f32) (W : FVec Ideal S1024x512 .f32) (b : Fin 2) (s : Fin 8192) (h : Fin 4) (e : Fin 128) :
    refQ N W (ix4 b s h e) = ∑ d : Fin 1024, (N (ix3 b s d) : EReal) * W (ix2 d ⟨128 * h.val + e.val, by omega⟩) := by
  pointwise [refQ]
  simp only [Nat.mul_comm h.val 128]

theorem refS_at (R : FVec Ideal S2x8192x4x128 .f32) (K : FVec Ideal S2x4x256x128 .bf16) (b : Fin 2) (h : Fin 4) (s : Fin 8192) (κ : Fin 256) :
    refS R K (ix4 b h s κ) = (∑ d : Fin 128, (R (ix4 b s h d) : EReal) * K (ix4 b h κ d)) * σ := by
  pointwise [refS]
  rfl

theorem refE_at (S : FVec Ideal S2x4x8192x256 .f32) (M : FVec Ideal S2x4x8192 .f32) (b : Fin 2) (h : Fin 4) (s : Fin 8192) (κ : Fin 256) :
    refE S M (ix4 b h s κ) = Ideal.exp ((S (ix4 b h s κ) : EReal) - M (ix3 b h s)) := by
  pointwise [refE]

theorem refV_at (E : FVec Ideal S2x4x8192x256 .f32) (V : FVec Ideal S2x4x256x128 .bf16) (b : Fin 2) (h : Fin 4) (e : Fin 128) (s : Fin 8192) :
    refV E V (ix4 b h e s) = ∑ κ : Fin 256, (V (ix4 b h κ e) : EReal) * Ideal.div (E (ix4 b h s κ)) (∑ l : Fin 256, E (ix4 b h s l)) := by
  pointwise [refV]

theorem refZ_at (X : FVec Ideal S2x8192x1024 .f32) (A : FVec Ideal S2x4x128x8192 .f32) (W : FVec Ideal S512x1024 .f32) (b : Fin 2) (s : Fin 8192) (d : Fin 1024) :
    refZ X A W (ix3 b s d) = last (fun k => X (ix3 b s k)) (fun h e => A (ix4 b h e s)) (fun c k => W (ix2 c k)) d := by
  pointwise [refZ]
  rfl

/-- The concatenated branches through the projection are each through its half. -/
theorem refX_at (X : FVec Ideal S2x8192x1024 .f32) (L O : FVec Ideal S2x8192x512 .f32) (W : FVec Ideal S1024x1024 .f32) (b : Fin 2) (s : Fin 8192) (d : Fin 1024) :
    refX X L O W (ix3 b s d) = first (fun k => X (ix3 b s k)) (fun c => L (ix3 b s c)) (fun c => O (ix3 b s c)) (fun c k => W (ix2 ⟨c.val, by omega⟩ k)) (fun c k => W (ix2 ⟨512 + c.val, by omega⟩ k)) d := by
  have e : refX X L O W (ix3 b s d) = X (ix3 b s d) + ∑ c : Fin 1024, (concatenate S2x8192x1024 2 [⟨S2x8192x512, L⟩, ⟨S2x8192x512, O⟩] concatenates_S2x8192x512_S2x8192x512_S2x8192x1024_d2 (ix3 b s c) : EReal) * W (ix2 c d) := by
    unfold refX
    generalize concatenate S2x8192x1024 2 [⟨S2x8192x512, L⟩, ⟨S2x8192x512, O⟩] concatenates_S2x8192x512_S2x8192x512_S2x8192x1024_d2 = C
    pointwise []
  have hL : ∀ c : Fin 512, concatenate S2x8192x1024 2 [⟨S2x8192x512, L⟩, ⟨S2x8192x512, O⟩] concatenates_S2x8192x512_S2x8192x512_S2x8192x1024_d2 (ix3 b s (Fin.castAdd 512 c) : S2x8192x1024.Idx) = L (ix3 b s c) := by
    intro c
    pointwise []
    simp
  have hO : ∀ c : Fin 512, concatenate S2x8192x1024 2 [⟨S2x8192x512, L⟩, ⟨S2x8192x512, O⟩] concatenates_S2x8192x512_S2x8192x512_S2x8192x1024_d2 (ix3 b s (Fin.natAdd 512 c) : S2x8192x1024.Idx) = O (ix3 b s c) := by
    intro c
    pointwise []
    simp
  rw [e, first, add_assoc]
  refine congrArg (fun z : EReal => X (ix3 b s d) + z) ?_
  refine (Fin.sum_univ_add (a := 512) (b := 512) _).trans (congrArg₂ (fun p q : EReal => p + q) (Finset.sum_congr rfl fun c _ => ?_) (Finset.sum_congr rfl fun c _ => ?_))
  · rw [hL]; rfl
  · rw [hO]; rfl

/-! ## The result at an index -/

theorem reduces_scores : S2x4x8192x256.Reduces [3] S2x4x8192 := by decide

theorem neg_inf (i : S_.Idx) : (constant (F := Ideal) S_ .f32 0xFF800000#32) i = (⊥ : EReal) := Cert.ReferenceIdeal.Attn.neg_inf

theorem refM_read (S : FVec Ideal S2x4x8192x256 .f32) (j : S2x4x8192.Idx) : refM S j = FloatOps.maximumf (F := Ideal) (broadcastInDim S2x4x8192 ![] bcast_S_S2x4x8192 (constant (F := Ideal) S_ .f32 0xFF800000#32) j)
    (Host.reduce FloatOps.maximumf S (constant (F := Ideal) S_ .f32 0xFF800000#32) reducesTo_S2x4x8192x256_S2x4x8192_d3 h_S_ j) := by
  unfold refM
  rw [maximumf]

/-- The largest of real scores is real. -/
theorem refM_real (S : FVec Ideal S2x4x8192x256 .f32) (hS : ∀ i, ∃ ρ : ℝ, S i = (ρ : EReal)) (j : S2x4x8192.Idx) : ∃ ρ : ℝ, refM S j = (ρ : EReal) := by
  obtain ⟨ρ, hρ⟩ := Cert.ReferenceIdeal.Attn.reduce_max_real _ Cert.ReferenceIdeal.Attn.maximumf_eq S hS (constant (F := Ideal) S_ .f32 0xFF800000#32) reducesTo_S2x4x8192x256_S2x4x8192_d3 reduces_scores h_S_ neg_inf (by show 0 < 256; omega) j
  refine ⟨ρ, ?_⟩
  have e : broadcastInDim S2x4x8192 ![] bcast_S_S2x4x8192 (constant (F := Ideal) S_ .f32 0xFF800000#32) j = (⊥ : EReal) := neg_inf _
  rw [refM_read, e]
  exact hρ

section

variable (x : FVec Ideal S2x8192x1024 .f32) (h2 : FVec Ideal S2x2x8192x512 .f32) (yg : FVec Ideal S2x8192x512 .f32) (mla : FVec Ideal S2x8x16x64x512 .f32) (ln mn : FVec Ideal S512 .f32) (wo : FVec Ideal S1024x1024 .f32)
  (man : FVec Ideal S1024 .f32) (wq : FVec Ideal S1024x512 .f32) (gq : FVec Ideal S128 .f32) (km vm : FVec Ideal S2x4x256x128 .bf16) (wm : FVec Ideal S512x1024 .f32)

/-- A row after both branches, as a function of the arrays. -/
def rrow (b : Fin 2) (s : Fin 8192) : Fin 1024 → EReal :=
  first (fun k => x (ix3 b s k)) (unit 0x44000000#32 (fun k : Fin 512 => lru (h2 (ix4 0 b s k)) (h2 (ix4 1 b s k)) (yg (ix3 b s k))) (fun k => ln (ix1 k)))
    (unit 0x44000000#32 (fun k : Fin 512 => mla (ix5 b ⟨k.val / 64, by omega⟩ ⟨s.val / 512, by omega⟩ ⟨k.val % 64, by omega⟩ ⟨s.val % 512, by omega⟩)) (fun k => mn (ix1 k)))
    (fun c k => wo (ix2 ⟨c.val, by omega⟩ k)) (fun c k => wo (ix2 ⟨512 + c.val, by omega⟩ k))

theorem rows_at (b : Fin 2) (s : Fin 8192) (d : Fin 1024) : rows x h2 yg mla ln mn wo (ix3 b s d) = rrow x h2 yg mla ln mn wo b s d := by
  simp only [rows, refX_at, refU_at, refL_at, refO_at]
  rfl

theorem scoresR_at (b : Fin 2) (h : Fin 4) (s : Fin 8192) (κ : Fin 256) : scoresR x h2 yg mla ln mn wo man wq gq km (ix4 b h s κ)
    = postScore (query (rrow x h2 yg mla ln mn wo b s) (fun k => man (ix1 k)) (fun k c => wq (ix2 k c)) h) (fun d => gq (ix1 d)) (fun κ d => km (ix4 b h κ d)) κ := by
  simp only [scoresR, refS_at, refR_at, refQ_at, refN_at, rows_at]
  rfl

/-- With a real gain of the queries and real keys the result is each row plus its attention over the memory. -/
theorem REF_eq (hg : ∀ i, ∃ ρ : ℝ, gq i = (ρ : EReal)) (hk : ∀ i, ∃ ρ : ℝ, km i = (ρ : EReal)) (b : Fin 2) (s : Fin 8192) (d : Fin 1024) : REF x h2 yg mla ln mn wo man wq gq km vm wm (ix3 b s d)
    = last (rrow x h2 yg mla ln mn wo b s)
        (fun h e => late (preScore (query (rrow x h2 yg mla ln mn wo b s) (fun k => man (ix1 k)) (fun k c => wq (ix2 k c)) h) (fun d => gq (ix1 d)) (fun κ d => km (ix4 b h κ d))) (fun κ => vm (ix4 b h κ e)))
        (fun c k => wm (ix2 c k)) d := by
  have hS : ∀ i, ∃ ρ : ℝ, scoresR x h2 yg mla ln mn wo man wq gq km i = (ρ : EReal) := by
    intro i
    obtain ⟨b, h, s, κ, rfl⟩ : ∃ (b : Fin 2) (h : Fin 4) (s : Fin 8192) (κ : Fin 256), i = ix4 b h s κ := ⟨i 0, i 1, i 2, i 3, eq_ix4 i⟩
    rw [scoresR_at]
    obtain ⟨t, -, ht⟩ := scores (query (rrow x h2 yg mla ln mn wo b s) (fun k => man (ix1 k)) (fun k c => wq (ix2 k c)) h) (fun d => gq (ix1 d)) (fun κ d => km (ix4 b h κ d)) (fun d => hg _) (fun κ d => hk _)
    exact ⟨t κ, congrFun ht κ⟩
  rw [REF, refZ_at]
  refine congrArg₂ (fun p q => last p q (fun c k => wm (ix2 c k)) d) (funext fun k => rows_at x h2 yg mla ln mn wo b s k) (funext fun h => funext fun e => ?_)
  rw [heads _ _ _ _ _ (fun d => hg _) (fun κ d => hk _) (refM_real _ hS (ix3 b h s))]
  simp only [refV_at, refE_at, scoresR_at]
  rfl

end

end Cert.Reference3Ideal.Mix

end
-- ==== Proof.MixArray.lean ====
/- The mixing kernel's result array: every position's row after both branches plus its attention over the memory. -/
module

public import proofs.«01_k».proof.Proof.MixBody
public import proofs.«01_k».proof.Proof.MixRef
public import proofs.«01_k».proof.Proof.Gen.Kernel3Ideal.Value
public import Idealize.ShloMosaic.Lib.Pipeline.ValueKit

@[expose] public section

set_option maxRecDepth 16384

noncomputable section

namespace Cert.Kernel3Ideal.Mix

open Cert.Kernel3Ideal Cert.Kernel3Ideal.Gen Cert.Mix
open Cert.Reference3Ideal.Mix (rrow REF REF_eq)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-! ## The arrays the launch prepares -/

theorem lruGain_at (c : Dev nD) (k : Fin 512) : (V m c main_v1 : FVec Ideal S1x512 .f32) (ix2 0 k) = (m ((c : Thread nD τ).loc main_arg4) : FVec Ideal S512 .f32) (ix1 k) := by
  unfold V
  after_results
  pointwise []

theorem mlaGain_at (c : Dev nD) (k : Fin 512) : (V m c main_v2 : FVec Ideal S512x1 .f32) (ix2 k 0) = (m ((c : Thread nD τ).loc main_arg5) : FVec Ideal S512 .f32) (ix1 k) := by
  unfold V
  after_results
  pointwise []

theorem lruW_at (c : Dev nD) (k : Fin 512) (d : Fin 1024) : (V m c main_v3 : FVec Ideal S512x1024 .bf16) (ix2 k d) = (m ((c : Thread nD τ).loc main_arg6) : FVec Ideal S1024x1024 .f32) (ix2 ⟨k.val, by omega⟩ d) := by
  unfold V
  after_results
  pointwise []

theorem mlaW_at (c : Dev nD) (k : Fin 512) (d : Fin 1024) : (V m c main_v4 : FVec Ideal S512x1024 .bf16) (ix2 k d) = (m ((c : Thread nD τ).loc main_arg6) : FVec Ideal S1024x1024 .f32) (ix2 ⟨512 + k.val, by omega⟩ d) := by
  unfold V
  after_results
  pointwise []

theorem memGain_at (c : Dev nD) (k : Fin 1024) : (V m c main_v5 : FVec Ideal S1x1024 .f32) (ix2 0 k) = (m ((c : Thread nD τ).loc main_arg7) : FVec Ideal S1024 .f32) (ix1 k) := by
  unfold V
  after_results
  pointwise []

theorem queryW_at (c : Dev nD) (k : Fin 1024) (f : Fin 512) : (V m c main_v6 : FVec Ideal S1024x512 .bf16) (ix2 k f) = (m ((c : Thread nD τ).loc main_arg8) : FVec Ideal S1024x512 .f32) (ix2 k f) := by
  unfold V
  after_results
  pointwise []

theorem queryGain_at (c : Dev nD) (k : Fin 128) : (V m c main_v7 : FVec Ideal S1x128 .f32) (ix2 0 k) = (m ((c : Thread nD τ).loc main_arg9) : FVec Ideal S128 .f32) (ix1 k) := by
  unfold V
  after_results
  pointwise []

theorem outW_at (c : Dev nD) (k : Fin 512) (d : Fin 1024) : (V m c main_v8 : FVec Ideal S512x1024 .bf16) (ix2 k d) = (m ((c : Thread nD τ).loc main_arg12) : FVec Ideal S512x1024 .f32) (ix2 k d) := by
  unfold V
  after_results
  pointwise []

/-! ## The blocks of a grid point -/

theorem idx : ∀ t : Fin cfg0.N, (cfg0.win 0).index t = ![(grid0.coords t 0).val, (grid0.coords t 1).val, 0]
    ∧ (cfg0.win 1).index t = ![0, (grid0.coords t 0).val, (grid0.coords t 1).val, 0]
    ∧ (cfg0.win 2).index t = ![1, (grid0.coords t 0).val, (grid0.coords t 1).val, 0]
    ∧ (cfg0.win 3).index t = ![(grid0.coords t 0).val, (grid0.coords t 1).val, 0]
    ∧ (cfg0.win 4).index t = ![(grid0.coords t 0).val, 0, (grid0.coords t 1).val, 0, 0]
    ∧ (cfg0.win 5).index t = ![0, 0]
    ∧ (cfg0.win 6).index t = ![0, 0]
    ∧ (cfg0.win 7).index t = ![0, 0]
    ∧ (cfg0.win 8).index t = ![0, 0]
    ∧ (cfg0.win 9).index t = ![0, 0]
    ∧ (cfg0.win 10).index t = ![0, 0]
    ∧ (cfg0.win 11).index t = ![0, 0]
    ∧ (cfg0.win 12).index t = ![(grid0.coords t 0).val, 0, 0, 0]
    ∧ (cfg0.win 13).index t = ![(grid0.coords t 0).val, 0, 0, 0]
    ∧ (cfg0.win 14).index t = ![0, 0]
    ∧ (cfg0.win 15).index t = ![(grid0.coords t 0).val, (grid0.coords t 1).val, 0] :=
  (by decide +kernel : ∀ t : Fin grid0.N, cc0_transform_0 (grid0.coords t) = ![(grid0.coords t 0).val, (grid0.coords t 1).val, 0]
    ∧ cc0_transform_1 (grid0.coords t) = ![0, (grid0.coords t 0).val, (grid0.coords t 1).val, 0]
    ∧ cc0_transform_2 (grid0.coords t) = ![1, (grid0.coords t 0).val, (grid0.coords t 1).val, 0]
    ∧ cc0_transform_3 (grid0.coords t) = ![(grid0.coords t 0).val, (grid0.coords t 1).val, 0]
    ∧ cc0_transform_4 (grid0.coords t) = ![(grid0.coords t 0).val, 0, (grid0.coords t 1).val, 0, 0]
    ∧ cc0_transform_5 (grid0.coords t) = ![0, 0]
    ∧ cc0_transform_6 (grid0.coords t) = ![0, 0]
    ∧ cc0_transform_7 (grid0.coords t) = ![0, 0]
    ∧ cc0_transform_8 (grid0.coords t) = ![0, 0]
    ∧ cc0_transform_9 (grid0.coords t) = ![0, 0]
    ∧ cc0_transform_10 (grid0.coords t) = ![0, 0]
    ∧ cc0_transform_11 (grid0.coords t) = ![0, 0]
    ∧ cc0_transform_12 (grid0.coords t) = ![(grid0.coords t 0).val, 0, 0, 0]
    ∧ cc0_transform_13 (grid0.coords t) = ![(grid0.coords t 0).val, 0, 0, 0]
    ∧ cc0_transform_14 (grid0.coords t) = ![0, 0]
    ∧ cc0_transform_15 (grid0.coords t) = ![(grid0.coords t 0).val, (grid0.coords t 1).val, 0])

theorem covers : (cfg0.win 15).Covers := by decide +kernel

/-- A step's rows of the residual stream, -/
theorem blk_x (c : Dev nD) (t : Fin cfg0.N) (s : Fin 512) (d : Fin 1024) (i : S2x8192x1024.Idx) (h0 : (i 0).val = (grid0.coords t 0).val) (h1 : (i 1).val = (grid0.coords t 1).val * 512 + s.val) (h2 : (i 2).val = d.val) :
    iblk m c 0 t (ix3 0 s d : S1x512x1024.Idx) = (m ((c : Thread nD τ).loc main_arg0) : FVec Ideal S2x8192x1024 .f32) i := by
  rw [← V_main_arg0 m c]
  blk_ext [iblk, idx t]

/-- of the recurrence's first direction, -/
theorem blk_f (c : Dev nD) (t : Fin cfg0.N) (s k : Fin 512) (i : S2x2x8192x512.Idx) (h0 : (i 0).val = 0) (h1 : (i 1).val = (grid0.coords t 0).val) (h2 : (i 2).val = (grid0.coords t 1).val * 512 + s.val) (h3 : (i 3).val = k.val) :
    iblk m c 1 t (ix4 0 0 s k : S1x1x512x512.Idx) = (m ((c : Thread nD τ).loc main_arg1) : FVec Ideal S2x2x8192x512 .f32) i := by
  rw [← V_main_arg1 m c]
  blk_ext [iblk, idx t]

/-- of its second, -/
theorem blk_r (c : Dev nD) (t : Fin cfg0.N) (s k : Fin 512) (i : S2x2x8192x512.Idx) (h0 : (i 0).val = 1) (h1 : (i 1).val = (grid0.coords t 0).val) (h2 : (i 2).val = (grid0.coords t 1).val * 512 + s.val) (h3 : (i 3).val = k.val) :
    iblk m c 2 t (ix4 0 0 s k : S1x1x512x512.Idx) = (m ((c : Thread nD τ).loc main_arg1) : FVec Ideal S2x2x8192x512 .f32) i := by
  rw [← V_main_arg1 m c]
  blk_ext [iblk, idx t]

/-- of the gate, -/
theorem blk_y (c : Dev nD) (t : Fin cfg0.N) (s k : Fin 512) (i : S2x8192x512.Idx) (h0 : (i 0).val = (grid0.coords t 0).val) (h1 : (i 1).val = (grid0.coords t 1).val * 512 + s.val) (h2 : (i 2).val = k.val) :
    iblk m c 3 t (ix3 0 s k : S1x512x512.Idx) = (m ((c : Thread nD τ).loc main_arg2) : FVec Ideal S2x8192x512 .f32) i := by
  rw [← V_main_arg2 m c]
  blk_ext [iblk, idx t]

/-- and its tile of the attention's output. -/
theorem blk_a (c : Dev nD) (t : Fin cfg0.N) (h : Fin 8) (e : Fin 64) (r : Fin 512) (i : S2x8x16x64x512.Idx) (h0 : (i 0).val = (grid0.coords t 0).val) (h1 : (i 1).val = h.val) (h2 : (i 2).val = (grid0.coords t 1).val) (h3 : (i 3).val = e.val) (h4 : (i 4).val = r.val) :
    iblk m c 4 t (ix5 0 h 0 e r : S1x8x1x64x512.Idx) = (m ((c : Thread nD τ).loc main_arg3) : FVec Ideal S2x8x16x64x512 .f32) i := by
  rw [← V_main_arg3 m c]
  blk_ext [iblk, idx t]

theorem blk_lruGain (c : Dev nD) (t : Fin cfg0.N) (k : Fin 512) : iblk m c 5 t (ix2 0 k : S1x512.Idx) = (m ((c : Thread nD τ).loc main_arg4) : FVec Ideal S512 .f32) (ix1 k) := by
  rw [← lruGain_at m c k]
  blk_ext [iblk, idx t]

theorem blk_mlaGain (c : Dev nD) (t : Fin cfg0.N) (k : Fin 512) : iblk m c 6 t (ix2 k 0 : S512x1.Idx) = (m ((c : Thread nD τ).loc main_arg5) : FVec Ideal S512 .f32) (ix1 k) := by
  rw [← mlaGain_at m c k]
  blk_ext [iblk, idx t]

theorem blk_lruW (c : Dev nD) (t : Fin cfg0.N) (k : Fin 512) (d : Fin 1024) : iblk m c 7 t (ix2 k d : S512x1024.Idx) = (m ((c : Thread nD τ).loc main_arg6) : FVec Ideal S1024x1024 .f32) (ix2 ⟨k.val, by omega⟩ d) := by
  rw [← lruW_at m c k d]
  blk_ext [iblk, idx t]

theorem blk_mlaW (c : Dev nD) (t : Fin cfg0.N) (k : Fin 512) (d : Fin 1024) : iblk m c 8 t (ix2 k d : S512x1024.Idx) = (m ((c : Thread nD τ).loc main_arg6) : FVec Ideal S1024x1024 .f32) (ix2 ⟨512 + k.val, by omega⟩ d) := by
  rw [← mlaW_at m c k d]
  blk_ext [iblk, idx t]

theorem blk_memGain (c : Dev nD) (t : Fin cfg0.N) (k : Fin 1024) : iblk m c 9 t (ix2 0 k : S1x1024.Idx) = (m ((c : Thread nD τ).loc main_arg7) : FVec Ideal S1024 .f32) (ix1 k) := by
  rw [← memGain_at m c k]
  blk_ext [iblk, idx t]

theorem blk_queryW (c : Dev nD) (t : Fin cfg0.N) (k : Fin 1024) (f : Fin 512) : iblk m c 10 t (ix2 k f : S1024x512.Idx) = (m ((c : Thread nD τ).loc main_arg8) : FVec Ideal S1024x512 .f32) (ix2 k f) := by
  rw [← queryW_at m c k f]
  blk_ext [iblk, idx t]

theorem blk_queryGain (c : Dev nD) (t : Fin cfg0.N) (k : Fin 128) : iblk m c 11 t (ix2 0 k : S1x128.Idx) = (m ((c : Thread nD τ).loc main_arg9) : FVec Ideal S128 .f32) (ix1 k) := by
  rw [← queryGain_at m c k]
  blk_ext [iblk, idx t]

theorem blk_outW (c : Dev nD) (t : Fin cfg0.N) (k : Fin 512) (d : Fin 1024) : iblk m c 14 t (ix2 k d : S512x1024.Idx) = (m ((c : Thread nD τ).loc main_arg12) : FVec Ideal S512x1024 .f32) (ix2 k d) := by
  rw [← outW_at m c k d]
  blk_ext [iblk, idx t]

theorem blk_keys (c : Dev nD) (t : Fin cfg0.N) (h : Fin 4) (κ : Fin 256) (d : Fin 128) (i : S2x4x256x128.Idx) (h0 : (i 0).val = (grid0.coords t 0).val) (h1 : (i 1).val = h.val) (h2 : (i 2).val = κ.val) (h3 : (i 3).val = d.val) :
    iblk m c 12 t (ix4 0 h κ d : S1x4x256x128.Idx) = (m ((c : Thread nD τ).loc main_arg10) : FVec Ideal S2x4x256x128 .bf16) i := by
  rw [← V_main_arg10 m c]
  blk_ext [iblk, idx t]

theorem blk_values (c : Dev nD) (t : Fin cfg0.N) (h : Fin 4) (κ : Fin 256) (d : Fin 128) (i : S2x4x256x128.Idx) (h0 : (i 0).val = (grid0.coords t 0).val) (h1 : (i 1).val = h.val) (h2 : (i 2).val = κ.val) (h3 : (i 3).val = d.val) :
    iblk m c 13 t (ix4 0 h κ d : S1x4x256x128.Idx) = (m ((c : Thread nD τ).loc main_arg11) : FVec Ideal S2x4x256x128 .bf16) i := by
  rw [← V_main_arg11 m c]
  blk_ext [iblk, idx t]

/-! ## A grid point's rows are the reference's -/

section

variable (c : Dev nD) (t : Fin cfg0.N) (s : Fin 512)

/-- The position of row `s` of a step's block. -/
def pos : Fin 8192 := ⟨(grid0.coords t 1).val * 512 + s.val, by have h : (grid0.coords t 1).val < 16 := (grid0.coords t 1).isLt; have := s.isLt; omega⟩

theorem unit_congr {n : ℕ} {N : BitVec 32} {x x' g g' : Fin n → EReal} (hx : ∀ k, x k = x' k) (hg : ∀ k, g k = g' k) : unit N x g = unit N x' g' := by
  rw [funext hx, funext hg]

theorem lru_congr {a a' b b' y y' : EReal} (ha : a = a') (hb : b = b') (hy : y = y') : lru a b y = lru a' b' y' := by
  rw [ha, hb, hy]

theorem first_congr {x x' : Fin 1024 → EReal} {l l' o o' : Fin 512 → EReal} {wl wl' wm wm' : Fin 512 → Fin 1024 → EReal} (hx : ∀ k, x k = x' k) (hl : l = l') (ho : o = o') (h1 : ∀ k d, wl k d = wl' k d) (h2 : ∀ k d, wm k d = wm' k d) :
    first x l o wl wm = first x' l' o' wl' wm' := by
  rw [funext hx, hl, ho, funext fun k => funext (h1 k), funext fun k => funext (h2 k)]

theorem row_eq : brow (iblk m c 0 t) (iblk m c 1 t) (iblk m c 2 t) (iblk m c 3 t) (iblk m c 4 t) (iblk m c 5 t) (iblk m c 6 t) (iblk m c 7 t) (iblk m c 8 t) s
    = rrow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (grid0.coords t 0) (pos t s) := by
  have hs := s.isLt
  have hi : (grid0.coords t 1).val < 16 := (grid0.coords t 1).isLt
  have hpos : (pos t s).val = (grid0.coords t 1).val * 512 + s.val := rfl
  refine first_congr (fun k => blk_x m c t s k _ rfl rfl rfl) (unit_congr (fun k => lru_congr (blk_f m c t s k _ rfl rfl rfl rfl) (blk_r m c t s k _ rfl rfl rfl rfl) (blk_y m c t s k _ rfl rfl rfl)) (fun k => blk_lruGain m c t k))
    (unit_congr (fun k => blk_a m c t _ _ s _ rfl rfl ?_ rfl ?_) (fun k => blk_mlaGain m c t k)) (fun k d => blk_lruW m c t k d) (fun k d => blk_mlaW m c t k d)
  · show (pos t s).val / 512 = (grid0.coords t 1).val
    omega
  · show (pos t s).val % 512 = s.val
    omega

theorem query_congr {x x' g g' : Fin 1024 → EReal} {w w' : Fin 1024 → Fin 512 → EReal} (h : Fin 4) (hx : x = x') (hg : ∀ k, g k = g' k) (hw : ∀ k f, w k f = w' k f) : query x g w h = query x' g' w' h := by
  rw [hx, funext hg, funext fun k => funext (hw k)]

theorem late_congr {q q' g g' : Fin 128 → EReal} {k k' : Fin 256 → Fin 128 → EReal} {v v' : Fin 256 → EReal} (hq : q = q') (hg : ∀ d, g d = g' d) (hk : ∀ κ d, k κ d = k' κ d) (hv : ∀ κ, v κ = v' κ) :
    late (preScore q g k) v = late (preScore q' g' k') v' := by
  rw [hq, funext hg, funext fun κ => funext (hk κ), funext hv]

theorem last_congr {x x' : Fin 1024 → EReal} {o o' : Fin 4 → Fin 128 → EReal} {w w' : Fin 512 → Fin 1024 → EReal} (d : Fin 1024) (hx : x = x') (ho : ∀ h e, o h e = o' h e) (hw : ∀ k d, w k d = w' k d) : last x o w d = last x' o' w' d := by
  rw [hx, funext fun h => funext (ho h), funext fun k => funext (hw k)]

end

/-! ## The result array -/

/-- Where the output's block lies in the array. -/
theorem emb_o (t : Fin cfg0.N) (s : Fin 512) (d : Fin 1024) :
    ((cfg0.win 15).blk t).view.emb (ix3 0 s d : S1x512x1024.Idx) = (ix3 (grid0.coords t 0) (pos t s) d : S2x8192x1024.Idx) := by
  funext a
  fin_cases a <;> apply Fin.ext <;> blk_simp [idx t] <;> simp [pos]

/-- What a step stores, at an index. -/
theorem step_at (c : Dev nD) (hg : ∀ i, ∃ ρ : ℝ, (m ((c : Thread nD τ).loc main_arg9) : FVec Ideal S128 .f32) i = (ρ : EReal)) (hk : ∀ i, ∃ ρ : ℝ, (m ((c : Thread nD τ).loc main_arg10) : FVec Ideal S2x4x256x128 .bf16) i = (ρ : EReal)) (t : Fin cfg0.N) (s : Fin 512) (d : Fin 1024) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 0 s d)
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 (grid0.coords t 0) (pos t s) d) := by
  refine Eq.trans ?_ (REF_eq _ _ _ _ _ _ _ _ _ _ _ _ _ hg hk _ _ _).symm
  refine (out_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) s d).trans ?_
  refine last_congr d (row_eq m c t s) (fun h e => ?_) (fun k d => blk_outW m c t k d)
  exact late_congr (query_congr h (row_eq m c t s) (fun k => blk_memGain m c t k) (fun k f => blk_queryW m c t k f)) (fun d => blk_queryGain m c t d) (fun κ d => blk_keys m c t h κ d _ rfl rfl rfl rfl) (fun κ => blk_values m c t h κ e _ rfl rfl rfl rfl)

/-- The result array after the last step is the reference's result. -/
theorem final (c : Dev nD) (hg : ∀ i, ∃ ρ : ℝ, (m ((c : Thread nD τ).loc main_arg9) : FVec Ideal S128 .f32) i = (ρ : EReal)) (hk : ∀ i, ∃ ρ : ℝ, (m ((c : Thread nD τ).loc main_arg10) : FVec Ideal S2x4x256x128 .bf16) i = (ρ : EReal)) : (dats m 0 c).arrAt 15 cfg0.N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 15 _ covers fun t _ y => ?_
  blk_simp
  rw [after0_15]
  obtain ⟨s, d, rfl⟩ : ∃ (s : Fin 512) (d : Fin 1024), y = (ix3 0 s d : S1x512x1024.Idx) := by
    have h (y : S1x512x1024.Idx) : y = ix3 0 (y 1) (y 2) := by
      refine (eq_ix3 y).trans ?_
      have h0 : y 0 = (0 : Fin 1) := (Subsingleton.elim (α := Fin 1) _ _)
      exact congrArg (fun p : Fin 1 => (ix3 p (y 1) (y 2) : S1x512x1024.Idx)) h0
    exact ⟨_, _, h y⟩
  exact (step_at m c hg hk t s d).trans (congrArg _ (emb_o t s d).symm)

end Cert.Kernel3Ideal.Mix

end
-- ==== Proof.MixFinite.lean ====
/- What the mixing precondition says: the gain of the memory queries and every memory key is a real number. -/
module

public import proofs.«01_k».proof.Pre_finite_memory_keys
public import proofs.«01_k».proof.Proof.Finite

@[expose] public section

noncomputable section

namespace Cert.Pre_finite_memory_keys

open Idealize.ShloMosaic

/-- The side conditions of the precondition's operations. -/
instance facts : Facts where
  bcast_S_S128 := by decide
  reducesTo_S128_S_d0 := by decide
  h_S_ := by decide
  bcast_S_S2x4x256x128 := by decide
  reducesTo_S2x4x256x128_S_d0_1_2_3 := by decide

theorem inf_lit : Ideal.ofBits .f32 0x7F800000#32 = (⊤ : EReal) := by
  simp [Ideal.ofBits, Ideal.ieee, -EReal.coe_mul]

instance : Subsingleton S_.Idx := ⟨fun a b => funext fun d => d.elim0⟩

/-- If every element of a single-precision array passes the comparison, every element is real. -/
theorem real_of_all {s : Shape} {axes : List (Fin s.rank)} (x : FVec Ideal s .f32) (hb : S_.BroadcastsInDim s (![] : Fin 0 → Fin s.rank)) (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1) (i : s.Idx) : ∃ ρ : ℝ, x i = (ρ : EReal) := by
  have e := Host.reduce_andi_all _ _ _ _ j h i
  refine Cert.Pre_finite_queries_keys.real_of_abs_lt (x i) ?_
  rw [← inf_lit]
  exact e

/-- Under the precondition the gain and every key is real. -/
theorem real (x : FVec Ideal S2x8192x1024 .f32) (h2 : FVec Ideal S2x2x8192x512 .f32) (yg : FVec Ideal S2x8192x512 .f32) (mla : FVec Ideal S2x8x16x64x512 .f32) (ln mn : FVec Ideal S512 .f32) (wo : FVec Ideal S1024x1024 .f32)
    (man : FVec Ideal S1024 .f32) (wq : FVec Ideal S1024x512 .f32) (gq : FVec Ideal S128 .f32) (km vm : FVec Ideal S2x4x256x128 .bf16) (wm : FVec Ideal S512x1024 .f32)
    (h : fn (F := Ideal) x h2 yg mla ln mn wo man wq gq km vm wm = fun _ => 1#1) :
    (∀ i, ∃ ρ : ℝ, gq i = (ρ : EReal)) ∧ ∀ i, ∃ ρ : ℝ, km i = (ρ : EReal) := by
  have e := congrFun h (fun d => d.elim0)
  obtain ⟨hq, hk⟩ := IntOp.andi_eq_one.1 e
  exact ⟨real_of_all gq _ _ _ _ hq, Cert.Pre_finite_queries_keys.real_of_all km _ _ _ _ hk⟩

end Cert.Pre_finite_memory_keys

end
-- ==== Proof.MixAlgebraic.lean ====
/- The mixing kernel and its reference end with the same result array. -/
module

public import proofs.«01_k».proof.Proof.MixArray
public import proofs.«01_k».proof.Proof.MixFinite
public import proofs.«01_k».proof.Defs
public import proofs.«01_k».proof.Proof.Gen.Reference3Ideal.Run

@[expose] public section

noncomputable section

namespace Cert.Mix

open Idealize.ShloMosaic Idealize.ShloMosaic.TcCoe Idealize.SL.Sem

/-- On a finite gain of the queries and finite memory keys the kernel, idealized, computes the reference. -/
theorem algebraic : Cert.algebraic_Kernel3Ideal_Reference3Ideal_pre_finite_memory_keys := by
  intro m g m' g' hpre hargs
  have hreal := fun c => Cert.Pre_finite_memory_keys.real _ _ _ _ _ _ _ _ _ _ _ _ _ (hpre c)
  refine ⟨fun c => Cert.Reference3Ideal.Mix.REF (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)) (m (c.tc.loc Cert.Kernel3Ideal.main_arg5)) (m (c.tc.loc Cert.Kernel3Ideal.main_arg6)) (m (c.tc.loc Cert.Kernel3Ideal.main_arg7)) (m (c.tc.loc Cert.Kernel3Ideal.main_arg8)) (m (c.tc.loc Cert.Kernel3Ideal.main_arg9)) (m (c.tc.loc Cert.Kernel3Ideal.main_arg10)) (m (c.tc.loc Cert.Kernel3Ideal.main_arg11)) (m (c.tc.loc Cert.Kernel3Ideal.main_arg12)), ?_, ?_⟩
  · refine (θ_run _ _ _).mono (fun r h c => ?_) (Cert.Kernel3Ideal.Value.run_blocks (F := Ideal) m g)
    obtain ⟨h0, ha⟩ := h c
    exact ⟨h0.trans (Cert.Kernel3Ideal.Mix.final m c (hreal c).1 (hreal c).2), ha⟩
  · refine (θ_run _ _ _).mono (fun r h c => ?_) (Cert.Reference3Ideal.Value.run (F := Ideal) m' g')
    obtain ⟨h0, ha⟩ := h c
    refine ⟨h0.trans ((show _ = Cert.Reference3Ideal.Mix.REF (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6)) (m' (c.tc.loc Cert.Reference3Ideal.main_arg7)) (m' (c.tc.loc Cert.Reference3Ideal.main_arg8)) (m' (c.tc.loc Cert.Reference3Ideal.main_arg9)) (m' (c.tc.loc Cert.Reference3Ideal.main_arg10)) (m' (c.tc.loc Cert.Reference3Ideal.main_arg11)) (m' (c.tc.loc Cert.Reference3Ideal.main_arg12)) from rfl).trans ?_), ha⟩
    obtain ⟨e0, e1, e2, e3, e4, e5, e6, e7, e8, e9, e10, e11, e12⟩ := hargs c
    rw [e0, e1, e2, e3, e4, e5, e6, e7, e8, e9, e10, e11, e12]

end Cert.Mix

end
-- ==== Proof.MemFrames.lean ====
/- The frames of the memory kernel as printed and idealized (one text, so one run serves both), and of its reference. -/
module

public import proofs.«01_k».proof.Defs
public import proofs.«01_k».proof.Proof.Gen.Kernel4
public import proofs.«01_k».proof.Proof.Gen.Reference4Ideal.Run
public import proofs.«01_k».proof.Proof.Gen.Kernel4Ideal.Frame

@[expose] public section

noncomputable section

namespace Cert.Mem

open Idealize.ShloMosaic Idealize.SL.Sem

/-- The kernel as printed terminates with its arguments unchanged and every semaphore at zero. -/
theorem frame_kernel : Cert.quiescent_Kernel4 :=
  Eq.mp (by sl_kernel_rfl : (∀ (m : (ℓ : Loc Cert.Kernel4Ideal.nD Cert.Kernel4Ideal.τ Cert.Kernel4Ideal.sig) → Buf (Elt Bits) ℓ) (g : Dev Cert.Kernel4Ideal.nD → PrngReg), True →
      θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
        r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
        ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
        ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
        ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
        ∧ r.2.sem = fun _ => 0)) = Cert.quiescent_Kernel4)
    fun m ρ _ => Cert.Kernel4Ideal.Gen.frame (F := Bits) m ρ

/-- So does its idealization, -/
theorem frame_ideal : Cert.quiescent_Kernel4Ideal := fun m ρ _ => Cert.Kernel4Ideal.Gen.frame (F := Ideal) m ρ

/-- and the reference. -/
theorem frame_ref : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

end Cert.Mem

end
-- ==== Proof.MemBody.lean ====
/- What one step of the memory kernel stores, read at an index. -/
module

public import proofs.«01_k».proof.Proof.MixSpec
public import proofs.«01_k».proof.Proof.Gen.Kernel4Ideal.Frame
public import Idealize.ShloMosaic.Lib.Pointwise
public import Idealize.ShloMosaic.Lib.Pipeline.ValueKit

@[expose] public section

set_option maxRecDepth 16384

noncomputable section

namespace Cert.Mem

open Idealize.ShloMosaic

/-- A row of the memory, normalised, through the key and value projection. -/
def kv (x g : Fin 1024 → EReal) (w : Fin 1024 → Fin 1024 → EReal) (c : Fin 1024) : EReal :=
  ∑ d, Cert.Mix.unit 0x44800000#32 x g d * w d c

/-- Its key for head `h`, normalised again. -/
def key (x g : Fin 1024 → EReal) (w : Fin 1024 → Fin 1024 → EReal) (gk : Fin 128 → EReal) (h : Fin 4) (e : Fin 128) : EReal :=
  Cert.Mix.unit 0x43000000#32 (fun e : Fin 128 => kv x g w ⟨128 * h.val + e.val, by omega⟩) gk e

/-- Its value for head `h`. -/
def value (x g : Fin 1024 → EReal) (w : Fin 1024 → Fin 1024 → EReal) (h : Fin 4) (e : Fin 128) : EReal :=
  kv x g w ⟨512 + 128 * h.val + e.val, by omega⟩

end Cert.Mem

namespace Cert.Kernel4Ideal.Mem

open Cert.Kernel4Ideal Cert.Kernel4Ideal.Gen Cert.Mix Cert.Mem
open Idealize.ShloMosaic Idealize.ShloMosaic.TcCoe Idealize.SL.Sem

/-- The normalised rows through the projection. -/
theorem kvV_at (x : Vec Ideal S1x256x1024 .f32) (g : Vec Ideal S1x1024 .f32) (w : Vec Ideal S1024x1024 .bf16) (r : Fin 256) (c : Fin 1024) :
    k0_pay2 (F := Ideal) x g w (ix2 r c) = kv (fun k => x (ix3 0 r k)) (fun k => g (ix2 0 k)) (fun k c => w (ix2 k c)) c := by
  pointwise [k0_pay2]
  rfl

/-- A head's keys over their root mean square, times the gain. -/
def keyV (q : FVec Ideal S256x128 .f32) (g : Vec Ideal S1x128 .f32) : FVec Ideal S1x1x256x128 .bf16 :=
  shapeCast S1x1x256x128 (truncf .bf16 (mulf (mulf q (broadcastTo S256x128 (rsqrt (addf (divf (shapeCast S256x1 (multiReduction .add [1] S256 (mulf q q) 0x00000000#32 reduces_S256x128_S256 (.inl rfl) rfl) shapeCasts_S256_S256x1)
    (broadcast S256x1 (Scalar.ofBits .f32 0x43000000#32))) (broadcast S256x1 (Scalar.ofBits .f32 0x358637BD#32)))) broadcasts_S256x1_S256x128))
    (broadcastTo S256x128 (shapeCast S1x128 g shapeCasts_S1x128_S1x128 : FVec Ideal S1x128 .f32) broadcasts_S1x128_S256x128)) bitsLt_bf16_f32 : FVec Ideal S256x128 .bf16) shapeCasts_S256x128_S1x1x256x128

/-- A head's values. -/
def valueV (q : FVec Ideal S256x128 .f32) : FVec Ideal S1x1x256x128 .bf16 :=
  shapeCast S1x1x256x128 (truncf .bf16 q bitsLt_bf16_f32 : FVec Ideal S256x128 .bf16) shapeCasts_S256x128_S1x1x256x128

theorem keyV_at (q : FVec Ideal S256x128 .f32) (g : Vec Ideal S1x128 .f32) (r : Fin 256) (e : Fin 128) :
    keyV q g (ix4 0 0 r e) = unit 0x43000000#32 (fun e : Fin 128 => q (ix2 r e)) (fun e => g (ix2 0 e)) e := by
  pointwise [keyV]
  rfl

theorem valueV_at (q : FVec Ideal S256x128 .f32) (r : Fin 256) (e : Fin 128) : valueV q (ix4 0 0 r e) = q (ix2 r e) := by
  pointwise [valueV]

/-- A head's columns. -/
theorem cols_at (p : FVec Ideal S256x1024 .f32) (n : ℕ) (hs : S256x1024.Slices ![0, n] S256x128) (r : Fin 256) (e : Fin 128) (c : Fin 1024) (hc : c.val = n + e.val) :
    extractStridedSlice S256x128 ![0, n] p hs (ix2 r e) = p (ix2 r c) := by
  refine congrArg p ?_
  funext a
  refine Fin.ext ?_
  fin_cases a
  · show 0 + r.val = r.val; omega
  · exact hc.symm

/-- A head's tile of the buffer holds the head's indices only. -/
theorem tile (n : ℕ) (w : FVec Ideal S1x1x256x128 .bf16) (h : Fin 4) (r : Fin 256) (e : Fin 128) (v : EReal) (hv : h.val = n → w (ix4 0 0 r e) = v) :
    View.TileAt (Val := Elt Ideal) (S := S1x4x256x128) (e := .bf16) (ix4 0 h r e) ![0, n, 0, 0] S1x1x256x128.size w v := by
  intro x hx
  have h1 : h.val = n + (x 1).val := hx 1
  have h2 : r.val = 0 + (x 2).val := hx 2
  have h3 : e.val = 0 + (x 3).val := hx 3
  have x0 : (x 0).val < 1 := (x 0).isLt
  have x1 : (x 1).val < 1 := (x 1).isLt
  refine Eq.trans (congrArg w ?_) (hv (by omega))
  funext a
  refine Fin.ext ?_
  fin_cases a
  · show (x 0).val = 0; omega
  · show (x 1).val = 0; omega
  · show (x 2).val = r.val; omega
  · show (x 3).val = e.val; omega

/-- Four heads' tiles read at an index. -/
theorem tiles (w : Fin 4 → FVec Ideal S1x1x256x128 .bf16) (h : Fin 4) (r : Fin 256) (e : Fin 128) :
    View.canon ([⟨r0_7, w 3⟩, ⟨r0_6, w 2⟩, ⟨r0_5, w 1⟩, ⟨r0_4, w 0⟩] : List (View.Piece (Elt Ideal) S1x4x256x128 .bf16)) (ix4 0 h r e) = w h (ix4 0 0 r e) := by
  have hw (n : Fin 4) (hn : h.val = n.val) : w n (ix4 0 0 r e) = w h (ix4 0 0 r e) := by rw [Fin.ext hn]
  exact View.canon_eq_of_allAt (Val := Elt Ideal) (e := .bf16) _ _ _ (cover0_4 (F := Ideal) _ _ _ _ _)
    (View.allAt_cons_unit _ _ _ _ _ (tile 3 _ h r e _ (hw 3)) (View.allAt_cons_unit _ _ _ _ _ (tile 2 _ h r e _ (hw 2))
      (View.allAt_cons_unit _ _ _ _ _ (tile 1 _ h r e _ (hw 1)) (View.allAt_cons_unit _ _ _ _ _ (tile 0 _ h r e _ (hw 0)) (View.allAt_nil _ _)))))

/-- The columns of head `h` in the keys. -/
def keyCols (p : FVec Ideal S256x1024 .f32) : Fin 4 → FVec Ideal S256x128 .f32
  | 0 => extractStridedSlice S256x128 ![0, 0] p slices_S256x1024_o0_0_S256x128
  | 1 => extractStridedSlice S256x128 ![0, 128] p slices_S256x1024_o0_128_S256x128
  | 2 => extractStridedSlice S256x128 ![0, 256] p slices_S256x1024_o0_256_S256x128
  | 3 => extractStridedSlice S256x128 ![0, 384] p slices_S256x1024_o0_384_S256x128

/-- and in the values. -/
def valueCols (p : FVec Ideal S256x1024 .f32) : Fin 4 → FVec Ideal S256x128 .f32
  | 0 => extractStridedSlice S256x128 ![0, 512] p slices_S256x1024_o0_512_S256x128
  | 1 => extractStridedSlice S256x128 ![0, 640] p slices_S256x1024_o0_640_S256x128
  | 2 => extractStridedSlice S256x128 ![0, 768] p slices_S256x1024_o0_768_S256x128
  | 3 => extractStridedSlice S256x128 ![0, 896] p slices_S256x1024_o0_896_S256x128

theorem keyCols_at (p : FVec Ideal S256x1024 .f32) (h : Fin 4) (r : Fin 256) (e : Fin 128) : keyCols p h (ix2 r e) = p (ix2 r ⟨128 * h.val + e.val, by omega⟩) :=
  match h with
  | 0 => cols_at p 0 slices_S256x1024_o0_0_S256x128 r e _ rfl
  | 1 => cols_at p 128 slices_S256x1024_o0_128_S256x128 r e _ rfl
  | 2 => cols_at p 256 slices_S256x1024_o0_256_S256x128 r e _ rfl
  | 3 => cols_at p 384 slices_S256x1024_o0_384_S256x128 r e _ rfl

theorem valueCols_at (p : FVec Ideal S256x1024 .f32) (h : Fin 4) (r : Fin 256) (e : Fin 128) : valueCols p h (ix2 r e) = p (ix2 r ⟨512 + 128 * h.val + e.val, by omega⟩) :=
  match h with
  | 0 => cols_at p 512 slices_S256x1024_o0_512_S256x128 r e _ rfl
  | 1 => cols_at p 640 slices_S256x1024_o0_640_S256x128 r e _ rfl
  | 2 => cols_at p 768 slices_S256x1024_o0_768_S256x128 r e _ rfl
  | 3 => cols_at p 896 slices_S256x1024_o0_896_S256x128 r e _ rfl

section

variable (x0 : Vec Ideal S1x256x1024 .f32) (x1 : Vec Ideal S1x1024 .f32) (x2 : Vec Ideal S1024x1024 .bf16) (x3 : Vec Ideal S1x128 .f32)

/-- The keys a step stores. -/
theorem keys_at (h : Fin 4) (r : Fin 256) (e : Fin 128) :
    out0_4 (F := Ideal) x0 x1 x2 x3 (ix4 0 h r e) = key (fun k => x0 (ix3 0 r k)) (fun k => x1 (ix2 0 k)) (fun k c => x2 (ix2 k c)) (fun k => x3 (ix2 0 k)) h e := by
  unfold out0_4 k0_pay14
  rw [show View.ld x0 r0_0 = x0 from View.ld_unit_lit _ x0 (by decide), show View.ld x1 r0_1 = x1 from View.ld_unit_lit _ x1 (by decide),
    show View.ld x2 r0_2 = x2 from View.ld_unit_lit _ x2 (by decide), show View.ld x3 r0_3 = x3 from View.ld_unit_lit _ x3 (by decide)]
  refine (tiles (fun n => keyV (keyCols (k0_pay2 (F := Ideal) x0 x1 x2) n) x3) h r e).trans ?_
  rw [keyV_at]
  simp only [keyCols_at, kvV_at]
  rfl

/-- The values a step stores. -/
theorem values_at (h : Fin 4) (r : Fin 256) (e : Fin 128) :
    out0_5 (F := Ideal) x0 x1 x2 x3 (ix4 0 h r e) = value (fun k => x0 (ix3 0 r k)) (fun k => x1 (ix2 0 k)) (fun k c => x2 (ix2 k c)) h e := by
  unfold out0_5 k0_pay14
  rw [show View.ld x0 r0_0 = x0 from View.ld_unit_lit _ x0 (by decide), show View.ld x1 r0_1 = x1 from View.ld_unit_lit _ x1 (by decide),
    show View.ld x2 r0_2 = x2 from View.ld_unit_lit _ x2 (by decide)]
  refine (tiles (fun n => valueV (valueCols (k0_pay2 (F := Ideal) x0 x1 x2) n)) h r e).trans ?_
  rw [valueV_at, valueCols_at, kvV_at]
  rfl

end

end Cert.Kernel4Ideal.Mem

end
-- ==== Proof.MemRef.lean ====
/- The memory reference's results at an index. -/
module

public import proofs.«01_k».proof.Proof.Gen.Reference4Ideal.Run
public import proofs.«01_k».proof.Proof.MemBody
public import Idealize.ShloMosaic.Lib.Pointwise
public import Idealize.ShloMosaic.Lib.KernelVsHost

@[expose] public section

set_option maxRecDepth 16384

noncomputable section

namespace Cert.Reference4Ideal.Mem

open Cert.Reference4Ideal Cert.Reference4Ideal.Gen Cert.Mix Cert.Mem
open Idealize.ShloMosaic Idealize.ShloMosaic.TcCoe Idealize.SL.Sem

/-- Rows of 1024 over their root mean square, times a gain. -/
def refN (X : FVec Ideal S2x256x1024 .f32) (G : FVec Ideal S1024 .f32) : FVec Ideal S2x256x1024 .f32 :=
  mulf (mulf X (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf X X) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32))))))
    (broadcastInDim S2x256x1024 ![0, 1, 2] bcast_S1x1x1024_S2x256x1024_0_1_2 (broadcastInDim S1x1x1024 ![2] bcast_S1024_S1x1x1024_2 G))

/-- Keys and values. -/
def refP (N : FVec Ideal S2x256x1024 .f32) (W : FVec Ideal S1024x1024 .f32) : FVec Ideal S2x256x1024 .f32 :=
  Host.dotGeneral dot_S2x256x1024_S1024x1024_S2x256x1024_2_0_01_1_n_n none N W

/-- The keys, head by head. -/
def refK (P : FVec Ideal S2x256x1024 .f32) : FVec Ideal S2x256x4x128 .f32 :=
  shapeCast S2x256x4x128 (extractStridedSlice S2x256x512 ![0, 0, 0] P slices_S2x256x1024_S2x256x512_0_0_0) shapeCasts_S2x256x512_S2x256x4x128

/-- The values, head by head. -/
def refV (P : FVec Ideal S2x256x1024 .f32) : FVec Ideal S2x256x4x128 .f32 :=
  shapeCast S2x256x4x128 (extractStridedSlice S2x256x512 ![0, 0, 512] P slices_S2x256x1024_S2x256x512_0_0_512) shapeCasts_S2x256x512_S2x256x4x128

/-- The keys over their root mean square, times a gain. -/
def refR (Q : FVec Ideal S2x256x4x128 .f32) (G : FVec Ideal S128 .f32) : FVec Ideal S2x256x4x128 .f32 :=
  mulf (mulf Q (broadcastInDim S2x256x4x128 ![0, 1, 2, 3] bcast_S2x256x4x1_S2x256x4x128_0_1_2_3 (Host.rsqrt (addf (Host.divf (broadcastInDim S2x256x4x1 ![0, 1, 2] bcast_S2x256x4_S2x256x4x1_0_1_2 (Host.reduceAdd (mulf Q Q) (constant S_ .f32 0x00000000#32) reducesTo_S2x256x4x128_S2x256x4_d3 h_S_)) (broadcastInDim S2x256x4x1 ![] bcast_S_S2x256x4x1 (constant S_ .f32 0x43000000#32))) (broadcastInDim S2x256x4x1 ![] bcast_S_S2x256x4x1 (constant S_ .f32 0x358637BD#32))))))
    (broadcastInDim S2x256x4x128 ![0, 1, 2, 3] bcast_S1x1x1x128_S2x256x4x128_0_1_2_3 (broadcastInDim S1x1x1x128 ![3] bcast_S128_S1x1x1x128_3 G))

/-- Heads before positions. -/
def refT (Q : FVec Ideal S2x256x4x128 .f32) : FVec Ideal S2x4x256x128 .bf16 :=
  truncf .bf16 (transpose S2x4x256x128 [0, 2, 1, 3] Q transposes_S2x256x4x128_S2x4x256x128_0_2_1_3) bitsLt_bf16_f32

theorem refN_at (X : FVec Ideal S2x256x1024 .f32) (G : FVec Ideal S1024 .f32) (b : Fin 2) (r : Fin 256) (d : Fin 1024) :
    refN X G (ix3 b r d) = unit 0x44800000#32 (fun k => X (ix3 b r k)) (fun k => G (ix1 k)) d := by
  pointwise [refN]
  rfl

theorem refP_at (X : FVec Ideal S2x256x1024 .f32) (G : FVec Ideal S1024 .f32) (W : FVec Ideal S1024x1024 .f32) (b : Fin 2) (r : Fin 256) (c : Fin 1024) :
    refP (refN X G) W (ix3 b r c) = kv (fun k => X (ix3 b r k)) (fun k => G (ix1 k)) (fun k c => W (ix2 k c)) c := by
  have h (N : FVec Ideal S2x256x1024 .f32) : refP N W (ix3 b r c) = ∑ d : Fin 1024, (N (ix3 b r d) : EReal) * W (ix2 d c) := by pointwise [refP]
  rw [h]
  simp only [refN_at]
  rfl

theorem refK_at (P : FVec Ideal S2x256x1024 .f32) (b : Fin 2) (r : Fin 256) (h : Fin 4) (e : Fin 128) :
    refK P (ix4 b r h e) = P (ix3 b r ⟨128 * h.val + e.val, by omega⟩) := by
  pointwise [refK]
  exact congrArg (fun c : Fin 1024 => P (ix3 b r c)) (Fin.ext (by simp; omega))

theorem refV_at (P : FVec Ideal S2x256x1024 .f32) (b : Fin 2) (r : Fin 256) (h : Fin 4) (e : Fin 128) :
    refV P (ix4 b r h e) = P (ix3 b r ⟨512 + 128 * h.val + e.val, by omega⟩) := by
  pointwise [refV]
  exact congrArg (fun c : Fin 1024 => P (ix3 b r c)) (Fin.ext (by simp; omega))

theorem refR_at (Q : FVec Ideal S2x256x4x128 .f32) (G : FVec Ideal S128 .f32) (b : Fin 2) (r : Fin 256) (h : Fin 4) (e : Fin 128) :
    refR Q G (ix4 b r h e) = unit 0x43000000#32 (fun k => Q (ix4 b r h k)) (fun k => G (ix1 k)) e := by
  pointwise [refR]
  rfl

theorem refT_at (Q : FVec Ideal S2x256x4x128 .f32) (b : Fin 2) (h : Fin 4) (r : Fin 256) (e : Fin 128) : refT Q (ix4 b h r e) = Q (ix4 b r h e) := by
  pointwise [refT]

/-- The reference's keys. -/
def REFK (X : FVec Ideal S2x256x1024 .f32) (G : FVec Ideal S1024 .f32) (W : FVec Ideal S1024x1024 .f32) (GK : FVec Ideal S128 .f32) : FVec Ideal S2x4x256x128 .bf16 :=
  refT (refR (refK (refP (refN X G) W)) GK)

/-- The reference's values. -/
def REFV (X : FVec Ideal S2x256x1024 .f32) (G : FVec Ideal S1024 .f32) (W : FVec Ideal S1024x1024 .f32) : FVec Ideal S2x4x256x128 .bf16 :=
  refT (refV (refP (refN X G) W))

theorem REFK_eq (X : FVec Ideal S2x256x1024 .f32) (G : FVec Ideal S1024 .f32) (W : FVec Ideal S1024x1024 .f32) (GK : FVec Ideal S128 .f32) (b : Fin 2) (h : Fin 4) (r : Fin 256) (e : Fin 128) :
    REFK X G W GK (ix4 b h r e) = key (fun k => X (ix3 b r k)) (fun k => G (ix1 k)) (fun k c => W (ix2 k c)) (fun k => GK (ix1 k)) h e := by
  rw [REFK, refT_at, refR_at]
  simp only [refK_at, refP_at]
  rfl

theorem REFV_eq (X : FVec Ideal S2x256x1024 .f32) (G : FVec Ideal S1024 .f32) (W : FVec Ideal S1024x1024 .f32) (b : Fin 2) (h : Fin 4) (r : Fin 256) (e : Fin 128) :
    REFV X G W (ix4 b h r e) = value (fun k => X (ix3 b r k)) (fun k => G (ix1 k)) (fun k c => W (ix2 k c)) h e := by
  rw [REFV, refT_at, refV_at, refP_at]
  rfl

end Cert.Reference4Ideal.Mem

end
-- ==== Proof.MemArray.lean ====
/- The memory kernel's result arrays: every memory row's key and value, head by head. -/
module

public import proofs.«01_k».proof.Proof.MemBody
public import proofs.«01_k».proof.Proof.MemRef
public import proofs.«01_k».proof.Proof.Gen.Kernel4Ideal.Value
public import Idealize.ShloMosaic.Lib.Pipeline.ValueKit

@[expose] public section

set_option maxRecDepth 16384

noncomputable section

namespace Cert.Kernel4Ideal.Mem

open Cert.Kernel4Ideal Cert.Kernel4Ideal.Gen Cert.Mix Cert.Mem
open Cert.Reference4Ideal.Mem (REFK REFK_eq REFV REFV_eq)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-! ## The arrays the launch prepares -/

theorem gain_at (c : Dev nD) (k : Fin 1024) : (V m c main_v0 : FVec Ideal S1x1024 .f32) (ix2 0 k) = (m ((c : Thread nD τ).loc main_arg1) : FVec Ideal S1024 .f32) (ix1 k) := by
  unfold V
  after_results
  pointwise []

theorem weight_at (c : Dev nD) (k d : Fin 1024) : (V m c main_v1 : FVec Ideal S1024x1024 .bf16) (ix2 k d) = (m ((c : Thread nD τ).loc main_arg2) : FVec Ideal S1024x1024 .f32) (ix2 k d) := by
  unfold V
  after_results
  pointwise []

theorem keyGain_at (c : Dev nD) (k : Fin 128) : (V m c main_v2 : FVec Ideal S1x128 .f32) (ix2 0 k) = (m ((c : Thread nD τ).loc main_arg3) : FVec Ideal S128 .f32) (ix1 k) := by
  unfold V
  after_results
  pointwise []

/-! ## The blocks of a grid point -/

theorem idx : ∀ t : Fin cfg0.N, (cfg0.win 0).index t = ![(grid0.coords t 0).val, 0, 0]
    ∧ (cfg0.win 1).index t = ![0, 0]
    ∧ (cfg0.win 2).index t = ![0, 0]
    ∧ (cfg0.win 3).index t = ![0, 0]
    ∧ (cfg0.win 4).index t = ![(grid0.coords t 0).val, 0, 0, 0]
    ∧ (cfg0.win 5).index t = ![(grid0.coords t 0).val, 0, 0, 0] :=
  (by decide +kernel : ∀ t : Fin grid0.N, cc0_transform_0 (grid0.coords t) = ![(grid0.coords t 0).val, 0, 0]
    ∧ cc0_transform_1 (grid0.coords t) = ![0, 0]
    ∧ cc0_transform_2 (grid0.coords t) = ![0, 0]
    ∧ cc0_transform_3 (grid0.coords t) = ![0, 0]
    ∧ cc0_transform_4 (grid0.coords t) = ![(grid0.coords t 0).val, 0, 0, 0]
    ∧ cc0_transform_5 (grid0.coords t) = ![(grid0.coords t 0).val, 0, 0, 0])

theorem covers4 : (cfg0.win 4).Covers := by decide +kernel

theorem covers5 : (cfg0.win 5).Covers := by decide +kernel

theorem blk_x (c : Dev nD) (t : Fin cfg0.N) (r : Fin 256) (d : Fin 1024) (i : S2x256x1024.Idx) (h0 : (i 0).val = (grid0.coords t 0).val) (h1 : (i 1).val = r.val) (h2 : (i 2).val = d.val) :
    iblk m c 0 t (ix3 0 r d : S1x256x1024.Idx) = (m ((c : Thread nD τ).loc main_arg0) : FVec Ideal S2x256x1024 .f32) i := by
  rw [← V_main_arg0 m c]
  blk_ext [iblk, idx t]

theorem blk_gain (c : Dev nD) (t : Fin cfg0.N) (k : Fin 1024) : iblk m c 1 t (ix2 0 k : S1x1024.Idx) = (m ((c : Thread nD τ).loc main_arg1) : FVec Ideal S1024 .f32) (ix1 k) := by
  rw [← gain_at m c k]
  blk_ext [iblk, idx t]

theorem blk_weight (c : Dev nD) (t : Fin cfg0.N) (k d : Fin 1024) : iblk m c 2 t (ix2 k d : S1024x1024.Idx) = (m ((c : Thread nD τ).loc main_arg2) : FVec Ideal S1024x1024 .f32) (ix2 k d) := by
  rw [← weight_at m c k d]
  blk_ext [iblk, idx t]

theorem blk_keyGain (c : Dev nD) (t : Fin cfg0.N) (k : Fin 128) : iblk m c 3 t (ix2 0 k : S1x128.Idx) = (m ((c : Thread nD τ).loc main_arg3) : FVec Ideal S128 .f32) (ix1 k) := by
  rw [← keyGain_at m c k]
  blk_ext [iblk, idx t]

/-! ## The result arrays -/

/-- Where the outputs' blocks lie in their arrays. -/
theorem emb4 (t : Fin cfg0.N) (h : Fin 4) (r : Fin 256) (e : Fin 128) :
    ((cfg0.win 4).blk t).view.emb (ix4 0 h r e : S1x4x256x128.Idx) = (ix4 (grid0.coords t 0) h r e : S2x4x256x128.Idx) := by
  funext a
  fin_cases a <;> apply Fin.ext <;> blk_simp [idx t] <;> rfl

theorem emb5 (t : Fin cfg0.N) (h : Fin 4) (r : Fin 256) (e : Fin 128) :
    ((cfg0.win 5).blk t).view.emb (ix4 0 h r e : S1x4x256x128.Idx) = (ix4 (grid0.coords t 0) h r e : S2x4x256x128.Idx) := by
  funext a
  fin_cases a <;> apply Fin.ext <;> blk_simp [idx t] <;> rfl

/-- The indices of a block. -/
theorem blk_idx (y : S1x4x256x128.Idx) : ∃ (h : Fin 4) (r : Fin 256) (e : Fin 128), y = (ix4 0 h r e : S1x4x256x128.Idx) := by
  refine ⟨y 1, y 2, y 3, (eq_ix4 y).trans ?_⟩
  have h0 : y 0 = (0 : Fin 1) := (Subsingleton.elim (α := Fin 1) _ _)
  exact congrArg (fun p : Fin 1 => (ix4 p (y 1) (y 2) (y 3) : S1x4x256x128.Idx)) h0

theorem key_congr {x x' g g' : Fin 1024 → EReal} {w w' : Fin 1024 → Fin 1024 → EReal} {k k' : Fin 128 → EReal} (h : Fin 4) (e : Fin 128)
    (hx : ∀ d, x d = x' d) (hg : ∀ d, g d = g' d) (hw : ∀ d c, w d c = w' d c) (hk : ∀ d, k d = k' d) : key x g w k h e = key x' g' w' k' h e := by
  rw [funext hx, funext hg, funext fun d => funext (hw d), funext hk]

theorem value_congr {x x' g g' : Fin 1024 → EReal} {w w' : Fin 1024 → Fin 1024 → EReal} (h : Fin 4) (e : Fin 128)
    (hx : ∀ d, x d = x' d) (hg : ∀ d, g d = g' d) (hw : ∀ d c, w d c = w' d c) : value x g w h e = value x' g' w' h e := by
  rw [funext hx, funext hg, funext fun d => funext (hw d)]

/-- The keys after the last step are the reference's. -/
theorem keys (c : Dev nD) : (dats m 0 c).arrAt 4 cfg0.N
    = REFK (m ((c : Thread nD τ).loc main_arg0)) (m ((c : Thread nD τ).loc main_arg1)) (m ((c : Thread nD τ).loc main_arg2)) (m ((c : Thread nD τ).loc main_arg3)) := by
  refine (dats m 0 c).arrAt_eq_of_covers 4 _ covers4 fun t _ y => ?_
  blk_simp
  rw [after0_4]
  obtain ⟨h, r, e, rfl⟩ := blk_idx y
  refine Eq.trans ?_ (congrArg _ (emb4 t h r e).symm)
  refine Eq.trans ?_ (REFK_eq _ _ _ _ _ _ _ _).symm
  exact (keys_at (iblk m c 0 t) (iblk m c 1 t) (iblk m c 2 t) (iblk m c 3 t) h r e).trans
    (key_congr h e (fun d => blk_x m c t r d _ rfl rfl rfl) (fun d => blk_gain m c t d) (fun d k => blk_weight m c t d k) (fun d => blk_keyGain m c t d))

/-- The values after the last step are the reference's. -/
theorem values (c : Dev nD) : (dats m 0 c).arrAt 5 cfg0.N
    = REFV (m ((c : Thread nD τ).loc main_arg0)) (m ((c : Thread nD τ).loc main_arg1)) (m ((c : Thread nD τ).loc main_arg2)) := by
  refine (dats m 0 c).arrAt_eq_of_covers 5 _ covers5 fun t _ y => ?_
  blk_simp
  rw [after0_5]
  obtain ⟨h, r, e, rfl⟩ := blk_idx y
  refine Eq.trans ?_ (congrArg _ (emb5 t h r e).symm)
  refine Eq.trans ?_ (REFV_eq _ _ _ _ _ _ _).symm
  exact (values_at (iblk m c 0 t) (iblk m c 1 t) (iblk m c 2 t) (iblk m c 3 t) h r e).trans
    (value_congr h e (fun d => blk_x m c t r d _ rfl rfl rfl) (fun d => blk_gain m c t d) (fun d k => blk_weight m c t d k))

end Cert.Kernel4Ideal.Mem

end
-- ==== Proof.MemAlgebraic.lean ====
/- The memory kernel and its reference end with the same result arrays. -/
module

public import proofs.«01_k».proof.Proof.MemArray
public import proofs.«01_k».proof.Defs
public import proofs.«01_k».proof.Proof.Gen.Reference4Ideal.Run

@[expose] public section

noncomputable section

namespace Cert.Mem

open Idealize.ShloMosaic Idealize.ShloMosaic.TcCoe Idealize.SL.Sem

/-- The kernel, idealized, computes the reference's keys and values. -/
theorem algebraic : Cert.algebraic_Kernel4Ideal_Reference4Ideal := by
  intro m g m' g' _ hargs
  refine ⟨fun c => Cert.Reference4Ideal.Mem.REFK (m (c.tc.loc Cert.Kernel4Ideal.main_arg0)) (m (c.tc.loc Cert.Kernel4Ideal.main_arg1)) (m (c.tc.loc Cert.Kernel4Ideal.main_arg2)) (m (c.tc.loc Cert.Kernel4Ideal.main_arg3)),
    fun c => Cert.Reference4Ideal.Mem.REFV (m (c.tc.loc Cert.Kernel4Ideal.main_arg0)) (m (c.tc.loc Cert.Kernel4Ideal.main_arg1)) (m (c.tc.loc Cert.Kernel4Ideal.main_arg2)), ?_, ?_⟩
  · refine (θ_run _ _ _).mono (fun r h c => ?_) (Cert.Kernel4Ideal.Value.run_blocks (F := Ideal) m g)
    obtain ⟨h0, h1, ha⟩ := h c
    exact ⟨h0.trans (Cert.Kernel4Ideal.Mem.keys m c), h1.trans (Cert.Kernel4Ideal.Mem.values m c), ha⟩
  · refine (θ_run _ _ _).mono (fun r h c => ?_) (Cert.Reference4Ideal.Value.run (F := Ideal) m' g')
    obtain ⟨h0, h1, ha⟩ := h c
    obtain ⟨e0, e1, e2, e3⟩ := hargs c
    refine ⟨h0.trans ((show _ = Cert.Reference4Ideal.Mem.REFK (m' (c.tc.loc Cert.Reference4Ideal.main_arg0)) (m' (c.tc.loc Cert.Reference4Ideal.main_arg1)) (m' (c.tc.loc Cert.Reference4Ideal.main_arg2)) (m' (c.tc.loc Cert.Reference4Ideal.main_arg3)) from rfl).trans ?_),
      h1.trans ((show _ = Cert.Reference4Ideal.Mem.REFV (m' (c.tc.loc Cert.Reference4Ideal.main_arg0)) (m' (c.tc.loc Cert.Reference4Ideal.main_arg1)) (m' (c.tc.loc Cert.Reference4Ideal.main_arg2)) from rfl).trans ?_), ha⟩
    · rw [e0, e1, e2, e3]
    · rw [e0, e1, e2]

end Cert.Mem

end
-- ==== Proof.ProjFrames.lean ====
/- The frames of the projection kernel as printed, of its idealization (whose text differs by a named constant) and of its reference. -/
module

public import proofs.«01_k».proof.Defs
public import proofs.«01_k».proof.Proof.Gen.Kernel5.Frame
public import proofs.«01_k».proof.Proof.Gen.Kernel5Ideal.Frame
public import proofs.«01_k».proof.Proof.Gen.Reference5Ideal.Run

@[expose] public section

noncomputable section

namespace Cert.Proj

open Idealize.ShloMosaic Idealize.SL.Sem

/-- The kernel as printed terminates with its arguments unchanged and every semaphore at zero. -/
theorem frame_kernel : Cert.quiescent_Kernel5 := fun m ρ _ => Cert.Kernel5.Gen.frame (F := Bits) m ρ

/-- So does its idealization, -/
theorem frame_ideal : Cert.quiescent_Kernel5Ideal := fun m ρ _ => Cert.Kernel5Ideal.Gen.frame (F := Ideal) m ρ

/-- and the reference. -/
theorem frame_ref : Cert.quiescent_Reference5Ideal := fun m ρ _ =>
  (θ_run Cert.Reference5Ideal.defs _ _).mono (fun r h => ⟨fun c => (h c).2.2.2.2.2, sem_eq_zero_of_no_sems (by decide) r.2⟩)
    (Cert.Reference5Ideal.Value.run (F := Ideal) m ρ)

end Cert.Proj

end
-- ==== Proof.ProjSpec.lean ====
/- The projections of one row of the residual stream into recurrent inputs, queries, keys and values, as functions of extended reals. -/
module

public import proofs.«01_k».proof.Proof.MixSpec

@[expose] public section

noncomputable section

namespace Cert.Proj

open Idealize.ShloMosaic Cert.Mix

/-- The normalised row through the joint projection. -/
def row (x g : Fin 1024 → EReal) (w : Fin 1024 → Fin 1440 → EReal) (c : Fin 1440) : EReal :=
  ∑ d, unit 0x44800000#32 x g d * w d c

/-- The compressed query, normalised. -/
def compQ (p : Fin 1440 → EReal) (g : Fin 256 → EReal) : Fin 256 → EReal :=
  unit 0x43800000#32 (fun k => p ⟨1024 + k.val, by omega⟩) g

/-- The compressed key and value, normalised. -/
def compK (p : Fin 1440 → EReal) (g : Fin 128 → EReal) : Fin 128 → EReal :=
  unit 0x43000000#32 (fun k => p ⟨1280 + k.val, by omega⟩) g

/-- The query of head `h` before its norm. -/
def rawQ (q : Fin 256 → EReal) (w : Fin 256 → Fin 768 → EReal) (h : Fin 8) (j : Fin 96) : EReal :=
  ∑ c, q c * w c ⟨96 * h.val + j.val, by omega⟩

/-- Its key: 64 entries of the head's own and 32 which all heads share. -/
def rawK (k : Fin 128 → EReal) (p : Fin 1440 → EReal) (w : Fin 128 → Fin 1024 → EReal) (h : Fin 8) (j : Fin 96) : EReal :=
  if j.val < 64 then ∑ c, k c * w c ⟨128 * h.val + j.val, by omega⟩ else p ⟨1344 + j.val, by omega⟩

/-- Its value. -/
def rawV (k : Fin 128 → EReal) (w : Fin 128 → Fin 1024 → EReal) (h : Fin 8) (e : Fin 64) : EReal :=
  ∑ c, k c * w c ⟨128 * h.val + 64 + e.val, by omega⟩

/-- The last 32 of 96 entries turned, entry `i` of the first half with entry `i` of the second. -/
def turn (t : Fin 96 → EReal) (co si : Fin 16 → EReal) (j : Fin 96) : EReal :=
  if j.val < 64 then t j
  else if h : j.val < 80 then t j * co ⟨j.val - 64, by omega⟩ - t ⟨j.val + 16, by omega⟩ * si ⟨j.val - 64, by omega⟩
  else t ⟨j.val - 16, by omega⟩ * si ⟨j.val - 80, by omega⟩ + t j * co ⟨j.val - 80, by omega⟩

/-- 96 entries and then `p` and zeros. -/
def extend (t : Fin 96 → EReal) (p : EReal) (j : Fin 128) : EReal :=
  if h : j.val < 96 then t ⟨j.val, h⟩ else if j.val = 96 then p else 0

/-- `96 ^ (-1/2)` times the base-two logarithm of `e`, rounded: the scale of a score. -/
def σ : EReal := Ideal.ofBits .f32 0x3E16C740#32

/-- The query of head `h`: normalised, turned and scaled, and minus the bound `b` on the scores at entry 96. -/
def query (t : Fin 96 → EReal) (g : Fin 96 → EReal) (co si : Fin 16 → EReal) (b : EReal) : Fin 128 → EReal :=
  extend (fun j => turn (unit 0x42C00000#32 t g) co si j * σ) (-b)

/-- The query with the scale inside the gain. -/
def queryIn (t : Fin 96 → EReal) (g : Fin 96 → EReal) (co si : Fin 16 → EReal) (b : EReal) : Fin 128 → EReal :=
  extend (turn (unit 0x42C00000#32 t fun j => g j * σ) co si) (0 - b)

/-- The key of head `h`: normalised and turned, and one at entry 96. -/
def key (t : Fin 96 → EReal) (g : Fin 96 → EReal) (co si : Fin 16 → EReal) : Fin 128 → EReal :=
  extend (turn (unit 0x42C00000#32 t g) co si) 1

theorem scale_pos : ∃ ρ : ℝ, 0 < ρ ∧ σ = (ρ : EReal) := by
  refine ⟨(1 + 1492800 / 8388608) * (2 : ℝ) ^ (-3 : ℤ), by positivity, ?_⟩
  simp [σ, Ideal.ofBits, Ideal.ieee, -EReal.coe_mul]
  norm_num

theorem len_real : Ideal.ofBits .f32 0x42C00000#32 = ((96 : ℝ) : EReal) := by
  simp [Ideal.ofBits, Ideal.ieee, -EReal.coe_mul]
  norm_num

/-- Multiplying by a ninety-sixth divides by 96. -/
theorem mul_ninetySixth (s : EReal) : s * ((1 / 96 : ℝ) : EReal) = Ideal.div s (Ideal.ofBits .f32 0x42C00000#32) := by
  have h : ((96 : ℝ) : EReal) ≠ 0 := by exact_mod_cast (by norm_num : (96 : ℝ) ≠ 0)
  rw [len_real, Ideal.div, if_neg h, ← EReal.coe_inv, one_div]

theorem unit_scale {n : ℕ} (N : BitVec 32) (x g : Fin n → EReal) (s : EReal) (d : Fin n) : unit N x (fun j => g j * s) d = unit N x g d * s := by
  simp only [unit, mul_assoc]

/-- A positive real factor passes through the turn. -/
theorem turn_scale (t : Fin 96 → EReal) (co si : Fin 16 → EReal) (ρ : ℝ) (hρ : 0 < ρ) (j : Fin 96) :
    turn (fun k => t k * (ρ : EReal)) co si j = turn t co si j * (ρ : EReal) := by
  have hd (a b : EReal) : (a + b) * (ρ : EReal) = a * ρ + b * ρ :=
    EReal.right_distrib_of_nonneg_of_ne_top (by exact_mod_cast hρ.le) (EReal.coe_ne_top ρ) a b
  unfold turn
  split_ifs
  · rfl
  · dsimp only
    rw [sub_eq_add_neg, sub_eq_add_neg, hd, EReal.neg_mul, mul_right_comm, mul_right_comm (t ⟨j.val + 16, _⟩)]
  · dsimp only
    rw [hd, mul_right_comm, mul_right_comm (t j)]

theorem queryIn_eq (t g : Fin 96 → EReal) (co si : Fin 16 → EReal) (b : EReal) : queryIn t g co si b = query t g co si b := by
  obtain ⟨ρ, hρ, e⟩ := scale_pos
  have hu : unit 0x42C00000#32 t (fun j => g j * σ) = fun k => unit 0x42C00000#32 t g k * (ρ : EReal) := funext fun k => by rw [unit_scale, e]
  rw [queryIn, query, hu, zero_sub]
  refine congrArg (fun f => extend f (-b)) (funext fun j => ?_)
  rw [turn_scale _ _ _ _ hρ, e]

end Cert.Proj

end
-- ==== Proof.ProjRef.lean ====
/- The projection reference's results at an index. -/
module

public import proofs.«01_k».proof.Proof.Gen.Reference5Ideal.Run
public import proofs.«01_k».proof.Proof.ProjSpec
public import Idealize.ShloMosaic.Lib.Pointwise
public import Idealize.ShloMosaic.Lib.KernelVsHost

@[expose] public section

set_option maxRecDepth 16384

noncomputable section

namespace Cert.Reference5Ideal.Proj

open Cert.Reference5Ideal Cert.Reference5Ideal.Gen Cert.Mix Cert.Proj
open Idealize.ShloMosaic Idealize.ShloMosaic.TcCoe Idealize.SL.Sem

/-! ## Layers -/

/-- Rows of 1024 over their root mean square, times a gain. -/
def refN (X : FVec Ideal S2x8192x1024 .f32) (G : FVec Ideal S1024 .f32) : FVec Ideal S2x8192x1024 .f32 :=
  mulf (mulf X (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 G))

/-- The joint projection. -/
def refP (N : FVec Ideal S2x8192x1024 .f32) (W : FVec Ideal S1024x1440 .f32) : FVec Ideal S2x8192x1440 .f32 :=
  Host.dotGeneral dot_S2x8192x1024_S1024x1440_S2x8192x1440_2_0_01_1_n_n none N W

/-- Rows of 256 over their root mean square, times a gain. -/
def refN256 (X : FVec Ideal S2x8192x256 .f32) (G : FVec Ideal S256 .f32) : FVec Ideal S2x8192x256 .f32 :=
  mulf (mulf X (broadcastInDim S2x8192x256 ![0, 1, 2] bcast_S2x8192x1_S2x8192x256_0_1_2 (Host.rsqrt (addf (Host.divf (broadcastInDim S2x8192x1 ![0, 1] bcast_S2x8192_S2x8192x1_0_1 (Host.reduceAdd (mulf X X) (constant S_ .f32 0x00000000#32) reducesTo_S2x8192x256_S2x8192_d2 h_S_)) (broadcastInDim S2x8192x1 ![] bcast_S_S2x8192x1 (constant S_ .f32 0x43800000#32))) (broadcastInDim S2x8192x1 ![] bcast_S_S2x8192x1 (constant S_ .f32 0x358637BD#32))))))
    (broadcastInDim S2x8192x256 ![0, 1, 2] bcast_S1x1x256_S2x8192x256_0_1_2 (broadcastInDim S1x1x256 ![2] bcast_S256_S1x1x256_2 G))

/-- Rows of 128 likewise. -/
def refN128 (X : FVec Ideal S2x8192x128 .f32) (G : FVec Ideal S128 .f32) : FVec Ideal S2x8192x128 .f32 :=
  mulf (mulf X (broadcastInDim S2x8192x128 ![0, 1, 2] bcast_S2x8192x1_S2x8192x128_0_1_2 (Host.rsqrt (addf (Host.divf (broadcastInDim S2x8192x1 ![0, 1] bcast_S2x8192_S2x8192x1_0_1 (Host.reduceAdd (mulf X X) (constant S_ .f32 0x00000000#32) reducesTo_S2x8192x128_S2x8192_d2 h_S_)) (broadcastInDim S2x8192x1 ![] bcast_S_S2x8192x1 (constant S_ .f32 0x43000000#32))) (broadcastInDim S2x8192x1 ![] bcast_S_S2x8192x1 (constant S_ .f32 0x358637BD#32))))))
    (broadcastInDim S2x8192x128 ![0, 1, 2] bcast_S1x1x128_S2x8192x128_0_1_2 (broadcastInDim S1x1x128 ![2] bcast_S128_S1x1x128_2 G))

/-- The compressed query. -/
def refCQ (P : FVec Ideal S2x8192x1440 .f32) (G : FVec Ideal S256 .f32) : FVec Ideal S2x8192x256 .f32 :=
  refN256 (extractStridedSlice S2x8192x256 ![0, 0, 1024] P slices_S2x8192x1440_S2x8192x256_0_0_1024) G

/-- The compressed key and value. -/
def refCK (P : FVec Ideal S2x8192x1440 .f32) (G : FVec Ideal S128 .f32) : FVec Ideal S2x8192x128 .f32 :=
  refN128 (extractStridedSlice S2x8192x128 ![0, 0, 1280] P slices_S2x8192x1440_S2x8192x128_0_0_1280) G

/-- The queries before their norm, head by head. -/
def refQ (Q : FVec Ideal S2x8192x256 .f32) (W : FVec Ideal S256x768 .f32) : FVec Ideal S2x8192x8x96 .f32 :=
  shapeCast S2x8192x8x96 (Host.dotGeneral dot_S2x8192x256_S256x768_S2x8192x768_2_0_01_1_n_n none Q W) shapeCasts_S2x8192x768_S2x8192x8x96

/-- Keys and values, head by head. -/
def refKV (K : FVec Ideal S2x8192x128 .f32) (W : FVec Ideal S128x1024 .f32) : FVec Ideal S2x8192x8x128 .f32 :=
  shapeCast S2x8192x8x128 (Host.dotGeneral dot_S2x8192x128_S128x1024_S2x8192x1024_2_0_01_1_n_n none K W) shapeCasts_S2x8192x1024_S2x8192x8x128

/-- The keys before their norm: every head's own 64 entries and the 32 shared ones. -/
def refK (T : FVec Ideal S2x8192x8x128 .f32) (P : FVec Ideal S2x8192x1440 .f32) : FVec Ideal S2x8192x8x96 .f32 :=
  concatenate S2x8192x8x96 3 [⟨S2x8192x8x64, extractStridedSlice S2x8192x8x64 ![0, 0, 0, 0] T slices_S2x8192x8x128_S2x8192x8x64_0_0_0_0⟩,
    ⟨S2x8192x8x32, broadcastInDim S2x8192x8x32 ![0, 1, 2, 3] bcast_S2x8192x1x32_S2x8192x8x32_0_1_2_3 (broadcastInDim S2x8192x1x32 ![0, 1, 3] bcast_S2x8192x32_S2x8192x1x32_0_1_3 (extractStridedSlice S2x8192x32 ![0, 0, 1408] P slices_S2x8192x1440_S2x8192x32_0_0_1408))⟩] concatenates_S2x8192x8x64_S2x8192x8x32_S2x8192x8x96_d3

/-- Heads of 96 over their root mean square, times a gain. -/
def refR (Q : FVec Ideal S2x8192x8x96 .f32) (G : FVec Ideal S96 .f32) : FVec Ideal S2x8192x8x96 .f32 :=
  mulf (mulf Q (broadcastInDim S2x8192x8x96 ![0, 1, 2, 3] bcast_S2x8192x8x1_S2x8192x8x96_0_1_2_3 (Host.rsqrt (addf (Host.divf (broadcastInDim S2x8192x8x1 ![0, 1, 2] bcast_S2x8192x8_S2x8192x8x1_0_1_2 (Host.reduceAdd (mulf Q Q) (constant S_ .f32 0x00000000#32) reducesTo_S2x8192x8x96_S2x8192x8_d3 h_S_)) (broadcastInDim S2x8192x8x1 ![] bcast_S_S2x8192x8x1 (constant S_ .f32 0x42C00000#32))) (broadcastInDim S2x8192x8x1 ![] bcast_S_S2x8192x8x1 (constant S_ .f32 0x358637BD#32))))))
    (broadcastInDim S2x8192x8x96 ![0, 1, 2, 3] bcast_S1x1x1x96_S2x8192x8x96_0_1_2_3 (broadcastInDim S1x1x1x96 ![3] bcast_S96_S1x1x1x96_3 G))

/-- The sixteen frequencies. -/
def FREQ : FVec Ideal S16 .f32 :=
  Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))

/-- The angle of every position at frequencies `f`. -/
def refA (p : IVec S2x8192 32) (f : FVec Ideal S16 .f32) : FVec Ideal S2x8192x16 .f32 :=
  mulf (broadcastInDim S2x8192x16 ![0, 1, 2] bcast_S2x8192x1_S2x8192x16_0_1_2 (broadcastInDim S2x8192x1 ![0, 1] bcast_S2x8192_S2x8192x1_0_1 (sitofp .f32 p)))
    (broadcastInDim S2x8192x16 ![0, 1, 2] bcast_S1x1x16_S2x8192x16_0_1_2 (broadcastInDim S1x1x16 ![2] bcast_S16_S1x1x16_2 f))

/-- A function of the angles, for every head. -/
def refB (A : FVec Ideal S2x8192x16 .f32) : FVec Ideal S2x8192x8x16 .f32 :=
  broadcastInDim S2x8192x8x16 ![0, 1, 2, 3] bcast_S2x8192x1x16_S2x8192x8x16_0_1_2_3 (broadcastInDim S2x8192x1x16 ![0, 1, 3] bcast_S2x8192x16_S2x8192x1x16_0_1_3 A)

/-- The last 32 entries of every head. -/
def refL (Y : FVec Ideal S2x8192x8x96 .f32) : FVec Ideal S2x8192x8x32 .f32 :=
  extractStridedSlice S2x8192x8x32 ![0, 0, 0, 64] Y slices_S2x8192x8x96_S2x8192x8x32_0_0_0_64

/-- Those entries turned. -/
def refT (L : FVec Ideal S2x8192x8x32 .f32) (C S : FVec Ideal S2x8192x8x16 .f32) : FVec Ideal S2x8192x8x32 .f32 :=
  concatenate S2x8192x8x32 3 [⟨S2x8192x8x16, subf (mulf (extractStridedSlice S2x8192x8x16 ![0, 0, 0, 0] L slices_S2x8192x8x32_S2x8192x8x16_0_0_0_0) C) (mulf (extractStridedSlice S2x8192x8x16 ![0, 0, 0, 16] L slices_S2x8192x8x32_S2x8192x8x16_0_0_0_16) S)⟩,
    ⟨S2x8192x8x16, addf (mulf (extractStridedSlice S2x8192x8x16 ![0, 0, 0, 0] L slices_S2x8192x8x32_S2x8192x8x16_0_0_0_0) S) (mulf (extractStridedSlice S2x8192x8x16 ![0, 0, 0, 16] L slices_S2x8192x8x32_S2x8192x8x16_0_0_0_16) C)⟩] concatenates_S2x8192x8x16_S2x8192x8x16_S2x8192x8x32_d3

/-- Heads with their last 32 entries turned. -/
def refU (Y : FVec Ideal S2x8192x8x96 .f32) (C S : FVec Ideal S2x8192x8x16 .f32) : FVec Ideal S2x8192x8x96 .f32 :=
  concatenate S2x8192x8x96 3 [⟨S2x8192x8x64, extractStridedSlice S2x8192x8x64 ![0, 0, 0, 0] Y slices_S2x8192x8x96_S2x8192x8x64_0_0_0_0⟩, ⟨S2x8192x8x32, refT (refL Y) C S⟩] concatenates_S2x8192x8x64_S2x8192x8x32_S2x8192x8x96_d3

/-- Heads times the scale. -/
def refS (Y : FVec Ideal S2x8192x8x96 .f32) : FVec Ideal S2x8192x8x96 .f32 :=
  mulf Y (broadcastInDim S2x8192x8x96 ![] bcast_S_S2x8192x8x96 (constant S_ .f32 0x3E16C740#32))

/-- The bound on the scores. -/
def BOUND (q k : FVec Ideal S96 .f32) : FVec Ideal S_ .f32 :=
  mulf (mulf (constant S_ .f32 0x41622ADF#32) (Host.reduce FloatOps.maximumf (Host.absf q) (constant S_ .f32 0xFF800000#32) reducesTo_S96_S_d0 h_S_)) (Host.reduce FloatOps.maximumf (Host.absf k) (constant S_ .f32 0xFF800000#32) reducesTo_S96_S_d0 h_S_)

/-- Ones. -/
def refI : FVec Ideal S2x8192x8x1 .f32 := broadcastInDim S2x8192x8x1 ![] bcast_S_S2x8192x8x1 (constant S_ .f32 0x3F800000#32)

/-- Minus a bound, as often. -/
def refM (B : FVec Ideal S_ .f32) : FVec Ideal S2x8192x8x1 .f32 := mulf (broadcastInDim S2x8192x8x1 ![] bcast_S_S2x8192x8x1 (Host.negf B)) refI

/-- Heads, one entry and zeros. -/
def refE (Y : FVec Ideal S2x8192x8x96 .f32) (O : FVec Ideal S2x8192x8x1 .f32) : FVec Ideal S2x8192x8x128 .f32 :=
  concatenate S2x8192x8x128 3 [⟨S2x8192x8x96, Y⟩, ⟨S2x8192x8x1, O⟩, ⟨S2x8192x8x31, broadcastInDim S2x8192x8x31 ![] bcast_S_S2x8192x8x31 (constant S_ .f32 0x00000000#32)⟩] concatenates_S2x8192x8x96_S2x8192x8x1_S2x8192x8x31_S2x8192x8x128_d3

/-! ## The results -/

section

variable (X : FVec Ideal S2x8192x1024 .f32) (p : IVec S2x8192 32) (G : FVec Ideal S1024 .f32) (W : FVec Ideal S1024x1440 .f32) (GA : FVec Ideal S256 .f32) (WA : FVec Ideal S256x768 .f32)
  (GC : FVec Ideal S128 .f32) (WC : FVec Ideal S128x1024 .f32) (GQ GK : FVec Ideal S96 .f32)

/-- The reference's projected rows. -/
def ROWS : FVec Ideal S2x8192x1440 .f32 := refP (refN X G) W

/-- Its recurrent inputs. -/
def XR : FVec Ideal S2x8192x512 .f32 := extractStridedSlice S2x8192x512 ![0, 0, 0] (ROWS X G W) slices_S2x8192x1440_S2x8192x512_0_0_0

/-- Its recurrent gates. -/
def YG : FVec Ideal S2x8192x512 .f32 := extractStridedSlice S2x8192x512 ![0, 0, 512] (ROWS X G W) slices_S2x8192x1440_S2x8192x512_0_0_512

/-- Its queries. -/
def QUERIES : FVec Ideal S2x8x16x128x512 .bf16 :=
  truncf .bf16 (transpose S2x8x16x128x512 [0, 3, 1, 4, 2] (shapeCast S2x16x512x8x128 (refE (refS (refU (refR (refQ (refCQ (ROWS X G W) GA) WA) GQ) (refB (Host.cos (refA p FREQ))) (refB (Host.sin (refA p FREQ))))) (refM (BOUND GQ GK))) shapeCasts_S2x8192x8x128_S2x16x512x8x128) transposes_S2x16x512x8x128_S2x8x16x128x512_0_3_1_4_2) bitsLt_bf16_f32

/-- Its keys. -/
def KEYS : FVec Ideal S2x8x8192x128 .bf16 :=
  truncf .bf16 (transpose S2x8x8192x128 [0, 2, 1, 3] (refE (refU (refR (refK (refKV (refCK (ROWS X G W) GC) WC) (ROWS X G W)) GK) (refB (Host.cos (refA p FREQ))) (refB (Host.sin (refA p FREQ)))) refI) transposes_S2x8192x8x128_S2x8x8192x128_0_2_1_3) bitsLt_bf16_f32

/-- Its values. -/
def VALUES : FVec Ideal S2x8x16x64x512 .bf16 :=
  truncf .bf16 (transpose S2x8x16x64x512 [0, 3, 1, 4, 2] (shapeCast S2x16x512x8x64 (extractStridedSlice S2x8192x8x64 ![0, 0, 0, 64] (refKV (refCK (ROWS X G W) GC) WC) slices_S2x8192x8x128_S2x8192x8x64_0_0_0_64) shapeCasts_S2x8192x8x64_S2x16x512x8x64) transposes_S2x16x512x8x64_S2x8x16x64x512_0_3_1_4_2) bitsLt_bf16_f32

end

theorem queries_eq (m : (ℓ : Loc nD τ sig) → Buf (Elt Ideal) ℓ) (c : Dev nD) :
    Value.res_main_v149 (F := Ideal) m c = QUERIES (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg8)) (m ((c.tc : Thread nD τ).loc main_arg9)) := by
  unfold Value.res_main_v149
  rfl

theorem keys_eq (m : (ℓ : Loc nD τ sig) → Buf (Elt Ideal) ℓ) (c : Dev nD) :
    Value.res_main_v151 (F := Ideal) m c = KEYS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))
      (m ((c.tc : Thread nD τ).loc main_arg7)) (m ((c.tc : Thread nD τ).loc main_arg9)) := by
  unfold Value.res_main_v151
  rfl

/-! ## Read at an index -/

theorem rows_at (X : FVec Ideal S2x8192x1024 .f32) (G : FVec Ideal S1024 .f32) (W : FVec Ideal S1024x1440 .f32) (b : Fin 2) (r : Fin 8192) (c : Fin 1440) :
    ROWS X G W (ix3 b r c) = row (fun k => X (ix3 b r k)) (fun k => G (ix1 k)) (fun k c => W (ix2 k c)) c := by
  have hN (d : Fin 1024) : refN X G (ix3 b r d) = unit 0x44800000#32 (fun k => X (ix3 b r k)) (fun k => G (ix1 k)) d := by
    pointwise [refN]
    rfl
  have h (N : FVec Ideal S2x8192x1024 .f32) : refP N W (ix3 b r c) = ∑ d : Fin 1024, (N (ix3 b r d) : EReal) * W (ix2 d c) := by pointwise [refP]
  rw [ROWS, h]
  simp only [hN]
  rfl

theorem refCQ_at (P : FVec Ideal S2x8192x1440 .f32) (G : FVec Ideal S256 .f32) (b : Fin 2) (r : Fin 8192) (c : Fin 256) :
    refCQ P G (ix3 b r c) = compQ (fun c => P (ix3 b r c)) (fun k => G (ix1 k)) c := by
  pointwise [refCQ, refN256]
  rfl

theorem refCK_at (P : FVec Ideal S2x8192x1440 .f32) (G : FVec Ideal S128 .f32) (b : Fin 2) (r : Fin 8192) (c : Fin 128) :
    refCK P G (ix3 b r c) = compK (fun c => P (ix3 b r c)) (fun k => G (ix1 k)) c := by
  pointwise [refCK, refN128]
  rfl

theorem refQ_at (Q : FVec Ideal S2x8192x256 .f32) (W : FVec Ideal S256x768 .f32) (b : Fin 2) (r : Fin 8192) (h : Fin 8) (j : Fin 96) :
    refQ Q W (ix4 b r h j) = rawQ (fun c => Q (ix3 b r c)) (fun c k => W (ix2 c k)) h j := by
  pointwise [refQ]
  exact Finset.sum_congr rfl fun c _ => congrArg (fun k : Fin 768 => (Q (ix3 b r c) : EReal) * W (ix2 c k)) (Fin.ext (by simp; omega))

theorem refKV_at (K : FVec Ideal S2x8192x128 .f32) (W : FVec Ideal S128x1024 .f32) (b : Fin 2) (r : Fin 8192) (h : Fin 8) (j : Fin 128) :
    refKV K W (ix4 b r h j) = ∑ c : Fin 128, (K (ix3 b r c) : EReal) * W (ix2 c ⟨128 * h.val + j.val, by omega⟩) := by
  pointwise [refKV]
  exact Finset.sum_congr rfl fun c _ => congrArg (fun k : Fin 1024 => (K (ix3 b r c) : EReal) * W (ix2 c k)) (Fin.ext (by simp; omega))

theorem refK_at (T : FVec Ideal S2x8192x8x128 .f32) (P : FVec Ideal S2x8192x1440 .f32) (b : Fin 2) (r : Fin 8192) (h : Fin 8) (j : Fin 96) :
    refK T P (ix4 b r h j) = if j.val < 64 then T (ix4 b r h ⟨j.val, by omega⟩) else P (ix3 b r ⟨1344 + j.val, by omega⟩) := by
  pointwise [refK]
  by_cases h1 : j.val < 64
  · simp only [h1, dite_true, if_true]
  · simp only [h1, dite_false, if_false]
    exact congrArg (fun k : Fin 1440 => P (ix3 b r k)) (Fin.ext (by dsimp only; omega))

theorem refR_at (Q : FVec Ideal S2x8192x8x96 .f32) (G : FVec Ideal S96 .f32) (b : Fin 2) (r : Fin 8192) (h : Fin 8) (j : Fin 96) :
    refR Q G (ix4 b r h j) = unit 0x42C00000#32 (fun k => Q (ix4 b r h k)) (fun k => G (ix1 k)) j := by
  pointwise [refR]
  rfl

/-- The angle of position `p` at frequency `f`. -/
def angle (p : BitVec 32) (f : EReal) : EReal := ((p.toInt : ℝ) : EReal) * f

theorem cos_at (p : IVec S2x8192 32) (f : FVec Ideal S16 .f32) (b : Fin 2) (r : Fin 8192) (h : Fin 8) (i : Fin 16) :
    refB (Host.cos (refA p f)) (ix4 b r h i) = Ideal.cos (angle (p (ix2 b r)) (f (ix1 i))) := by
  pointwise [refB, refA]
  rfl

theorem sin_at (p : IVec S2x8192 32) (f : FVec Ideal S16 .f32) (b : Fin 2) (r : Fin 8192) (h : Fin 8) (i : Fin 16) :
    refB (Host.sin (refA p f)) (ix4 b r h i) = Ideal.sin (angle (p (ix2 b r)) (f (ix1 i))) := by
  pointwise [refB, refA]
  rfl

theorem refU_at (Y : FVec Ideal S2x8192x8x96 .f32) (C S : FVec Ideal S2x8192x8x16 .f32) (b : Fin 2) (r : Fin 8192) (h : Fin 8) (j : Fin 96) :
    refU Y C S (ix4 b r h j) = turn (fun k => Y (ix4 b r h k)) (fun i => C (ix4 b r h i)) (fun i => S (ix4 b r h i)) j := by
  have hj := j.isLt
  have hy (a c : ℕ) (ha : a < 96) (hc : c < 96) (e : a = c) : Y (ix4 b r h ⟨a, ha⟩ : S2x8192x8x96.Idx) = Y (ix4 b r h ⟨c, hc⟩ : S2x8192x8x96.Idx) := by subst e; rfl
  have hcs (f : FVec Ideal S2x8192x8x16 .f32) (a c : ℕ) (ha : a < 16) (hc : c < 16) (e : a = c) : f (ix4 b r h ⟨a, ha⟩ : S2x8192x8x16.Idx) = f (ix4 b r h ⟨c, hc⟩ : S2x8192x8x16.Idx) := by subst e; rfl
  pointwise [refU, refT, refL]
  dsimp only [turn]
  by_cases h1 : j.val < 64
  · rw [dif_pos h1, if_pos h1]
  by_cases h2 : j.val < 80
  · rw [dif_neg h1, dif_pos (by omega), if_neg h1, dif_pos h2]
    exact congrArg₂ (fun a c : EReal => a - c) (congrArg₂ (fun a c : EReal => a * c) (hy _ _ _ _ (by omega)) rfl) (congrArg₂ (fun a c : EReal => a * c) (hy _ _ _ _ (by omega)) rfl)
  · rw [dif_neg h1, dif_neg (by omega), if_neg h1, dif_neg h2]
    exact congrArg₂ (fun a c : EReal => a + c) (congrArg₂ (fun a c : EReal => a * c) (hy _ _ _ _ (by omega)) (hcs _ _ _ _ _ (by omega))) (congrArg₂ (fun a c : EReal => a * c) (hy _ _ _ _ (by omega)) (hcs _ _ _ _ _ (by omega)))

theorem refS_at (Y : FVec Ideal S2x8192x8x96 .f32) (b : Fin 2) (r : Fin 8192) (h : Fin 8) (j : Fin 96) : refS Y (ix4 b r h j) = Y (ix4 b r h j) * Cert.Proj.σ := by
  pointwise [refS]
  rfl

theorem refE_at (Y : FVec Ideal S2x8192x8x96 .f32) (O : FVec Ideal S2x8192x8x1 .f32) (b : Fin 2) (r : Fin 8192) (h : Fin 8) (j : Fin 128) :
    refE Y O (ix4 b r h j) = extend (fun k => Y (ix4 b r h k)) (O (ix4 b r h 0)) j := by
  have ho (i : Fin 1) : O (ix4 b r h i) = O (ix4 b r h 0) := congrArg (fun i : Fin 1 => O (ix4 b r h i)) (Subsingleton.elim i 0)
  pointwise [refE]
  simp only [ho]
  dsimp only [extend]
  by_cases h1 : j.val < 96
  · rw [dif_pos h1, dif_pos h1]
  · rw [dif_neg h1, dif_neg h1]
    by_cases h2 : j.val = 96
    · rw [dif_pos (by omega), if_pos h2]
    · rw [dif_neg (by omega), if_neg h2]

theorem refM_at (B : FVec Ideal S_ .f32) (b : Fin 2) (r : Fin 8192) (h : Fin 8) : refM B (ix4 b r h 0) = -(B ix0) := by
  pointwise [refM, refI]

theorem refI_at (b : Fin 2) (r : Fin 8192) (h : Fin 8) : refI (ix4 b r h 0) = 1 := by
  pointwise [refI]

section

variable (X : FVec Ideal S2x8192x1024 .f32) (p : IVec S2x8192 32) (G : FVec Ideal S1024 .f32) (W : FVec Ideal S1024x1440 .f32) (GA : FVec Ideal S256 .f32) (WA : FVec Ideal S256x768 .f32)
  (GC : FVec Ideal S128 .f32) (WC : FVec Ideal S128x1024 .f32) (GQ GK : FVec Ideal S96 .f32)

/-- Row `r` of batch `b` through the joint projection. -/
abbrev rowAt (b : Fin 2) (r : Fin 8192) : Fin 1440 → EReal := row (fun k => X (ix3 b r k)) (fun k => G (ix1 k)) (fun k c => W (ix2 k c))

theorem XR_at (b : Fin 2) (r : Fin 8192) (c : Fin 512) : XR X G W (ix3 b r c) = rowAt X G W b r ⟨c.val, by omega⟩ := by
  have h (P : FVec Ideal S2x8192x1440 .f32) : extractStridedSlice S2x8192x512 ![0, 0, 0] P slices_S2x8192x1440_S2x8192x512_0_0_0 (ix3 b r c) = P (ix3 b r ⟨c.val, by omega⟩) := by
    pointwise []
  rw [XR, h, rows_at]

theorem YG_at (b : Fin 2) (r : Fin 8192) (c : Fin 512) : YG X G W (ix3 b r c) = rowAt X G W b r ⟨512 + c.val, by omega⟩ := by
  have h (P : FVec Ideal S2x8192x1440 .f32) : extractStridedSlice S2x8192x512 ![0, 0, 512] P slices_S2x8192x1440_S2x8192x512_0_0_512 (ix3 b r c) = P (ix3 b r ⟨512 + c.val, by omega⟩) := by
    pointwise []
  rw [YG, h, rows_at]

theorem QUERIES_at (b : Fin 2) (h : Fin 8) (n : Fin 16) (j : Fin 128) (r : Fin 512) :
    QUERIES X p G W GA WA GQ GK (ix5 b h n j r)
      = query (rawQ (compQ (rowAt X G W b ⟨512 * n.val + r.val, by omega⟩) (fun k => GA (ix1 k))) (fun c k => WA (ix2 c k)) h) (fun k => GQ (ix1 k))
        (fun i => Ideal.cos (angle (p (ix2 b ⟨512 * n.val + r.val, by omega⟩)) (FREQ (ix1 i)))) (fun i => Ideal.sin (angle (p (ix2 b ⟨512 * n.val + r.val, by omega⟩)) (FREQ (ix1 i)))) (BOUND GQ GK ix0) j := by
  have ht (T : FVec Ideal S2x8192x8x128 .f32) : (truncf .bf16 (transpose S2x8x16x128x512 [0, 3, 1, 4, 2] (shapeCast S2x16x512x8x128 T shapeCasts_S2x8192x8x128_S2x16x512x8x128) transposes_S2x16x512x8x128_S2x8x16x128x512_0_3_1_4_2) bitsLt_bf16_f32 : FVec Ideal S2x8x16x128x512 .bf16) (ix5 b h n j r)
      = T (ix4 b ⟨512 * n.val + r.val, by omega⟩ h j) := by
    pointwise []
    exact congrArg (fun k : Fin 8192 => T (ix4 b k h j)) (Fin.ext (by simp; omega))
  rw [QUERIES, ht, refE_at, refM_at]
  simp only [refS_at, refU_at, refR_at, refQ_at, refCQ_at, rows_at, cos_at, sin_at]
  rfl

theorem KEYS_at (b : Fin 2) (h : Fin 8) (r : Fin 8192) (j : Fin 128) :
    KEYS X p G W GC WC GK (ix4 b h r j)
      = key (rawK (compK (rowAt X G W b r) (fun k => GC (ix1 k))) (rowAt X G W b r) (fun c k => WC (ix2 c k)) h) (fun k => GK (ix1 k))
        (fun i => Ideal.cos (angle (p (ix2 b r)) (FREQ (ix1 i)))) (fun i => Ideal.sin (angle (p (ix2 b r)) (FREQ (ix1 i)))) j := by
  have ht (T : FVec Ideal S2x8192x8x128 .f32) : (truncf .bf16 (transpose S2x8x8192x128 [0, 2, 1, 3] T transposes_S2x8192x8x128_S2x8x8192x128_0_2_1_3) bitsLt_bf16_f32 : FVec Ideal S2x8x8192x128 .bf16) (ix4 b h r j) = T (ix4 b r h j) := by
    pointwise []
  rw [KEYS, ht, refE_at, refI_at]
  simp only [refU_at, refR_at, refK_at, refKV_at, refCK_at, rows_at, cos_at, sin_at]
  rfl

theorem VALUES_at (b : Fin 2) (h : Fin 8) (n : Fin 16) (e : Fin 64) (r : Fin 512) :
    VALUES X G W GC WC (ix5 b h n e r) = rawV (compK (rowAt X G W b ⟨512 * n.val + r.val, by omega⟩) (fun k => GC (ix1 k))) (fun c k => WC (ix2 c k)) h e := by
  have ht (T : FVec Ideal S2x8192x8x128 .f32) : (truncf .bf16 (transpose S2x8x16x64x512 [0, 3, 1, 4, 2] (shapeCast S2x16x512x8x64 (extractStridedSlice S2x8192x8x64 ![0, 0, 0, 64] T slices_S2x8192x8x128_S2x8192x8x64_0_0_0_64) shapeCasts_S2x8192x8x64_S2x16x512x8x64) transposes_S2x16x512x8x64_S2x8x16x64x512_0_3_1_4_2) bitsLt_bf16_f32 : FVec Ideal S2x8x16x64x512 .bf16) (ix5 b h n e r)
      = T (ix4 b ⟨512 * n.val + r.val, by omega⟩ h ⟨64 + e.val, by omega⟩) := by
    pointwise []
    exact congrArg (fun k : Fin 8192 => T (ix4 b k h ⟨64 + e.val, by omega⟩)) (Fin.ext (by simp; omega))
  rw [VALUES, ht, refKV_at]
  simp only [refCK_at, rows_at]
  exact Finset.sum_congr rfl fun c _ => congrArg (fun k : Fin 1024 => (compK (rowAt X G W b ⟨512 * n.val + r.val, by omega⟩) (fun k => GC (ix1 k)) c : EReal) * WC (ix2 c k)) (Fin.ext (by simp; omega))

end

end Cert.Reference5Ideal.Proj

end
-- ==== Proof.ProjHost.lean ====
/- The arrays the projection kernel's launch prepares, read at an index. -/
module

public import proofs.«01_k».proof.Proof.ProjRef
public import proofs.«01_k».proof.Proof.Gen.Kernel5Ideal.Value
public import Idealize.ShloMosaic.Lib.Pipeline.ValueKit

@[expose] public section

set_option maxRecDepth 16384

noncomputable section

namespace Cert.Kernel5Ideal.Proj

open Cert.Kernel5Ideal Cert.Kernel5Ideal.Gen Cert.Mix Cert.Proj
open Cert.Reference5Ideal.Proj (FREQ BOUND)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

theorem pos_at (c : Dev nD) (b : Fin 2) (r : Fin 8192) : (V m c main_v39 : IVec S2x1x8192 32) (ix3 b 0 r) = (m ((c : Thread nD τ).loc main_arg1) : IVec S2x8192 32) (ix2 b r) := by
  simp only [V, hostOps0, hostOps0_1, hostOps0_2, hostOps0_3, hostOps0_4, hostOps0_5, hostOps0_6, List.flatten_cons, List.flatten_nil, List.append_nil, List.cons_append, List.nil_append]
  after_results
  pointwise []

theorem norm_at (c : Dev nD) (k : Fin 1024) : (V m c main_v40 : FVec Ideal S1x1024 .f32) (ix2 0 k) = (m ((c : Thread nD τ).loc main_arg2) : FVec Ideal S1024 .f32) (ix1 k) := by
  simp only [V, hostOps0, hostOps0_1, hostOps0_2, hostOps0_3, hostOps0_4, hostOps0_5, hostOps0_6, List.flatten_cons, List.flatten_nil, List.append_nil, List.cons_append, List.nil_append]
  after_results
  pointwise []

theorem normQ_at (c : Dev nD) (k : Fin 256) : (V m c main_v41 : FVec Ideal S1x256 .f32) (ix2 0 k) = (m ((c : Thread nD τ).loc main_arg4) : FVec Ideal S256 .f32) (ix1 k) := by
  simp only [V, hostOps0, hostOps0_1, hostOps0_2, hostOps0_3, hostOps0_4, hostOps0_5, hostOps0_6, List.flatten_cons, List.flatten_nil, List.append_nil, List.cons_append, List.nil_append]
  after_results
  pointwise []

theorem normK_at (c : Dev nD) (k : Fin 128) : (V m c main_v42 : FVec Ideal S1x128 .f32) (ix2 0 k) = (m ((c : Thread nD τ).loc main_arg6) : FVec Ideal S128 .f32) (ix1 k) := by
  simp only [V, hostOps0, hostOps0_1, hostOps0_2, hostOps0_3, hostOps0_4, hostOps0_5, hostOps0_6, List.flatten_cons, List.flatten_nil, List.append_nil, List.cons_append, List.nil_append]
  after_results
  pointwise []

/-- The 32 columns a padding keeps. -/
theorem padCols (x : FVec Ideal S1024x32 .f32) (v : FVec Ideal S_ .f32) (k : Fin 1024) (j : Fin 32) (q : Fin 128) (hq : q.val = 64 + j.val) :
    pad S1024x128 ![0, 64] ![0, 32] ![0, 0] x v pads_S1024x32_S1024x128_000_64320 h_S_ (ix2 k q) = x (ix2 k j) := by
  obtain ⟨q, hq'⟩ := q
  dsimp only at hq
  subst hq
  pointwise []

/-- The 96 entries a padding keeps. -/
theorem padRow (x : FVec Ideal S1x96 .f32) (v : FVec Ideal S_ .f32) (j : Fin 96) :
    shapeCast S128x1 (pad S1x128 ![0, 0] ![0, 32] ![0, 0] x v pads_S1x96_S1x128_000_0320 h_S_) shapeCasts_S1x128_S128x1 (ix2 ⟨j.val, by omega⟩ 0) = x (ix2 0 j) := by
  pointwise []

theorem joint_at (c : Dev nD) (k : Fin 1024) (j : Fin 1408) : (V m c main_v4 : FVec Ideal S1024x1536 .bf16) (ix2 k ⟨j.val, by omega⟩) = (m ((c : Thread nD τ).loc main_arg3) : FVec Ideal S1024x1440 .f32) (ix2 k ⟨j.val, by omega⟩) := by
  simp only [V, hostOps0, hostOps0_1, hostOps0_2, hostOps0_3, hostOps0_4, hostOps0_5, hostOps0_6, List.flatten_cons, List.flatten_nil, List.append_nil, List.cons_append, List.nil_append]
  after_results
  pointwise []

theorem jointShared_at (c : Dev nD) (k : Fin 1024) (j : Fin 32) : (V m c main_v4 : FVec Ideal S1024x1536 .bf16) (ix2 k ⟨1472 + j.val, by omega⟩) = (m ((c : Thread nD τ).loc main_arg3) : FVec Ideal S1024x1440 .f32) (ix2 k ⟨1408 + j.val, by omega⟩) := by
  simp only [V, hostOps0, hostOps0_1, hostOps0_2, hostOps0_3, hostOps0_4, hostOps0_5, hostOps0_6, List.flatten_cons, List.flatten_nil, List.append_nil, List.cons_append, List.nil_append]
  after_results
  pointwise []
  rw [dif_neg (by omega)]
  refine (padCols (extractStridedSlice S1024x32 ![0, 1408] (m (c, Proc.tc.devRef main_arg3)) slices_S1024x1440_S1024x32_0_1408) (sitofp .f32 (constantI S_ 32 0#32)) k j ⟨1472 + j.val - 1408, by omega⟩ (by show 1472 + j.val - 1408 = 64 + j.val; omega)).trans ?_
  pointwise []

theorem upQ_at (c : Dev nD) (h : Fin 8) (j : Fin 96) (k : Fin 256) :
    (V m c main_v7 : FVec Ideal S8x96x256 .bf16) (ix3 h j k) = (m ((c : Thread nD τ).loc main_arg5) : FVec Ideal S256x768 .f32) (ix2 k ⟨96 * h.val + j.val, by omega⟩) := by
  simp only [V, hostOps0, hostOps0_1, hostOps0_2, hostOps0_3, hostOps0_4, hostOps0_5, hostOps0_6, List.flatten_cons, List.flatten_nil, List.append_nil, List.cons_append, List.nil_append]
  after_results
  pointwise []
  exact congrArg (fun i : Fin 768 => (m ((c : Thread nD τ).loc main_arg5) : FVec Ideal S256x768 .f32) (ix2 k i)) (Fin.ext (by dsimp only; omega))

theorem upK_at (c : Dev nD) (h : Fin 8) (j : Fin 64) (k : Fin 128) :
    (V m c main_v12 : FVec Ideal S8x64x128 .bf16) (ix3 h j k) = (m ((c : Thread nD τ).loc main_arg7) : FVec Ideal S128x1024 .f32) (ix2 k ⟨128 * h.val + j.val, by omega⟩) := by
  simp only [V, hostOps0, hostOps0_1, hostOps0_2, hostOps0_3, hostOps0_4, hostOps0_5, hostOps0_6, List.flatten_cons, List.flatten_nil, List.append_nil, List.cons_append, List.nil_append]
  after_results
  pointwise []
  exact congrArg (fun i : Fin 1024 => (m ((c : Thread nD τ).loc main_arg7) : FVec Ideal S128x1024 .f32) (ix2 k i)) (Fin.ext (by dsimp only; omega))

theorem upV_at (c : Dev nD) (h : Fin 8) (e : Fin 64) (k : Fin 128) :
    (V m c main_v15 : FVec Ideal S8x64x128 .bf16) (ix3 h e k) = (m ((c : Thread nD τ).loc main_arg7) : FVec Ideal S128x1024 .f32) (ix2 k ⟨128 * h.val + 64 + e.val, by omega⟩) := by
  simp only [V, hostOps0, hostOps0_1, hostOps0_2, hostOps0_3, hostOps0_4, hostOps0_5, hostOps0_6, List.flatten_cons, List.flatten_nil, List.append_nil, List.cons_append, List.nil_append]
  after_results
  pointwise []
  exact congrArg (fun i : Fin 1024 => (m ((c : Thread nD τ).loc main_arg7) : FVec Ideal S128x1024 .f32) (ix2 k i)) (Fin.ext (by dsimp only; omega))

theorem gainRow (x : FVec Ideal S96 .f32) (v : FVec Ideal S_ .f32) (j : Fin 96) :
    shapeCast S128x1 (pad S1x128 ![0, 0] ![0, 32] ![0, 0] (shapeCast S1x96 x shapeCasts_S96_S1x96) v pads_S1x96_S1x128_000_0320 h_S_) shapeCasts_S1x128_S128x1 (ix2 ⟨j.val, by omega⟩ 0) = x (ix1 j) := by
  rw [padRow]
  pointwise []

theorem headGainQ_at (c : Dev nD) (j : Fin 96) : (V m c main_v18 : FVec Ideal S128x1 .f32) (ix2 ⟨j.val, by omega⟩ 0) = (m ((c : Thread nD τ).loc main_arg8) : FVec Ideal S96 .f32) (ix1 j) := by
  refine Eq.trans ?_ (gainRow (m ((c : Thread nD τ).loc main_arg8)) (sitofp .f32 (constantI S_ 32 0#32)) j)
  simp only [V, hostOps0, hostOps0_1, hostOps0_2, hostOps0_3, hostOps0_4, hostOps0_5, hostOps0_6, List.flatten_cons, List.flatten_nil, List.append_nil, List.cons_append, List.nil_append]
  after_results
  rfl

theorem headGainK_at (c : Dev nD) (j : Fin 96) : (V m c main_v21 : FVec Ideal S128x1 .f32) (ix2 ⟨j.val, by omega⟩ 0) = (m ((c : Thread nD τ).loc main_arg9) : FVec Ideal S96 .f32) (ix1 j) := by
  refine Eq.trans ?_ (gainRow (m ((c : Thread nD τ).loc main_arg9)) (sitofp .f32 (constantI S_ 32 0#32)) j)
  simp only [V, hostOps0, hostOps0_1, hostOps0_2, hostOps0_3, hostOps0_4, hostOps0_5, hostOps0_6, List.flatten_cons, List.flatten_nil, List.append_nil, List.cons_append, List.nil_append]
  after_results
  rfl

theorem column (f : FVec Ideal S16 .f32) (i : Fin 16) : shapeCast S16x1 f shapeCasts_S16_S16x1 (ix2 i 0) = f (ix1 i) := by
  pointwise []

theorem freq_at (c : Dev nD) (i : Fin 16) : (V m c main_v32 : FVec Ideal S16x1 .f32) (ix2 i 0) = FREQ (ix1 i) := by
  refine Eq.trans ?_ (column FREQ i)
  simp only [V, hostOps0, hostOps0_1, hostOps0_2, hostOps0_3, hostOps0_4, hostOps0_5, hostOps0_6, List.flatten_cons, List.flatten_nil, List.append_nil, List.cons_append, List.nil_append]
  after_results
  rfl

theorem single (f : FVec Ideal S_ .f32) : shapeCast S1x1 f shapeCasts_S_S1x1 (ix2 0 0) = f ix0 := by
  pointwise []

theorem bound_at (c : Dev nD) : (V m c main_v43 : FVec Ideal S1x1 .f32) (ix2 0 0) = BOUND (m ((c : Thread nD τ).loc main_arg8)) (m ((c : Thread nD τ).loc main_arg9)) ix0 := by
  refine Eq.trans ?_ (single (BOUND (m ((c : Thread nD τ).loc main_arg8)) (m ((c : Thread nD τ).loc main_arg9))))
  simp only [V, hostOps0, hostOps0_1, hostOps0_2, hostOps0_3, hostOps0_4, hostOps0_5, hostOps0_6, List.flatten_cons, List.flatten_nil, List.append_nil, List.cons_append, List.nil_append]
  after_results
  rfl

end Cert.Kernel5Ideal.Proj

end
-- ==== Proof.ProjBody.lean ====
/- The values one step of the projection kernel computes, read at an index. -/
module

public import proofs.«01_k».proof.Proof.ProjSpec
public import proofs.«01_k».proof.Proof.Gen.Kernel5Ideal.Frame
public import Idealize.ShloMosaic.Lib.Pointwise
public import Idealize.ShloMosaic.Lib.Pipeline.ValueKit

@[expose] public section

set_option maxRecDepth 16384

noncomputable section

namespace Cert.Kernel5Ideal.Proj

open Cert.Kernel5Ideal Cert.Kernel5Ideal.Gen Cert.Mix Cert.Proj
open Idealize.ShloMosaic Idealize.ShloMosaic.TcCoe Idealize.SL.Sem

/-! ## The values all heads share -/

/-- The normalised rows through the joint projection, in the kernel's 1536 columns. -/
theorem rows_at (x : Vec Ideal S1x512x1024 .f32) (g : Vec Ideal S1x1024 .f32) (w : Vec Ideal S1024x1536 .bf16) (r : Fin 512) (c : Fin 1536) :
    k0_pay2 (F := Ideal) x g w (ix2 r c) = ∑ d, unit 0x44800000#32 (fun k => x (ix3 0 r k)) (fun k => g (ix2 0 k)) d * w (ix2 d c) := by
  pointwise [k0_pay2]
  rfl

theorem xr_at (x : Vec Ideal S1x512x1024 .f32) (g : Vec Ideal S1x1024 .f32) (w : Vec Ideal S1024x1536 .bf16) (r : Fin 512) (c : Fin 512) :
    k0_pay3 (F := Ideal) x g w (ix3 0 r c) = k0_pay2 (F := Ideal) x g w (ix2 r ⟨c.val, by omega⟩) := by
  unfold k0_pay3
  generalize k0_pay2 (F := Ideal) x g w = P
  pointwise []

theorem yg_at (x : Vec Ideal S1x512x1024 .f32) (g : Vec Ideal S1x1024 .f32) (w : Vec Ideal S1024x1536 .bf16) (r : Fin 512) (c : Fin 512) :
    k0_pay4 (F := Ideal) x g w (ix3 0 r c) = k0_pay2 (F := Ideal) x g w (ix2 r ⟨512 + c.val, by omega⟩) := by
  unfold k0_pay4
  generalize k0_pay2 (F := Ideal) x g w = P
  pointwise []

/-- The compressed query of row `r`. -/
def compQV (P : FVec Ideal S512x1536 .f32) (g : Vec Ideal S1x256 .f32) : FVec Ideal S256x512 .bf16 :=
  k0_pay10 (F := Ideal) (extractStridedSlice S512x256 ![0, 1024] P slices_S512x1536_o0_1024_S512x256) (k0_pay6 (F := Ideal) g)
    (shapeCast S512x1 (multiReduction .add [1] S512 (mulf (extractStridedSlice S512x256 ![0, 1024] P slices_S512x1536_o0_1024_S512x256) (extractStridedSlice S512x256 ![0, 1024] P slices_S512x1536_o0_1024_S512x256) : FVec Ideal S512x256 .f32) 0x00000000#32 reduces_S512x256_S512 (.inl rfl) rfl) shapeCasts_S512_S512x1) (k0_pay8 (F := Ideal))

theorem compQV_at (P : FVec Ideal S512x1536 .f32) (g : Vec Ideal S1x256 .f32) (c : Fin 256) (r : Fin 512) :
    compQV P g (ix2 c r) = unit 0x43800000#32 (fun k : Fin 256 => P (ix2 r ⟨1024 + k.val, by omega⟩)) (fun k => g (ix2 0 k)) c := by
  pointwise [compQV, k0_pay10, k0_pay6, k0_pay8]
  rfl

theorem compKV_at (P : FVec Ideal S512x1536 .f32) (g : Vec Ideal S1x128 .f32) (c : Fin 128) (r : Fin 512) :
    k0_pay11 (F := Ideal) P g (ix2 c r) = unit 0x43000000#32 (fun k : Fin 128 => P (ix2 r ⟨1280 + k.val, by omega⟩)) (fun k => g (ix2 0 k)) c := by
  pointwise [k0_pay11]
  rfl

theorem shared_at (P : FVec Ideal S512x1536 .f32) (j : Fin 128) (r : Fin 512) : k0_pay9 (F := Ideal) P (ix2 j r) = P (ix2 r ⟨1408 + j.val, by omega⟩) := by
  pointwise [k0_pay9]

theorem cos_at (f : Vec Ideal S16x1 .f32) (p : Vec Ideal S1x1x512 .i32) (i : Fin 16) (r : Fin 512) :
    k0_pay13 (F := Ideal) f p (ix2 i r) = Ideal.cos (f (ix2 i 0) * ((((p (ix3 0 0 r) : BitVec 32).toInt : ℝ)) : EReal)) := by
  pointwise [k0_pay13, k0_pay12]
  rfl

theorem sin_at (f : Vec Ideal S16x1 .f32) (p : Vec Ideal S1x1x512 .i32) (i : Fin 16) (r : Fin 512) :
    k0_pay14 (F := Ideal) f p (ix2 i r) = Ideal.sin (f (ix2 i 0) * ((((p (ix3 0 0 r) : BitVec 32).toInt : ℝ)) : EReal)) := by
  pointwise [k0_pay14, k0_pay12]
  rfl

/-- The first of eight rows, chosen by its number. -/
theorem pick (i : ℕ) (hi : i < 8) (a b : EReal) : Scalar.select (IntOp.cmpi .eq (BitVec.ofNat 32 i) 0#32) a b = if i = 0 then a else b := by
  interval_cases i <;> rfl

/-- The rows after a query's 96: minus the bound and zeros. -/
theorem padQ_at (b : Vec Ideal S1x1 .f32) (i : Fin 32) (r : Fin 512) :
    k0_pay18 (F := Ideal) (k0_pay15 (F := Ideal)) k0_pay16 (k0_pay17 (F := Ideal) b) (ix2 i r) = if i.val = 0 then 0 - b (ix2 0 0) else 0 := by
  pointwise [k0_pay18, k0_pay15, k0_pay16, k0_pay17]
  split_ifs with h h0 h0
  · exact (pick _ h _ _).trans (if_pos h0)
  · exact (pick _ h _ _).trans (if_neg h0)
  · omega
  · rfl

/-- The rows after a key's 96: one and zeros. -/
theorem padK_at (i : Fin 32) (r : Fin 512) :
    k0_pay19 (F := Ideal) (iota .tc S8x512 32 [0] iota_S8x512_d0_w32) (k0_pay15 (F := Ideal)) (ix2 i r) = if i.val = 0 then 1 else 0 := by
  pointwise [k0_pay19, k0_pay15]
  split_ifs with h h0 h0
  · exact (pick _ h _ _).trans (if_pos h0)
  · exact (pick _ h _ _).trans (if_neg h0)
  · omega
  · rfl

/-! ## A head -/

/-- Columns of 96 over their root mean square, times a gain. -/
def normV (t : FVec Ideal S96x512 .f32) (g : FVec Ideal S96x1 .f32) : FVec Ideal S96x512 .f32 :=
  mulf (mulf t (broadcastTo S96x512 (rsqrt (addf (mulf (shapeCast S1x512 (multiReduction .add [0] S512 (mulf t t) 0x00000000#32 reduces_S96x512_S512 (.inl rfl) rfl) shapeCasts_S512_S1x512)
    (broadcast S1x512 (Named.named κ "inv96" 0x3C2AAAAB#32))) (broadcast S1x512 (Scalar.ofBits .f32 0x358637BD#32)))) broadcasts_S1x512_S96x512)) (broadcastTo S96x512 g broadcasts_S96x1_S96x512)

theorem normV_at (t : FVec Ideal S96x512 .f32) (g : FVec Ideal S96x1 .f32) (j : Fin 96) (r : Fin 512) :
    normV t g (ix2 j r) = unit 0x42C00000#32 (fun k => t (ix2 k r)) (fun k => g (ix2 k 0)) j := by
  have hn : (Named.named κ "inv96" 0x3C2AAAAB#32 : Ideal .f32) = ((1 / 96 : ℝ) : EReal) := IdealRules.named_const.ideal_named_scalar (φ := .f32) _ _ _ _ rfl
  unfold normV
  rw [hn]
  pointwise []
  rw [mul_ninetySixth]
  rfl

/-- Columns of 96 turned by the angles' cosines and sines, and 32 more rows. -/
def turnV (y : FVec Ideal S96x512 .f32) (co si : FVec Ideal S16x512 .f32) (p : FVec Ideal S32x512 .f32) : FVec Ideal S128x512 .f32 :=
  concatenate S128x512 0 [⟨S64x512, extractStridedSlice S64x512 ![0, 0] y slices_S96x512_o0_0_S64x512⟩,
    ⟨S16x512, subf (mulf (extractStridedSlice S16x512 ![64, 0] y slices_S96x512_o64_0_S16x512) co) (mulf (extractStridedSlice S16x512 ![80, 0] y slices_S96x512_o80_0_S16x512) si)⟩,
    ⟨S16x512, addf (mulf (extractStridedSlice S16x512 ![64, 0] y slices_S96x512_o64_0_S16x512) si) (mulf (extractStridedSlice S16x512 ![80, 0] y slices_S96x512_o80_0_S16x512) co)⟩,
    ⟨S32x512, p⟩] concatenates_S64x512_S16x512_S16x512_S32x512_S128x512_d0

theorem turnV_at (y : FVec Ideal S96x512 .f32) (co si : FVec Ideal S16x512 .f32) (p : FVec Ideal S32x512 .f32) (b : EReal) (hp : ∀ (i : Fin 32) (r : Fin 512), p (ix2 i r) = if i.val = 0 then b else 0)
    (j : Fin 128) (r : Fin 512) :
    turnV y co si p (ix2 j r) = extend (turn (fun k => y (ix2 k r)) (fun i => co (ix2 i r)) (fun i => si (ix2 i r))) b j := by
  have hj := j.isLt
  have hy (a c : ℕ) (ha : a < 96) (hc : c < 96) (e : a = c) : y (ix2 ⟨a, ha⟩ r : S96x512.Idx) = y (ix2 ⟨c, hc⟩ r : S96x512.Idx) := by subst e; rfl
  have hcs (f : FVec Ideal S16x512 .f32) (a c : ℕ) (ha : a < 16) (hc : c < 16) (e : a = c) : f (ix2 ⟨a, ha⟩ r : S16x512.Idx) = f (ix2 ⟨c, hc⟩ r : S16x512.Idx) := by subst e; rfl
  pointwise [turnV]
  simp only [hp]
  dsimp only [extend, turn]
  by_cases h1 : j.val < 64
  · rw [dif_pos h1, dif_pos (by omega), if_pos h1]
  by_cases h2 : j.val < 80
  · rw [dif_neg h1, dif_pos (by omega), dif_pos (by omega), if_neg h1, dif_pos h2]
    exact congrArg₂ (fun a c : EReal => a - c) (congrArg₂ (fun a c : EReal => a * c) (hy _ _ _ _ (by omega)) rfl) (congrArg₂ (fun a c : EReal => a * c) (hy _ _ _ _ (by omega)) rfl)
  by_cases h3 : j.val < 96
  · rw [dif_neg h1, dif_neg (by omega), dif_pos (by omega), dif_pos h3, if_neg h1, dif_neg h2]
    exact congrArg₂ (fun a c : EReal => a + c) (congrArg₂ (fun a c : EReal => a * c) (hy _ _ _ _ (by omega)) (hcs _ _ _ _ _ (by omega))) (congrArg₂ (fun a c : EReal => a * c) (hy _ _ _ _ (by omega)) (hcs _ _ _ _ _ (by omega)))
  · rw [dif_neg h1, dif_neg (by omega), dif_neg (by omega), dif_neg h3]
    exact if_congr (by omega) rfl rfl

/-- A head's queries. -/
def queryV (w : Vec Ideal S1x96x256 .bf16) (q : FVec Ideal S256x512 .bf16) (g : FVec Ideal S96x1 .f32) (co si : FVec Ideal S16x512 .f32) (p : FVec Ideal S32x512 .f32) : FVec Ideal S1x1x1x128x512 .bf16 :=
  shapeCast S1x1x1x128x512 (truncf .bf16 (turnV (normV (matmul dot_S96x256_S256x512_S96x512_1_0_0_1_n_n none (shapeCast S96x256 w shapeCasts_S1x96x256_S96x256 : FVec Ideal S96x256 .bf16) q (constant S96x512 .f32 0x00000000#32)) g) co si p) bitsLt_bf16_f32 : FVec Ideal S128x512 .bf16) shapeCasts_S128x512_S1x1x1x128x512

/-- A head's keys before their norm. -/
def rawKV (w : Vec Ideal S1x64x128 .bf16) (k : FVec Ideal S128x512 .bf16) (s : FVec Ideal S128x512 .f32) : FVec Ideal S96x512 .f32 :=
  concatenate S96x512 0 [⟨S64x512, matmul dot_S64x128_S128x512_S64x512_1_0_0_1_n_n none (shapeCast S64x128 w shapeCasts_S1x64x128_S64x128 : FVec Ideal S64x128 .bf16) k (constant S64x512 .f32 0x00000000#32)⟩,
    ⟨S32x512, extractStridedSlice S32x512 ![64, 0] s slices_S128x512_o64_0_S32x512⟩] concatenates_S64x512_S32x512_S96x512_d0

/-- A head's keys. -/
def keyV (w : Vec Ideal S1x64x128 .bf16) (k : FVec Ideal S128x512 .bf16) (s : FVec Ideal S128x512 .f32) (g : FVec Ideal S96x1 .f32) (co si : FVec Ideal S16x512 .f32) (p : FVec Ideal S32x512 .f32) : FVec Ideal S1x1x512x128 .bf16 :=
  shapeCast S1x1x512x128 (truncf .bf16 (transpose S512x128 [1, 0] (turnV (normV (rawKV w k s) g) co si p) transposes_S128x512_p1_0_S512x128) bitsLt_bf16_f32 : FVec Ideal S512x128 .bf16) shapeCasts_S512x128_S1x1x512x128

/-- A head's values. -/
def valueV (w : Vec Ideal S1x64x128 .bf16) (k : FVec Ideal S128x512 .bf16) : FVec Ideal S1x1x1x64x512 .bf16 := k0_pay1 (F := Ideal) k w

theorem queryV_at (w : Vec Ideal S1x96x256 .bf16) (q : FVec Ideal S256x512 .bf16) (g : FVec Ideal S96x1 .f32) (co si : FVec Ideal S16x512 .f32) (p : FVec Ideal S32x512 .f32) (b : EReal) (hp : ∀ (i : Fin 32) (r : Fin 512), p (ix2 i r) = if i.val = 0 then b else 0)
    (j : Fin 128) (r : Fin 512) :
    queryV w q g co si p (ix5 0 0 0 j r) = extend (turn (unit 0x42C00000#32 (fun k : Fin 96 => ∑ c : Fin 256, (w (ix3 0 k c) : EReal) * q (ix2 c r)) (fun k => g (ix2 k 0))) (fun i => co (ix2 i r)) (fun i => si (ix2 i r))) b j := by
  have hm (k : Fin 96) : matmul dot_S96x256_S256x512_S96x512_1_0_0_1_n_n none (shapeCast S96x256 w shapeCasts_S1x96x256_S96x256 : FVec Ideal S96x256 .bf16) q (constant S96x512 .f32 0x00000000#32) (ix2 k r)
      = ∑ c : Fin 256, (w (ix3 0 k c) : EReal) * q (ix2 c r) := by
    pointwise []
  unfold queryV
  generalize matmul dot_S96x256_S256x512_S96x512_1_0_0_1_n_n none (shapeCast S96x256 w shapeCasts_S1x96x256_S96x256 : FVec Ideal S96x256 .bf16) q (constant S96x512 .f32 0x00000000#32) = t at hm ⊢
  have ht (T : FVec Ideal S128x512 .f32) : shapeCast S1x1x1x128x512 (truncf .bf16 T bitsLt_bf16_f32 : FVec Ideal S128x512 .bf16) shapeCasts_S128x512_S1x1x1x128x512 (ix5 0 0 0 j r) = T (ix2 j r) := by
    pointwise []
  rw [ht, turnV_at _ _ _ _ b hp]
  simp only [normV_at, hm]

theorem rawKV_at (w : Vec Ideal S1x64x128 .bf16) (k : FVec Ideal S128x512 .bf16) (s : FVec Ideal S128x512 .f32) (j : Fin 96) (r : Fin 512) :
    rawKV w k s (ix2 j r) = if h : j.val < 64 then ∑ c : Fin 128, (w (ix3 0 ⟨j.val, h⟩ c) : EReal) * k (ix2 c r) else s (ix2 ⟨j.val, by omega⟩ r) := by
  have hm (i : Fin 64) : matmul dot_S64x128_S128x512_S64x512_1_0_0_1_n_n none (shapeCast S64x128 w shapeCasts_S1x64x128_S64x128 : FVec Ideal S64x128 .bf16) k (constant S64x512 .f32 0x00000000#32) (ix2 i r)
      = ∑ c : Fin 128, (w (ix3 0 i c) : EReal) * k (ix2 c r) := by
    pointwise []
  unfold rawKV
  generalize matmul dot_S64x128_S128x512_S64x512_1_0_0_1_n_n none (shapeCast S64x128 w shapeCasts_S1x64x128_S64x128 : FVec Ideal S64x128 .bf16) k (constant S64x512 .f32 0x00000000#32) = t at hm ⊢
  simp only [← hm]
  pointwise []
  by_cases h : j.val < 64
  · rw [dif_pos h, dif_pos h]
  · rw [dif_neg h, dif_neg h]
    exact congrArg (fun i : Fin 128 => s (ix2 i r)) (Fin.ext (by simp; omega))

theorem keyV_at (w : Vec Ideal S1x64x128 .bf16) (k : FVec Ideal S128x512 .bf16) (s : FVec Ideal S128x512 .f32) (g : FVec Ideal S96x1 .f32) (co si : FVec Ideal S16x512 .f32) (p : FVec Ideal S32x512 .f32) (b : EReal) (hp : ∀ (i : Fin 32) (r : Fin 512), p (ix2 i r) = if i.val = 0 then b else 0)
    (r : Fin 512) (j : Fin 128) :
    keyV w k s g co si p (ix4 0 0 r j) = extend (turn (unit 0x42C00000#32 (fun j => rawKV w k s (ix2 j r)) (fun k => g (ix2 k 0))) (fun i => co (ix2 i r)) (fun i => si (ix2 i r))) b j := by
  unfold keyV
  have ht (T : FVec Ideal S128x512 .f32) : shapeCast S1x1x512x128 (truncf .bf16 (transpose S512x128 [1, 0] T transposes_S128x512_p1_0_S512x128) bitsLt_bf16_f32 : FVec Ideal S512x128 .bf16) shapeCasts_S512x128_S1x1x512x128 (ix4 0 0 r j) = T (ix2 j r) := by
    pointwise []
  rw [ht, turnV_at _ _ _ _ b hp]
  simp only [normV_at]

theorem valueV_at (w : Vec Ideal S1x64x128 .bf16) (k : FVec Ideal S128x512 .bf16) (e : Fin 64) (r : Fin 512) :
    valueV w k (ix5 0 0 0 e r) = ∑ c : Fin 128, (w (ix3 0 e c) : EReal) * k (ix2 c r) := by
  pointwise [valueV, k0_pay1]

end Cert.Kernel5Ideal.Proj

end
-- ==== Proof.ProjOut.lean ====
/- What one step of the projection kernel stores, read at an index. -/
module

public import proofs.«01_k».proof.Proof.ProjBody

@[expose] public section

set_option maxRecDepth 16384

noncomputable section

namespace Cert.Kernel5Ideal.Proj

open Cert.Kernel5Ideal Cert.Kernel5Ideal.Gen Cert.Mix Cert.Proj
open Idealize.ShloMosaic Idealize.ShloMosaic.TcCoe Idealize.SL.Sem

/-! ## Parts of the blocks -/

/-- Head `h` of the query weights. -/
def headQ (x : Vec Ideal S8x96x256 .bf16) : Fin 8 → Vec Ideal S1x96x256 .bf16
  | 0 => View.ld x r0_10
  | 1 => View.ld x r0_15
  | 2 => View.ld x r0_20
  | 3 => View.ld x r0_25
  | 4 => View.ld x r0_30
  | 5 => View.ld x r0_35
  | 6 => View.ld x r0_40
  | 7 => View.ld x r0_45

/-- Head `h` of the key or value weights. -/
def headK (x : Vec Ideal S8x64x128 .bf16) : Fin 8 → Vec Ideal S1x64x128 .bf16
  | 0 => View.ld x r0_12
  | 1 => View.ld x r0_17
  | 2 => View.ld x r0_22
  | 3 => View.ld x r0_27
  | 4 => View.ld x r0_32
  | 5 => View.ld x r0_37
  | 6 => View.ld x r0_42
  | 7 => View.ld x r0_47

/-- One of the matrices of a stack. -/
theorem ld_head {a b n : ℕ} (x : Vec Ideal (⟨3, ![8, a, b]⟩ : Shape) .bf16) (h : Fin 8) (inb) (hn : n = h.val) (i : Fin a) (j : Fin b) :
    View.ld x (Rect.unit (s := (⟨3, ![8, a, b]⟩ : Shape)) ![n, 0, 0] ![1, a, b] inb) (ix3 0 i j : (⟨3, ![1, a, b]⟩ : Shape).Idx) = x (ix3 h i j) := by
  refine congrArg x (funext fun c => Fin.ext ?_)
  fin_cases c
  · show n + 1 * 0 = h.val; omega
  · show 0 + 1 * i.val = i.val; omega
  · show 0 + 1 * j.val = j.val; omega

theorem headQ_at (x : Vec Ideal S8x96x256 .bf16) (h : Fin 8) (j : Fin 96) (c : Fin 256) : headQ x h (ix3 0 j c) = x (ix3 h j c) :=
  match h with
  | 0 => ld_head x 0 _ rfl j c
  | 1 => ld_head x 1 _ rfl j c
  | 2 => ld_head x 2 _ rfl j c
  | 3 => ld_head x 3 _ rfl j c
  | 4 => ld_head x 4 _ rfl j c
  | 5 => ld_head x 5 _ rfl j c
  | 6 => ld_head x 6 _ rfl j c
  | 7 => ld_head x 7 _ rfl j c

theorem headK_at (x : Vec Ideal S8x64x128 .bf16) (h : Fin 8) (j : Fin 64) (c : Fin 128) : headK x h (ix3 0 j c) = x (ix3 h j c) :=
  match h with
  | 0 => ld_head x 0 _ rfl j c
  | 1 => ld_head x 1 _ rfl j c
  | 2 => ld_head x 2 _ rfl j c
  | 3 => ld_head x 3 _ rfl j c
  | 4 => ld_head x 4 _ rfl j c
  | 5 => ld_head x 5 _ rfl j c
  | 6 => ld_head x 6 _ rfl j c
  | 7 => ld_head x 7 _ rfl j c

/-- The first 96 of a gain's 128 rows. -/
theorem gain_at (x : Vec Ideal S128x1 .f32) (j : Fin 96) : View.ld x r0_9 (ix2 j 0 : S96x1.Idx) = x (ix2 ⟨j.val, by omega⟩ 0) := by
  refine congrArg x (funext fun c => Fin.ext ?_)
  fin_cases c
  · show 0 + 1 * j.val = j.val; omega
  · rfl

theorem gainQ_at (x : Vec Ideal S96x1 .f32) (j : Fin 96) : k0_pay20 (F := Ideal) x (ix2 j 0) = x (ix2 j 0) * Cert.Proj.σ := by
  pointwise [k0_pay20]
  rfl

theorem gainK_at (x : Vec Ideal S96x1 .f32) (j : Fin 96) : k0_pay21 (F := Ideal) x (ix2 j 0) = x (ix2 j 0) := by
  pointwise [k0_pay21]

/-! ## Eight heads' tiles -/

/-- A head's tile of columns holds the head's indices only. -/
theorem tile5 {a b : ℕ} (n : ℕ) (w : (⟨5, ![1, 1, 1, a, b]⟩ : Shape).Idx → Ideal .bf16) (h : Fin 8) (i : Fin a) (r : Fin b) (v : EReal) (hv : h.val = n → w (ix5 0 0 0 i r) = v) :
    View.TileAt (Val := Elt Ideal) (S := (⟨5, ![1, 8, 1, a, b]⟩ : Shape)) (e := .bf16) (ix5 0 h 0 i r) ![0, n, 0, 0, 0] ![1, 1, 1, a, b] w v := by
  intro x hx
  have h1 : h.val = n + (x 1).val := hx 1
  have h3 : i.val = 0 + (x 3).val := hx 3
  have h4 : r.val = 0 + (x 4).val := hx 4
  have x0 : (x 0).val < 1 := (x 0).isLt
  have x1 : (x 1).val < 1 := (x 1).isLt
  have x2 : (x 2).val < 1 := (x 2).isLt
  refine Eq.trans (congrArg w ?_) (hv (by omega))
  funext c
  refine Fin.ext ?_
  fin_cases c
  · show (x 0).val = 0; omega
  · show (x 1).val = 0; omega
  · show (x 2).val = 0; omega
  · show (x 3).val = i.val; omega
  · show (x 4).val = r.val; omega

/-- A head's tile of rows likewise. -/
theorem tile4 (n : ℕ) (w : FVec Ideal S1x1x512x128 .bf16) (h : Fin 8) (r : Fin 512) (i : Fin 128) (v : EReal) (hv : h.val = n → w (ix4 0 0 r i) = v) :
    View.TileAt (Val := Elt Ideal) (S := S1x8x512x128) (e := .bf16) (ix4 0 h r i) ![0, n, 0, 0] S1x1x512x128.size w v := by
  intro x hx
  have h1 : h.val = n + (x 1).val := hx 1
  have h2 : r.val = 0 + (x 2).val := hx 2
  have h3 : i.val = 0 + (x 3).val := hx 3
  have x0 : (x 0).val < 1 := (x 0).isLt
  have x1 : (x 1).val < 1 := (x 1).isLt
  refine Eq.trans (congrArg w ?_) (hv (by omega))
  funext c
  refine Fin.ext ?_
  fin_cases c
  · show (x 0).val = 0; omega
  · show (x 1).val = 0; omega
  · show (x 2).val = r.val; omega
  · show (x 3).val = i.val; omega

theorem tilesQ (w : Fin 8 → FVec Ideal S1x1x1x128x512 .bf16) (h : Fin 8) (i : Fin 128) (r : Fin 512) :
    View.canon ([⟨r0_46, w 7⟩, ⟨r0_41, w 6⟩, ⟨r0_36, w 5⟩, ⟨r0_31, w 4⟩, ⟨r0_26, w 3⟩, ⟨r0_21, w 2⟩, ⟨r0_16, w 1⟩, ⟨r0_11, w 0⟩] : List (View.Piece (Elt Ideal) S1x8x1x128x512 .bf16)) (ix5 0 h 0 i r) = w h (ix5 0 0 0 i r) := by
  have hw (n : Fin 8) (hn : h.val = n.val) : w n (ix5 0 0 0 i r) = w h (ix5 0 0 0 i r) := by rw [Fin.ext hn]
  have at_ (n : Fin 8) := tile5 n.val (w n) h i r _ (hw n)
  exact View.canon_eq_of_allAt (Val := Elt Ideal) (e := .bf16) _ _ _ (cover0_15 (F := Ideal) _ _ _ _ _ _ _ _ _)
    (View.allAt_cons_unit _ _ _ _ _ (at_ 7) (View.allAt_cons_unit _ _ _ _ _ (at_ 6) (View.allAt_cons_unit _ _ _ _ _ (at_ 5) (View.allAt_cons_unit _ _ _ _ _ (at_ 4)
      (View.allAt_cons_unit _ _ _ _ _ (at_ 3) (View.allAt_cons_unit _ _ _ _ _ (at_ 2) (View.allAt_cons_unit _ _ _ _ _ (at_ 1) (View.allAt_cons_unit _ _ _ _ _ (at_ 0) (View.allAt_nil _ _)))))))))

theorem tilesV (w : Fin 8 → FVec Ideal S1x1x1x64x512 .bf16) (h : Fin 8) (i : Fin 64) (r : Fin 512) :
    View.canon ([⟨r0_49, w 7⟩, ⟨r0_44, w 6⟩, ⟨r0_39, w 5⟩, ⟨r0_34, w 4⟩, ⟨r0_29, w 3⟩, ⟨r0_24, w 2⟩, ⟨r0_19, w 1⟩, ⟨r0_14, w 0⟩] : List (View.Piece (Elt Ideal) S1x8x1x64x512 .bf16)) (ix5 0 h 0 i r) = w h (ix5 0 0 0 i r) := by
  have hw (n : Fin 8) (hn : h.val = n.val) : w n (ix5 0 0 0 i r) = w h (ix5 0 0 0 i r) := by rw [Fin.ext hn]
  have at_ (n : Fin 8) := tile5 n.val (w n) h i r _ (hw n)
  exact View.canon_eq_of_allAt (Val := Elt Ideal) (e := .bf16) _ _ _ (cover0_17 (F := Ideal) _ _ _ _ _ _ _ _ _)
    (View.allAt_cons_unit _ _ _ _ _ (at_ 7) (View.allAt_cons_unit _ _ _ _ _ (at_ 6) (View.allAt_cons_unit _ _ _ _ _ (at_ 5) (View.allAt_cons_unit _ _ _ _ _ (at_ 4)
      (View.allAt_cons_unit _ _ _ _ _ (at_ 3) (View.allAt_cons_unit _ _ _ _ _ (at_ 2) (View.allAt_cons_unit _ _ _ _ _ (at_ 1) (View.allAt_cons_unit _ _ _ _ _ (at_ 0) (View.allAt_nil _ _)))))))))

theorem tilesK (w : Fin 8 → FVec Ideal S1x1x512x128 .bf16) (h : Fin 8) (r : Fin 512) (i : Fin 128) :
    View.canon ([⟨r0_48, w 7⟩, ⟨r0_43, w 6⟩, ⟨r0_38, w 5⟩, ⟨r0_33, w 4⟩, ⟨r0_28, w 3⟩, ⟨r0_23, w 2⟩, ⟨r0_18, w 1⟩, ⟨r0_13, w 0⟩] : List (View.Piece (Elt Ideal) S1x8x512x128 .bf16)) (ix4 0 h r i) = w h (ix4 0 0 r i) := by
  have hw (n : Fin 8) (hn : h.val = n.val) : w n (ix4 0 0 r i) = w h (ix4 0 0 r i) := by rw [Fin.ext hn]
  have at_ (n : Fin 8) := tile4 n.val (w n) h r i _ (hw n)
  exact View.canon_eq_of_allAt (Val := Elt Ideal) (e := .bf16) _ _ _ (cover0_16 (F := Ideal) _ _ _ _ _ _ _ _ _)
    (View.allAt_cons_unit _ _ _ _ _ (at_ 7) (View.allAt_cons_unit _ _ _ _ _ (at_ 6) (View.allAt_cons_unit _ _ _ _ _ (at_ 5) (View.allAt_cons_unit _ _ _ _ _ (at_ 4)
      (View.allAt_cons_unit _ _ _ _ _ (at_ 3) (View.allAt_cons_unit _ _ _ _ _ (at_ 2) (View.allAt_cons_unit _ _ _ _ _ (at_ 1) (View.allAt_cons_unit _ _ _ _ _ (at_ 0) (View.allAt_nil _ _)))))))))

/-! ## The stores as heads -/

section

variable (x0 : Vec Ideal S1x512x1024 .f32) (x1 : Vec Ideal S1x1x512 .i32) (x2 : Vec Ideal S1x1024 .f32) (x3 : Vec Ideal S1024x1536 .bf16) (x4 : Vec Ideal S1x256 .f32) (x5 : Vec Ideal S1x128 .f32) (x6 : Vec Ideal S8x96x256 .bf16) (x7 x8 : Vec Ideal S8x64x128 .bf16) (x9 x10 : Vec Ideal S128x1 .f32) (x11 : Vec Ideal S16x1 .f32) (x12 : Vec Ideal S1x1 .f32)

theorem ld0 : View.ld x0 r0_0 = x0 := View.ld_unit_lit _ x0 (by decide)
theorem ld1 : View.ld x1 r0_7 = x1 := View.ld_unit_lit _ x1 (by decide)
theorem ld2 : View.ld x2 r0_1 = x2 := View.ld_unit_lit _ x2 (by decide)
theorem ld3 : View.ld x3 r0_2 = x3 := View.ld_unit_lit _ x3 (by decide)
theorem ld4 : View.ld x4 r0_4 = x4 := View.ld_unit_lit _ x4 (by decide)
theorem ld5 : View.ld x5 r0_5 = x5 := View.ld_unit_lit _ x5 (by decide)
theorem ld11 : View.ld x11 r0_6 = x11 := View.ld_unit_lit _ x11 (by decide)
theorem ld12 : View.ld x12 r0_8 = x12 := View.ld_unit_lit _ x12 (by decide)

/-- The recurrent inputs a step stores. -/
theorem out13 : out0_13 (F := Ideal) x0 x1 x2 x3 x4 x5 x6 x7 x8 x9 x10 x11 x12 = k0_pay3 x0 x2 x3 := by
  unfold out0_13
  rw [ld0, ld2, ld3]
  exact View.canon_cons_unit_lit _ _ _ (by decide)

/-- The recurrent gates it stores. -/
theorem out14 : out0_14 (F := Ideal) x0 x1 x2 x3 x4 x5 x6 x7 x8 x9 x10 x11 x12 = k0_pay4 x0 x2 x3 := by
  unfold out0_14
  rw [ld0, ld2, ld3]
  exact View.canon_cons_unit_lit _ _ _ (by decide)

/-- The queries. -/
theorem out15 (h : Fin 8) (j : Fin 128) (r : Fin 512) :
    out0_15 (F := Ideal) x0 x1 x2 x3 x4 x5 x6 x7 x8 x9 x10 x11 x12 (ix5 0 h 0 j r)
      = queryV (headQ x6 h) (compQV (k0_pay2 x0 x2 x3) x4) (k0_pay20 (View.ld x9 r0_9)) (k0_pay13 x11 x1) (k0_pay14 x11 x1) (k0_pay18 (k0_pay15 (F := Ideal)) k0_pay16 (k0_pay17 x12)) (ix5 0 0 0 j r) := by
  unfold out0_15 k0_pay87 k0_pay85 k0_pay84 k0_pay83 k0_pay82 k0_pay80
  rw [ld0, ld1, ld2, ld3, ld4, ld11, ld12]
  exact tilesQ (fun n => queryV (headQ x6 n) (compQV (k0_pay2 x0 x2 x3) x4) (k0_pay20 (View.ld x9 r0_9)) (k0_pay13 x11 x1) (k0_pay14 x11 x1) (k0_pay18 (k0_pay15 (F := Ideal)) k0_pay16 (k0_pay17 x12))) h j r

/-- The keys. -/
theorem out16 (h : Fin 8) (r : Fin 512) (j : Fin 128) :
    out0_16 (F := Ideal) x0 x1 x2 x3 x4 x5 x6 x7 x8 x9 x10 x11 x12 (ix4 0 h r j)
      = keyV (headK x7 h) (k0_pay11 (k0_pay2 x0 x2 x3) x5) (k0_pay9 (k0_pay2 x0 x2 x3)) (k0_pay21 (View.ld x10 r0_9)) (k0_pay13 x11 x1) (k0_pay14 x11 x1) (k0_pay19 (iota .tc S8x512 32 [0] iota_S8x512_d0_w32) (k0_pay15 (F := Ideal))) (ix4 0 0 r j) := by
  unfold out0_16 k0_pay88 k0_pay86 k0_pay84 k0_pay83 k0_pay82 k0_pay81 k0_pay79 k0_pay78
  rw [ld0, ld1, ld2, ld3, ld5, ld11]
  exact tilesK (fun n => keyV (headK x7 n) (k0_pay11 (k0_pay2 x0 x2 x3) x5) (k0_pay9 (k0_pay2 x0 x2 x3)) (k0_pay21 (View.ld x10 r0_9)) (k0_pay13 x11 x1) (k0_pay14 x11 x1) (k0_pay19 (iota .tc S8x512 32 [0] iota_S8x512_d0_w32) (k0_pay15 (F := Ideal)))) h r j

/-- The values. -/
theorem out17 (h : Fin 8) (e : Fin 64) (r : Fin 512) :
    out0_17 (F := Ideal) x0 x1 x2 x3 x4 x5 x6 x7 x8 x9 x10 x11 x12 (ix5 0 h 0 e r) = valueV (headK x8 h) (k0_pay11 (k0_pay2 x0 x2 x3) x5) (ix5 0 0 0 e r) := by
  unfold out0_17 k0_pay81 k0_pay78
  rw [ld0, ld2, ld3, ld5]
  exact tilesV (fun n => valueV (headK x8 n) (k0_pay11 (k0_pay2 x0 x2 x3) x5)) h e r

end

end Cert.Kernel5Ideal.Proj

end
-- ==== Proof.ProjStep.lean ====
/- The projection kernel's blocks, and the values its steps compute from them. -/
module

public import proofs.«01_k».proof.Proof.ProjHost
public import proofs.«01_k».proof.Proof.ProjOut

@[expose] public section

set_option maxRecDepth 16384

noncomputable section

namespace Cert.Kernel5Ideal.Proj

open Cert.Kernel5Ideal Cert.Kernel5Ideal.Gen Cert.Mix Cert.Proj
open Cert.Reference5Ideal.Proj (FREQ BOUND angle rowAt)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-! ## The arguments -/

abbrev aX (c : Dev nD) : FVec Ideal S2x8192x1024 .f32 := m ((c : Thread nD τ).loc main_arg0)
abbrev aP (c : Dev nD) : IVec S2x8192 32 := m ((c : Thread nD τ).loc main_arg1)
abbrev aG (c : Dev nD) : FVec Ideal S1024 .f32 := m ((c : Thread nD τ).loc main_arg2)
abbrev aW (c : Dev nD) : FVec Ideal S1024x1440 .f32 := m ((c : Thread nD τ).loc main_arg3)
abbrev aGA (c : Dev nD) : FVec Ideal S256 .f32 := m ((c : Thread nD τ).loc main_arg4)
abbrev aWA (c : Dev nD) : FVec Ideal S256x768 .f32 := m ((c : Thread nD τ).loc main_arg5)
abbrev aGC (c : Dev nD) : FVec Ideal S128 .f32 := m ((c : Thread nD τ).loc main_arg6)
abbrev aWC (c : Dev nD) : FVec Ideal S128x1024 .f32 := m ((c : Thread nD τ).loc main_arg7)
abbrev aGQ (c : Dev nD) : FVec Ideal S96 .f32 := m ((c : Thread nD τ).loc main_arg8)
abbrev aGK (c : Dev nD) : FVec Ideal S96 .f32 := m ((c : Thread nD τ).loc main_arg9)

/-! ## The blocks of a grid point -/

theorem idx : ∀ t : Fin cfg0.N, (cfg0.win 0).index t = ![(grid0.coords t 0).val, (grid0.coords t 1).val, 0]
    ∧ (cfg0.win 1).index t = ![(grid0.coords t 0).val, 0, (grid0.coords t 1).val]
    ∧ (cfg0.win 2).index t = ![0, 0]
    ∧ (cfg0.win 3).index t = ![0, 0]
    ∧ (cfg0.win 4).index t = ![0, 0]
    ∧ (cfg0.win 5).index t = ![0, 0]
    ∧ (cfg0.win 6).index t = ![0, 0, 0]
    ∧ (cfg0.win 7).index t = ![0, 0, 0]
    ∧ (cfg0.win 8).index t = ![0, 0, 0]
    ∧ (cfg0.win 9).index t = ![0, 0]
    ∧ (cfg0.win 10).index t = ![0, 0]
    ∧ (cfg0.win 11).index t = ![0, 0]
    ∧ (cfg0.win 12).index t = ![0, 0]
    ∧ (cfg0.win 13).index t = ![(grid0.coords t 0).val, (grid0.coords t 1).val, 0]
    ∧ (cfg0.win 14).index t = ![(grid0.coords t 0).val, (grid0.coords t 1).val, 0]
    ∧ (cfg0.win 15).index t = ![(grid0.coords t 0).val, 0, (grid0.coords t 1).val, 0, 0]
    ∧ (cfg0.win 16).index t = ![(grid0.coords t 0).val, 0, (grid0.coords t 1).val, 0]
    ∧ (cfg0.win 17).index t = ![(grid0.coords t 0).val, 0, (grid0.coords t 1).val, 0, 0] :=
  (by decide +kernel : ∀ t : Fin grid0.N, cc0_transform_0 (grid0.coords t) = ![(grid0.coords t 0).val, (grid0.coords t 1).val, 0]
    ∧ cc0_transform_1 (grid0.coords t) = ![(grid0.coords t 0).val, 0, (grid0.coords t 1).val]
    ∧ cc0_transform_2 (grid0.coords t) = ![0, 0]
    ∧ cc0_transform_3 (grid0.coords t) = ![0, 0]
    ∧ cc0_transform_4 (grid0.coords t) = ![0, 0]
    ∧ cc0_transform_5 (grid0.coords t) = ![0, 0]
    ∧ cc0_transform_6 (grid0.coords t) = ![0, 0, 0]
    ∧ cc0_transform_7 (grid0.coords t) = ![0, 0, 0]
    ∧ cc0_transform_8 (grid0.coords t) = ![0, 0, 0]
    ∧ cc0_transform_9 (grid0.coords t) = ![0, 0]
    ∧ cc0_transform_10 (grid0.coords t) = ![0, 0]
    ∧ cc0_transform_11 (grid0.coords t) = ![0, 0]
    ∧ cc0_transform_12 (grid0.coords t) = ![0, 0]
    ∧ cc0_transform_13 (grid0.coords t) = ![(grid0.coords t 0).val, (grid0.coords t 1).val, 0]
    ∧ cc0_transform_14 (grid0.coords t) = ![(grid0.coords t 0).val, (grid0.coords t 1).val, 0]
    ∧ cc0_transform_15 (grid0.coords t) = ![(grid0.coords t 0).val, 0, (grid0.coords t 1).val, 0, 0]
    ∧ cc0_transform_16 (grid0.coords t) = ![(grid0.coords t 0).val, 0, (grid0.coords t 1).val, 0]
    ∧ cc0_transform_17 (grid0.coords t) = ![(grid0.coords t 0).val, 0, (grid0.coords t 1).val, 0, 0])

theorem covers13 : (cfg0.win 13).Covers := by decide +kernel

theorem covers14 : (cfg0.win 14).Covers := by decide +kernel

theorem covers15 : (cfg0.win 15).Covers := by decide +kernel

theorem covers16 : (cfg0.win 16).Covers := by decide +kernel

theorem covers17 : (cfg0.win 17).Covers := by decide +kernel

/-- The batch of a grid point. -/
def bat (t : Fin cfg0.N) : Fin 2 := ⟨(grid0.coords t 0).val, (grid0.coords t 0).isLt⟩

/-- Its tile of 512 rows. -/
def til (t : Fin cfg0.N) : Fin 16 := ⟨(grid0.coords t 1).val, (grid0.coords t 1).isLt⟩

/-- Row `r` of the tile, among all rows. -/
def pos (t : Fin cfg0.N) (r : Fin 512) : Fin 8192 := ⟨512 * (til t).val + r.val, by have := (til t).isLt; omega⟩

theorem blk_x (c : Dev nD) (t : Fin cfg0.N) (r : Fin 512) (d : Fin 1024) (i : S2x8192x1024.Idx) (h0 : (i 0).val = (grid0.coords t 0).val) (h1 : (i 1).val = 512 * (grid0.coords t 1).val + r.val) (h2 : (i 2).val = d.val) :
    iblk m c 0 t (ix3 0 r d : S1x512x1024.Idx) = aX m c i := by
  rw [aX, ← V_main_arg0 m c]
  blk_ext [iblk, idx t]

theorem blk_pos_ (c : Dev nD) (t : Fin cfg0.N) (r : Fin 512) (i : S2x1x8192.Idx) (h0 : (i 0).val = (grid0.coords t 0).val) (h1 : (i 1).val = 0) (h2 : (i 2).val = 512 * (grid0.coords t 1).val + r.val) :
    iblk m c 1 t (ix3 0 0 r : S1x1x512.Idx) = (V m c main_v39 : IVec S2x1x8192 32) i := by
  blk_ext [iblk, idx t]

theorem blk_pos (c : Dev nD) (t : Fin cfg0.N) (r : Fin 512) : iblk m c 1 t (ix3 0 0 r : S1x1x512.Idx) = aP m c (ix2 (bat t) (pos t r)) :=
  (blk_pos_ m c t r (ix3 (bat t) 0 (pos t r)) rfl rfl rfl).trans (pos_at m c (bat t) (pos t r))

theorem blk_norm (c : Dev nD) (t : Fin cfg0.N) (k : Fin 1024) : iblk m c 2 t (ix2 0 k : S1x1024.Idx) = aG m c (ix1 k) := by
  refine Eq.trans ?_ (norm_at m c k)
  blk_ext [iblk, idx t]

theorem blk_joint (c : Dev nD) (t : Fin cfg0.N) (k : Fin 1024) (j : Fin 1408) : iblk m c 3 t (ix2 k ⟨j.val, by omega⟩ : S1024x1536.Idx) = aW m c (ix2 k ⟨j.val, by omega⟩) := by
  refine Eq.trans ?_ (joint_at m c k j)
  blk_ext [iblk, idx t]

theorem blk_jointShared (c : Dev nD) (t : Fin cfg0.N) (k : Fin 1024) (j : Fin 32) : iblk m c 3 t (ix2 k ⟨1472 + j.val, by omega⟩ : S1024x1536.Idx) = aW m c (ix2 k ⟨1408 + j.val, by omega⟩) := by
  refine Eq.trans ?_ (jointShared_at m c k j)
  blk_ext [iblk, idx t]

theorem blk_normQ (c : Dev nD) (t : Fin cfg0.N) (k : Fin 256) : iblk m c 4 t (ix2 0 k : S1x256.Idx) = aGA m c (ix1 k) := by
  refine Eq.trans ?_ (normQ_at m c k)
  blk_ext [iblk, idx t]

theorem blk_normK (c : Dev nD) (t : Fin cfg0.N) (k : Fin 128) : iblk m c 5 t (ix2 0 k : S1x128.Idx) = aGC m c (ix1 k) := by
  refine Eq.trans ?_ (normK_at m c k)
  blk_ext [iblk, idx t]

theorem blk_upQ (c : Dev nD) (t : Fin cfg0.N) (h : Fin 8) (j : Fin 96) (k : Fin 256) : iblk m c 6 t (ix3 h j k : S8x96x256.Idx) = aWA m c (ix2 k ⟨96 * h.val + j.val, by omega⟩) := by
  refine Eq.trans ?_ (upQ_at m c h j k)
  blk_ext [iblk, idx t]

theorem blk_upK (c : Dev nD) (t : Fin cfg0.N) (h : Fin 8) (j : Fin 64) (k : Fin 128) : iblk m c 7 t (ix3 h j k : S8x64x128.Idx) = aWC m c (ix2 k ⟨128 * h.val + j.val, by omega⟩) := by
  refine Eq.trans ?_ (upK_at m c h j k)
  blk_ext [iblk, idx t]

theorem blk_upV (c : Dev nD) (t : Fin cfg0.N) (h : Fin 8) (e : Fin 64) (k : Fin 128) : iblk m c 8 t (ix3 h e k : S8x64x128.Idx) = aWC m c (ix2 k ⟨128 * h.val + 64 + e.val, by omega⟩) := by
  refine Eq.trans ?_ (upV_at m c h e k)
  blk_ext [iblk, idx t]

theorem blk_gainQ (c : Dev nD) (t : Fin cfg0.N) (j : Fin 96) : iblk m c 9 t (ix2 ⟨j.val, by omega⟩ 0 : S128x1.Idx) = aGQ m c (ix1 j) := by
  refine Eq.trans ?_ (headGainQ_at m c j)
  blk_ext [iblk, idx t]

theorem blk_gainK (c : Dev nD) (t : Fin cfg0.N) (j : Fin 96) : iblk m c 10 t (ix2 ⟨j.val, by omega⟩ 0 : S128x1.Idx) = aGK m c (ix1 j) := by
  refine Eq.trans ?_ (headGainK_at m c j)
  blk_ext [iblk, idx t]

theorem blk_freq (c : Dev nD) (t : Fin cfg0.N) (i : Fin 16) : iblk m c 11 t (ix2 i 0 : S16x1.Idx) = FREQ (ix1 i) := by
  refine Eq.trans ?_ (freq_at m c i)
  blk_ext [iblk, idx t]

theorem blk_bound (c : Dev nD) (t : Fin cfg0.N)  : iblk m c 12 t (ix2 0 0 : S1x1.Idx) = BOUND (aGQ m c) (aGK m c) ix0 := by
  refine Eq.trans ?_ (bound_at m c)
  blk_ext [iblk, idx t]

/-! ## The values of a step -/

/-- The step's rows through the joint projection. -/
abbrev rowsV (c : Dev nD) (t : Fin cfg0.N) : FVec Ideal S512x1536 .f32 := k0_pay2 (F := Ideal) (iblk m c 0 t) (iblk m c 2 t) (iblk m c 3 t)

/-- The reference's row. -/
abbrev rowR (c : Dev nD) (t : Fin cfg0.N) (r : Fin 512) : Fin 1440 → EReal := rowAt (aX m c) (aG m c) (aW m c) (bat t) (pos t r)

theorem rows_blk (c : Dev nD) (t : Fin cfg0.N) (r : Fin 512) (k : Fin 1536) (k' : Fin 1440) (h : ∀ d : Fin 1024, iblk m c 3 t (ix2 d k : S1024x1536.Idx) = aW m c (ix2 d k')) : rowsV m c t (ix2 r k) = rowR m c t r k' := by
  refine (rows_at _ _ _ _ _).trans (Finset.sum_congr rfl fun d _ => congrArg₂ (fun a b : EReal => a * b) ?_ (h d))
  exact congrArg₂ (fun x g : Fin 1024 → EReal => unit 0x44800000#32 x g d) (funext fun k => blk_x m c t r k (ix3 (bat t) (pos t r) k) rfl rfl rfl) (funext fun k => blk_norm m c t k)

/-- The kernel's first 1408 columns are the reference's, -/
theorem row_blk (c : Dev nD) (t : Fin cfg0.N) (r : Fin 512) (j : Fin 1408) : rowsV m c t (ix2 r ⟨j.val, by omega⟩) = rowR m c t r ⟨j.val, by omega⟩ :=
  rows_blk m c t r _ _ fun d => blk_joint m c t d j

/-- and its columns from 1472 the reference's last 32. -/
theorem rowShared_blk (c : Dev nD) (t : Fin cfg0.N) (r : Fin 512) (j : Fin 32) : rowsV m c t (ix2 r ⟨1472 + j.val, by omega⟩) = rowR m c t r ⟨1408 + j.val, by omega⟩ :=
  rows_blk m c t r _ _ fun d => blk_jointShared m c t d j

theorem compQ_blk (c : Dev nD) (t : Fin cfg0.N) (k : Fin 256) (r : Fin 512) : compQV (rowsV m c t) (iblk m c 4 t) (ix2 k r) = compQ (rowR m c t r) (fun k => aGA m c (ix1 k)) k :=
  (compQV_at _ _ k r).trans (congrArg₂ (fun x g : Fin 256 → EReal => unit 0x43800000#32 x g k) (funext fun k => row_blk m c t r ⟨1024 + k.val, by omega⟩) (funext fun k => blk_normQ m c t k))

theorem compK_blk (c : Dev nD) (t : Fin cfg0.N) (k : Fin 128) (r : Fin 512) : k0_pay11 (F := Ideal) (rowsV m c t) (iblk m c 5 t) (ix2 k r) = compK (rowR m c t r) (fun k => aGC m c (ix1 k)) k :=
  (compKV_at _ _ k r).trans (congrArg₂ (fun x g : Fin 128 → EReal => unit 0x43000000#32 x g k) (funext fun k => row_blk m c t r ⟨1280 + k.val, by omega⟩) (funext fun k => blk_normK m c t k))

/-- The angle of a row of the step. -/
abbrev ang (c : Dev nD) (t : Fin cfg0.N) (r : Fin 512) (i : Fin 16) : EReal := angle (aP m c (ix2 (bat t) (pos t r))) (FREQ (ix1 i))

theorem ang_eq (f : FVec Ideal S16x1 .f32) (p : IVec S1x1x512 32) (c : Dev nD) (t : Fin cfg0.N) (r : Fin 512) (i : Fin 16) (hf : f (ix2 i 0) = FREQ (ix1 i)) (hp : p (ix3 0 0 r) = aP m c (ix2 (bat t) (pos t r))) :
    f (ix2 i 0) * (((p (ix3 0 0 r) : BitVec 32).toInt : ℝ) : EReal) = ang m c t r i := by
  rw [hf, hp]
  exact mul_comm _ _

theorem cos_blk (c : Dev nD) (t : Fin cfg0.N) (i : Fin 16) (r : Fin 512) : k0_pay13 (F := Ideal) (iblk m c 11 t) (iblk m c 1 t) (ix2 i r) = Ideal.cos (ang m c t r i) :=
  (cos_at _ _ i r).trans (congrArg Ideal.cos (ang_eq m _ _ c t r i (blk_freq m c t i) (blk_pos m c t r)))

theorem sin_blk (c : Dev nD) (t : Fin cfg0.N) (i : Fin 16) (r : Fin 512) : k0_pay14 (F := Ideal) (iblk m c 11 t) (iblk m c 1 t) (ix2 i r) = Ideal.sin (ang m c t r i) :=
  (sin_at _ _ i r).trans (congrArg Ideal.sin (ang_eq m _ _ c t r i (blk_freq m c t i) (blk_pos m c t r)))

theorem rawQ_blk (c : Dev nD) (t : Fin cfg0.N) (h : Fin 8) (j : Fin 96) (r : Fin 512) :
    ∑ k : Fin 256, (headQ (iblk m c 6 t) h (ix3 0 j k) : EReal) * compQV (rowsV m c t) (iblk m c 4 t) (ix2 k r) = rawQ (compQ (rowR m c t r) fun k => aGA m c (ix1 k)) (fun k d => aWA m c (ix2 k d)) h j :=
  Finset.sum_congr rfl fun k _ => (congrArg₂ (fun a b : EReal => a * b) ((headQ_at (iblk m c 6 t) h j k).trans (blk_upQ m c t h j k)) (compQ_blk m c t k r)).trans (mul_comm _ _)

theorem rawK_blk (c : Dev nD) (t : Fin cfg0.N) (h : Fin 8) (j : Fin 96) (r : Fin 512) :
    rawKV (headK (iblk m c 7 t) h) (k0_pay11 (F := Ideal) (rowsV m c t) (iblk m c 5 t)) (k0_pay9 (F := Ideal) (rowsV m c t)) (ix2 j r)
      = rawK (compK (rowR m c t r) fun k => aGC m c (ix1 k)) (rowR m c t r) (fun k d => aWC m c (ix2 k d)) h j := by
  refine (rawKV_at _ _ _ j r).trans ?_
  unfold rawK
  by_cases hj : j.val < 64
  · rw [dif_pos hj, if_pos hj]
    exact Finset.sum_congr rfl fun k _ => (congrArg₂ (fun a b : EReal => a * b) ((headK_at (iblk m c 7 t) h ⟨j.val, hj⟩ k).trans (blk_upK m c t h ⟨j.val, hj⟩ k)) (compK_blk m c t k r)).trans (mul_comm _ _)
  · rw [dif_neg hj, if_neg hj, shared_at]
    have e : 1408 + j.val = 1472 + (j.val - 64) := by omega
    have e' : 1408 + (j.val - 64) = 1344 + j.val := by omega
    refine Eq.trans ?_ ((rowShared_blk m c t r ⟨j.val - 64, by omega⟩).trans ?_)
    · exact congrArg (fun k : Fin 1536 => rowsV m c t (ix2 r k)) (Fin.ext e)
    · exact congrArg (rowR m c t r) (Fin.ext e')

theorem rawV_blk (c : Dev nD) (t : Fin cfg0.N) (h : Fin 8) (e : Fin 64) (r : Fin 512) :
    ∑ k : Fin 128, (headK (iblk m c 8 t) h (ix3 0 e k) : EReal) * k0_pay11 (F := Ideal) (rowsV m c t) (iblk m c 5 t) (ix2 k r) = rawV (compK (rowR m c t r) fun k => aGC m c (ix1 k)) (fun k d => aWC m c (ix2 k d)) h e :=
  Finset.sum_congr rfl fun k _ => (congrArg₂ (fun a b : EReal => a * b) ((headK_at (iblk m c 8 t) h e k).trans (blk_upV m c t h e k)) (compK_blk m c t k r)).trans (mul_comm _ _)

theorem head_congr {t t' g g' : Fin 96 → EReal} {co co' si si' : Fin 16 → EReal} {b b' : EReal} (j : Fin 128) (ht : ∀ k, t k = t' k) (hg : ∀ k, g k = g' k) (hc : ∀ i, co i = co' i) (hs : ∀ i, si i = si' i) (hb : b = b') :
    extend (turn (unit 0x42C00000#32 t g) co si) b j = extend (turn (unit 0x42C00000#32 t' g') co' si') b' j := by
  rw [funext ht, funext hg, funext hc, funext hs, hb]

/-- The queries of a step. -/
theorem query_blk (c : Dev nD) (t : Fin cfg0.N) (h : Fin 8) (j : Fin 128) (r : Fin 512) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix5 0 h 0 j r)
      = query (rawQ (compQ (rowR m c t r) fun k => aGA m c (ix1 k)) (fun k d => aWA m c (ix2 k d)) h) (fun k => aGQ m c (ix1 k)) (fun i => Ideal.cos (ang m c t r i)) (fun i => Ideal.sin (ang m c t r i)) (BOUND (aGQ m c) (aGK m c) ix0) j := by
  refine (out15 _ _ _ _ _ _ _ _ _ _ _ _ _ h j r).trans ?_
  refine (queryV_at _ _ _ _ _ _ _ (padQ_at (iblk m c 12 t)) j r).trans ?_
  rw [← queryIn_eq]
  exact head_congr j (fun k => rawQ_blk m c t h k r) (fun k => (gainQ_at _ k).trans (congrArg (fun a : EReal => a * Cert.Proj.σ) ((gain_at (iblk m c 9 t) k).trans (blk_gainQ m c t k)))) (fun i => cos_blk m c t i r) (fun i => sin_blk m c t i r)
    (congrArg (fun a : EReal => 0 - a) (blk_bound m c t))

/-- Its keys. -/
theorem key_blk (c : Dev nD) (t : Fin cfg0.N) (h : Fin 8) (r : Fin 512) (j : Fin 128) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix4 0 h r j)
      = key (rawK (compK (rowR m c t r) fun k => aGC m c (ix1 k)) (rowR m c t r) (fun k d => aWC m c (ix2 k d)) h) (fun k => aGK m c (ix1 k)) (fun i => Ideal.cos (ang m c t r i)) (fun i => Ideal.sin (ang m c t r i)) j := by
  refine (out16 _ _ _ _ _ _ _ _ _ _ _ _ _ h r j).trans ?_
  refine (keyV_at _ _ _ _ _ _ _ _ padK_at r j).trans ?_
  exact head_congr j (fun k => rawK_blk m c t h k r) (fun k => (gainK_at _ k).trans ((gain_at (iblk m c 10 t) k).trans (blk_gainK m c t k))) (fun i => cos_blk m c t i r) (fun i => sin_blk m c t i r) rfl

/-- Its values. -/
theorem value_blk (c : Dev nD) (t : Fin cfg0.N) (h : Fin 8) (e : Fin 64) (r : Fin 512) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix5 0 h 0 e r)
      = rawV (compK (rowR m c t r) fun k => aGC m c (ix1 k)) (fun k d => aWC m c (ix2 k d)) h e :=
  (out17 _ _ _ _ _ _ _ _ _ _ _ _ _ h e r).trans ((valueV_at _ _ e r).trans (rawV_blk m c t h e r))

/-- Its recurrent inputs. -/
theorem xr_blk (c : Dev nD) (t : Fin cfg0.N) (r k : Fin 512) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r k) = rowR m c t r ⟨k.val, by omega⟩ :=
  (congrFun (out13 _ _ _ _ _ _ _ _ _ _ _ _ _) _).trans ((xr_at _ _ _ r k).trans (row_blk m c t r ⟨k.val, by omega⟩))

/-- Its recurrent gates. -/
theorem yg_blk (c : Dev nD) (t : Fin cfg0.N) (r k : Fin 512) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r k) = rowR m c t r ⟨512 + k.val, by omega⟩ :=
  (congrFun (out14 _ _ _ _ _ _ _ _ _ _ _ _ _) _).trans ((yg_at _ _ _ r k).trans (row_blk m c t r ⟨512 + k.val, by omega⟩))

end Cert.Kernel5Ideal.Proj

end
-- ==== Proof.ProjArray.lean ====
/- The projection kernel's result arrays: recurrent inputs and gates, queries, keys and values. -/
module

public import proofs.«01_k».proof.Proof.ProjStep

@[expose] public section

set_option maxRecDepth 16384

noncomputable section

namespace Cert.Kernel5Ideal.Proj

open Cert.Kernel5Ideal Cert.Kernel5Ideal.Gen Cert.Mix Cert.Proj
open Cert.Reference5Ideal.Proj (XR XR_at YG YG_at QUERIES QUERIES_at KEYS KEYS_at VALUES VALUES_at)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-! ## Where the outputs' blocks lie in their arrays -/

theorem emb13 (t : Fin cfg0.N) (r k : Fin 512) : ((cfg0.win 13).blk t).view.emb (ix3 0 r k : S1x512x512.Idx) = (ix3 (bat t) (pos t r) k : S2x8192x512.Idx) := by
  funext a
  fin_cases a <;> apply Fin.ext <;> blk_simp [idx t] <;> simp [bat, til, pos, Nat.mul_comm]

theorem emb14 (t : Fin cfg0.N) (r k : Fin 512) : ((cfg0.win 14).blk t).view.emb (ix3 0 r k : S1x512x512.Idx) = (ix3 (bat t) (pos t r) k : S2x8192x512.Idx) := by
  funext a
  fin_cases a <;> apply Fin.ext <;> blk_simp [idx t] <;> simp [bat, til, pos, Nat.mul_comm]

theorem emb15 (t : Fin cfg0.N) (h : Fin 8) (j : Fin 128) (r : Fin 512) :
    ((cfg0.win 15).blk t).view.emb (ix5 0 h 0 j r : S1x8x1x128x512.Idx) = (ix5 (bat t) h (til t) j r : S2x8x16x128x512.Idx) := by
  funext a
  fin_cases a <;> apply Fin.ext <;> blk_simp [idx t] <;> rfl

theorem emb16 (t : Fin cfg0.N) (h : Fin 8) (r : Fin 512) (j : Fin 128) :
    ((cfg0.win 16).blk t).view.emb (ix4 0 h r j : S1x8x512x128.Idx) = (ix4 (bat t) h (pos t r) j : S2x8x8192x128.Idx) := by
  funext a
  fin_cases a <;> apply Fin.ext <;> blk_simp [idx t] <;> simp [bat, til, pos, Nat.mul_comm]

theorem emb17 (t : Fin cfg0.N) (h : Fin 8) (e : Fin 64) (r : Fin 512) :
    ((cfg0.win 17).blk t).view.emb (ix5 0 h 0 e r : S1x8x1x64x512.Idx) = (ix5 (bat t) h (til t) e r : S2x8x16x64x512.Idx) := by
  funext a
  fin_cases a <;> apply Fin.ext <;> blk_simp [idx t] <;> rfl

/-! ## The indices of a block -/

theorem idx3 (y : S1x512x512.Idx) : ∃ r k : Fin 512, y = (ix3 0 r k : S1x512x512.Idx) := by
  refine ⟨y 1, y 2, (eq_ix3 y).trans ?_⟩
  have h0 : y 0 = (0 : Fin 1) := (Subsingleton.elim (α := Fin 1) _ _)
  exact congrArg (fun p : Fin 1 => (ix3 p (y 1) (y 2) : S1x512x512.Idx)) h0

theorem idx4 (y : S1x8x512x128.Idx) : ∃ (h : Fin 8) (r : Fin 512) (j : Fin 128), y = (ix4 0 h r j : S1x8x512x128.Idx) := by
  refine ⟨y 1, y 2, y 3, (eq_ix4 y).trans ?_⟩
  have h0 : y 0 = (0 : Fin 1) := (Subsingleton.elim (α := Fin 1) _ _)
  exact congrArg (fun p : Fin 1 => (ix4 p (y 1) (y 2) (y 3) : S1x8x512x128.Idx)) h0

theorem idx5 {a b : ℕ} (y : (⟨5, ![1, 8, 1, a, b]⟩ : Shape).Idx) : ∃ (h : Fin 8) (j : Fin a) (r : Fin b), y = (ix5 0 h 0 j r : (⟨5, ![1, 8, 1, a, b]⟩ : Shape).Idx) := by
  refine ⟨y 1, y 3, y 4, (eq_ix5 y).trans ?_⟩
  have h0 : y 0 = (0 : Fin 1) := (Subsingleton.elim (α := Fin 1) _ _)
  have h2 : y 2 = (0 : Fin 1) := (Subsingleton.elim (α := Fin 1) _ _)
  exact congrArg₂ (fun p q : Fin 1 => (ix5 p (y 1) q (y 3) (y 4) : (⟨5, ![1, 8, 1, a, b]⟩ : Shape).Idx)) h0 h2

/-! ## The result arrays -/

/-- The recurrent inputs after the last step are the reference's. -/
theorem inputs (c : Dev nD) : (dats m 0 c).arrAt 13 cfg0.N = XR (aX m c) (aG m c) (aW m c) := by
  refine (dats m 0 c).arrAt_eq_of_covers 13 _ covers13 fun t _ y => ?_
  blk_simp
  rw [after0_13]
  obtain ⟨r, k, rfl⟩ := idx3 y
  refine Eq.trans ?_ (congrArg _ (emb13 t r k).symm)
  exact (xr_blk m c t r k).trans (XR_at _ _ _ (bat t) (pos t r) k).symm

/-- So are the recurrent gates, -/
theorem gates (c : Dev nD) : (dats m 0 c).arrAt 14 cfg0.N = YG (aX m c) (aG m c) (aW m c) := by
  refine (dats m 0 c).arrAt_eq_of_covers 14 _ covers14 fun t _ y => ?_
  blk_simp
  rw [after0_14]
  obtain ⟨r, k, rfl⟩ := idx3 y
  refine Eq.trans ?_ (congrArg _ (emb14 t r k).symm)
  exact (yg_blk m c t r k).trans (YG_at _ _ _ (bat t) (pos t r) k).symm

/-- the queries, -/
theorem queries (c : Dev nD) : (dats m 0 c).arrAt 15 cfg0.N = QUERIES (aX m c) (aP m c) (aG m c) (aW m c) (aGA m c) (aWA m c) (aGQ m c) (aGK m c) := by
  refine (dats m 0 c).arrAt_eq_of_covers 15 _ covers15 fun t _ y => ?_
  blk_simp
  rw [after0_15]
  obtain ⟨h, j, r, rfl⟩ := idx5 y
  refine Eq.trans ?_ (congrArg _ (emb15 t h j r).symm)
  exact (query_blk m c t h j r).trans (QUERIES_at _ _ _ _ _ _ _ _ (bat t) h (til t) j r).symm

/-- the keys -/
theorem keys (c : Dev nD) : (dats m 0 c).arrAt 16 cfg0.N = KEYS (aX m c) (aP m c) (aG m c) (aW m c) (aGC m c) (aWC m c) (aGK m c) := by
  refine (dats m 0 c).arrAt_eq_of_covers 16 _ covers16 fun t _ y => ?_
  blk_simp
  rw [after0_16]
  obtain ⟨h, r, j, rfl⟩ := idx4 y
  refine Eq.trans ?_ (congrArg _ (emb16 t h r j).symm)
  exact (key_blk m c t h r j).trans (KEYS_at _ _ _ _ _ _ _ (bat t) h (pos t r) j).symm

/-- and the values. -/
theorem values (c : Dev nD) : (dats m 0 c).arrAt 17 cfg0.N = VALUES (aX m c) (aG m c) (aW m c) (aGC m c) (aWC m c) := by
  refine (dats m 0 c).arrAt_eq_of_covers 17 _ covers17 fun t _ y => ?_
  blk_simp
  rw [after0_17]
  obtain ⟨h, e, r, rfl⟩ := idx5 y
  refine Eq.trans ?_ (congrArg _ (emb17 t h e r).symm)
  exact (value_blk m c t h e r).trans (VALUES_at _ _ _ _ _ (bat t) h (til t) e r).symm

end Cert.Kernel5Ideal.Proj

end
-- ==== Proof.ProjAlgebraic.lean ====
/- The projection kernel and its reference end with the same result arrays. -/
module

public import proofs.«01_k».proof.Proof.ProjArray
public import proofs.«01_k».proof.Defs
public import proofs.«01_k».proof.Proof.Gen.Reference5Ideal.Run

@[expose] public section

noncomputable section

namespace Cert.Proj

open Idealize.ShloMosaic Idealize.ShloMosaic.TcCoe Idealize.SL.Sem

/-- The idealization names one constant: the ninety-sixth. -/
theorem preserves : Cert.preserves_Kernel5_Kernel5Ideal :=
  ⟨rfl, fun s => IdealRules.named_const.ideal_named (φ := .f32) _ _ _ _ rfl, IdealRules.named_const.ideal_named_scalar (φ := .f32) _ _ _ _ rfl⟩

/-- The kernel, idealized, computes the reference's recurrent inputs and gates, queries, keys and values. -/
theorem algebraic : Cert.algebraic_Kernel5Ideal_Reference5Ideal := by
  intro m g m' g' _ hargs
  refine ⟨fun c => Cert.Reference5Ideal.Proj.XR (m (c.tc.loc Cert.Kernel5Ideal.main_arg0)) (m (c.tc.loc Cert.Kernel5Ideal.main_arg2)) (m (c.tc.loc Cert.Kernel5Ideal.main_arg3)),
    fun c => Cert.Reference5Ideal.Proj.YG (m (c.tc.loc Cert.Kernel5Ideal.main_arg0)) (m (c.tc.loc Cert.Kernel5Ideal.main_arg2)) (m (c.tc.loc Cert.Kernel5Ideal.main_arg3)),
    fun c => Cert.Reference5Ideal.Proj.QUERIES (m (c.tc.loc Cert.Kernel5Ideal.main_arg0)) (m (c.tc.loc Cert.Kernel5Ideal.main_arg1)) (m (c.tc.loc Cert.Kernel5Ideal.main_arg2)) (m (c.tc.loc Cert.Kernel5Ideal.main_arg3)) (m (c.tc.loc Cert.Kernel5Ideal.main_arg4)) (m (c.tc.loc Cert.Kernel5Ideal.main_arg5)) (m (c.tc.loc Cert.Kernel5Ideal.main_arg8)) (m (c.tc.loc Cert.Kernel5Ideal.main_arg9)),
    fun c => Cert.Reference5Ideal.Proj.KEYS (m (c.tc.loc Cert.Kernel5Ideal.main_arg0)) (m (c.tc.loc Cert.Kernel5Ideal.main_arg1)) (m (c.tc.loc Cert.Kernel5Ideal.main_arg2)) (m (c.tc.loc Cert.Kernel5Ideal.main_arg3)) (m (c.tc.loc Cert.Kernel5Ideal.main_arg6)) (m (c.tc.loc Cert.Kernel5Ideal.main_arg7)) (m (c.tc.loc Cert.Kernel5Ideal.main_arg9)),
    fun c => Cert.Reference5Ideal.Proj.VALUES (m (c.tc.loc Cert.Kernel5Ideal.main_arg0)) (m (c.tc.loc Cert.Kernel5Ideal.main_arg2)) (m (c.tc.loc Cert.Kernel5Ideal.main_arg3)) (m (c.tc.loc Cert.Kernel5Ideal.main_arg6)) (m (c.tc.loc Cert.Kernel5Ideal.main_arg7)), ?_, ?_⟩
  · refine (θ_run _ _ _).mono (fun r h c => ?_) (Cert.Kernel5Ideal.Value.run_blocks (F := Ideal) m g)
    obtain ⟨h0, h1, h2, h3, h4, ha⟩ := h c
    exact ⟨h0.trans (Cert.Kernel5Ideal.Proj.inputs m c), h1.trans (Cert.Kernel5Ideal.Proj.gates m c), h2.trans (Cert.Kernel5Ideal.Proj.queries m c), h3.trans (Cert.Kernel5Ideal.Proj.keys m c), h4.trans (Cert.Kernel5Ideal.Proj.values m c), ha⟩
  · refine (θ_run _ _ _).mono (fun r h c => ?_) (Cert.Reference5Ideal.Value.run (F := Ideal) m' g')
    obtain ⟨h0, h1, h2, h3, h4, ha⟩ := h c
    obtain ⟨e0, e1, e2, e3, e4, e5, e6, e7, e8, e9⟩ := hargs c
    refine ⟨h0.trans ((show _ = Cert.Reference5Ideal.Proj.XR (m' (c.tc.loc Cert.Reference5Ideal.main_arg0)) (m' (c.tc.loc Cert.Reference5Ideal.main_arg2)) (m' (c.tc.loc Cert.Reference5Ideal.main_arg3)) from rfl).trans ?_),
      h1.trans ((show _ = Cert.Reference5Ideal.Proj.YG (m' (c.tc.loc Cert.Reference5Ideal.main_arg0)) (m' (c.tc.loc Cert.Reference5Ideal.main_arg2)) (m' (c.tc.loc Cert.Reference5Ideal.main_arg3)) from rfl).trans ?_),
      h2.trans ((Cert.Reference5Ideal.Proj.queries_eq m' c).trans ?_),
      h3.trans ((Cert.Reference5Ideal.Proj.keys_eq m' c).trans ?_),
      h4.trans ((show _ = Cert.Reference5Ideal.Proj.VALUES (m' (c.tc.loc Cert.Reference5Ideal.main_arg0)) (m' (c.tc.loc Cert.Reference5Ideal.main_arg2)) (m' (c.tc.loc Cert.Reference5Ideal.main_arg3)) (m' (c.tc.loc Cert.Reference5Ideal.main_arg6)) (m' (c.tc.loc Cert.Reference5Ideal.main_arg7)) from rfl).trans ?_), ha⟩
    · rw [e0, e2, e3]
    · rw [e0, e2, e3]
    · rw [e0, e1, e2, e3, e4, e5, e8, e9]
    · rw [e0, e1, e2, e3, e6, e7, e9]
    · rw [e0, e2, e3, e6, e7]

end Cert.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Frames
public import proofs.«01_k».proof.Proof.Algebraic
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.FfnFrames
public import proofs.«01_k».proof.Proof.FfnAlgebraic
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.MixFrames
public import proofs.«01_k».proof.Proof.MixAlgebraic
public import proofs.«01_k».proof.Proof.MixFinite
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.MemFrames
public import proofs.«01_k».proof.Proof.MemAlgebraic
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel5.Skeleton
public import proofs.«01_k».proof.Proof.Gen.Kernel5.Launch
public import proofs.«01_k».proof.Proof.Gen.Kernel5.Frame
public import proofs.«01_k».proof.Proof.ProjFrames
public import proofs.«01_k».proof.Proof.ProjAlgebraic
public import Idealize.ShloMosaic.Adequacy
public import Idealize.ShloMosaic.Init

@[expose] public section

noncomputable section

namespace Cert.Proof

open Idealize.ShloMosaic Idealize.SL.Sem Cert.Kernel

/-- Every claim. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts, Cert.Reference5Ideal.Gen.facts,
    Cert.Pre_finite_queries_keys.facts, Cert.Pre_finite_memory_keys.facts,
    Cert.Attn.frame_kernel, Cert.Attn.frame_ideal, Cert.Attn.frame_ideal_pre, Cert.Attn.frame_ref, Cert.Attn.frame_ref_pre,
    Cert.Ffn.frame_kernel, Cert.Ffn.frame_ideal, Cert.Ffn.frame_ref,
    Cert.Mix.frame_kernel, Cert.Mix.frame_ideal, Cert.Mix.frame_ideal_pre, Cert.Mix.frame_ref, Cert.Mix.frame_ref_pre,
    Cert.Mem.frame_kernel, Cert.Mem.frame_ideal, Cert.Mem.frame_ref, Cert.Proj.frame_kernel, Cert.Proj.frame_ideal, Cert.Proj.frame_ref,
    trivial, Cert.Attn.algebraic, trivial, Cert.Ffn.algebraic, trivial, Cert.Mix.algebraic,
    trivial, Cert.Mem.algebraic, Cert.Proj.preserves, Cert.Proj.algebraic⟩

end Cert.Proof

end
